-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)) (v3 : (c : Dev Cert.KernelIdeal.nD) → Buf (Elt Ideal) ((c.tc : Thread Cert.KernelIdeal.nD Cert.KernelIdeal.τ).loc Cert.KernelIdeal.main_v23_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_v23_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v93) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_on_values2_pre_finite2 [hKernel2Ideal : Cert.Kernel2Ideal.Facts] [hReference2Ideal : Cert.Reference2Ideal.Facts] [hPre_finite2 : Cert.Pre_finite2.Facts] [hOn_values2 : Cert.On_values2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v68_0)) (v1 : (c : Dev Cert.Kernel2Ideal.nD) → Buf (Elt Ideal) ((c.tc : Thread Cert.Kernel2Ideal.nD Cert.Kernel2Ideal.τ).loc Cert.Kernel2Ideal.main_v68_1)) (v2 : (c : Dev Cert.Kernel2Ideal.nD) → Buf (Elt Ideal) ((c.tc : Thread Cert.Kernel2Ideal.nD Cert.Kernel2Ideal.τ).loc Cert.Kernel2Ideal.main_v68_2)) (v3 : (c : Dev Cert.Kernel2Ideal.nD) → Buf (Elt Ideal) ((c.tc : Thread Cert.Kernel2Ideal.nD Cert.Kernel2Ideal.τ).loc Cert.Kernel2Ideal.main_v68_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![4096, 512]⟩ : Shape).Idx, (Cert.On_values2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 i = 1#1 → r.2.mem ((c.tc : Thread Cert.Kernel2Ideal.nD Cert.Kernel2Ideal.τ).loc Cert.Kernel2Ideal.main_v68_0) i = v0 c i)
          ∧ (∀ i : (⟨2, ![4096, 512]⟩ : Shape).Idx, (Cert.On_values2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 i = 1#1 → r.2.mem ((c.tc : Thread Cert.Kernel2Ideal.nD Cert.Kernel2Ideal.τ).loc Cert.Kernel2Ideal.main_v68_1) i = v1 c i)
          ∧ (∀ i : (⟨2, ![4096, 512]⟩ : Shape).Idx, (Cert.On_values2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2.1 i = 1#1 → r.2.mem ((c.tc : Thread Cert.Kernel2Ideal.nD Cert.Kernel2Ideal.τ).loc Cert.Kernel2Ideal.main_v68_2) i = v2 c i)
          ∧ (∀ i : (⟨2, ![8, 1024]⟩ : Shape).Idx, (Cert.On_values2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2.2 i = 1#1 → r.2.mem ((c.tc : Thread Cert.Kernel2Ideal.nD Cert.Kernel2Ideal.τ).loc Cert.Kernel2Ideal.main_v68_3) i = v3 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![4096, 512]⟩ : Shape).Idx, (Cert.On_values2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 i = 1#1 → r.2.mem ((c.tc : Thread Cert.Reference2Ideal.nD Cert.Reference2Ideal.τ).loc Cert.Reference2Ideal.main_v185) i = v0 c i)
          ∧ (∀ i : (⟨2, ![4096, 512]⟩ : Shape).Idx, (Cert.On_values2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 i = 1#1 → r.2.mem ((c.tc : Thread Cert.Reference2Ideal.nD Cert.Reference2Ideal.τ).loc Cert.Reference2Ideal.main_v164) i = v1 c i)
          ∧ (∀ i : (⟨2, ![4096, 512]⟩ : Shape).Idx, (Cert.On_values2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2.1 i = 1#1 → r.2.mem ((c.tc : Thread Cert.Reference2Ideal.nD Cert.Reference2Ideal.τ).loc Cert.Reference2Ideal.main_v151) i = v2 c i)
          ∧ (∀ i : (⟨2, ![8, 1024]⟩ : Shape).Idx, (Cert.On_values2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2.2 i = 1#1 → r.2.mem ((c.tc : Thread Cert.Reference2Ideal.nD Cert.Reference2Ideal.τ).loc Cert.Reference2Ideal.main_v189) i = v3 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_v24) = v2 c
          ∧ r.2.mem ((c.tc : Thread Cert.Reference3Ideal.nD Cert.Reference3Ideal.τ).loc Cert.Reference3Ideal.main_v21) = v3 c
          ∧ r.2.mem ((c.tc : Thread Cert.Reference3Ideal.nD Cert.Reference3Ideal.τ).loc Cert.Reference3Ideal.main_v37) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v27) = v1 c
          ∧ r.2.mem ((c.tc : Thread Cert.Reference9Ideal.nD Cert.Reference9Ideal.τ).loc Cert.Reference9Ideal.main_v40) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v42) = v0 c
          ∧ r.2.mem ((c.tc : Thread Cert.Reference10Ideal.nD Cert.Reference10Ideal.τ).loc Cert.Reference10Ideal.main_v43) = v1 c
          ∧ r.2.mem ((c.tc : Thread Cert.Reference10Ideal.nD Cert.Reference10Ideal.τ).loc Cert.Reference10Ideal.main_v41) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v32) = v0 c
          ∧ r.2.mem ((c.tc : Thread Cert.Reference11Ideal.nD Cert.Reference11Ideal.τ).loc Cert.Reference11Ideal.main_v31) = v1 c
          ∧ r.2.mem ((c.tc : Thread Cert.Reference11Ideal.nD Cert.Reference11Ideal.τ).loc Cert.Reference11Ideal.main_v45) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)) (v5 : (c : Dev Cert.Kernel12Ideal.nD) → Buf (Elt Ideal) ((c.tc : Thread Cert.Kernel12Ideal.nD Cert.Kernel12Ideal.τ).loc Cert.Kernel12Ideal.main_v0_5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_v0_5) = v5 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v42) = v0 c
          ∧ r.2.mem ((c.tc : Thread Cert.Reference12Ideal.nD Cert.Reference12Ideal.τ).loc Cert.Reference12Ideal.main_v43) = v1 c
          ∧ r.2.mem ((c.tc : Thread Cert.Reference12Ideal.nD Cert.Reference12Ideal.τ).loc Cert.Reference12Ideal.main_v39) = v2 c
          ∧ r.2.mem ((c.tc : Thread Cert.Reference12Ideal.nD Cert.Reference12Ideal.τ).loc Cert.Reference12Ideal.main_v44) = v3 c
          ∧ r.2.mem ((c.tc : Thread Cert.Reference12Ideal.nD Cert.Reference12Ideal.τ).loc Cert.Reference12Ideal.main_v45) = v4 c
          ∧ r.2.mem ((c.tc : Thread Cert.Reference12Ideal.nD Cert.Reference12Ideal.τ).loc Cert.Reference12Ideal.main_v41) = v5 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite2 : Cert.Pre_finite2.Facts) (hOn_values2 : Cert.On_values2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_on_values2_pre_finite2 (hKernel2Ideal := hKernel2Ideal) (hReference2Ideal := hReference2Ideal) (hPre_finite2 := hPre_finite2) (hOn_values2 := hOn_values2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== On_values2.lean ====
abbrev S4096x2048 : Shape := ⟨2, ![4096, 2048]⟩
abbrev S2x512 : Shape := ⟨2, ![2, 512]⟩
abbrev S4096x512 : Shape := ⟨2, ![4096, 512]⟩
abbrev S_ : Shape := ⟨0, ![]⟩
abbrev S8x1024 : Shape := ⟨2, ![8, 1024]⟩

class Facts : Prop where
  bcast_S_S4096x512 : S_.BroadcastsInDim S4096x512 (![] : Fin 0 → Fin S4096x512.rank)
  bcast_S_S8x1024 : S_.BroadcastsInDim S8x1024 (![] : Fin 0 → Fin S8x1024.rank)

variable [Facts]

def fn {F : FTy → Type} [FloatOps F] (main_arg0 : FVec F S4096x2048 .f32) (main_arg1 : FVec F S2x512 .f32) (main_arg2 : FVec F S4096x512 .f32) : IVec S4096x512 1 × IVec S4096x512 1 × IVec S4096x512 1 × IVec S8x1024 1 :=
  let main_c : IVec S_ 1 := constantI S_ 1 1#1
  let main_v0 : IVec S4096x512 1 := broadcastInDim S4096x512 ![] bcast_S_S4096x512 main_c
  let main_c_0 : IVec S_ 1 := constantI S_ 1 1#1
  let main_v1 : IVec S4096x512 1 := broadcastInDim S4096x512 ![] bcast_S_S4096x512 main_c_0
  let main_c_1 : IVec S_ 1 := constantI S_ 1 1#1
  let main_v2 : IVec S4096x512 1 := broadcastInDim S4096x512 ![] bcast_S_S4096x512 main_c_1
  let main_c_2 : IVec S_ 1 := constantI S_ 1 0#1
  let main_v3 : IVec S8x1024 1 := broadcastInDim S8x1024 ![] bcast_S_S8x1024 main_c_2
  (main_v0, main_v1, main_v2, main_v3)
-- ==== Pre_finite.lean ====
abbrev S4096x1024 : Shape := ⟨2, ![4096, 1024]⟩
abbrev S1x1024 : Shape := ⟨2, ![1, 1024]⟩
abbrev S4x1024x1408 : Shape := ⟨3, ![4, 1024, 1408]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S4x1024x1408 : S_.BroadcastsInDim S4x1024x1408 (![] : Fin 0 → Fin S4x1024x1408.rank)
  reducesTo_S4x1024x1408_S_d0_1_2 : S4x1024x1408.ReducesTo [0, 1, 2] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S4x1024x1408 .bf16) (main_arg5 : FVec F S2816x1024 .bf16) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S4x1024x1408 .f32 := (extf .f32 · bitsLt_bf16_f32) main_arg4
  let main_v20 : FVec F S4x1024x1408 .f32 := Host.absf main_v19
  let main_cst_6 : FVec F S_ .f32 := constant S_ .f32 0x7F800000#32
  let main_v21 : FVec F S4x1024x1408 .f32 := broadcastInDim S4x1024x1408 ![] bcast_S_S4x1024x1408 main_cst_6
  let main_v22 : IVec S4x1024x1408 1 := cmpf .olt main_v20 main_v21
  let main_c_7 : IVec S_ 1 := constantI S_ 1 1#1
  let main_v23 : IVec S_ 1 := (fun x v => Host.reduce IntOp.andi x v reducesTo_S4x1024x1408_S_d0_1_2 h_S_) main_v22 main_c_7
  let main_v24 : IVec S_ 1 := andi main_v18 main_v23
  let main_v25 : FVec F S2816x1024 .f32 := (extf .f32 · bitsLt_bf16_f32) main_arg5
  let main_v26 : FVec F S2816x1024 .f32 := Host.absf main_v25
  let main_cst_8 : FVec F S_ .f32 := constant S_ .f32 0x7F800000#32
  let main_v27 : FVec F S2816x1024 .f32 := broadcastInDim S2816x1024 ![] bcast_S_S2816x1024 main_cst_8
  let main_v28 : IVec S2816x1024 1 := cmpf .olt main_v26 main_v27
  let main_c_9 : IVec S_ 1 := constantI S_ 1 1#1
  let main_v29 : IVec S_ 1 := (fun x v => Host.reduce IntOp.andi x v reducesTo_S2816x1024_S_d0_1 h_S_) main_v28 main_c_9
  let main_v30 : IVec S_ 1 := andi main_v24 main_v29
  main_v30

def fn {F : FTy → Type} [FloatOps F] (main_arg0 : FVec F S4096x1024 .f32) (main_arg1 : FVec F S4096x1024 .f32) (main_arg2 : FVec F S1x1024 .f32) (main_arg3 : FVec F S1x1024 .f32) (main_arg4 : FVec F S4x1024x1408 .bf16) (main_arg5 : FVec F S2816x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_v13 main_v16
-- ==== Pre_finite2.lean ====
abbrev S4096x2048 : Shape := ⟨2, ![4096, 2048]⟩
abbrev S2x512 : Shape := ⟨2, ![2, 512]⟩
abbrev S4096x512 : Shape := ⟨2, ![4096, 512]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2x512 : S_.BroadcastsInDim S2x512 (![] : Fin 0 → Fin S2x512.rank)
  reducesTo_S2x512_S_d0_1 : S2x512.ReducesTo [0, 1] S_
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x2048 .f32) (main_arg1 : FVec F S2x512 .f32) (main_arg2 : FVec F S4096x512 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2x512 .f32 := Host.absf main_arg1
  let main_cst_0 : FVec F S_ .f32 := constant S_ .f32 0x7F800000#32
  let main_v5 : FVec F S2x512 .f32 := broadcastInDim S2x512 ![] bcast_S_S2x512 main_cst_0
  let main_v6 : IVec S2x512 1 := cmpf .olt main_v4 main_v5
  let main_c_1 : IVec S_ 1 := constantI S_ 1 1#1
  let main_v7 : IVec S_ 1 := (fun x v => Host.reduce IntOp.andi x v reducesTo_S2x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  main_v13
-- ==== Kernel.lean ====
abbrev S4096x1024 : Shape := ⟨2, ![4096, 1024]⟩
abbrev S1x1024 : Shape := ⟨2, ![1, 1024]⟩
abbrev S4x1024x1408 : Shape := ⟨3, ![4, 1024, 1408]⟩
abbrev S2816x1024 : Shape := ⟨2, ![2816, 1024]⟩
abbrev S1024x4x1408 : Shape := ⟨3, ![1024, 4, 1408]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S8x1024 : Shape := ⟨2, ![8, 1024]⟩
abbrev S256x1024 : Shape := ⟨2, ![256, 1024]⟩
abbrev S256x5632 : Shape := ⟨2, ![256, 5632]⟩
abbrev S256 : Shape := ⟨1, ![256]⟩
abbrev S256x1 : Shape := ⟨2, ![256, 1]⟩
abbrev S1024 : Shape := ⟨1, ![1024]⟩
abbrev S256x2816 : Shape := ⟨2, ![256, 2816]⟩
abbrev S256x1408 : Shape := ⟨2, ![256, 1408]⟩
abbrev S1x1024x1408 : Shape := ⟨3, ![1, 1024, 1408]⟩
abbrev S1024x1408 : Shape := ⟨2, ![1024, 1408]⟩

abbrev nBuf : Space → Nat
  | .hbm => 44
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4x1024x1408, .bf16⟩
  | .hbm, ⟨5, _⟩ => ⟨S2816x1024, .bf16⟩
  | .hbm, ⟨6, _⟩ => ⟨S4x1024x1408, .f32⟩
  | .hbm, ⟨7, _⟩ => ⟨S1024x4x1408, .f32⟩
  | .hbm, ⟨8, _⟩ => ⟨S1024x5632, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x5632, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S2816x1024, .f32⟩
  | .hbm, ⟨38, _⟩ => ⟨S4096x1024, .f32⟩
  | .hbm, ⟨39, _⟩ => ⟨S4096x5632, .bf16⟩
  | .hbm, ⟨40, _⟩ => ⟨S4096x1024, .bf16⟩
  | .hbm, ⟨41, _⟩ => ⟨S4096x5632, .bf16⟩
  | .hbm, ⟨42, _⟩ => ⟨S4096x1024, .f32⟩
  | .hbm, ⟨43, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x5632, .bf16⟩
  | .local _ .vmem, ⟨7, _⟩ => ⟨S256x5632, .bf16⟩
  | .local _ .vmem, ⟨8, _⟩ => ⟨S1x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S256x5632, .bf16⟩
  | .local _ .vmem, ⟨13, _⟩ => ⟨S256x5632, .bf16⟩
  | .local _ .vmem, ⟨14, _⟩ => ⟨S256x1024, .f32⟩
  | .local _ .vmem, ⟨15, _⟩ => ⟨S256x1024, .f32⟩
  | .local _ .vmem, ⟨16, _⟩ => ⟨S8x1024, .f32⟩
  | .local _ .vmem, ⟨17, _⟩ => ⟨S4x1024x1408, .bf16⟩
  | .local _ .vmem, ⟨18, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23_0 : Ref sig .tc := ⟨.hbm, 40, rfl⟩
abbrev main_v23_1 : Ref sig .tc := ⟨.hbm, 41, rfl⟩
abbrev main_v23_2 : Ref sig .tc := ⟨.hbm, 42, rfl⟩
abbrev main_v23_3 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S4096x1024 : Shape := ⟨2, ![4096, 1024]⟩
abbrev S1x1024 : Shape := ⟨2, ![1, 1024]⟩
abbrev S4x1024x1408 : Shape := ⟨3, ![4, 1024, 1408]⟩
abbrev S2816x1024 : Shape := ⟨2, ![2816, 1024]⟩
abbrev S1024x4x1408 : Shape := ⟨3, ![1024, 4, 1408]⟩
abbrev S1024x5632 : Shape := ⟨2, ![1024, 5632]⟩
abbrev S_ : Shape := ⟨0, ![]⟩
abbrev S4096x5632 : Shape := ⟨2, ![4096, 5632]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩
abbrev S4x1024 : Shape := ⟨2, ![4, 1024]⟩
abbrev S2x1024 : Shape := ⟨2, ![2, 1024]⟩
abbrev S8x1024 : Shape := ⟨2, ![8, 1024]⟩

abbrev nBuf : Space → Nat
  | .hbm => 137
  | .vmem => 0
  | .smem => 0
  | _ => 0

abbrev hbmTy0_0 (i : Nat) : BufTy := match i % 128 with
  | 0 => ⟨S4096x1024, .f32⟩
  | 1 => ⟨S4096x1024, .f32⟩
  | 2 => ⟨S1x1024, .f32⟩
  | 3 => ⟨S1x1024, .f32⟩
  | 4 => ⟨S4x1024x1408, .bf16⟩
  | 5 => ⟨S2816x1024, .bf16⟩
  | 6 => ⟨S4x1024x1408, .f32⟩
  | 7 => ⟨S1024x4x1408, .f32⟩
  | 8 => ⟨S1024x5632, .f32⟩
  | 9 => ⟨S_, .f32⟩
  | 10 => ⟨S4096x5632, .f32⟩
  | 11 => ⟨S_, .f32⟩
  | 12 => ⟨S4096x1024, .f32⟩
  | 13 => ⟨S2816x1024, .f32⟩
  | 14 => ⟨S4096x1024, .f32⟩
  | 15 => ⟨S_, .f32⟩
  | 16 => ⟨S4096, .f32⟩
  | 17 => ⟨S4096x1, .f32⟩
  | 18 => ⟨S_, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1, .f32⟩
  | 25 => ⟨S4096x1, .f32⟩
  | 26 => ⟨S_, .f32⟩
  | 27 => ⟨S4096x1, .f32⟩
  | 28 => ⟨S4096x1, .f32⟩
  | 29 => ⟨S4096x1024, .f32⟩
  | 30 => ⟨S4096x1024, .f32⟩
  | 31 => ⟨S4096x1024, .f32⟩
  | 32 => ⟨S4096x1024, .f32⟩
  | 33 => ⟨S4096x5632, .f32⟩
  | 34 => ⟨S4096x5632, .f32⟩
  | 35 => ⟨S4096x2816, .f32⟩
  | 36 => ⟨S4096x2816, .f32⟩
  | 37 => ⟨S4096x2816, .f32⟩
  | 38 => ⟨S4096x2816, .f32⟩
  | 39 => ⟨S_, .f32⟩
  | 40 => ⟨S4096x2816, .f32⟩
  | 41 => ⟨S4096x2816, .f32⟩
  | 42 => ⟨S_, .f32⟩
  | 43 => ⟨S4096x2816, .f32⟩
  | 44 => ⟨S4096x2816, .f32⟩
  | 45 => ⟨S_, .f32⟩
  | 46 => ⟨S4096x2816, .f32⟩
  | 47 => ⟨S4096x2816, .f32⟩
  | 48 => ⟨S4096x2816, .f32⟩
  | 49 => ⟨S4096x2816, .f32⟩
  | 50 => ⟨S4096x2816, .f32⟩
  | 51 => ⟨S4096x1024, .f32⟩
  | 52 => ⟨S4096x1024, .f32⟩
  | 53 => ⟨S4096x1024, .f32⟩
  | 54 => ⟨S_, .f32⟩
  | 55 => ⟨S4096, .f32⟩
  | 56 => ⟨S4096x1, .f32⟩
  | 57 => ⟨S_, .f32⟩
  | 58 => ⟨S4096x1, .f32⟩
  | 59 => ⟨S4096x1, .f32⟩
  | 60 => ⟨S_, .f32⟩
  | 61 => ⟨S4096x1, .f32⟩
  | 62 => ⟨S4096x1, .f32⟩
  | 63 => ⟨S4096x1, .f32⟩
  | 64 => ⟨S4096x1, .f32⟩
  | 65 => ⟨S_, .f32⟩
  | 66 => ⟨S4096x1, .f32⟩
  | 67 => ⟨S4096x1, .f32⟩
  | 68 => ⟨S4096x1024, .f32⟩
  | 69 => ⟨S4096x1024, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S_, .f32⟩
  | 76 => ⟨S1024, .f32⟩
  | 77 => ⟨S1x1024, .f32⟩
  | 78 => ⟨S4096x1024, .f32⟩
  | 79 => ⟨S4096x1024, .f32⟩
  | 80 => ⟨S4096x1024, .f32⟩
  | 81 => ⟨S_, .f32⟩
  | 82 => ⟨S4096, .f32⟩
  | 83 => ⟨S4096x1, .f32⟩
  | 84 => ⟨S4096x1024, .f32⟩
  | 85 => ⟨S4096x1024, .f32⟩
  | 86 => ⟨S4096x1, .f32⟩
  | 87 => ⟨S_, .f32⟩
  | 88 => ⟨S4096x1, .f32⟩
  | 89 => ⟨S4096x1, .f32⟩
  | 90 => ⟨S_, .f32⟩
  | 91 => ⟨S4096, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S4096x2816, .f32⟩
  | 98 => ⟨S4096x2816, .f32⟩
  | 99 => ⟨S4096x2816, .f32⟩
  | 100 => ⟨S4096x2816, .f32⟩
  | 101 => ⟨S4096x2816, .f32⟩
  | 102 => ⟨S4096x2816, .f32⟩
  | 103 => ⟨S4096x2816, .f32⟩
  | 104 => ⟨S4096x5632, .f32⟩
  | 105 => ⟨S4096x1024, .f32⟩
  | 106 => ⟨S4096x1024, .f32⟩
  | 107 => ⟨S_, .f32⟩
  | 108 => ⟨S1024, .f32⟩
  | 109 => ⟨S1x1024, .f32⟩
  | 110 => ⟨S4096x1024, .f32⟩
  | 111 => ⟨S4096x1024, .f32⟩
  | 112 => ⟨S4096x1024, .f32⟩
  | 113 => ⟨S_, .f32⟩
  | 114 => ⟨S4096, .f32⟩
  | 115 => ⟨S4096x1, .f32⟩
  | 116 => ⟨S4096x1024, .f32⟩
  | 117 => ⟨S4096x1024, .f32⟩
  | 118 => ⟨S4096x1024, .f32⟩
  | 119 => ⟨S4096x1, .f32⟩
  | 120 => ⟨S_, .f32⟩
  | 121 => ⟨S4096x1, .f32⟩
  | 122 => ⟨S4096x1, .f32⟩
  | 123 => ⟨S_, .f32⟩
  | 124 => ⟨S4096, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S_, .f32⟩
  | 3 => ⟨S4x1024, .f32⟩
  | 4 => ⟨S_, .f32⟩
  | 5 => ⟨S2x1024, .f32⟩
  | 6 => ⟨S8x1024, .f32⟩
  | 7 => ⟨S4096x1024, .bf16⟩
  | 8 => ⟨S4096x5632, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v25_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v25_1 : Ref sig .tc := ⟨.hbm, 48, rfl⟩
abbrev main_v25_0 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_5 : Ref sig .tc := ⟨.hbm, 54, rfl⟩
abbrev main_v30 : Ref sig .tc := ⟨.hbm, 55, rfl⟩
abbrev main_v31 : Ref sig .tc := ⟨.hbm, 56, rfl⟩
abbrev main_cst_6 : Ref sig .tc := ⟨.hbm, 57, rfl⟩
abbrev main_v32 : Ref sig .tc := ⟨.hbm, 58, rfl⟩
abbrev main_v33 : Ref sig .tc := ⟨.hbm, 59, rfl⟩
abbrev main_cst_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_8 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_9 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_10 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_11 : Ref sig .tc := ⟨.hbm, 87, rfl⟩
abbrev main_v57 : Ref sig .tc := ⟨.hbm, 88, rfl⟩
abbrev main_v58 : Ref sig .tc := ⟨.hbm, 89, rfl⟩
abbrev main_cst_12 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_13 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_14 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_15 : Ref sig .tc := ⟨.hbm, 120, rfl⟩
abbrev main_v83 : Ref sig .tc := ⟨.hbm, 121, rfl⟩
abbrev main_v84 : Ref sig .tc := ⟨.hbm, 122, rfl⟩
abbrev main_cst_16 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_17 : Ref sig .tc := ⟨.hbm, 130, rfl⟩
abbrev main_v91 : Ref sig .tc := ⟨.hbm, 131, rfl⟩
abbrev main_cst_18 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩

abbrev nD : Nat := 1
abbrev τ : Topo := Topo.v7x

variable {F : FTy → Type} [FloatOps F]
-- ==== Kernel2.lean ====
abbrev S4096x2048 : Shape := ⟨2, ![4096, 2048]⟩
abbrev S2x512 : Shape := ⟨2, ![2, 512]⟩
abbrev S4096x512 : Shape := ⟨2, ![4096, 512]⟩
abbrev S512x64 : Shape := ⟨2, ![512, 64]⟩
abbrev S64x512 : Shape := ⟨2, ![64, 512]⟩
abbrev S_ : Shape := ⟨0, ![]⟩
abbrev S512 : Shape := ⟨1, ![512]⟩
abbrev S1x512 : Shape := ⟨2, ![1, 512]⟩
abbrev S4096x4x128 : Shape := ⟨3, ![4096, 4, 128]⟩
abbrev S64x64x4x128 : Shape := ⟨4, ![64, 64, 4, 128]⟩
abbrev S64x1x4x128 : Shape := ⟨4, ![64, 1, 4, 128]⟩
abbrev S64x4x128 : Shape := ⟨3, ![64, 4, 128]⟩
abbrev S64x4096 : Shape := ⟨2, ![64, 4096]⟩
abbrev S64x4096x1x1 : Shape := ⟨4, ![64, 4096, 1, 1]⟩
abbrev S1x4096x4x128 : Shape := ⟨4, ![1, 4096, 4, 128]⟩
abbrev S64x4096x4x128 : Shape := ⟨4, ![64, 4096, 4, 128]⟩
abbrev S4x64x128x128 : Shape := ⟨4, ![4, 64, 128, 128]⟩
abbrev S64x4x128x128 : Shape := ⟨4, ![64, 4, 128, 128]⟩
abbrev S8x1024 : Shape := ⟨2, ![8, 1024]⟩
abbrev S256x512 : Shape := ⟨2, ![256, 512]⟩
abbrev S1x4x128x128 : Shape := ⟨4, ![1, 4, 128, 128]⟩
abbrev S4x4x128x128 : Shape := ⟨4, ![4, 4, 128, 128]⟩
abbrev S4x128x128 : Shape := ⟨3, ![4, 128, 128]⟩
abbrev S4x512x512 : Shape := ⟨3, ![4, 512, 512]⟩
abbrev S64x64 : Shape := ⟨2, ![64, 64]⟩
abbrev S64x128 : Shape := ⟨2, ![64, 128]⟩
abbrev S512x512 : Shape := ⟨2, ![512, 512]⟩
abbrev S1x1x128x128 : Shape := ⟨4, ![1, 1, 128, 128]⟩
abbrev S128x128 : Shape := ⟨2, ![128, 128]⟩
abbrev S1x128x128 : Shape := ⟨3, ![1, 128, 128]⟩
abbrev S1x128 : Shape := ⟨2, ![1, 128]⟩
abbrev S128 : Shape := ⟨1, ![128]⟩
abbrev S1x64x128 : Shape := ⟨3, ![1, 64, 128]⟩
abbrev S1x512x512 : Shape := ⟨3, ![1, 512, 512]⟩

abbrev nBuf : Space → Nat
  | .hbm => 106
  | .vmem => 27
  | .smem => 0
  | _ => 0

abbrev bufTy : (tb : Table) → Fin (tcTables nBuf tb) → BufTy
  | .hbm, ⟨0, _⟩ => ⟨S4096x2048, .f32⟩
  | .hbm, ⟨1, _⟩ => ⟨S2x512, .f32⟩
  | .hbm, ⟨2, _⟩ => ⟨S4096x512, .f32⟩
  | .hbm, ⟨3, _⟩ => ⟨S512x64, .bf16⟩
  | .hbm, ⟨4, _⟩ => ⟨S64x512, .bf16⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S512, .f32⟩
  | .hbm, ⟨9, _⟩ => ⟨S_, .f32⟩
  | .hbm, ⟨10, _⟩ => ⟨S512, .f32⟩
  | .hbm, ⟨11, _⟩ => ⟨S512, .f32⟩
  | .hbm, ⟨12, _⟩ => ⟨S1x512, .f32⟩
  | .hbm, ⟨13, _⟩ => ⟨S2x512, .f32⟩
  | .hbm, ⟨14, _⟩ => ⟨S2x512, .f32⟩
  | .hbm, ⟨15, _⟩ => ⟨S2x512, .f32⟩
  | .hbm, ⟨16, _⟩ => ⟨S_, .f32⟩
  | .hbm, ⟨17, _⟩ => ⟨S512, .f32⟩
  | .hbm, ⟨18, _⟩ => ⟨S1x512, .f32⟩
  | .hbm, ⟨19, _⟩ => ⟨S2x512, .f32⟩
  | .hbm, ⟨20, _⟩ => ⟨S2x512, .f32⟩
  | .hbm, ⟨21, _⟩ => ⟨S_, .f32⟩
  | .hbm, ⟨22, _⟩ => ⟨S_, .f32⟩
  | .hbm, ⟨23, _⟩ => ⟨S2x512, .f32⟩
  | .hbm, ⟨24, _⟩ => ⟨S1x512, .f32⟩
  | .hbm, ⟨25, _⟩ => ⟨S512, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .i1⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S1x512, .f32⟩
  | .hbm, ⟨46, _⟩ => ⟨S4096x512, .f32⟩
  | .hbm, ⟨47, _⟩ => ⟨S4096x512, .f32⟩
  | .hbm, ⟨48, _⟩ => ⟨S1x512, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .i1⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S4096x512, .f32⟩
  | .hbm, ⟨61, _⟩ => ⟨S4096x512, .f32⟩
  | .hbm, ⟨62, _⟩ => ⟨S4096x512, .f32⟩
  | .hbm, ⟨63, _⟩ => ⟨S4096x512, .f32⟩
  | .hbm, ⟨64, _⟩ => ⟨S4096x4x128, .f32⟩
  | .hbm, ⟨65, _⟩ => ⟨S4096x4x128, .f32⟩
  | .hbm, ⟨66, _⟩ => ⟨S4096x4x128, .f32⟩
  | .hbm, ⟨67, _⟩ => ⟨S_, .f32⟩
  | .hbm, ⟨68, _⟩ => ⟨S_, .f32⟩
  | .hbm, ⟨69, _⟩ => ⟨S4096x4x128, .f32⟩
  | .hbm, ⟨70, _⟩ => ⟨S64x64x4x128, .f32⟩
  | .hbm, ⟨71, _⟩ => ⟨S64x1x4x128, .f32⟩
  | .hbm, ⟨72, _⟩ => ⟨S64x4x128, .f32⟩
  | .hbm, ⟨73, _⟩ => ⟨S64x4096, .i32⟩
  | .hbm, ⟨74, _⟩ => ⟨S64x4096, .i32⟩
  | .hbm, ⟨75, _⟩ => ⟨S_, .i32⟩
  | .hbm, ⟨76, _⟩ => ⟨S64x4096, .i32⟩
  | .hbm, ⟨77, _⟩ => ⟨S64x4096, .i32⟩
  | .hbm, ⟨78, _⟩ => ⟨S_, .i32⟩
  | .hbm, ⟨79, _⟩ => ⟨S64x4096, .i32⟩
  | .hbm, ⟨80, _⟩ => ⟨S64x4096, .i32⟩
  | .hbm, ⟨81, _⟩ => ⟨S64x4096, .i1⟩
  | .hbm, ⟨82, _⟩ => ⟨S64x4096x1x1, .i1⟩
  | .hbm, ⟨83, _⟩ => ⟨S64x1x4x128, .f32⟩
  | .hbm, ⟨84, _⟩ => ⟨S1x4096x4x128, .f32⟩
  | .hbm, ⟨85, _⟩ => ⟨S64x4096x4x128, .f32⟩
  | .hbm, ⟨86, _⟩ => ⟨S64x4096x4x128, .f32⟩
  | .hbm, ⟨87, _⟩ => ⟨S64x4096x4x128, .f32⟩
  | .hbm, ⟨88, _⟩ => ⟨S_, .f32⟩
  | .hbm, ⟨89, _⟩ => ⟨S64x4096x4x128, .f32⟩
  | .hbm, ⟨90, _⟩ => ⟨S64x4096x4x128, .f32⟩
  | .hbm, ⟨91, _⟩ => ⟨S64x4096x4x128, .f32⟩
  | .hbm, ⟨92, _⟩ => ⟨S_, .f32⟩
  | .hbm, ⟨93, _⟩ => ⟨S_, .f32⟩
  | .hbm, ⟨94, _⟩ => ⟨S64x4096x4x128, .i1⟩
  | .hbm, ⟨95, _⟩ => ⟨S64x4096x4x128, .f32⟩
  | .hbm, ⟨96, _⟩ => ⟨S64x4096x4x128, .f32⟩
  | .hbm, ⟨97, _⟩ => ⟨S1x4096x4x128, .f32⟩
  | .hbm, ⟨98, _⟩ => ⟨S64x4096x4x128, .f32⟩
  | .hbm, ⟨99, _⟩ => ⟨S64x4096x4x128, .f32⟩
  | .hbm, ⟨100, _⟩ => ⟨S4x64x128x128, .f32⟩
  | .hbm, ⟨101, _⟩ => ⟨S64x4x128x128, .f32⟩
  | .hbm, ⟨102, _⟩ => ⟨S4096x512, .f32⟩
  | .hbm, ⟨103, _⟩ => ⟨S4096x512, .f32⟩
  | .hbm, ⟨104, _⟩ => ⟨S4096x512, .f32⟩
  | .hbm, ⟨105, _⟩ => ⟨S8x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S2x512, .f32⟩
  | .local _ .vmem, ⟨9, _⟩ => ⟨S512x64, .bf16⟩
  | .local _ .vmem, ⟨10, _⟩ => ⟨S64x512, .bf16⟩
  | .local _ .vmem, ⟨11, _⟩ => ⟨S1x4x128x128, .f32⟩
  | .local _ .vmem, ⟨12, _⟩ => ⟨S1x4x128x128, .f32⟩
  | .local _ .vmem, ⟨13, _⟩ => ⟨S4x4x128x128, .f32⟩
  | .local _ .vmem, ⟨14, _⟩ => ⟨S4x4x128x128, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S8x1024, .f32⟩
  | .local _ .vmem, ⟨22, _⟩ => ⟨S4x128x128, .f32⟩
  | .local _ .vmem, ⟨23, _⟩ => ⟨S1x512, .f32⟩
  | .local _ .vmem, ⟨24, _⟩ => ⟨S256x512, .f32⟩
  | .local _ .vmem, ⟨25, _⟩ => ⟨S256x512, .f32⟩
  | .local _ .vmem, ⟨26, _⟩ => ⟨S4x512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_call0_cst : Ref sig .tc := ⟨.hbm, 21, rfl⟩
abbrev main_call0_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call1_v0 : Ref sig .tc := ⟨.hbm, 29, rfl⟩
abbrev main_call1_call0_cst : Ref sig .tc := ⟨.hbm, 30, rfl⟩
abbrev main_call1_call0_v0 : Ref sig .tc := ⟨.hbm, 31, rfl⟩
abbrev main_call1_call0_v1 : Ref sig .tc := ⟨.hbm, 32, rfl⟩
abbrev main_call1_call0_v2 : Ref sig .tc := ⟨.hbm, 33, rfl⟩
abbrev main_call1_call0_v3 : Ref sig .tc := ⟨.hbm, 34, rfl⟩
abbrev main_call1_call0_v4 : Ref sig .tc := ⟨.hbm, 35, rfl⟩
abbrev main_call1_call0_v5 : Ref sig .tc := ⟨.hbm, 36, rfl⟩
abbrev main_call1_call0_v6 : Ref sig .tc := ⟨.hbm, 37, rfl⟩
abbrev main_call1_call0_v7 : Ref sig .tc := ⟨.hbm, 38, rfl⟩
abbrev main_call1_call0_v8 : Ref sig .tc := ⟨.hbm, 39, rfl⟩
abbrev main_call1_call0_v9 : Ref sig .tc := ⟨.hbm, 40, rfl⟩
abbrev main_call1_call0_v10 : Ref sig .tc := ⟨.hbm, 41, rfl⟩
abbrev main_call1_call0_v11 : Ref sig .tc := ⟨.hbm, 42, rfl⟩
abbrev main_call1_v1 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_call2_call0_cst : Ref sig .tc := ⟨.hbm, 67, rfl⟩
abbrev main_call2_call0_v0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c : Ref sig .tc := ⟨.hbm, 75, rfl⟩
abbrev main_v48 : Ref sig .tc := ⟨.hbm, 76, rfl⟩
abbrev main_v49 : Ref sig .tc := ⟨.hbm, 77, rfl⟩
abbrev main_c_4 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_5 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_6 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68_0 : Ref sig .tc := ⟨.hbm, 102, rfl⟩
abbrev main_v68_1 : Ref sig .tc := ⟨.hbm, 103, rfl⟩
abbrev main_v68_2 : Ref sig .tc := ⟨.hbm, 104, rfl⟩
abbrev main_v68_3 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c0_i32_3 : BitVec 32 := 0#32
  let v6 : BitVec 1 := Scalar.cmpi .eq arg0 c0_i32_3
  let v7 : BitVec 32 := Scalar.extui v6
  let c0_i32_4 : BitVec 32 := 0#32
  let v8 : BitVec 1 := Scalar.cmpi .ne v7 c0_i32_4
  v8

def k0_cond4 (i : grid0.Coords) : BitVec 1 :=
  let arg0 : BitVec 32 := BitVec.ofNat 32 (i 0).val
  let c15_i32_1242 : BitVec 32 := 15#32
  let v4037 : BitVec 1 := Scalar.cmpi .eq arg0 c15_i32_1242
  let v4038 : BitVec 32 := Scalar.extui v4037
  let c0_i32_1243 : BitVec 32 := 0#32
  let v4039 : BitVec 1 := Scalar.cmpi .ne v4038 c0_i32_1243
  v4039

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c15_i32 : BitVec 32 := 15#32
  let v0 : BitVec 32 := Scalar.subi c15_i32 arg0
  let c4_i32 : BitVec 32 := 4#32
  let v1 : BitVec 32 := Scalar.muli c4_i32 v0
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  let c0_i32_3 : BitVec 32 := 0#32
  ![v3.toNat, c0_i32_0.toNat, c0_i32_1.toNat, c0_i32_2.toNat]

def cc0_transform_8 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S4096x2048 : Shape := ⟨2, ![4096, 2048]⟩
abbrev S2x512 : Shape := ⟨2, ![2, 512]⟩
abbrev S4096x512 : Shape := ⟨2, ![4096, 512]⟩
abbrev S_ : Shape := ⟨0, ![]⟩
abbrev S4096x4x128 : Shape := ⟨3, ![4096, 4, 128]⟩
abbrev S512 : Shape := ⟨1, ![512]⟩
abbrev S1x512 : Shape := ⟨2, ![1, 512]⟩
abbrev S4096x4096 : Shape := ⟨2, ![4096, 4096]⟩
abbrev S4096x1x4x128 : Shape := ⟨4, ![4096, 1, 4, 128]⟩
abbrev S1x4096x4x128 : Shape := ⟨4, ![1, 4096, 4, 128]⟩
abbrev S4096x4096x4x128 : Shape := ⟨4, ![4096, 4096, 4, 128]⟩
abbrev S4096x4096x1x1 : Shape := ⟨4, ![4096, 4096, 1, 1]⟩
abbrev S4096x4096x4 : Shape := ⟨3, ![4096, 4096, 4]⟩
abbrev S4x128x4096 : Shape := ⟨3, ![4, 128, 4096]⟩
abbrev S4x4096x4096 : Shape := ⟨3, ![4, 4096, 4096]⟩
abbrev S1x1024 : Shape := ⟨2, ![1, 1024]⟩
abbrev S6x1024 : Shape := ⟨2, ![6, 1024]⟩
abbrev S8x1024 : Shape := ⟨2, ![8, 1024]⟩

abbrev nBuf : Space → Nat
  | .hbm => 316
  | .vmem => 0
  | .smem => 0
  | _ => 0

abbrev hbmTy0_0 (i : Nat) : BufTy := match i % 128 with
  | 0 => ⟨S4096x2048, .f32⟩
  | 1 => ⟨S2x512, .f32⟩
  | 2 => ⟨S4096x512, .f32⟩
  | 3 => ⟨S4096x512, .f32⟩
  | 4 => ⟨S4096x512, .f32⟩
  | 5 => ⟨S4096x512, .f32⟩
  | 6 => ⟨S4096x512, .f32⟩
  | 7 => ⟨S4096x512, .f32⟩
  | 8 => ⟨S_, .f32⟩
  | 9 => ⟨S4096x512, .f32⟩
  | 10 => ⟨S4096x512, .f32⟩
  | 11 => ⟨S_, .f32⟩
  | 12 => ⟨S4096x512, .f32⟩
  | 13 => ⟨S4096x512, .f32⟩
  | 14 => ⟨S_, .f32⟩
  | 15 => ⟨S4096x512, .f32⟩
  | 16 => ⟨S4096x512, .f32⟩
  | 17 => ⟨S4096x512, .f32⟩
  | 18 => ⟨S4096x512, .f32⟩
  | 19 => ⟨S4096x4x128, .f32⟩
  | 20 => ⟨S_, .f32⟩
  | 21 => ⟨S512, .f32⟩
  | 22 => ⟨S1x512, .f32⟩
  | 23 => ⟨S2x512, .f32⟩
  | 24 => ⟨S2x512, .i1⟩
  | 25 => ⟨S2x512, .f32⟩
  | 26 => ⟨S_, .f32⟩
  | 27 => ⟨S512, .f32⟩
  | 28 => ⟨S_, .f32⟩
  | 29 => ⟨S512, .f32⟩
  | 30 => ⟨S512, .f32⟩
  | 31 => ⟨S_, .f32⟩
  | 32 => ⟨S512, .f32⟩
  | 33 => ⟨S512, .i1⟩
  | 34 => ⟨S_, .f32⟩
  | 35 => ⟨S512, .f32⟩
  | 36 => ⟨S512, .i1⟩
  | 37 => ⟨S_, .f32⟩
  | 38 => ⟨S512, .f32⟩
  | 39 => ⟨S_, .f32⟩
  | 40 => ⟨S512, .f32⟩
  | 41 => ⟨S_, .f32⟩
  | 42 => ⟨S512, .f32⟩
  | 43 => ⟨S512, .f32⟩
  | 44 => ⟨S512, .f32⟩
  | 45 => ⟨S1x512, .f32⟩
  | 46 => ⟨S2x512, .f32⟩
  | 47 => ⟨S2x512, .f32⟩
  | 48 => ⟨S2x512, .f32⟩
  | 49 => ⟨S_, .f32⟩
  | 50 => ⟨S512, .f32⟩
  | 51 => ⟨S1x512, .f32⟩
  | 52 => ⟨S2x512, .f32⟩
  | 53 => ⟨S2x512, .f32⟩
  | 54 => ⟨S1x512, .f32⟩
  | 55 => ⟨S_, .f32⟩
  | 56 => ⟨S1x512, .f32⟩
  | 57 => ⟨S1x512, .f32⟩
  | 58 => ⟨S_, .f32⟩
  | 59 => ⟨S_, .f32⟩
  | 60 => ⟨S2x512, .f32⟩
  | 61 => ⟨S1x512, .f32⟩
  | 62 => ⟨S512, .f32⟩
  | 63 => ⟨S512, .f32⟩
  | 64 => ⟨S512, .f32⟩
  | 65 => ⟨S512, .f32⟩
  | 66 => ⟨S_, .f32⟩
  | 67 => ⟨S512, .f32⟩
  | 68 => ⟨S512, .f32⟩
  | 69 => ⟨S4096x512, .f32⟩
  | 70 => ⟨S_, .f32⟩
  | 71 => ⟨S4096x512, .f32⟩
  | 72 => ⟨S4096x512, .f32⟩
  | 73 => ⟨S4096x512, .f32⟩
  | 74 => ⟨S4096x512, .f32⟩
  | 75 => ⟨S4096x512, .i1⟩
  | 76 => ⟨S4096x512, .f32⟩
  | 77 => ⟨S4096x512, .f32⟩
  | 78 => ⟨S4096x512, .f32⟩
  | 79 => ⟨S4096x512, .f32⟩
  | 80 => ⟨S4096x512, .f32⟩
  | 81 => ⟨S4096x512, .f32⟩
  | 82 => ⟨S4096x512, .f32⟩
  | 83 => ⟨S4096x512, .f32⟩
  | 84 => ⟨S_, .f32⟩
  | 85 => ⟨S4096x512, .f32⟩
  | 86 => ⟨S4096x512, .i1⟩
  | 87 => ⟨S_, .f32⟩
  | 88 => ⟨S4096x512, .f32⟩
  | 89 => ⟨S4096x512, .f32⟩
  | 90 => ⟨S_, .f32⟩
  | 91 => ⟨S4096x512, .f32⟩
  | 92 => ⟨S4096x512, .i1⟩
  | 93 => ⟨S_, .f32⟩
  | 94 => ⟨S4096x512, .f32⟩
  | 95 => ⟨S4096x512, .f32⟩
  | 96 => ⟨S4096x512, .f32⟩
  | 97 => ⟨S4096x512, .f32⟩
  | 98 => ⟨S_, .f32⟩
  | 99 => ⟨S_, .f32⟩
  | 100 => ⟨S_, .i1⟩
  | 101 => ⟨S_, .f32⟩
  | 102 => ⟨S_, .f32⟩
  | 103 => ⟨S_, .f32⟩
  | 104 => ⟨S_, .f32⟩
  | 105 => ⟨S4096x512, .f32⟩
  | 106 => ⟨S4096x512, .i1⟩
  | 107 => ⟨S_, .f32⟩
  | 108 => ⟨S4096x512, .f32⟩
  | 109 => ⟨S4096x512, .f32⟩
  | 110 => ⟨S4096x512, .f32⟩
  | 111 => ⟨S4096x512, .f32⟩
  | 112 => ⟨S4096x512, .f32⟩
  | 113 => ⟨S_, .f32⟩
  | 114 => ⟨S4096x512, .f32⟩
  | 115 => ⟨S4096x512, .f32⟩
  | 116 => ⟨S4096x512, .f32⟩
  | 117 => ⟨S1x512, .f32⟩
  | 118 => ⟨S4096x512, .f32⟩
  | 119 => ⟨S4096x512, .f32⟩
  | 120 => ⟨S1x512, .f32⟩
  | 121 => ⟨S4096x512, .f32⟩
  | 122 => ⟨S4096x512, .f32⟩
  | 123 => ⟨S4096x512, .f32⟩
  | 124 => ⟨S4096x512, .f32⟩
  | 125 => ⟨S4096x512, .i1⟩
  | 126 => ⟨S4096x512, .f32⟩
  | 127 => ⟨S4096x512, .f32⟩
  | _ => ⟨S4096x2048, .f32⟩

abbrev hbmTy0_1 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x512, .f32⟩
  | 5 => ⟨S4096x512, .f32⟩
  | 6 => ⟨S_, .f32⟩
  | 7 => ⟨S1x512, .f32⟩
  | 8 => ⟨S1x512, .i1⟩
  | 9 => ⟨S_, .f32⟩
  | 10 => ⟨S1x512, .f32⟩
  | 11 => ⟨S1x512, .f32⟩
  | 12 => ⟨S_, .f32⟩
  | 13 => ⟨S4096x512, .f32⟩
  | 14 => ⟨S4096x512, .i1⟩
  | 15 => ⟨S_, .f32⟩
  | 16 => ⟨S4096x512, .f32⟩
  | 17 => ⟨S4096x512, .f32⟩
  | 18 => ⟨S4096x512, .f32⟩
  | 19 => ⟨S4096x512, .f32⟩
  | 20 => ⟨S4096x512, .f32⟩
  | 21 => ⟨S_, .f32⟩
  | 22 => ⟨S4096x512, .f32⟩
  | 23 => ⟨S4096x512, .i1⟩
  | 24 => ⟨S_, .f32⟩
  | 25 => ⟨S4096x512, .f32⟩
  | 26 => ⟨S4096x512, .f32⟩
  | 27 => ⟨S_, .f32⟩
  | 28 => ⟨S4096x512, .f32⟩
  | 29 => ⟨S4096x512, .i1⟩
  | 30 => ⟨S_, .f32⟩
  | 31 => ⟨S4096x512, .f32⟩
  | 32 => ⟨S4096x512, .f32⟩
  | 33 => ⟨S4096x512, .f32⟩
  | 34 => ⟨S4096x512, .f32⟩
  | 35 => ⟨S4096x512, .f32⟩
  | 36 => ⟨S4096x512, .f32⟩
  | 37 => ⟨S4096x512, .f32⟩
  | 38 => ⟨S4096x4x128, .f32⟩
  | 39 => ⟨S4096x4x128, .f32⟩
  | 40 => ⟨S4096x4x128, .f32⟩
  | 41 => ⟨S_, .f32⟩
  | 42 => ⟨S_, .f32⟩
  | 43 => ⟨S4096x4x128, .f32⟩
  | 44 => ⟨S4096x4096, .i32⟩
  | 45 => ⟨S4096x4096, .i32⟩
  | 46 => ⟨S4096x4096, .i1⟩
  | 47 => ⟨S4096x1x4x128, .f32⟩
  | 48 => ⟨S1x4096x4x128, .f32⟩
  | 49 => ⟨S4096x4096x4x128, .f32⟩
  | 50 => ⟨S4096x4096x4x128, .f32⟩
  | 51 => ⟨S4096x4096x4x128, .f32⟩
  | 52 => ⟨S4096x4096x1x1, .i1⟩
  | 53 => ⟨S_, .f32⟩
  | 54 => ⟨S4096x4096x4x128, .f32⟩
  | 55 => ⟨S4096x4096x4x128, .f32⟩
  | 56 => ⟨S_, .f32⟩
  | 57 => ⟨S4096x4096x4x128, .f32⟩
  | 58 => ⟨S4096x4096x4x128, .i1⟩
  | 59 => ⟨S_, .f32⟩
  | 60 => ⟨S4096x4096x4x128, .f32⟩
  | 61 => ⟨S4096x4096x4x128, .i1⟩
  | 62 => ⟨S_, .f32⟩
  | 63 => ⟨S4096x4096x4x128, .f32⟩
  | 64 => ⟨S_, .f32⟩
  | 65 => ⟨S4096x4096x4x128, .f32⟩
  | 66 => ⟨S_, .f32⟩
  | 67 => ⟨S4096x4096x4x128, .f32⟩
  | 68 => ⟨S4096x4096x4x128, .f32⟩
  | 69 => ⟨S4096x4096x4x128, .f32⟩
  | 70 => ⟨S4096x4096x4x128, .f32⟩
  | 71 => ⟨S_, .f32⟩
  | 72 => ⟨S_, .f32⟩
  | 73 => ⟨S4096x4096x4x128, .i1⟩
  | 74 => ⟨S4096x4096x4x128, .f32⟩
  | 75 => ⟨S4096x4096x4x128, .f32⟩
  | 76 => ⟨S_, .f32⟩
  | 77 => ⟨S4096x4096x4x128, .f32⟩
  | 78 => ⟨S4096x1x4x128, .f32⟩
  | 79 => ⟨S4096x4096x4x128, .f32⟩
  | 80 => ⟨S4096x4096x4x128, .f32⟩
  | 81 => ⟨S1x4096x4x128, .f32⟩
  | 82 => ⟨S4096x4096x4x128, .f32⟩
  | 83 => ⟨S4096x4096x4x128, .f32⟩
  | 84 => ⟨S_, .f32⟩
  | 85 => ⟨S4096x4096x4, .f32⟩
  | 86 => ⟨S4x128x4096, .f32⟩
  | 87 => ⟨S4096x4x128, .f32⟩
  | 88 => ⟨S4096x512, .f32⟩
  | 89 => ⟨S4096x4x128, .f32⟩
  | 90 => ⟨S4x128x4096, .f32⟩
  | 91 => ⟨S4x4096x4096, .f32⟩
  | 92 => ⟨S4096x4096x4, .f32⟩
  | 93 => ⟨S4x128x4096, .f32⟩
  | 94 => ⟨S4096x4x128, .f32⟩
  | 95 => ⟨S4096x4096x4x128, .f32⟩
  | 96 => ⟨S4096x4096x4x128, .f32⟩
  | 97 => ⟨S_, .f32⟩
  | 98 => ⟨S4096x4x128, .f32⟩
  | 99 => ⟨S1x4096x4x128, .f32⟩
  | 100 => ⟨S4096x4096x4x128, .f32⟩
  | 101 => ⟨S4096x4096x4x128, .f32⟩
  | 102 => ⟨S_, .f32⟩
  | 103 => ⟨S4096x4x128, .f32⟩
  | 104 => ⟨S4096x4096x4x128, .f32⟩
  | 105 => ⟨S4096x4096x4x128, .f32⟩
  | 106 => ⟨S4096x4096x4x128, .f32⟩
  | 107 => ⟨S_, .f32⟩
  | 108 => ⟨S4096x4x128, .f32⟩
  | 109 => ⟨S4096x1x4x128, .f32⟩
  | 110 => ⟨S_, .f32⟩
  | 111 => ⟨S4096x4x128, .f32⟩
  | 112 => ⟨S_, .f32⟩
  | 113 => ⟨S4096x4096x4x128, .f32⟩
  | 114 => ⟨S4096x4096x4x128, .f32⟩
  | 115 => ⟨S4096x4096x4x128, .f32⟩
  | 116 => ⟨S4096x4096x4x128, .f32⟩
  | 117 => ⟨S_, .f32⟩
  | 118 => ⟨S4096x4x128, .f32⟩
  | 119 => ⟨S4096x1x4x128, .f32⟩
  | 120 => ⟨S4096x4096x4x128, .f32⟩
  | 121 => ⟨S_, .f32⟩
  | 122 => ⟨S4096x4x128, .f32⟩
  | 123 => ⟨S1x4096x4x128, .f32⟩
  | 124 => ⟨S_, .f32⟩
  | 125 => ⟨S4096x4x128, .f32⟩
  | 126 => ⟨S_, .f32⟩
  | 127 => ⟨S4096x4x128, .f32⟩
  | _ => ⟨S4096x2048, .f32⟩

abbrev hbmTy0_2 (i : Nat) : BufTy := match i % 128 with
  | 0 => ⟨S4096x4x128, .f32⟩
  | 1 => ⟨S_, .f32⟩
  | 2 => ⟨S_, .f32⟩
  | 3 => ⟨S4096x4x128, .f32⟩
  | 4 => ⟨S4096x512, .f32⟩
  | 5 => ⟨S4096x512, .f32⟩
  | 6 => ⟨S4096x512, .f32⟩
  | 7 => ⟨S4096x512, .f32⟩
  | 8 => ⟨S4096x512, .f32⟩
  | 9 => ⟨S4096x512, .f32⟩
  | 10 => ⟨S4096x512, .f32⟩
  | 11 => ⟨S4096x512, .f32⟩
  | 12 => ⟨S_, .f32⟩
  | 13 => ⟨S512, .f32⟩
  | 14 => ⟨S1x512, .f32⟩
  | 15 => ⟨S_, .f32⟩
  | 16 => ⟨S512, .f32⟩
  | 17 => ⟨S_, .f32⟩
  | 18 => ⟨S512, .f32⟩
  | 19 => ⟨S1x512, .f32⟩
  | 20 => ⟨S_, .f32⟩
  | 21 => ⟨S512, .f32⟩
  | 22 => ⟨S4096x512, .f32⟩
  | 23 => ⟨S4096x512, .f32⟩
  | 24 => ⟨S4096x512, .f32⟩
  | 25 => ⟨S512, .f32⟩
  | 26 => ⟨S512, .f32⟩
  | 27 => ⟨S512, .f32⟩
  | 28 => ⟨S512, .f32⟩
  | 29 => ⟨S1x512, .f32⟩
  | 30 => ⟨S_, .f32⟩
  | 31 => ⟨S2x512, .f32⟩
  | 32 => ⟨S_, .f32⟩
  | 33 => ⟨S_, .f32⟩
  | 34 => ⟨S2x512, .f32⟩
  | 35 => ⟨S2x512, .f32⟩
  | 36 => ⟨S2x512, .f32⟩
  | 37 => ⟨S2x512, .f32⟩
  | 38 => ⟨S_, .f32⟩
  | 39 => ⟨S512, .f32⟩
  | 40 => ⟨S1x512, .f32⟩
  | 41 => ⟨S1x512, .f32⟩
  | 42 => ⟨S2x512, .f32⟩
  | 43 => ⟨S2x512, .f32⟩
  | 44 => ⟨S_, .f32⟩
  | 45 => ⟨S512, .f32⟩
  | 46 => ⟨S2x512, .f32⟩
  | 47 => ⟨S2x512, .f32⟩
  | 48 => ⟨S2x512, .f32⟩
  | 49 => ⟨S4096x512, .f32⟩
  | 50 => ⟨S4096x512, .f32⟩
  | 51 => ⟨S4096x512, .f32⟩
  | 52 => ⟨S4096x512, .f32⟩
  | 53 => ⟨S4096x512, .f32⟩
  | 54 => ⟨S_, .f32⟩
  | 55 => ⟨S1x1024, .f32⟩
  | 56 => ⟨S1x1024, .f32⟩
  | 57 => ⟨S_, .f32⟩
  | 58 => ⟨S6x1024, .f32⟩
  | 59 => ⟨S8x1024, .f32⟩
  | _ => ⟨S4096x2048, .f32⟩

abbrev hbmTy (i : Nat) : BufTy := match i / 128 with
  | 0 => hbmTy0_0 i
  | 1 => hbmTy0_1 i
  | 2 => hbmTy0_2 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_cst_4 : Ref sig .tc := ⟨.hbm, 37, rfl⟩
abbrev main_v17 : Ref sig .tc := ⟨.hbm, 38, rfl⟩
abbrev main_cst_5 : Ref sig .tc := ⟨.hbm, 39, rfl⟩
abbrev main_v18 : Ref sig .tc := ⟨.hbm, 40, rfl⟩
abbrev main_cst_6 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_7 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_8 : Ref sig .tc := ⟨.hbm, 55, rfl⟩
abbrev main_v31 : Ref sig .tc := ⟨.hbm, 56, rfl⟩
abbrev main_v32 : Ref sig .tc := ⟨.hbm, 57, rfl⟩
abbrev main_call1_call0_cst : Ref sig .tc := ⟨.hbm, 58, rfl⟩
abbrev main_call1_call0_v0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_9 : Ref sig .tc := ⟨.hbm, 66, rfl⟩
abbrev main_v39 : Ref sig .tc := ⟨.hbm, 67, rfl⟩
abbrev main_v40 : Ref sig .tc := ⟨.hbm, 68, rfl⟩
abbrev main_call2_v0 : Ref sig .tc := ⟨.hbm, 69, rfl⟩
abbrev main_call2_call0_cst : Ref sig .tc := ⟨.hbm, 70, rfl⟩
abbrev main_call2_call0_v0 : Ref sig .tc := ⟨.hbm, 71, rfl⟩
abbrev main_call2_call0_v1 : Ref sig .tc := ⟨.hbm, 72, rfl⟩
abbrev main_call2_call0_v2 : Ref sig .tc := ⟨.hbm, 73, rfl⟩
abbrev main_call2_call0_v3 : Ref sig .tc := ⟨.hbm, 74, rfl⟩
abbrev main_call2_call0_v4 : Ref sig .tc := ⟨.hbm, 75, rfl⟩
abbrev main_call2_call0_v5 : Ref sig .tc := ⟨.hbm, 76, rfl⟩
abbrev main_call2_call0_v6 : Ref sig .tc := ⟨.hbm, 77, rfl⟩
abbrev main_call2_call0_v7 : Ref sig .tc := ⟨.hbm, 78, rfl⟩
abbrev main_call2_call0_v8 : Ref sig .tc := ⟨.hbm, 79, rfl⟩
abbrev main_call2_call0_v9 : Ref sig .tc := ⟨.hbm, 80, rfl⟩
abbrev main_call2_call0_v10 : Ref sig .tc := ⟨.hbm, 81, rfl⟩
abbrev main_call2_call0_v11 : Ref sig .tc := ⟨.hbm, 82, rfl⟩
abbrev main_call2_v1_0 : Ref sig .tc := ⟨.hbm, 83, rfl⟩
abbrev main_call2_call0_cst_0 : Ref sig .tc := ⟨.hbm, 84, rfl⟩
abbrev main_call2_call0_v13 : Ref sig .tc := ⟨.hbm, 85, rfl⟩
abbrev main_call2_call0_v14 : Ref sig .tc := ⟨.hbm, 86, rfl⟩
abbrev main_call2_call0_cst_1 : Ref sig .tc := ⟨.hbm, 87, rfl⟩
abbrev main_call2_call0_v15 : Ref sig .tc := ⟨.hbm, 88, rfl⟩
abbrev main_call2_call0_v16 : Ref sig .tc := ⟨.hbm, 89, rfl⟩
abbrev main_call2_call0_cst_2 : Ref sig .tc := ⟨.hbm, 90, rfl⟩
abbrev main_call2_call0_v17 : Ref sig .tc := ⟨.hbm, 91, rfl⟩
abbrev main_call2_call0_v18 : Ref sig .tc := ⟨.hbm, 92, rfl⟩
abbrev main_call2_call0_cst_3 : Ref sig .tc := ⟨.hbm, 93, rfl⟩
abbrev main_call2_call0_v19 : Ref sig .tc := ⟨.hbm, 94, rfl⟩
abbrev main_call2_call0_v20 : Ref sig .tc := ⟨.hbm, 95, rfl⟩
abbrev main_call2_call0_v21 : Ref sig .tc := ⟨.hbm, 96, rfl⟩
abbrev main_v41_1 : Ref sig .tc := ⟨.hbm, 97, rfl⟩
abbrev main_call2_call0_cst_4 : Ref sig .tc := ⟨.hbm, 98, rfl⟩
abbrev main_call2_call0_cst_5 : Ref sig .tc := ⟨.hbm, 99, rfl⟩
abbrev main_call2_call0_v23 : Ref sig .tc := ⟨.hbm, 100, rfl⟩
abbrev main_call2_call0_cst_6 : Ref sig .tc := ⟨.hbm, 101, rfl⟩
abbrev main_call2_call0_cst_7 : Ref sig .tc := ⟨.hbm, 102, rfl⟩
abbrev main_call2_call0_v24 : Ref sig .tc := ⟨.hbm, 103, rfl⟩
abbrev main_call2_call0_cst_8 : Ref sig .tc := ⟨.hbm, 104, rfl⟩
abbrev main_call2_call0_v25 : Ref sig .tc := ⟨.hbm, 105, rfl⟩
abbrev main_call2_call0_v26 : Ref sig .tc := ⟨.hbm, 106, rfl⟩
abbrev main_call2_call0_cst_9 : Ref sig .tc := ⟨.hbm, 107, rfl⟩
abbrev main_call2_call0_v27 : Ref sig .tc := ⟨.hbm, 108, rfl⟩
abbrev main_call2_call0_v28 : Ref sig .tc := ⟨.hbm, 109, rfl⟩
abbrev main_call2_call0_v29 : Ref sig .tc := ⟨.hbm, 110, rfl⟩
abbrev main_call2_call0_v30 : Ref sig .tc := ⟨.hbm, 111, rfl⟩
abbrev main_call2_call0_v31 : Ref sig .tc := ⟨.hbm, 112, rfl⟩
abbrev main_call2_call0_cst_10 : Ref sig .tc := ⟨.hbm, 113, rfl⟩
abbrev main_call2_call0_v32 : Ref sig .tc := ⟨.hbm, 114, rfl⟩
abbrev main_v41_2 : Ref sig .tc := ⟨.hbm, 115, rfl⟩
abbrev main_v41_0 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_cst_10 : Ref sig .tc := ⟨.hbm, 134, rfl⟩
abbrev main_v59 : Ref sig .tc := ⟨.hbm, 135, rfl⟩
abbrev main_v60 : Ref sig .tc := ⟨.hbm, 136, rfl⟩
abbrev main_cst_11 : Ref sig .tc := ⟨.hbm, 137, rfl⟩
abbrev main_v61 : Ref sig .tc := ⟨.hbm, 138, rfl⟩
abbrev main_v62 : Ref sig .tc := ⟨.hbm, 139, rfl⟩
abbrev main_cst_12 : Ref sig .tc := ⟨.hbm, 140, rfl⟩
abbrev main_v63 : Ref sig .tc := ⟨.hbm, 141, rfl⟩
abbrev main_v64 : Ref sig .tc := ⟨.hbm, 142, rfl⟩
abbrev main_cst_13 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_cst_14 : Ref sig .tc := ⟨.hbm, 149, rfl⟩
abbrev main_v70 : Ref sig .tc := ⟨.hbm, 150, rfl⟩
abbrev main_v71 : Ref sig .tc := ⟨.hbm, 151, rfl⟩
abbrev main_cst_15 : Ref sig .tc := ⟨.hbm, 152, rfl⟩
abbrev main_v72 : Ref sig .tc := ⟨.hbm, 153, rfl⟩
abbrev main_v73 : Ref sig .tc := ⟨.hbm, 154, rfl⟩
abbrev main_cst_16 : Ref sig .tc := ⟨.hbm, 155, rfl⟩
abbrev main_v74 : Ref sig .tc := ⟨.hbm, 156, rfl⟩
abbrev main_v75 : Ref sig .tc := ⟨.hbm, 157, rfl⟩
abbrev main_cst_17 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_call3_call0_cst : Ref sig .tc := ⟨.hbm, 169, rfl⟩
abbrev main_call3_call0_v0 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_cst_18 : Ref sig .tc := ⟨.hbm, 181, rfl⟩
abbrev main_v96 : Ref sig .tc := ⟨.hbm, 182, rfl⟩
abbrev main_v97 : Ref sig .tc := ⟨.hbm, 183, rfl⟩
abbrev main_cst_19 : Ref sig .tc := ⟨.hbm, 184, rfl⟩
abbrev main_v98 : Ref sig .tc := ⟨.hbm, 185, rfl⟩
abbrev main_v99 : Ref sig .tc := ⟨.hbm, 186, rfl⟩
abbrev main_cst_20 : Ref sig .tc := ⟨.hbm, 187, rfl⟩
abbrev main_v100 : Ref sig .tc := ⟨.hbm, 188, rfl⟩
abbrev main_v101 : Ref sig .tc := ⟨.hbm, 189, rfl⟩
abbrev main_cst_21 : Ref sig .tc := ⟨.hbm, 190, rfl⟩
abbrev main_v102 : Ref sig .tc := ⟨.hbm, 191, rfl⟩
abbrev main_cst_22 : Ref sig .tc := ⟨.hbm, 192, rfl⟩
abbrev main_v103 : Ref sig .tc := ⟨.hbm, 193, rfl⟩
abbrev main_cst_23 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_cst_24 : Ref sig .tc := ⟨.hbm, 199, rfl⟩
abbrev main_call4_v0 : Ref sig .tc := ⟨.hbm, 200, rfl⟩
abbrev main_v108_1 : Ref sig .tc := ⟨.hbm, 201, rfl⟩
abbrev main_call4_v2 : Ref sig .tc := ⟨.hbm, 202, rfl⟩
abbrev main_v108_0 : Ref sig .tc := ⟨.hbm, 203, rfl⟩
abbrev main_call4_cst : Ref sig .tc := ⟨.hbm, 204, rfl⟩
abbrev main_v108_2 : Ref sig .tc := ⟨.hbm, 205, rfl⟩
abbrev main_v109 : Ref sig .tc := ⟨.hbm, 206, rfl⟩
abbrev main_v110 : Ref sig .tc := ⟨.hbm, 207, rfl⟩
abbrev main_v111 : Ref sig .tc := ⟨.hbm, 208, rfl⟩
abbrev main_v112 : Ref sig .tc := ⟨.hbm, 209, rfl⟩
abbrev main_v113 : Ref sig .tc := ⟨.hbm, 210, rfl⟩
abbrev main_v114 : Ref sig .tc := ⟨.hbm, 211, rfl⟩
abbrev main_cst_25 : Ref sig .tc := ⟨.hbm, 212, rfl⟩
abbrev main_v115 : Ref sig .tc := ⟨.hbm, 213, rfl⟩
abbrev main_v116 : Ref sig .tc := ⟨.hbm, 214, rfl⟩
abbrev main_v117 : Ref sig .tc := ⟨.hbm, 215, rfl⟩
abbrev main_v118 : Ref sig .tc := ⟨.hbm, 216, rfl⟩
abbrev main_v119 : Ref sig .tc := ⟨.hbm, 217, rfl⟩
abbrev main_v120 : Ref sig .tc := ⟨.hbm, 218, rfl⟩
abbrev main_v121 : Ref sig .tc := ⟨.hbm, 219, rfl⟩
abbrev main_v122 : Ref sig .tc := ⟨.hbm, 220, rfl⟩
abbrev main_v123 : Ref sig .tc := ⟨.hbm, 221, rfl⟩
abbrev main_v124 : Ref sig .tc := ⟨.hbm, 222, rfl⟩
abbrev main_v125 : Ref sig .tc := ⟨.hbm, 223, rfl⟩
abbrev main_v126 : Ref sig .tc := ⟨.hbm, 224, rfl⟩
abbrev main_cst_26 : Ref sig .tc := ⟨.hbm, 225, rfl⟩
abbrev main_v127 : Ref sig .tc := ⟨.hbm, 226, rfl⟩
abbrev main_v128 : Ref sig .tc := ⟨.hbm, 227, rfl⟩
abbrev main_v129 : Ref sig .tc := ⟨.hbm, 228, rfl⟩
abbrev main_v130 : Ref sig .tc := ⟨.hbm, 229, rfl⟩
abbrev main_cst_27 : Ref sig .tc := ⟨.hbm, 230, rfl⟩
abbrev main_v131 : Ref sig .tc := ⟨.hbm, 231, rfl⟩
abbrev main_v132 : Ref sig .tc := ⟨.hbm, 232, rfl⟩
abbrev main_v133 : Ref sig .tc := ⟨.hbm, 233, rfl⟩
abbrev main_v134 : Ref sig .tc := ⟨.hbm, 234, rfl⟩
abbrev main_cst_28 : Ref sig .tc := ⟨.hbm, 235, rfl⟩
abbrev main_v135 : Ref sig .tc := ⟨.hbm, 236, rfl⟩
abbrev main_v136 : Ref sig .tc := ⟨.hbm, 237, rfl⟩
abbrev main_cst_29 : Ref sig .tc := ⟨.hbm, 238, rfl⟩
abbrev main_v137 : Ref sig .tc := ⟨.hbm, 239, rfl⟩
abbrev main_call5_cst : Ref sig .tc := ⟨.hbm, 240, rfl⟩
abbrev main_call5_v0 : Ref sig .tc := ⟨.hbm, 241, rfl⟩
abbrev main_v138 : Ref sig .tc := ⟨.hbm, 242, rfl⟩
abbrev main_v139 : Ref sig .tc := ⟨.hbm, 243, rfl⟩
abbrev main_v140 : Ref sig .tc := ⟨.hbm, 244, rfl⟩
abbrev main_cst_30 : Ref sig .tc := ⟨.hbm, 245, rfl⟩
abbrev main_v141 : Ref sig .tc := ⟨.hbm, 246, rfl⟩
abbrev main_v142 : Ref sig .tc := ⟨.hbm, 247, rfl⟩
abbrev main_v143 : Ref sig .tc := ⟨.hbm, 248, rfl⟩
abbrev main_cst_31 : Ref sig .tc := ⟨.hbm, 249, rfl⟩
abbrev main_v144 : Ref sig .tc := ⟨.hbm, 250, rfl⟩
abbrev main_v145 : Ref sig .tc := ⟨.hbm, 251, rfl⟩
abbrev main_cst_32 : Ref sig .tc := ⟨.hbm, 252, rfl⟩
abbrev main_v146 : Ref sig .tc := ⟨.hbm, 253, rfl⟩
abbrev main_cst_33 : Ref sig .tc := ⟨.hbm, 254, rfl⟩
abbrev main_v147 : Ref sig .tc := ⟨.hbm, 255, rfl⟩
abbrev main_v148 : Ref sig .tc := ⟨.hbm, 256, rfl⟩
abbrev main_call6_call0_cst : Ref sig .tc := ⟨.hbm, 257, rfl⟩
abbrev main_call6_call0_v0 : Ref sig .tc := ⟨.hbm, 258, rfl⟩
abbrev main_v149 : Ref sig .tc := ⟨.hbm, 259, rfl⟩
abbrev main_v150 : Ref sig .tc := ⟨.hbm, 260, rfl⟩
abbrev main_v151 : Ref sig .tc := ⟨.hbm, 261, rfl⟩
abbrev main_v152 : Ref sig .tc := ⟨.hbm, 262, rfl⟩
abbrev main_v153 : Ref sig .tc := ⟨.hbm, 263, rfl⟩
abbrev main_v154 : Ref sig .tc := ⟨.hbm, 264, rfl⟩
abbrev main_v155 : Ref sig .tc := ⟨.hbm, 265, rfl⟩
abbrev main_v156 : Ref sig .tc := ⟨.hbm, 266, rfl⟩
abbrev main_v157 : Ref sig .tc := ⟨.hbm, 267, rfl⟩
abbrev main_cst_34 : Ref sig .tc := ⟨.hbm, 268, rfl⟩
abbrev main_v158 : Ref sig .tc := ⟨.hbm, 269, rfl⟩
abbrev main_v159 : Ref sig .tc := ⟨.hbm, 270, rfl⟩
abbrev main_cst_35 : Ref sig .tc := ⟨.hbm, 271, rfl⟩
abbrev main_v160 : Ref sig .tc := ⟨.hbm, 272, rfl⟩
abbrev main_cst_36 : Ref sig .tc := ⟨.hbm, 273, rfl⟩
abbrev main_v161 : Ref sig .tc := ⟨.hbm, 274, rfl⟩
abbrev main_v162 : Ref sig .tc := ⟨.hbm, 275, rfl⟩
abbrev main_cst_37 : Ref sig .tc := ⟨.hbm, 276, rfl⟩
abbrev main_v163 : Ref sig .tc := ⟨.hbm, 277, rfl⟩
abbrev main_call7_v0 : Ref sig .tc := ⟨.hbm, 278, rfl⟩
abbrev main_call7_v1 : Ref sig .tc := ⟨.hbm, 279, rfl⟩
abbrev main_v164 : Ref sig .tc := ⟨.hbm, 280, rfl⟩
abbrev main_v165 : Ref sig .tc := ⟨.hbm, 281, rfl⟩
abbrev main_v166 : Ref sig .tc := ⟨.hbm, 282, rfl⟩
abbrev main_v167 : Ref sig .tc := ⟨.hbm, 283, rfl⟩
abbrev main_v168 : Ref sig .tc := ⟨.hbm, 284, rfl⟩
abbrev main_v169 : Ref sig .tc := ⟨.hbm, 285, rfl⟩
abbrev main_cst_38 : Ref sig .tc := ⟨.hbm, 286, rfl⟩
abbrev main_v170 : Ref sig .tc := ⟨.hbm, 287, rfl⟩
abbrev main_call8_call0_cst : Ref sig .tc := ⟨.hbm, 288, rfl⟩
abbrev main_call8_call0_v0 : Ref sig .tc := ⟨.hbm, 289, rfl⟩
abbrev main_v171 : Ref sig .tc := ⟨.hbm, 290, rfl⟩
abbrev main_v172 : Ref sig .tc := ⟨.hbm, 291, rfl⟩
abbrev main_v173 : Ref sig .tc := ⟨.hbm, 292, rfl⟩
abbrev main_v174 : Ref sig .tc := ⟨.hbm, 293, rfl⟩
abbrev main_cst_39 : Ref sig .tc := ⟨.hbm, 294, rfl⟩
abbrev main_v175 : Ref sig .tc := ⟨.hbm, 295, rfl⟩
abbrev main_v176 : Ref sig .tc := ⟨.hbm, 296, rfl⟩
abbrev main_v177 : Ref sig .tc := ⟨.hbm, 297, rfl⟩
abbrev main_v178 : Ref sig .tc := ⟨.hbm, 298, rfl⟩
abbrev main_v179 : Ref sig .tc := ⟨.hbm, 299, rfl⟩
abbrev main_cst_40 : Ref sig .tc := ⟨.hbm, 300, rfl⟩
abbrev main_v180 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_v184 : Ref sig .tc := ⟨.hbm, 305, rfl⟩
abbrev main_call9_v0 : Ref sig .tc := ⟨.hbm, 306, rfl⟩
abbrev main_call9_v1 : Ref sig .tc := ⟨.hbm, 307, rfl⟩
abbrev main_call9_v2 : Ref sig .tc := ⟨.hbm, 308, rfl⟩
abbrev main_v185 : Ref sig .tc := ⟨.hbm, 309, rfl⟩
abbrev main_cst_41 : Ref sig .tc := ⟨.hbm, 310, rfl⟩
abbrev main_v186 : Ref sig .tc := ⟨.hbm, 311, rfl⟩
abbrev main_v187 : Ref sig .tc := ⟨.hbm, 312, rfl⟩
abbrev main_cst_42 : Ref sig .tc := ⟨.hbm, 313, rfl⟩
abbrev main_v188 : Ref sig .tc := ⟨.hbm, 314, rfl⟩
abbrev main_v189 : Ref sig .tc := ⟨.hbm, 315, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S4x1024x1408 : Shape := ⟨3, ![4, 1024, 1408]⟩
abbrev S2816x1024 : Shape := ⟨2, ![2816, 1024]⟩
abbrev S4096x5632 : Shape := ⟨2, ![4096, 5632]⟩
abbrev S4096x2816 : Shape := ⟨2, ![4096, 2816]⟩
abbrev S256x1024 : Shape := ⟨2, ![256, 1024]⟩
abbrev S256x5632 : Shape := ⟨2, ![256, 5632]⟩
abbrev S256x2816 : Shape := ⟨2, ![256, 2816]⟩
abbrev S_ : Shape := ⟨0, ![]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩

abbrev nBuf : Space → Nat
  | .hbm => 10
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4x1024x1408, .bf16⟩
  | .hbm, ⟨4, _⟩ => ⟨S2816x1024, .bf16⟩
  | .hbm, ⟨5, _⟩ => ⟨S4096x1024, .bf16⟩
  | .hbm, ⟨6, _⟩ => ⟨S4096x5632, .bf16⟩
  | .hbm, ⟨7, _⟩ => ⟨S4096x2816, .bf16⟩
  | .hbm, ⟨8, _⟩ => ⟨S4096x1024, .f32⟩
  | .hbm, ⟨9, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | .local _ .vmem, ⟨6, _⟩ => ⟨S256x5632, .bf16⟩
  | .local _ .vmem, ⟨7, _⟩ => ⟨S256x5632, .bf16⟩
  | .local _ .vmem, ⟨8, _⟩ => ⟨S256x2816, .bf16⟩
  | .local _ .vmem, ⟨9, _⟩ => ⟨S256x2816, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S4x1024x1408, .bf16⟩
  | .local _ .vmem, ⟨15, _⟩ => ⟨S2816x1024, .bf16⟩
  | .local _ .vmem, ⟨16, _⟩ => ⟨S256x5632, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S4096x1024 : Shape := ⟨2, ![4096, 1024]⟩
abbrev S1x1024 : Shape := ⟨2, ![1, 1024]⟩
abbrev S4x1024x1408 : Shape := ⟨3, ![4, 1024, 1408]⟩
abbrev S2816x1024 : Shape := ⟨2, ![2816, 1024]⟩
abbrev S1024x4x1408 : Shape := ⟨3, ![1024, 4, 1408]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4x1024x1408, .bf16⟩
  | .hbm, ⟨4, _⟩ => ⟨S2816x1024, .bf16⟩
  | .hbm, ⟨5, _⟩ => ⟨S4x1024x1408, .f32⟩
  | .hbm, ⟨6, _⟩ => ⟨S1024x4x1408, .f32⟩
  | .hbm, ⟨7, _⟩ => ⟨S1024x5632, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x5632, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S2816x1024, .f32⟩
  | .hbm, ⟨37, _⟩ => ⟨S4096x1024, .f32⟩
  | .hbm, ⟨38, _⟩ => ⟨S4096x1024, .bf16⟩
  | .hbm, ⟨39, _⟩ => ⟨S4096x5632, .bf16⟩
  | .hbm, ⟨40, _⟩ => ⟨S4096x2816, .bf16⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]
-- ==== Kernel4.lean ====
abbrev S4096x1024 : Shape := ⟨2, ![4096, 1024]⟩
abbrev S4096x5632 : Shape := ⟨2, ![4096, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x1024 : Shape := ⟨2, ![4096, 1024]⟩
abbrev S4096x3584 : Shape := ⟨2, ![4096, 3584]⟩
abbrev S4x1024x896 : Shape := ⟨3, ![4, 1024, 896]⟩
abbrev S2048x1024 : Shape := ⟨2, ![2048, 1024]⟩
abbrev S2048x896 : Shape := ⟨2, ![2048, 896]⟩
abbrev S1x1024x896 : Shape := ⟨3, ![1, 1024, 896]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x3584, .bf16⟩
  | .hbm, ⟨2, _⟩ => ⟨S4x1024x896, .f32⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1x1024x896, .f32⟩
  | .local _ .vmem, ⟨5, _⟩ => ⟨S1x1024x896, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S4096x3584 : Shape := ⟨2, ![4096, 3584]⟩
abbrev S_ : Shape := ⟨0, ![]⟩
abbrev S1024x3584 : Shape := ⟨2, ![1024, 3584]⟩
abbrev S3584x1024 : Shape := ⟨2, ![3584, 1024]⟩
abbrev S1024x4x896 : Shape := ⟨3, ![1024, 4, 896]⟩
abbrev S4x1024x896 : Shape := ⟨3, ![4, 1024, 896]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3584, .bf16⟩
  | .hbm, ⟨2, _⟩ => ⟨S_, .f32⟩
  | .hbm, ⟨3, _⟩ => ⟨S1024x3584, .f32⟩
  | .hbm, ⟨4, _⟩ => ⟨S4096x1024, .f32⟩
  | .hbm, ⟨5, _⟩ => ⟨S4096x3584, .f32⟩
  | .hbm, ⟨6, _⟩ => ⟨S4096x3584, .f32⟩
  | .hbm, ⟨7, _⟩ => ⟨S3584x1024, .f32⟩
  | .hbm, ⟨8, _⟩ => ⟨S1024x3584, .f32⟩
  | .hbm, ⟨9, _⟩ => ⟨S1024x4x896, .f32⟩
  | .hbm, ⟨10, _⟩ => ⟨S4x1024x896, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x256 : Shape := ⟨2, ![4096, 256]⟩
abbrev S4096x1024 : Shape := ⟨2, ![4096, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S256x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x256, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4096x1024 : Shape := ⟨2, ![4096, 1024]⟩
abbrev S1x1024 : Shape := ⟨2, ![1, 1024]⟩
abbrev S4x1024x896 : Shape := ⟨3, ![4, 1024, 896]⟩
abbrev S4096x2048 : Shape := ⟨2, ![4096, 2048]⟩
abbrev S4096x1536 : Shape := ⟨2, ![4096, 1536]⟩
abbrev S512x1024 : Shape := ⟨2, ![512, 1024]⟩
abbrev S512x2048 : Shape := ⟨2, ![512, 2048]⟩
abbrev S512x1536 : Shape := ⟨2, ![512, 1536]⟩
abbrev S512x3584 : Shape := ⟨2, ![512, 3584]⟩
abbrev S_ : Shape := ⟨0, ![]⟩
abbrev S512 : Shape := ⟨1, ![512]⟩
abbrev S512x1 : Shape := ⟨2, ![512, 1]⟩
abbrev S1x1024x896 : Shape := ⟨3, ![1, 1024, 896]⟩
abbrev S1024x896 : Shape := ⟨2, ![1024, 896]⟩
abbrev S512x896 : Shape := ⟨2, ![512, 896]⟩
abbrev S512x512 : Shape := ⟨2, ![512, 512]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x896, .bf16⟩
  | .hbm, ⟨3, _⟩ => ⟨S4096x2048, .f32⟩
  | .hbm, ⟨4, _⟩ => ⟨S4096x1536, .bf16⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x2048, .f32⟩
  | .local _ .vmem, ⟨4, _⟩ => ⟨S512x2048, .f32⟩
  | .local _ .vmem, ⟨5, _⟩ => ⟨S512x1536, .bf16⟩
  | .local _ .vmem, ⟨6, _⟩ => ⟨S512x1536, .bf16⟩
  | .local _ .vmem, ⟨7, _⟩ => ⟨S512x1024, .bf16⟩
  | .local _ .vmem, ⟨8, _⟩ => ⟨S512x1024, .bf16⟩
  | .local _ .vmem, ⟨9, _⟩ => ⟨S4x1024x896, .bf16⟩
  | .local _ .vmem, ⟨10, _⟩ => ⟨S512x3584, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S4096x1024 : Shape := ⟨2, ![4096, 1024]⟩
abbrev S1x1024 : Shape := ⟨2, ![1, 1024]⟩
abbrev S4x1024x896 : Shape := ⟨3, ![4, 1024, 896]⟩
abbrev S1024x4x896 : Shape := ⟨3, ![1024, 4, 896]⟩
abbrev S1024x3584 : Shape := ⟨2, ![1024, 3584]⟩
abbrev S_ : Shape := ⟨0, ![]⟩
abbrev S4096 : Shape := ⟨1, ![4096]⟩
abbrev S4096x1 : Shape := ⟨2, ![4096, 1]⟩
abbrev S4096x3584 : Shape := ⟨2, ![4096, 3584]⟩
abbrev S4096x512 : Shape := ⟨2, ![4096, 512]⟩
abbrev S4096x2048 : Shape := ⟨2, ![4096, 2048]⟩
abbrev S4096x1536 : Shape := ⟨2, ![4096, 1536]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x896, .bf16⟩
  | .hbm, ⟨3, _⟩ => ⟨S4x1024x896, .f32⟩
  | .hbm, ⟨4, _⟩ => ⟨S1024x4x896, .f32⟩
  | .hbm, ⟨5, _⟩ => ⟨S1024x3584, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x3584, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x2048, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S4096x1536, .f32⟩
  | .hbm, ⟨34, _⟩ => ⟨S4096x1536, .bf16⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Kernel10.lean ====
abbrev S4096x512 : Shape := ⟨2, ![4096, 512]⟩
abbrev S4096x1024 : Shape := ⟨2, ![4096, 1024]⟩
abbrev S1x1024 : Shape := ⟨2, ![1, 1024]⟩
abbrev S4x1024x896 : Shape := ⟨3, ![4, 1024, 896]⟩
abbrev S4096x3584 : Shape := ⟨2, ![4096, 3584]⟩
abbrev S8x1024 : Shape := ⟨2, ![8, 1024]⟩
abbrev S512x512 : Shape := ⟨2, ![512, 512]⟩
abbrev S512x1024 : Shape := ⟨2, ![512, 1024]⟩
abbrev S512x3584 : Shape := ⟨2, ![512, 3584]⟩
abbrev S_ : Shape := ⟨0, ![]⟩
abbrev S512x896 : Shape := ⟨2, ![512, 896]⟩
abbrev S1x1024x896 : Shape := ⟨3, ![1, 1024, 896]⟩
abbrev S1024x896 : Shape := ⟨2, ![1024, 896]⟩
abbrev S512 : Shape := ⟨1, ![512]⟩
abbrev S512x1 : Shape := ⟨2, ![512, 1]⟩
abbrev S1024 : Shape := ⟨1, ![1024]⟩

abbrev nBuf : Space → Nat
  | .hbm => 14
  | .vmem => 25
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x1024, .f32⟩
  | .hbm, ⟨8, _⟩ => ⟨S4096x1024, .f32⟩
  | .hbm, ⟨9, _⟩ => ⟨S1x1024, .f32⟩
  | .hbm, ⟨10, _⟩ => ⟨S4x1024x896, .bf16⟩
  | .hbm, ⟨11, _⟩ => ⟨S4096x3584, .bf16⟩
  | .hbm, ⟨12, _⟩ => ⟨S4096x1024, .f32⟩
  | .hbm, ⟨13, _⟩ => ⟨S8x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S512x3584, .bf16⟩
  | .local _ .vmem, ⟨20, _⟩ => ⟨S512x3584, .bf16⟩
  | .local _ .vmem, ⟨21, _⟩ => ⟨S512x1024, .f32⟩
  | .local _ .vmem, ⟨22, _⟩ => ⟨S512x1024, .f32⟩
  | .local _ .vmem, ⟨23, _⟩ => ⟨S8x1024, .f32⟩
  | .local _ .vmem, ⟨24, _⟩ => ⟨S4x1024x896, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x3584 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference10Ideal.lean ====
abbrev S4096x512 : Shape := ⟨2, ![4096, 512]⟩
abbrev S4096x1024 : Shape := ⟨2, ![4096, 1024]⟩
abbrev S1x1024 : Shape := ⟨2, ![1, 1024]⟩
abbrev S4x1024x896 : Shape := ⟨3, ![4, 1024, 896]⟩
abbrev S4096x3584 : Shape := ⟨2, ![4096, 3584]⟩
abbrev S1024x4x896 : Shape := ⟨3, ![1024, 4, 896]⟩
abbrev S1024x3584 : Shape := ⟨2, ![1024, 3584]⟩
abbrev S_ : Shape := ⟨0, ![]⟩
abbrev S4096 : Shape := ⟨1, ![4096]⟩
abbrev S4096x1 : Shape := ⟨2, ![4096, 1]⟩
abbrev S1024 : Shape := ⟨1, ![1024]⟩
abbrev S7x1024 : Shape := ⟨2, ![7, 1024]⟩
abbrev S8x1024 : Shape := ⟨2, ![8, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x1024, .f32⟩
  | .hbm, ⟨8, _⟩ => ⟨S4096x1024, .f32⟩
  | .hbm, ⟨9, _⟩ => ⟨S1x1024, .f32⟩
  | .hbm, ⟨10, _⟩ => ⟨S4x1024x896, .bf16⟩
  | .hbm, ⟨11, _⟩ => ⟨S4096x3584, .f32⟩
  | .hbm, ⟨12, _⟩ => ⟨S4x1024x896, .f32⟩
  | .hbm, ⟨13, _⟩ => ⟨S1024x4x896, .f32⟩
  | .hbm, ⟨14, _⟩ => ⟨S1024x3584, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x3584, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S7x1024, .f32⟩
  | .hbm, ⟨61, _⟩ => ⟨S8x1024, .f32⟩
  | .hbm, ⟨62, _⟩ => ⟨S4096x3584, .bf16⟩
  | .hbm, ⟨63, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Kernel11.lean ====
abbrev S4096x512 : Shape := ⟨2, ![4096, 512]⟩
abbrev S4096x2048 : Shape := ⟨2, ![4096, 2048]⟩
abbrev S4096x1024 : Shape := ⟨2, ![4096, 1024]⟩
abbrev S1x1024 : Shape := ⟨2, ![1, 1024]⟩
abbrev S1024x1024 : Shape := ⟨2, ![1024, 1024]⟩
abbrev S512x512 : Shape := ⟨2, ![512, 512]⟩
abbrev S512x1024 : Shape := ⟨2, ![512, 1024]⟩
abbrev S_ : Shape := ⟨0, ![]⟩
abbrev S1x512 : Shape := ⟨2, ![1, 512]⟩
abbrev S512 : Shape := ⟨1, ![512]⟩
abbrev S512x1 : Shape := ⟨2, ![512, 1]⟩

abbrev nBuf : Space → Nat
  | .hbm => 10
  | .vmem => 17
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S4096x512, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1024x1024, .bf16⟩
  | .hbm, ⟨7, _⟩ => ⟨S4096x1024, .bf16⟩
  | .hbm, ⟨8, _⟩ => ⟨S4096x1024, .f32⟩
  | .hbm, ⟨9, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1024x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S4096x512 : Shape := ⟨2, ![4096, 512]⟩
abbrev S4096x2048 : Shape := ⟨2, ![4096, 2048]⟩
abbrev S4096x1024 : Shape := ⟨2, ![4096, 1024]⟩
abbrev S1x1024 : Shape := ⟨2, ![1, 1024]⟩
abbrev S1024x1024 : Shape := ⟨2, ![1024, 1024]⟩
abbrev S1x512 : Shape := ⟨2, ![1, 512]⟩
abbrev S_ : Shape := ⟨0, ![]⟩
abbrev S4096 : Shape := ⟨1, ![4096]⟩
abbrev S4096x1 : Shape := ⟨2, ![4096, 1]⟩

abbrev nBuf : Space → Nat
  | .hbm => 70
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S4096x512, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1024x1024, .bf16⟩
  | .hbm, ⟨7, _⟩ => ⟨S4096x512, .f32⟩
  | .hbm, ⟨8, _⟩ => ⟨S1x512, .f32⟩
  | .hbm, ⟨9, _⟩ => ⟨S4096x512, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S1x512, .f32⟩
  | .hbm, ⟨35, _⟩ => ⟨S4096x512, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x1024, .f32⟩
  | .hbm, ⟨51, _⟩ => ⟨S1024x1024, .f32⟩
  | .hbm, ⟨52, _⟩ => ⟨S4096x1024, .f32⟩
  | .hbm, ⟨53, _⟩ => ⟨S4096x1024, .bf16⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩

abbrev nD : Nat := 1
abbrev τ : Topo := Topo.v7x

variable {F : FTy → Type} [FloatOps F]
-- ==== Kernel12.lean ====
abbrev S4096x1024 : Shape := ⟨2, ![4096, 1024]⟩
abbrev S4096x256 : Shape := ⟨2, ![4096, 256]⟩
abbrev S4x256x256 : Shape := ⟨3, ![4, 256, 256]⟩
abbrev S1024x1024 : Shape := ⟨2, ![1024, 1024]⟩
abbrev S8x1024 : Shape := ⟨2, ![8, 1024]⟩
abbrev S512x1024 : Shape := ⟨2, ![512, 1024]⟩
abbrev S512x256 : Shape := ⟨2, ![512, 256]⟩
abbrev S_ : Shape := ⟨0, ![]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x1024 : Shape := ⟨2, ![1, 1024]⟩

abbrev nBuf : Space → Nat
  | .hbm => 11
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x1024, .f32⟩
  | .hbm, ⟨3, _⟩ => ⟨S4x256x256, .bf16⟩
  | .hbm, ⟨4, _⟩ => ⟨S1024x1024, .bf16⟩
  | .hbm, ⟨5, _⟩ => ⟨S4096x1024, .bf16⟩
  | .hbm, ⟨6, _⟩ => ⟨S4096x1024, .bf16⟩
  | .hbm, ⟨7, _⟩ => ⟨S4096x1024, .f32⟩
  | .hbm, ⟨8, _⟩ => ⟨S4096x1024, .bf16⟩
  | .hbm, ⟨9, _⟩ => ⟨S4096x256, .bf16⟩
  | .hbm, ⟨10, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x256, .bf16⟩
  | .local _ .vmem, ⟨15, _⟩ => ⟨S512x256, .bf16⟩
  | .local _ .vmem, ⟨16, _⟩ => ⟨S8x1024, .f32⟩
  | .local _ .vmem, ⟨17, _⟩ => ⟨S4x256x256, .bf16⟩
  | .local _ .vmem, ⟨18, _⟩ => ⟨S1024x1024, .bf16⟩
  | .local _ .vmem, ⟨19, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference12Ideal.lean ====
abbrev S4096x1024 : Shape := ⟨2, ![4096, 1024]⟩
abbrev S4096x256 : Shape := ⟨2, ![4096, 256]⟩
abbrev S4x256x256 : Shape := ⟨3, ![4, 256, 256]⟩
abbrev S1024x1024 : Shape := ⟨2, ![1024, 1024]⟩
abbrev S_ : Shape := ⟨0, ![]⟩
abbrev S256x4x256 : Shape := ⟨3, ![256, 4, 256]⟩
abbrev S256x1024 : Shape := ⟨2, ![256, 1024]⟩
abbrev S4096 : Shape := ⟨1, ![4096]⟩
abbrev S1x1 : Shape := ⟨2, ![1, 1]⟩
abbrev S8x1024 : Shape := ⟨2, ![8, 1024]⟩

abbrev nBuf : Space → Nat
  | .hbm => 65
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x1024, .f32⟩
  | .hbm, ⟨3, _⟩ => ⟨S4x256x256, .bf16⟩
  | .hbm, ⟨4, _⟩ => ⟨S1024x1024, .bf16⟩
  | .hbm, ⟨5, _⟩ => ⟨S_, .f32⟩
  | .hbm, ⟨6, _⟩ => ⟨S4096x1024, .f32⟩
  | .hbm, ⟨7, _⟩ => ⟨S4x256x256, .f32⟩
  | .hbm, ⟨8, _⟩ => ⟨S256x4x256, .f32⟩
  | .hbm, ⟨9, _⟩ => ⟨S256x1024, .f32⟩
  | .hbm, ⟨10, _⟩ => ⟨S4096x1024, .f32⟩
  | .hbm, ⟨11, _⟩ => ⟨S4096x1024, .f32⟩
  | .hbm, ⟨12, _⟩ => ⟨S1024x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1, .f32⟩
  | .hbm, ⟨58, _⟩ => ⟨S_, .i32⟩
  | .hbm, ⟨59, _⟩ => ⟨S_, .f32⟩
  | .hbm, ⟨60, _⟩ => ⟨S8x1024, .f32⟩
  | .hbm, ⟨61, _⟩ => ⟨S4096x1024, .bf16⟩
  | .hbm, ⟨62, _⟩ => ⟨S4096x1024, .bf16⟩
  | .hbm, ⟨63, _⟩ => ⟨S4096x1024, .bf16⟩
  | .hbm, ⟨64, _⟩ => ⟨S4096x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c : Ref sig .tc := ⟨.hbm, 58, rfl⟩
abbrev main_call0_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]
-- ==== Proof.FfnReal.lean ====
/- The gradient of the feed-forward block over the real numbers: the functions both programs compute, and the
   lemmas that carry an extended-real expression of finite numbers to the real one. -/
module

public import Idealize.ShloMosaic.PureOps.Ideal
public import Idealize.ShloMosaic.PureOps.Ideal.Laws

@[expose] public section

noncomputable section

namespace Cert.Ffn

open Idealize.ShloMosaic

/-- An array of finite numbers. -/
def liftA (s : Shape) (φ : FTy) (f : s.Idx → ℝ) : FVec Ideal s φ := fun i => ((f i : ℝ) : EReal)

theorem liftA_apply (s : Shape) (φ : FTy) (f : s.Idx → ℝ) (i : s.Idx) : liftA s φ f i = ((f i : ℝ) : EReal) := rfl

/-- A finite sum of finite numbers is the number. -/
theorem coe_sum {ι : Type} [Fintype ι] (f : ι → ℝ) : (∑ i, ((f i : ℝ) : EReal)) = ((∑ i, f i : ℝ) : EReal) := by
  classical
  induction (Finset.univ : Finset ι) using Finset.induction_on with
  | empty => simp
  | insert a s h ih => rw [Finset.sum_insert h, Finset.sum_insert h, ih, EReal.coe_add]

/-- An array no element of which is infinite is an array of finite numbers. -/
theorem exists_lift (s : Shape) (φ : FTy) (x : FVec Ideal s φ) (h : ∀ i, (x i : EReal) ≠ ⊤ ∧ (x i : EReal) ≠ ⊥) :
    ∃ f : s.Idx → ℝ, x = liftA s φ f :=
  ⟨fun i => (x i : EReal).toReal, funext fun i => (EReal.coe_toReal (h i).1 (h i).2).symm⟩

theorem word_1024 : Ideal.ofBits .f32 0x44800000#32 = ((1024 : ℝ) : EReal) := by
  simp [Ideal.ofBits, Ideal.ieee, -EReal.coe_mul]; norm_num

theorem word_neg_half : Ideal.ofBits .f32 0xBF000000#32 = ((-(1 / 2) : ℝ) : EReal) := by
  simp [Ideal.ofBits, Ideal.ieee, -EReal.coe_mul]; norm_num

theorem word_one : Ideal.ofBits .f32 0x3F800000#32 = ((1 : ℝ) : EReal) := by
  simp [Ideal.ofBits, Ideal.ieee, -EReal.coe_mul]; norm_num

theorem word_inf : Ideal.ofBits .f32 0x7F800000#32 = ⊤ := by simp [Ideal.ofBits, Ideal.ieee]

theorem word_eps_pos : ∃ e : ℝ, 0 < e ∧ Ideal.ofBits .f32 0x358637BD#32 = ((e : ℝ) : EReal) := by
  refine ⟨_, ?_, by simp [Ideal.ofBits, Ideal.ieee, -EReal.coe_mul]; rfl⟩
  norm_num

/-- The small positive number the norms add to the mean square. -/
def eps : ℝ := word_eps_pos.choose

theorem eps_pos : 0 < eps := word_eps_pos.choose_spec.1

theorem word_eps : Ideal.ofBits .f32 0x358637BD#32 = ((eps : ℝ) : EReal) := word_eps_pos.choose_spec.2

theorem div_1024 (x : ℝ) : Ideal.div (x : EReal) ((1024 : ℝ) : EReal) = ((x / 1024 : ℝ) : EReal) := by
  rw [Ideal.div_coe (by norm_num), ← EReal.coe_mul]; congr 1; ring

/-- The mean square of a row plus the small number. -/
def ms (x : Fin 1024 → ℝ) : ℝ := (∑ k, x k * x k) / 1024 + eps

theorem ms_pos (x : Fin 1024 → ℝ) : 0 < ms x :=
  add_pos_of_nonneg_of_pos (div_nonneg (Finset.sum_nonneg fun k _ => mul_self_nonneg _) (by norm_num)) eps_pos

/-- The reciprocal root mean square of a row. -/
def rr (x : Fin 1024 → ℝ) : ℝ := (Real.sqrt (ms x))⁻¹

theorem rr_sq (x : Fin 1024 → ℝ) : rr x * rr x * ms x = 1 := by
  have h := Real.mul_self_sqrt (ms_pos x).le
  have h0 : Real.sqrt (ms x) ≠ 0 := (Real.sqrt_pos.2 (ms_pos x)).ne'
  unfold rr
  calc _ = (Real.sqrt (ms x))⁻¹ * (Real.sqrt (ms x))⁻¹ * (Real.sqrt (ms x) * Real.sqrt (ms x)) := by rw [h]
    _ = 1 := by field_simp

theorem ms_fold (x : Fin 1024 → ℝ) : (((∑ k, x k * x k) / 1024 + eps : ℝ) : EReal) = ((ms x : ℝ) : EReal) := rfl

theorem rsqrt_ms (x : Fin 1024 → ℝ) : Ideal.rsqrt ((ms x : ℝ) : EReal) = ((rr x : ℝ) : EReal) := by
  rw [Ideal.rsqrt_coe, if_neg (ms_pos x).le.not_gt, if_neg (ms_pos x).ne']; rfl

theorem div_ms (a : ℝ) (x : Fin 1024 → ℝ) : Ideal.div (a : EReal) ((ms x : ℝ) : EReal) = ((a / ms x : ℝ) : EReal) := by
  rw [Ideal.div_coe (ms_pos x).ne', ← EReal.coe_mul]; congr 1; ring

/-- The logistic function. -/
def sg (x : ℝ) : ℝ := 1 / (1 + Real.exp (-x))

theorem div_sg (x : ℝ) : Ideal.div ((1 : ℝ) : EReal) ((1 + Real.exp (-x) : ℝ) : EReal) = ((sg x : ℝ) : EReal) := by
  have h : (1 + Real.exp (-x)) ≠ 0 := (add_pos one_pos (Real.exp_pos _)).ne'
  rw [Ideal.div_coe h, ← EReal.coe_mul]; congr 1; simp [sg]

/-- The gradient of a row norm: `dx` is the gradient of the normalised row, already scaled by the weight. -/
def nb (x d : Fin 1024 → ℝ) (k : Fin 1024) : ℝ := rr x * (d k - x k * rr x * ((∑ j, d j * (x j * rr x)) / 1024))

/-- The same gradient as differentiation of the norm writes it. -/
theorem nb_eq (x d : Fin 1024 → ℝ) (k : Fin 1024) :
    d k * rr x + x k * ((∑ j, x j * d j) * (-(1 / 2) * (rr x / ms x)) / 1024)
      + (∑ j, x j * d j) * (-(1 / 2) * (rr x / ms x)) / 1024 * x k = nb x d k := by
  have h := rr_sq x
  have h0 := (ms_pos x).ne'
  have hs : (∑ j, d j * (x j * rr x)) = (∑ j, x j * d j) * rr x := by
    rw [Finset.sum_mul]; exact Finset.sum_congr rfl fun j _ => by ring
  have hd : rr x / ms x = rr x * rr x * rr x := by rw [div_eq_iff h0]; linear_combination (-rr x) * h
  unfold nb
  rw [hs, hd]; ring

/-- The product of a normalised row with a weight column, plus nothing. -/
def nrm (x g : Fin 1024 → ℝ) (k : Fin 1024) : ℝ := x k * rr x * g k

end Cert.Ffn

end
-- ==== Proof.FfnRef.lean ====
/- The reference's stages on finite arguments: each is the array of the real numbers it stands for. -/
module

public import proofs.«01_k».proof.Proof.Gen.ReferenceIdeal.Read
public import proofs.«01_k».proof.Proof.FfnReal
public import Idealize.ShloMosaic.Lib.Pointwise

@[expose] public section

set_option maxRecDepth 16384

noncomputable section

namespace Cert.Ffn

open Idealize.ShloMosaic Idealize.ShloMosaic.TcCoe Idealize.SL.Sem
open Cert.ReferenceIdeal Cert.ReferenceIdeal.Gen Cert.ReferenceIdeal.Read

variable (dh h : S4096x1024.Idx → ℝ) (gp gq : S1x1024.Idx → ℝ) (wgu : S4x1024x1408.Idx → ℝ) (wd : S2816x1024.Idx → ℝ)

/-- Row `i` of an array. -/
def row (h : S4096x1024.Idx → ℝ) (i : Fin 4096) (k : Fin 1024) : ℝ := h (ix2 i k)

/-- The row of a norm's weight. -/
def wrow (g : S1x1024.Idx → ℝ) (k : Fin 1024) : ℝ := g (ix2 0 k)

/-- The gate-and-up weight as one matrix of four column blocks. -/
def wg (wgu : S4x1024x1408.Idx → ℝ) (k : Fin 1024) (n : Fin 5632) : ℝ :=
  wgu (ix3 (⟨n.val / 1408, by omega⟩ : Fin 4) k (⟨n.val % 1408, by omega⟩ : Fin 1408))

/-- The gate and up columns of a row. -/
def guv (i : Fin 4096) (n : Fin 5632) : ℝ := ∑ k, nrm (row h i) (wrow gp) k * wg wgu k n

/-- The gate. -/
def gatev (i : Fin 4096) (n : Fin 2816) : ℝ := guv h gp wgu i ⟨n.val, by omega⟩

/-- The up projection. -/
def upv (i : Fin 4096) (n : Fin 2816) : ℝ := guv h gp wgu i ⟨2816 + n.val, by omega⟩

/-- The gated activation. -/
def actv (i : Fin 4096) (n : Fin 2816) : ℝ := gatev h gp wgu i n * sg (gatev h gp wgu i n) * upv h gp wgu i n

/-- The block's output before its norm. -/
def yv (i : Fin 4096) (d : Fin 1024) : ℝ := ∑ n, actv h gp wgu i n * wd (ix2 n d)

/-- The gradient of that output. -/
def dyv (i : Fin 4096) (d : Fin 1024) : ℝ := nb (yv h gp wgu wd i) (fun k => row dh i k * wrow gq k) d

/-- The gradient of the activation. -/
def dactv (i : Fin 4096) (n : Fin 2816) : ℝ := ∑ d, dyv dh h gp gq wgu wd i d * wd (ix2 n d)

/-- The gradient of the gate. -/
def dgatev (i : Fin 4096) (n : Fin 2816) : ℝ :=
  dactv dh h gp gq wgu wd i n * upv h gp wgu i n
    * (sg (gatev h gp wgu i n) * (1 + gatev h gp wgu i n * (1 - sg (gatev h gp wgu i n))))

/-- The gradient of the up projection. -/
def dupv (i : Fin 4096) (n : Fin 2816) : ℝ :=
  dactv dh h gp gq wgu wd i n * gatev h gp wgu i n * sg (gatev h gp wgu i n)

/-- Both, side by side. -/
def dguv (i : Fin 4096) (n : Fin 5632) : ℝ :=
  if hn : n.val < 2816 then dgatev dh h gp gq wgu wd i ⟨n.val, hn⟩ else dupv dh h gp gq wgu wd i ⟨n.val - 2816, by omega⟩

/-- The gradient of the normalised input. -/
def duv (i : Fin 4096) (k : Fin 1024) : ℝ := ∑ n, dguv dh h gp gq wgu wd i n * wg wgu k n

/-- The gradient of the input. -/
def dhv (i : Fin 4096) (k : Fin 1024) : ℝ :=
  row dh i k + nb (row h i) (fun k => duv dh h gp gq wgu wd i k * wrow gp k) k

/-- The gradient of the first norm's weight. -/
def dgpv (k : Fin 1024) : ℝ := ∑ i, duv dh h gp gq wgu wd i k * (row h i k * rr (row h i))

/-- The gradient of the second norm's weight. -/
def dgqv (k : Fin 1024) : ℝ := ∑ i, row dh i k * (yv h gp wgu wd i k * rr (yv h gp wgu wd i))

theorem ref_ms (i : Fin 4096) (z : Fin 1) :
    val_main_v12 (F := Ideal) (liftA S4096x1024 FTy.f32 h) (ix2 i z) = ((ms (row h i) : ℝ) : EReal) := by
  pointwise [val_main_v12, val_main_v11, val_main_v10, val_main_v9, val_main_v8, val_main_v7, val_main_v6,
    val_main_cst_1, val_main_cst_2, val_main_cst_3]
  simp only [liftA_apply, zero_add, ← EReal.coe_mul, ← EReal.coe_add, coe_sum, word_1024, word_eps, div_1024]
  rfl

theorem ref_rr (i : Fin 4096) (z : Fin 1) :
    val_main_v13 (F := Ideal) (liftA S4096x1024 FTy.f32 h) (ix2 i z) = ((rr (row h i) : ℝ) : EReal) := by
  pointwise [val_main_v13]
  simp only [ref_ms, rsqrt_ms]

theorem ref_wg (k : Fin 1024) (n : Fin 5632) :
    val_main_v2 (F := Ideal) (liftA S4x1024x1408 FTy.bf16 wgu) (ix2 k n) = ((wg wgu k n : ℝ) : EReal) := by
  pointwise [val_main_v2, val_main_v1, val_main_v0]
  rfl

theorem ref_hh (i : Fin 4096) (k : Fin 1024) :
    val_main_v18 (F := Ideal) (liftA S4096x1024 FTy.f32 h) (ix2 i k) = ((row h i k * rr (row h i) : ℝ) : EReal) := by
  pointwise [val_main_v18, val_main_v17]
  simp only [ref_rr, liftA_apply, ← EReal.coe_mul]
  rfl

theorem ref_gu (i : Fin 4096) (n : Fin 5632) :
    val_main_v22 (F := Ideal) (liftA S4096x1024 FTy.f32 h) (liftA S1x1024 FTy.f32 gp) (liftA S4x1024x1408 FTy.bf16 wgu) (ix2 i n) = ((guv h gp wgu i n : ℝ) : EReal) := by
  pointwise [val_main_v22, val_main_v21, val_main_v20, val_main_v19, val_main_v3, val_main_cst]
  simp only [ref_hh, ref_wg, liftA_apply, ← EReal.coe_mul, coe_sum, add_zero]
  rfl

theorem ref_gate (i : Fin 4096) (n : Fin 2816) :
    val_main_v23 (F := Ideal) (liftA S4096x1024 FTy.f32 h) (liftA S1x1024 FTy.f32 gp) (liftA S4x1024x1408 FTy.bf16 wgu) (ix2 i n) = ((gatev h gp wgu i n : ℝ) : EReal) := by
  pointwise [val_main_v23]
  simp only [ref_gu]
  rfl

theorem ref_up (i : Fin 4096) (n : Fin 2816) :
    val_main_v24 (F := Ideal) (liftA S4096x1024 FTy.f32 h) (liftA S1x1024 FTy.f32 gp) (liftA S4x1024x1408 FTy.bf16 wgu) (ix2 i n) = ((upv h gp wgu i n : ℝ) : EReal) := by
  pointwise [val_main_v24]
  simp only [ref_gu]
  rfl

theorem ref_sg (i : Fin 4096) (n : Fin 2816) :
    val_main_v25_2 (F := Ideal) (liftA S4096x1024 FTy.f32 h) (liftA S1x1024 FTy.f32 gp) (liftA S4x1024x1408 FTy.bf16 wgu) (ix2 i n) = ((sg (gatev h gp wgu i n) : ℝ) : EReal) := by
  pointwise [val_main_v25_2, val_main_call0_v4, val_main_call0_v3, val_main_call0_v2, val_main_call0_v1, val_main_call0_v0,
    val_main_call0_cst, val_main_call0_cst_0]
  simp only [ref_gate, ← EReal.coe_one, ← EReal.coe_neg, Ideal.exp_coe, ← EReal.coe_add, div_sg]

theorem ref_sg1 (i : Fin 4096) (n : Fin 2816) :
    val_main_v25_1 (F := Ideal) (liftA S4096x1024 FTy.f32 h) (liftA S1x1024 FTy.f32 gp) (liftA S4x1024x1408 FTy.bf16 wgu) (ix2 i n)
      = ((sg (gatev h gp wgu i n) * (1 - sg (gatev h gp wgu i n)) : ℝ) : EReal) := by
  pointwise [val_main_v25_1, val_main_call0_v7, val_main_call0_v6, val_main_call0_cst_1]
  simp only [ref_sg, ← EReal.coe_one, ← EReal.coe_sub, ← EReal.coe_mul]

theorem ref_silu (i : Fin 4096) (n : Fin 2816) :
    val_main_v25_0 (F := Ideal) (liftA S4096x1024 FTy.f32 h) (liftA S1x1024 FTy.f32 gp) (liftA S4x1024x1408 FTy.bf16 wgu) (ix2 i n)
      = ((gatev h gp wgu i n * sg (gatev h gp wgu i n) : ℝ) : EReal) := by
  pointwise [val_main_v25_0]
  simp only [ref_sg, ref_gate, ← EReal.coe_mul]

theorem ref_y (i : Fin 4096) (d : Fin 1024) :
    val_main_v28 (F := Ideal) (liftA S4096x1024 FTy.f32 h) (liftA S1x1024 FTy.f32 gp) (liftA S4x1024x1408 FTy.bf16 wgu) (liftA S2816x1024 FTy.bf16 wd) (ix2 i d) = ((yv h gp wgu wd i d : ℝ) : EReal) := by
  pointwise [val_main_v28, val_main_v27, val_main_v26, val_main_v5, val_main_v4, val_main_cst_0]
  simp only [ref_silu, ref_up, liftA_apply, ← EReal.coe_mul, coe_sum, add_zero]
  rfl

theorem ref_yms (i : Fin 4096) (z : Fin 1) :
    val_main_v35 (F := Ideal) (liftA S4096x1024 FTy.f32 h) (liftA S1x1024 FTy.f32 gp) (liftA S4x1024x1408 FTy.bf16 wgu) (liftA S2816x1024 FTy.bf16 wd) (ix2 i z) = ((ms (yv h gp wgu wd i) : ℝ) : EReal) := by
  pointwise [val_main_v35, val_main_v34, val_main_v33, val_main_v32, val_main_v31, val_main_v30, val_main_v29,
    val_main_cst_5, val_main_cst_6, val_main_cst_7]
  simp only [ref_y, zero_add, ← EReal.coe_mul, ← EReal.coe_add, coe_sum, word_1024, word_eps, div_1024]
  rfl

theorem ref_yrr (i : Fin 4096) (z : Fin 1) :
    val_main_v36 (F := Ideal) (liftA S4096x1024 FTy.f32 h) (liftA S1x1024 FTy.f32 gp) (liftA S4x1024x1408 FTy.bf16 wgu) (liftA S2816x1024 FTy.bf16 wd) (ix2 i z) = ((rr (yv h gp wgu wd i) : ℝ) : EReal) := by
  pointwise [val_main_v36]
  simp only [ref_yms, rsqrt_ms]

theorem ref_dy (i : Fin 4096) (d : Fin 1024) :
    val_main_v64 (F := Ideal) (liftA S4096x1024 FTy.f32 dh) (liftA S4096x1024 FTy.f32 h) (liftA S1x1024 FTy.f32 gp) (liftA S1x1024 FTy.f32 gq) (liftA S4x1024x1408 FTy.bf16 wgu) (liftA S2816x1024 FTy.bf16 wd) (ix2 i d) = ((dyv dh h gp gq wgu wd i d : ℝ) : EReal) := by
  pointwise [val_main_v64, val_main_v63, val_main_v62, val_main_v61, val_main_v60, val_main_v59, val_main_v58, val_main_v57,
    val_main_v56, val_main_v55, val_main_v54, val_main_v53, val_main_v52, val_main_v51, val_main_v50, val_main_v49,
    val_main_v45, val_main_v39, val_main_v38, val_main_v37, val_main_cst_8, val_main_cst_10, val_main_cst_11, val_main_cst_12]
  simp only [ref_y, ref_yms, ref_yrr, liftA_apply, zero_add, ← EReal.coe_mul, ← EReal.coe_add, coe_sum, word_1024,
    word_neg_half, div_1024, div_ms, Finset.univ_unique, Finset.sum_singleton]
  exact congrArg _ (nb_eq (yv h gp wgu wd i) (fun k => row dh i k * wrow gq k) d)

theorem ref_dact (i : Fin 4096) (n : Fin 2816) :
    val_main_v65 (F := Ideal) (liftA S4096x1024 FTy.f32 dh) (liftA S4096x1024 FTy.f32 h) (liftA S1x1024 FTy.f32 gp) (liftA S1x1024 FTy.f32 gq) (liftA S4x1024x1408 FTy.bf16 wgu) (liftA S2816x1024 FTy.bf16 wd) (ix2 i n) = ((dactv dh h gp gq wgu wd i n : ℝ) : EReal) := by
  pointwise [val_main_v65, val_main_v5]
  simp only [ref_dy, liftA_apply, ← EReal.coe_mul, coe_sum, zero_add]
  rfl

theorem ref_dgate (i : Fin 4096) (n : Fin 2816) :
    val_main_v68 (F := Ideal) (liftA S4096x1024 FTy.f32 dh) (liftA S4096x1024 FTy.f32 h) (liftA S1x1024 FTy.f32 gp) (liftA S1x1024 FTy.f32 gq) (liftA S4x1024x1408 FTy.bf16 wgu) (liftA S2816x1024 FTy.bf16 wd) (ix2 i n) = ((dgatev dh h gp gq wgu wd i n : ℝ) : EReal) := by
  pointwise [val_main_v68, val_main_call1_v2, val_main_call1_v1, val_main_call1_v0, val_main_v67]
  simp only [ref_dact, ref_up, ref_gate, ref_sg, ref_sg1, ← EReal.coe_mul, ← EReal.coe_add]
  refine congrArg _ ?_
  unfold dgatev
  ring

theorem ref_dup (i : Fin 4096) (n : Fin 2816) :
    val_main_v66 (F := Ideal) (liftA S4096x1024 FTy.f32 dh) (liftA S4096x1024 FTy.f32 h) (liftA S1x1024 FTy.f32 gp) (liftA S1x1024 FTy.f32 gq) (liftA S4x1024x1408 FTy.bf16 wgu) (liftA S2816x1024 FTy.bf16 wd) (ix2 i n) = ((dupv dh h gp gq wgu wd i n : ℝ) : EReal) := by
  pointwise [val_main_v66]
  simp only [ref_dact, ref_silu, ← EReal.coe_mul]
  refine congrArg _ ?_
  unfold dupv
  ring

theorem ref_dgu (i : Fin 4096) (n : Fin 5632) :
    val_main_v69 (F := Ideal) (liftA S4096x1024 FTy.f32 dh) (liftA S4096x1024 FTy.f32 h) (liftA S1x1024 FTy.f32 gp) (liftA S1x1024 FTy.f32 gq) (liftA S4x1024x1408 FTy.bf16 wgu) (liftA S2816x1024 FTy.bf16 wd) (ix2 i n) = ((dguv dh h gp gq wgu wd i n : ℝ) : EReal) := by
  pointwise [val_main_v69]
  unfold dguv
  split
  · next hn => simp only [ref_dgate, dif_pos hn]
  · next hn => simp only [ref_dup, dif_neg hn]

theorem ref_du (i : Fin 4096) (k : Fin 1024) :
    val_main_v70 (F := Ideal) (liftA S4096x1024 FTy.f32 dh) (liftA S4096x1024 FTy.f32 h) (liftA S1x1024 FTy.f32 gp) (liftA S1x1024 FTy.f32 gq) (liftA S4x1024x1408 FTy.bf16 wgu) (liftA S2816x1024 FTy.bf16 wd) (ix2 i k) = ((duv dh h gp gq wgu wd i k : ℝ) : EReal) := by
  pointwise [val_main_v70]
  simp only [ref_dgu, ref_wg, ← EReal.coe_mul, coe_sum, zero_add]
  rfl

theorem ref_dh (i : Fin 4096) (k : Fin 1024) :
    val_main_v90 (F := Ideal) (liftA S4096x1024 FTy.f32 dh) (liftA S4096x1024 FTy.f32 h) (liftA S1x1024 FTy.f32 gp) (liftA S1x1024 FTy.f32 gq) (liftA S4x1024x1408 FTy.bf16 wgu) (liftA S2816x1024 FTy.bf16 wd) (ix2 i k) = ((dhv dh h gp gq wgu wd i k : ℝ) : EReal) := by
  pointwise [val_main_v90, val_main_v89, val_main_v88, val_main_v87, val_main_v86, val_main_v85, val_main_v84, val_main_v83,
    val_main_v82, val_main_v81, val_main_v80, val_main_v79, val_main_v78, val_main_v77, val_main_v76, val_main_v75,
    val_main_v74, val_main_v45, val_main_v16, val_main_v15, val_main_v14, val_main_cst_4, val_main_cst_14, val_main_cst_15,
    val_main_cst_16]
  simp only [ref_du, ref_ms, ref_rr, liftA_apply, zero_add, ← EReal.coe_mul, ← EReal.coe_add, coe_sum, word_1024,
    word_neg_half, div_1024, div_ms, Finset.univ_unique, Finset.sum_singleton]
  refine congrArg _ ?_
  have e := nb_eq (row h i) (fun k => duv dh h gp gq wgu wd i k * wrow gp k) k
  unfold dhv
  rw [← e, ← add_assoc, ← add_assoc]
  rfl

theorem ref_dgp (z : Fin 1) (k : Fin 1024) :
    val_main_v73 (F := Ideal) (liftA S4096x1024 FTy.f32 dh) (liftA S4096x1024 FTy.f32 h) (liftA S1x1024 FTy.f32 gp) (liftA S1x1024 FTy.f32 gq) (liftA S4x1024x1408 FTy.bf16 wgu) (liftA S2816x1024 FTy.bf16 wd) (ix2 z k) = ((dgpv dh h gp gq wgu wd k : ℝ) : EReal) := by
  pointwise [val_main_v73, val_main_v72, val_main_v71, val_main_cst_13]
  simp only [ref_hh, ref_du, ← EReal.coe_mul, coe_sum, zero_add]
  exact congrArg _ (Finset.sum_congr rfl fun i _ => mul_comm _ _)

theorem ref_dgq (z : Fin 1) (k : Fin 1024) :
    val_main_v48 (F := Ideal) (liftA S4096x1024 FTy.f32 dh) (liftA S4096x1024 FTy.f32 h) (liftA S1x1024 FTy.f32 gp) (liftA S4x1024x1408 FTy.bf16 wgu) (liftA S2816x1024 FTy.bf16 wd) (ix2 z k) = ((dgqv dh h gp wgu wd k : ℝ) : EReal) := by
  pointwise [val_main_v48, val_main_v47, val_main_v46, val_main_v45, val_main_v41, val_main_v40, val_main_cst_9]
  simp only [ref_y, ref_yrr, liftA_apply, ← EReal.coe_mul, coe_sum, zero_add]
  exact congrArg _ (Finset.sum_congr rfl fun i _ => mul_comm _ _)

/-- The eight rows of the packed weight gradients. -/
def packv (r : Fin 8) (k : Fin 1024) : ℝ :=
  if r.val = 4 then dgpv dh h gp gq wgu wd k else if r.val = 5 then dgqv dh h gp wgu wd k else 0

theorem ref_pack (r : Fin 8) (k : Fin 1024) :
    val_main_v93 (F := Ideal) (liftA S4096x1024 FTy.f32 dh) (liftA S4096x1024 FTy.f32 h) (liftA S1x1024 FTy.f32 gp) (liftA S1x1024 FTy.f32 gq) (liftA S4x1024x1408 FTy.bf16 wgu) (liftA S2816x1024 FTy.bf16 wd) (ix2 r k) = ((packv dh h gp gq wgu wd r k : ℝ) : EReal) := by
  pointwise [val_main_v93, val_main_v92, val_main_v91, val_main_cst_17, val_main_cst_18]
  simp only [ref_dgp, ref_dgq]
  unfold packv
  split_ifs <;> first | rfl | omega

/-- The saved activation columns as the kernel's host lines compute them. -/
def hostGu (x1 : FVec Ideal S4096x1024 .f32) (x2 : FVec Ideal S1x1024 .f32) (x4 : FVec Ideal S4x1024x1408 .bf16) :
    FVec Ideal S4096x5632 .f32 := val_main_v21 (F := Ideal) x1 x2 x4

/-- The gate columns of it. -/
def hostGate (x1 : FVec Ideal S4096x1024 .f32) (x2 : FVec Ideal S1x1024 .f32) (x4 : FVec Ideal S4x1024x1408 .bf16) :
    FVec Ideal S4096x2816 .f32 := extractStridedSlice S4096x2816 ![0, 0] (hostGu x1 x2 x4) slices_S4096x5632_S4096x2816_0_0

/-- The saved block output as the kernel's host lines compute it. -/
def hostY (x1 : FVec Ideal S4096x1024 .f32) (x2 : FVec Ideal S1x1024 .f32) (x4 : FVec Ideal S4x1024x1408 .bf16)
    (x5 : FVec Ideal S2816x1024 .bf16) : FVec Ideal S4096x1024 .f32 :=
  Host.dotGeneral dot_S4096x2816_S2816x1024_S4096x1024_1_0_0_1_n_n none
    (mulf (mulf (hostGate x1 x2 x4)
        (Host.divf (broadcastInDim S4096x2816 ![] bcast_S_S4096x2816 (constant S_ .f32 0x3F800000#32))
          (addf (broadcastInDim S4096x2816 ![] bcast_S_S4096x2816 (constant S_ .f32 0x3F800000#32))
            (Host.exp (Host.negf (hostGate x1 x2 x4))))))
      (extractStridedSlice S4096x2816 ![0, 2816] (hostGu x1 x2 x4) slices_S4096x5632_S4096x2816_0_2816))
    (extf .f32 x5 bitsLt_bf16_f32)

theorem host_gu (i : Fin 4096) (n : Fin 5632) : hostGu (liftA S4096x1024 FTy.f32 h) (liftA S1x1024 FTy.f32 gp) (liftA S4x1024x1408 FTy.bf16 wgu) (ix2 i n) = ((guv h gp wgu i n : ℝ) : EReal) := by
  pointwise [hostGu, val_main_v21, val_main_v20, val_main_v19]
  simp only [ref_hh, ref_wg, liftA_apply, ← EReal.coe_mul, coe_sum]
  rfl

theorem host_gate (i : Fin 4096) (n : Fin 2816) : hostGate (liftA S4096x1024 FTy.f32 h) (liftA S1x1024 FTy.f32 gp) (liftA S4x1024x1408 FTy.bf16 wgu) (ix2 i n) = ((gatev h gp wgu i n : ℝ) : EReal) := by
  pointwise [hostGate]
  simp only [host_gu]
  rfl

theorem host_y (i : Fin 4096) (d : Fin 1024) : hostY (liftA S4096x1024 FTy.f32 h) (liftA S1x1024 FTy.f32 gp) (liftA S4x1024x1408 FTy.bf16 wgu) (liftA S2816x1024 FTy.bf16 wd) (ix2 i d) = ((yv h gp wgu wd i d : ℝ) : EReal) := by
  pointwise [hostY]
  simp only [host_gate, host_gu, ← EReal.coe_one, ← EReal.coe_neg, Ideal.exp_coe, ← EReal.coe_add, div_sg, liftA_apply,
    ← EReal.coe_mul, coe_sum]
  rfl

end Cert.Ffn
-- ==== Proof.FfnPay.lean ====
/- What the kernel's body computes on one block of 256 rows, on finite blocks: each stored vector is the array of
   the real numbers it stands for. -/
module

public import proofs.«01_k».proof.Proof.Gen.KernelIdeal.Skeleton
public import proofs.«01_k».proof.Proof.FfnReal
public import Idealize.ShloMosaic.Lib.Pointwise

@[expose] public section

set_option maxRecDepth 16384

noncomputable section

namespace Cert.Ffn

open Idealize.ShloMosaic Idealize.ShloMosaic.TcCoe Idealize.SL.Sem
open Cert.KernelIdeal Cert.KernelIdeal.Gen

variable (X0 X1 X2 : FVec Ideal S256x1024 .f32) (x0 x1 x2 : Fin 256 → Fin 1024 → ℝ)
variable (G : FVec Ideal S1x1024 .f32) (g : Fin 1024 → ℝ)

/-- The gradient of the block's output at one block. -/
theorem pay9_real (e0 : ∀ r k, X0 (ix2 r k) = ((x0 r k : ℝ) : EReal)) (e1 : ∀ r k, X1 (ix2 r k) = ((x1 r k : ℝ) : EReal))
    (eg : ∀ k, G (ix2 0 k) = ((g k : ℝ) : EReal)) (r : Fin 256) (d : Fin 1024) :
    k0_pay9 (F := Ideal) X0 X1 G (ix2 r d) = ((nb (x1 r) (fun k => x0 r k * g k) d : ℝ) : EReal) := by
  pointwise [k0_pay9, k0_pay8, k0_pay7, k0_pay6]
  simp only [e0, e1, eg, zero_add, ← EReal.coe_mul, ← EReal.coe_add, ← EReal.coe_sub, coe_sum, word_1024, word_eps,
    div_1024, ms_fold, rsqrt_ms]
  rfl

theorem pay12_real (Y : FVec Ideal S256x1024 .f32) (y : Fin 256 → Fin 1024 → ℝ)
    (e : ∀ r k, Y (ix2 r k) = ((y r k : ℝ) : EReal)) (r : Fin 256) (d : Fin 1024) :
    k0_pay12 (F := Ideal) Y (ix2 r d) = ((y r d : ℝ) : EReal) := by
  pointwise [k0_pay12]
  exact e r d

/-- The second norm's weight gradient: the block's rows summed onto what was there. -/
theorem pay11_real (P : FVec Ideal S1x1024 .f32) (p : Fin 1024 → ℝ)
    (e0 : ∀ r k, X0 (ix2 r k) = ((x0 r k : ℝ) : EReal)) (e1 : ∀ r k, X1 (ix2 r k) = ((x1 r k : ℝ) : EReal))
    (ep : ∀ k, P (ix2 0 k) = ((p k : ℝ) : EReal)) (z : Fin 1) (k : Fin 1024) :
    k0_pay11 (F := Ideal) (k0_pay10 (F := Ideal) X0 X1) P (ix2 z k)
      = ((p k + ∑ r, x0 r k * (x1 r k * rr (x1 r)) : ℝ) : EReal) := by
  obtain rfl : z = 0 := Subsingleton.elim _ _
  pointwise [k0_pay11, k0_pay10, k0_pay8, k0_pay7, k0_pay6]
  simp only [e0, e1, ep, zero_add, ← EReal.coe_mul, ← EReal.coe_add, ← EReal.coe_sub, coe_sum, word_1024, word_eps,
    div_1024, ms_fold, rsqrt_ms]

variable (Y : FVec Ideal S256x1024 .f32) (y : Fin 256 → Fin 1024 → ℝ)
variable (W : FVec Ideal S2816x1024 .bf16) (w : Fin 2816 → Fin 1024 → ℝ)
variable (A B : FVec Ideal S256x2816 .bf16) (a b : Fin 256 → Fin 2816 → ℝ)

/-- The gradient of the gate at one block. -/
theorem pay16_real (e : ∀ r k, Y (ix2 r k) = ((y r k : ℝ) : EReal)) (ew : ∀ n k, W (ix2 n k) = ((w n k : ℝ) : EReal))
    (ea : ∀ r n, A (ix2 r n) = ((a r n : ℝ) : EReal)) (eb : ∀ r n, B (ix2 r n) = ((b r n : ℝ) : EReal))
    (r : Fin 256) (n : Fin 2816) :
    k0_pay16 (F := Ideal) Y W A B (ix2 r n)
      = (((∑ d, y r d * w n d) * b r n * (sg (a r n) * (1 + a r n * (1 - sg (a r n)))) : ℝ) : EReal) := by
  pointwise [k0_pay16, k0_pay15, k0_pay14, k0_pay13, k0_pay12]
  simp only [e, ew, ea, eb, zero_add, zero_sub, ← EReal.coe_one, ← EReal.coe_neg, ← EReal.coe_mul, ← EReal.coe_add,
    ← EReal.coe_sub, coe_sum, Ideal.exp_coe, div_sg]

/-- The gradient of the up projection at one block. -/
theorem pay17_real (e : ∀ r k, Y (ix2 r k) = ((y r k : ℝ) : EReal)) (ew : ∀ n k, W (ix2 n k) = ((w n k : ℝ) : EReal))
    (ea : ∀ r n, A (ix2 r n) = ((a r n : ℝ) : EReal)) (r : Fin 256) (n : Fin 2816) :
    k0_pay17 (F := Ideal) Y W A (ix2 r n) = (((∑ d, y r d * w n d) * a r n * sg (a r n) : ℝ) : EReal) := by
  pointwise [k0_pay17, k0_pay15, k0_pay14, k0_pay13, k0_pay12]
  simp only [e, ew, ea, zero_add, zero_sub, ← EReal.coe_one, ← EReal.coe_neg, ← EReal.coe_mul, ← EReal.coe_add,
    ← EReal.coe_sub, coe_sum, Ideal.exp_coe, div_sg]

variable (Q0 Q1 Q2 Q3 : FVec Ideal S256x1408 .bf16) (q0 q1 q2 q3 : Fin 256 → Fin 1408 → ℝ)
variable (V0 V1 V2 V3 : FVec Ideal S1x1024x1408 .bf16) (v0 v1 v2 v3 : Fin 1024 → Fin 1408 → ℝ)

/-- The gradient of the normalised input: four products of 1408 columns. -/
theorem pay18_real (a0 : ∀ r n, Q0 (ix2 r n) = ((q0 r n : ℝ) : EReal)) (a1 : ∀ r n, Q1 (ix2 r n) = ((q1 r n : ℝ) : EReal))
    (a2 : ∀ r n, Q2 (ix2 r n) = ((q2 r n : ℝ) : EReal)) (a3 : ∀ r n, Q3 (ix2 r n) = ((q3 r n : ℝ) : EReal))
    (b0 : ∀ k n, V0 (ix3 0 k n) = ((v0 k n : ℝ) : EReal)) (b1 : ∀ k n, V1 (ix3 0 k n) = ((v1 k n : ℝ) : EReal))
    (b2 : ∀ k n, V2 (ix3 0 k n) = ((v2 k n : ℝ) : EReal)) (b3 : ∀ k n, V3 (ix3 0 k n) = ((v3 k n : ℝ) : EReal))
    (r : Fin 256) (k : Fin 1024) :
    k0_pay18 (F := Ideal) Q0 V0 Q1 V1 Q2 V2 Q3 V3 (ix2 r k)
      = (((∑ n, q0 r n * v0 k n) + (∑ n, q1 r n * v1 k n) + (∑ n, q2 r n * v2 k n) + (∑ n, q3 r n * v3 k n) : ℝ) : EReal) := by
  pointwise [k0_pay18]
  simp only [a0, a1, a2, a3, b0, b1, b2, b3, zero_add, ← EReal.coe_mul, ← EReal.coe_add, coe_sum]

/-- The gradient of the input at one block. -/
theorem pay4_real (e0 : ∀ r k, X0 (ix2 r k) = ((x0 r k : ℝ) : EReal)) (e2 : ∀ r k, X2 (ix2 r k) = ((x2 r k : ℝ) : EReal))
    (e : ∀ r k, Y (ix2 r k) = ((y r k : ℝ) : EReal)) (eg : ∀ k, G (ix2 0 k) = ((g k : ℝ) : EReal)) (r : Fin 256) (k : Fin 1024) :
    k0_pay4 (F := Ideal) X0 Y X2 (k0_pay19 (F := Ideal) X2) (k0_pay20 (F := Ideal)) G (ix2 r k)
      = ((x0 r k + nb (x2 r) (fun k => y r k * g k) k : ℝ) : EReal) := by
  pointwise [k0_pay4, k0_pay2, k0_pay1, k0_pay19, k0_pay20]
  simp only [e0, e2, e, eg, zero_add, ← EReal.coe_mul, ← EReal.coe_add, ← EReal.coe_sub, coe_sum, word_1024, word_eps,
    div_1024, ms_fold, rsqrt_ms]
  rfl

/-- The first norm's weight gradient: the block's rows summed onto what was there. -/
theorem pay3_real (P : FVec Ideal S1x1024 .f32) (p : Fin 1024 → ℝ)
    (e2 : ∀ r k, X2 (ix2 r k) = ((x2 r k : ℝ) : EReal)) (e : ∀ r k, Y (ix2 r k) = ((y r k : ℝ) : EReal))
    (ep : ∀ k, P (ix2 0 k) = ((p k : ℝ) : EReal)) (z : Fin 1) (k : Fin 1024) :
    k0_pay3 (F := Ideal) Y X2 (k0_pay19 (F := Ideal) X2) (k0_pay20 (F := Ideal)) P (ix2 z k)
      = ((p k + ∑ r, y r k * (x2 r k * rr (x2 r)) : ℝ) : EReal) := by
  obtain rfl : z = 0 := Subsingleton.elim _ _
  pointwise [k0_pay3, k0_pay2, k0_pay1, k0_pay19, k0_pay20]
  simp only [e2, e, ep, zero_add, ← EReal.coe_mul, ← EReal.coe_add, ← EReal.coe_sub, coe_sum, word_1024, word_eps,
    div_1024, ms_fold, rsqrt_ms]

end Cert.Ffn
-- ==== Proof.FfnKer.lean ====
module

public import proofs.«01_k».proof.Proof.Gen.KernelIdeal.Value
public import proofs.«01_k».proof.Proof.FfnRef
public import proofs.«01_k».proof.Proof.FfnPay
public import Idealize.ShloMosaic.Lib.Pipeline.ValueKit
public import Idealize.ShloMosaic.Lib.Claim
public import Idealize.ShloMosaic.Lib.Pipeline.ReadBack
public import Idealize.ShloMosaic.Lib.WritesUnit

@[expose] public section

set_option maxRecDepth 16384

noncomputable section

namespace Cert.Ffn

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

theorem entry_gu : V m c main_v22 = truncf .bf16 (hostGu (m ((c : Thread nD τ).loc main_arg1))
    (m ((c : Thread nD τ).loc main_arg2)) (m ((c : Thread nD τ).loc main_arg4))) bitsLt_bf16_f32 := by
  unfold V hostOps0 hostOps0_1 hostOps0_2
  simp only [List.flatten_cons, List.flatten_nil, List.append_nil, List.cons_append, List.nil_append]
  entry_read
  rfl

theorem entry_y : V m c main_v21 = hostY (m ((c : Thread nD τ).loc main_arg1))
    (m ((c : Thread nD τ).loc main_arg2)) (m ((c : Thread nD τ).loc main_arg4)) (m ((c : Thread nD τ).loc main_arg5)) := by
  unfold V hostOps0 hostOps0_1 hostOps0_2
  simp only [List.flatten_cons, List.flatten_nil, List.append_nil, List.cons_append, List.nil_append]
  entry_read
  rfl

theorem scr (n : ℕ) (hn : n < cfg0.N) : (outsAt0 m c n hn).2.2.2.2.1 = V m c main_arg4 ∧ (outsAt0 m c n hn).2.2.2.2.2 = V m c main_arg5 := by
  induction n with
  | zero =>
    rw [outsAt0_A m c ⟨0, hn⟩ rfl rfl rfl]
    dsimp only
    frame_out
    exact ⟨View.canon_unit_zero rfl _ _, View.canon_unit_zero rfl _ _⟩
  | succ n ih =>
    have hN := lt_of_lt_of_eq hn (show cfg0.N = 16 from N_0)
    rw [outsAt0_B m c ⟨n + 1, hn⟩ (by dsimp only; omega) (by dsimp only; omega) (by dsimp only; omega)]
    dsimp only
    unfold sout0_B_0 sout0_B_1
    exact ih _

/-- The block index of every window at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![t.val, 0] ∧ win0_9.index t = ![0, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![t.val, 0] ∧ win0_9.index t = ![0, 0])

/-- The two stores of the gate-and-up gradient, the down weight being `W`. -/
def pcs (t : Fin cfg0.N) (W : FVec Ideal S2816x1024 .bf16) : List (View.Piece (Elt Ideal) S256x5632 .bf16) :=
  [⟨Rect.unit ![0, 2816] ![256, 2816] inb_S256x5632_S256x2816_0_2816,
      k0_pay17 (F := Ideal) (k0_pay9 (F := Ideal) (iblk m c 0 t) (iblk m c 1 t) (iblk m c 5 t)) W
        (View.ld (iblk m c 3 t) (Rect.unit ![0, 0] ![256, 2816] inb_S256x5632_S256x2816_0_0))⟩,
    ⟨Rect.unit ![0, 0] ![256, 2816] inb_S256x5632_S256x2816_0_0,
      k0_pay16 (F := Ideal) (k0_pay9 (F := Ideal) (iblk m c 0 t) (iblk m c 1 t) (iblk m c 5 t)) W
        (View.ld (iblk m c 3 t) (Rect.unit ![0, 0] ![256, 2816] inb_S256x5632_S256x2816_0_0))
        (View.ld (iblk m c 3 t) (Rect.unit ![0, 2816] ![256, 2816] inb_S256x5632_S256x2816_0_2816))⟩]

/-- Every element of the block is stored. -/
theorem pcs_cover (t : Fin cfg0.N) (W : FVec Ideal S2816x1024 .bf16) (y : S256x5632.Idx) : ∃ p ∈ pcs m c t W, y ∈ p.1.set := by
  by_cases hn : (y 1).val < 2816
  · refine ⟨_, List.mem_cons_of_mem _ (List.mem_singleton_self _), ?_⟩
    have h0 : (y 0).val < 256 := (y 0).isLt
    refine (Rect.mem_set_unit (s := S256x5632) (off := ![0, 0]) (size := ![256, 2816]) (inb := inb_S256x5632_S256x2816_0_0)).mpr fun a => ?_
    fin_cases a
    · exact ⟨Nat.zero_le _, by show (y 0).val < 0 + 256; omega⟩
    · exact ⟨Nat.zero_le _, by show (y 1).val < 0 + 2816; omega⟩
  · refine ⟨_, List.mem_cons_self, ?_⟩
    have h0 : (y 0).val < 256 := (y 0).isLt
    have h1 : (y 1).val < 5632 := (y 1).isLt
    refine (Rect.mem_set_unit (s := S256x5632) (off := ![0, 2816]) (size := ![256, 2816]) (inb := inb_S256x5632_S256x2816_0_2816)).mpr fun a => ?_
    fin_cases a
    · exact ⟨Nat.zero_le _, by show (y 0).val < 0 + 256; omega⟩
    · exact ⟨by show 2816 ≤ (y 1).val; omega, by show (y 1).val < 2816 + 2816; omega⟩

/-- The copied down weight, read at the point that copies it. -/
theorem wd_first :
    ((View.whole cc0_scratch1).readCov (Val := Elt Ideal)
      [⟨Rect.whole S2816x1024,
          ReadAs.same.apply (View.read (Elt Ideal) (View.whole main_arg5) (V m c main_arg5))⟩]
      (Rect.unit ![0, 0] ![2816, 1024] inb_S2816x1024_S2816x1024_0_0).toLoadRect) = V m c main_arg5 := by
  rw [View.readCov_eq_canon_ld _ _ _ (fun y => ⟨_, List.mem_singleton_self _, by
    show y ∈ (Rect.whole S2816x1024).set; rw [Rect.set_whole]; exact Finset.mem_univ y⟩)]
  refine (View.ld_unit_zero (by ext a; fin_cases a <;> rfl) _ _).trans ?_
  exact View.canon_unit_zero rfl _ _

/-- The copied gate-and-up weight, read at the point that copies it. -/
theorem whole_read (r : Rect S4x1024x1408) :
    (View.whole cc0_scratch0).readCov (Val := Elt Ideal)
      [⟨Rect.whole S4x1024x1408,
          ReadAs.same.apply (View.read (Elt Ideal) (View.whole main_arg4) (V m c main_arg4))⟩] r.toLoadRect
      = View.ld (Val := Elt Ideal) (e' := .bf16) (V m c main_arg4) r := by
  rw [View.readCov_eq_canon_ld _ _ _ (fun y => ⟨_, List.mem_singleton_self _, by
    show y ∈ (Rect.whole S4x1024x1408).set; rw [Rect.set_whole]; exact Finset.mem_univ y⟩)]
  have e : View.canon (Val := Elt Ideal) [⟨Rect.whole S4x1024x1408,
      ReadAs.same.apply (View.read (Elt Ideal) (View.whole main_arg4) (V m c main_arg4))⟩] = V m c main_arg4 :=
    View.canon_unit_zero rfl _ _
  rw [e]
  rfl

/-- A sum over the columns is the sum of the four blocks' sums. -/
theorem sum_blocks (f : Fin 5632 → ℝ) :
    ∑ n, f n = (∑ n : Fin 1408, f ⟨0 + n.val, by omega⟩) + (∑ n : Fin 1408, f ⟨1408 + n.val, by omega⟩)
      + (∑ n : Fin 1408, f ⟨2816 + n.val, by omega⟩) + (∑ n : Fin 1408, f ⟨4224 + n.val, by omega⟩) := by
  rw [← (finProdFinEquiv (m := 4) (n := 1408)).sum_comp f, Fintype.sum_prod_type, Fin.sum_univ_four]
  refine congr (congrArg _ (congr (congrArg _ (congr (congrArg _ ?_) ?_)) ?_)) ?_ <;>
    exact Finset.sum_congr rfl fun n _ => congrArg f (Fin.ext (by simp [finProdFinEquiv]; try omega))

variable (dh h : Cert.ReferenceIdeal.S4096x1024.Idx → ℝ) (gp gq : Cert.ReferenceIdeal.S1x1024.Idx → ℝ)
  (wgu : Cert.ReferenceIdeal.S4x1024x1408.Idx → ℝ) (wd : Cert.ReferenceIdeal.S2816x1024.Idx → ℝ)

/-- Row and column are all that matters. -/
theorem dguv_at {dh h gp gq wgu wd} {i i' : Fin 4096} {n n' : Fin 5632} (hi : i.val = i'.val) (hn : n.val = n'.val) :
    dguv dh h gp gq wgu wd i n = dguv dh h gp gq wgu wd i' n' := by
  rw [Fin.ext hi, Fin.ext hn]

theorem dguv_lo (i : Fin 4096) (n : Fin 2816) :
    dguv dh h gp gq wgu wd i ⟨n.val, by omega⟩ = dgatev dh h gp gq wgu wd i n := dif_pos n.isLt

theorem dguv_hi (i : Fin 4096) (n : Fin 2816) :
    dguv dh h gp gq wgu wd i ⟨2816 + n.val, by omega⟩ = dupv dh h gp gq wgu wd i n := by
  rw [dguv, dif_neg (by dsimp only; omega)]
  exact congrArg _ (Fin.ext (by dsimp only; omega))

theorem wg_at (k : Fin 1024) (q : Fin 4) (n : Fin 1408) (o : Fin 5632) (ho : o.val = 1408 * q.val + n.val) :
    wg wgu k o = wgu (ix3 q k n) := by
  have e0 : (⟨o.val / 1408, by omega⟩ : Fin 4) = q := Fin.ext (by dsimp only; omega)
  have e1 : (⟨o.val % 1408, Nat.mod_lt _ (by norm_num)⟩ : Fin 1408) = n := Fin.ext (by dsimp only; omega)
  exact congr (congrArg (fun (a : Fin 4) (b : Fin 1408) => wgu (ix3 a k b)) e0) e1

/-- The kernel's arguments are these finite arrays. -/
structure Args : Prop where
  a0 : m ((c : Thread nD τ).loc main_arg0) = liftA S4096x1024 .f32 dh
  a1 : m ((c : Thread nD τ).loc main_arg1) = liftA S4096x1024 .f32 h
  a2 : m ((c : Thread nD τ).loc main_arg2) = liftA S1x1024 .f32 gp
  a3 : m ((c : Thread nD τ).loc main_arg3) = liftA S1x1024 .f32 gq
  a4 : m ((c : Thread nD τ).loc main_arg4) = liftA S4x1024x1408 .bf16 wgu
  a5 : m ((c : Thread nD τ).loc main_arg5) = liftA S2816x1024 .bf16 wd

/-- Row `r` of block `t`. -/
def rowi (t : Fin cfg0.N) (r : Fin 256) : Fin 4096 :=
  ⟨t.val * 256 + r.val, by have h := lt_of_lt_of_eq t.isLt (show cfg0.N = 16 from N_0); omega⟩

variable {m c dh h gp gq wgu wd} (A : Args m c dh h gp gq wgu wd) (t : Fin cfg0.N)
include A

theorem blk0 (r : Fin 256) (k : Fin 1024) :
    (show FVec Ideal S256x1024 .f32 from iblk m c 0 t) (ix2 r k) = ((row dh (rowi t r) k : ℝ) : EReal) := by
  refine Eq.trans ?_ (congrFun A.a0 (ix2 (rowi t r) k))
  blk_point [iblk, V, idx t]
  all_goals rfl

theorem blk1 (r : Fin 256) (k : Fin 1024) :
    (show FVec Ideal S256x1024 .f32 from iblk m c 1 t) (ix2 r k) = ((yv h gp wgu wd (rowi t r) k : ℝ) : EReal) := by
  have e : V m c main_v21 = hostY (liftA S4096x1024 .f32 h) (liftA S1x1024 .f32 gp) (liftA S4x1024x1408 .bf16 wgu) (liftA S2816x1024 .bf16 wd) := by
    rw [entry_y, A.a1, A.a2, A.a4, A.a5]
  refine Eq.trans ?_ (host_y h gp wgu wd (rowi t r) k)
  rw [← e]
  blk_point [iblk, idx t]
  all_goals rfl

theorem blk2 (r : Fin 256) (k : Fin 1024) :
    (show FVec Ideal S256x1024 .f32 from iblk m c 2 t) (ix2 r k) = ((row h (rowi t r) k : ℝ) : EReal) := by
  refine Eq.trans ?_ (congrFun A.a1 (ix2 (rowi t r) k))
  blk_point [iblk, V, idx t]
  all_goals rfl

theorem blk3 (r : Fin 256) (n : Fin 5632) :
    (show FVec Ideal S256x5632 .bf16 from iblk m c 3 t) (ix2 r n) = ((guv h gp wgu (rowi t r) n : ℝ) : EReal) := by
  have e : V m c main_v22 = truncf .bf16 (hostGu (liftA S4096x1024 .f32 h) (liftA S1x1024 .f32 gp) (liftA S4x1024x1408 .bf16 wgu)) bitsLt_bf16_f32 := by
    rw [entry_gu, A.a1, A.a2, A.a4]
  refine Eq.trans ?_ (host_gu h gp wgu (rowi t r) n)
  show _ = (truncf .bf16 (hostGu (liftA S4096x1024 .f32 h) (liftA S1x1024 .f32 gp) (liftA S4x1024x1408 .bf16 wgu)) bitsLt_bf16_f32 : FVec Ideal S4096x5632 .bf16) (ix2 (rowi t r) n)
  rw [← e]
  blk_point [iblk, idx t]
  all_goals rfl

theorem blk4 (k : Fin 1024) :
    (show FVec Ideal S1x1024 .f32 from iblk m c 4 t) (ix2 0 k) = ((wrow gp k : ℝ) : EReal) := by
  refine Eq.trans ?_ (congrFun A.a2 (ix2 0 k))
  blk_point [iblk, V, idx t]
  all_goals rfl

theorem blk5 (k : Fin 1024) :
    (show FVec Ideal S1x1024 .f32 from iblk m c 5 t) (ix2 0 k) = ((wrow gq k : ℝ) : EReal) := by
  refine Eq.trans ?_ (congrFun A.a3 (ix2 0 k))
  blk_point [iblk, V, idx t]
  all_goals rfl

theorem dy_blk (r : Fin 256) (d : Fin 1024) :
    k0_pay9 (F := Ideal) (iblk m c 0 t) (iblk m c 1 t) (iblk m c 5 t) (ix2 r d) = ((dyv dh h gp gq wgu wd (rowi t r) d : ℝ) : EReal) :=
  pay9_real _ _ _ _ _ _ (blk0 A t) (blk1 A t) (blk5 A t) r d

theorem out6 (r : Fin 256) (d : Fin 1024) :
    (outsAt0 m c t.val t.isLt).1 (ix2 r d) = ((dyv dh h gp gq wgu wd (rowi t r) d : ℝ) : EReal) := by
  by_cases h0 : t.val % 16 = 0
  · rw [outsAt0_A m c t h0 h0 h0]
    dsimp only
    frame_out
    exact pay12_real _ _ (dy_blk A t) r d
  · rw [outsAt0_B m c t h0 h0 h0]
    dsimp only
    frame_out
    exact pay12_real _ _ (dy_blk A t) r d

theorem gate_ld (r : Fin 256) (n : Fin 2816) :
    (show FVec Ideal S256x2816 .bf16 from
      View.ld (iblk m c 3 t) (Rect.unit ![0, 0] ![256, 2816] inb_S256x5632_S256x2816_0_0)) (ix2 r n)
      = ((gatev h gp wgu (rowi t r) n : ℝ) : EReal) := by
  refine Eq.trans ?_ (blk3 A t r ⟨n.val, by omega⟩)
  show iblk m c 3 t _ = iblk m c 3 t _
  refine congrArg (iblk m c 3 t) (funext fun a => Fin.ext ?_)
  fin_cases a
  · show 0 + 1 * r.val = r.val
    omega
  · show 0 + 1 * n.val = n.val
    omega

theorem up_ld (r : Fin 256) (n : Fin 2816) :
    (show FVec Ideal S256x2816 .bf16 from
      View.ld (iblk m c 3 t) (Rect.unit ![0, 2816] ![256, 2816] inb_S256x5632_S256x2816_0_2816)) (ix2 r n)
      = ((upv h gp wgu (rowi t r) n : ℝ) : EReal) := by
  refine Eq.trans ?_ (blk3 A t r ⟨2816 + n.val, by omega⟩)
  show iblk m c 3 t _ = iblk m c 3 t _
  refine congrArg (iblk m c 3 t) (funext fun a => Fin.ext ?_)
  fin_cases a
  · show 0 + 1 * r.val = r.val
    omega
  · show 2816 + 1 * n.val = 2816 + n.val
    omega

/-- What the two stores leave. -/
theorem pcs_val (W : FVec Ideal S2816x1024 .bf16) (eW : W = liftA S2816x1024 .bf16 wd) (y : S256x5632.Idx) :
    View.canon (pcs m c t W) y = ((dguv dh h gp gq wgu wd (rowi t (y 0)) (y 1) : ℝ) : EReal) := by
  have ew : ∀ n k, W (ix2 n k) = ((wd (ix2 n k) : ℝ) : EReal) := fun n k => by rw [eW]; rfl
  refine View.canon_apply_of_pieces (fun y : S256x5632.Idx => ((dguv dh h gp gq wgu wd (rowi t (y 0)) (y 1) : ℝ) : EReal))
    (pcs m c t W) ?_ y (pcs_cover m c t W y)
  intro p hp x
  rcases List.mem_cons.mp hp with rfl | hp
  · obtain ⟨r, n, rfl⟩ : ∃ (r : Fin 256) (n : Fin 2816), x = ix2 r n := ⟨x 0, x 1, by ext a; fin_cases a <;> rfl⟩
    refine (pay17_real _ _ _ _ _ _ (dy_blk A t) ew (gate_ld A t) r n).trans ?_
    rw [← show _ = (∑ d, dyv dh h gp gq wgu wd (rowi t r) d * wd (ix2 n d)) * gatev h gp wgu (rowi t r) n
      * sg (gatev h gp wgu (rowi t r) n) from dguv_hi dh h gp gq wgu wd (rowi t r) n]
    refine congrArg (fun v : ℝ => (v : EReal)) (dguv_at ?_ ?_)
    · show t.val * 256 + r.val = t.val * 256 + (0 + 1 * r.val)
      omega
    · show 2816 + n.val = 2816 + 1 * n.val
      omega
  · rcases List.mem_singleton.mp hp with rfl
    obtain ⟨r, n, rfl⟩ : ∃ (r : Fin 256) (n : Fin 2816), x = ix2 r n := ⟨x 0, x 1, by ext a; fin_cases a <;> rfl⟩
    refine (pay16_real _ _ _ _ _ _ _ _ (dy_blk A t) ew (gate_ld A t) (up_ld A t) r n).trans ?_
    refine congrArg (fun v : ℝ => (v : EReal)) ((dguv_lo dh h gp gq wgu wd (rowi t r) n).symm.trans (dguv_at ?_ ?_))
    · show t.val * 256 + r.val = t.val * 256 + (0 + 1 * r.val)
      omega
    · show n.val = 0 + 1 * n.val
      omega

theorem out7 (r : Fin 256) (n : Fin 5632) :
    (outsAt0 m c t.val t.isLt).2.1 (ix2 r n) = ((dguv dh h gp gq wgu wd (rowi t r) n : ℝ) : EReal) := by
  by_cases h0 : t.val % 16 = 0
  · rw [outsAt0_A m c t h0 h0 h0]
    dsimp only
    frame_out
    exact pcs_val A t _ ((wd_first m c).trans A.a5) (ix2 r n)
  · rw [outsAt0_B m c t h0 h0 h0]
    dsimp only
    frame_out
    refine pcs_val A t _ ?_ (ix2 r n)
    rw [(scr m c _ _).2]
    exact (Memref.IsWhole.read_unread _ _).trans A.a5

/-- A block of 1408 columns of it. -/
theorem pcs_cols (W : FVec Ideal S2816x1024 .bf16) (eW : W = liftA S2816x1024 .bf16 wd)
    (v : View sig .tc .vmem S256x5632 .bf16) (o : ℕ) (ho : o + 1408 ≤ 5632) (inb : ∀ a, (![0, o] : Fin 2 → ℕ) a + (![256, 1408] : Fin 2 → ℕ) a ≤ S256x5632.size a)
    (r : Fin 256) (n : Fin 1408) :
    (show FVec Ideal S256x1408 .bf16 from v.readCov (Val := Elt Ideal) (pcs m c t W) (Rect.unit (s := S256x5632) ![0, o] ![256, 1408] inb).toLoadRect) (ix2 r n)
      = ((dguv dh h gp gq wgu wd (rowi t r) ⟨o + n.val, by omega⟩ : ℝ) : EReal) := by
  refine (congrFun (View.readCov_eq_canon_ld (Val := Elt Ideal) v (pcs m c t W) (Rect.unit (s := S256x5632) ![0, o] ![256, 1408] inb) (pcs_cover m c t W)) (ix2 r n)).trans ?_
  refine (pcs_val A t W eW _).trans (congrArg (fun v : ℝ => (v : EReal)) (dguv_at ?_ ?_))
  · show t.val * 256 + (0 + 1 * r.val) = t.val * 256 + r.val
    omega
  · show o + 1 * n.val = o + n.val
    omega

theorem du_blk (Q0 Q1 Q2 Q3 : FVec Ideal S256x1408 .bf16) (V0 V1 V2 V3 : FVec Ideal S1x1024x1408 .bf16)
    (a0 : ∀ r n, Q0 (ix2 r n) = ((dguv dh h gp gq wgu wd (rowi t r) ⟨0 + n.val, by omega⟩ : ℝ) : EReal))
    (a1 : ∀ r n, Q1 (ix2 r n) = ((dguv dh h gp gq wgu wd (rowi t r) ⟨1408 + n.val, by omega⟩ : ℝ) : EReal))
    (a2 : ∀ r n, Q2 (ix2 r n) = ((dguv dh h gp gq wgu wd (rowi t r) ⟨2816 + n.val, by omega⟩ : ℝ) : EReal))
    (a3 : ∀ r n, Q3 (ix2 r n) = ((dguv dh h gp gq wgu wd (rowi t r) ⟨4224 + n.val, by omega⟩ : ℝ) : EReal))
    (b0 : ∀ k n, V0 (ix3 0 k n) = ((wgu (ix3 0 k n) : ℝ) : EReal)) (b1 : ∀ k n, V1 (ix3 0 k n) = ((wgu (ix3 1 k n) : ℝ) : EReal))
    (b2 : ∀ k n, V2 (ix3 0 k n) = ((wgu (ix3 2 k n) : ℝ) : EReal)) (b3 : ∀ k n, V3 (ix3 0 k n) = ((wgu (ix3 3 k n) : ℝ) : EReal))
    (r : Fin 256) (k : Fin 1024) :
    k0_pay18 (F := Ideal) Q0 V0 Q1 V1 Q2 V2 Q3 V3 (ix2 r k) = ((duv dh h gp gq wgu wd (rowi t r) k : ℝ) : EReal) := by
  refine (pay18_real Q0 Q1 Q2 Q3 _ _ _ _ V0 V1 V2 V3 _ _ _ _ a0 a1 a2 a3 b0 b1 b2 b3 r k).trans ?_
  refine congrArg (fun v : ℝ => (v : EReal)) ?_
  rw [duv, sum_blocks]
  refine congr (congrArg _ (congr (congrArg _ (congr (congrArg _ ?_) ?_)) ?_)) ?_ <;>
    exact Finset.sum_congr rfl fun n _ => congrArg _ (wg_at wgu k _ n _ (by rfl)).symm

/-- A slab of the copied gate-and-up weight, read at a later point. -/
theorem wgu_later (X : FVec Ideal S4x1024x1408 .bf16) (hX : X = V m c main_arg4)
    (q : ℕ) (hq : q < 4) (inb : ∀ a, (![q, 0, 0] : Fin 3 → ℕ) a + (![1, 1024, 1408] : Fin 3 → ℕ) a ≤ S4x1024x1408.size a)
    (k : Fin 1024) (n : Fin 1408) :
    (show FVec Ideal S1x1024x1408 .bf16 from
      View.ld (Val := Elt Ideal) (e' := .bf16) X (Rect.unit (s := S4x1024x1408) ![q, 0, 0] ![1, 1024, 1408] inb)) (ix3 0 k n)
      = ((wgu (ix3 (⟨q, hq⟩ : Fin 4) k n) : ℝ) : EReal) := by
  subst hX
  refine (congrFun A.a4 _).trans (congrArg (fun v : ℝ => (v : EReal)) (congrArg wgu ?_))
  funext a
  refine Fin.ext ?_
  fin_cases a
  · show q + 1 * 0 = q
    omega
  · show 0 + 1 * k.val = k.val
    omega
  · show 0 + 1 * n.val = n.val
    omega

/-- The gradient of the normalised input, at a later point: both weights read from where they were copied to. -/
theorem du_eq (W : FVec Ideal S2816x1024 .bf16) (eW : W = V m c main_arg5) (X : FVec Ideal S4x1024x1408 .bf16) (eX : X = V m c main_arg4) :
    ∀ r k, k0_pay18 (F := Ideal)
      ((ms0_7 t).view.readCov (Val := Elt Ideal) (pcs m c t W) (Rect.unit (s := S256x5632) ![0, 0] ![256, 1408] inb_S256x5632_S256x1408_0_0).toLoadRect)
      (View.ld (Val := Elt Ideal) (e' := .bf16) X (Rect.unit (s := S4x1024x1408) ![0, 0, 0] ![1, 1024, 1408] inb_S4x1024x1408_S1x1024x1408_0_0_0))
      ((ms0_7 t).view.readCov (Val := Elt Ideal) (pcs m c t W) (Rect.unit (s := S256x5632) ![0, 1408] ![256, 1408] inb_S256x5632_S256x1408_0_1408).toLoadRect)
      (View.ld (Val := Elt Ideal) (e' := .bf16) X (Rect.unit (s := S4x1024x1408) ![1, 0, 0] ![1, 1024, 1408] inb_S4x1024x1408_S1x1024x1408_1_0_0))
      ((ms0_7 t).view.readCov (Val := Elt Ideal) (pcs m c t W) (Rect.unit (s := S256x5632) ![0, 2816] ![256, 1408] inb_S256x5632_S256x1408_0_2816).toLoadRect)
      (View.ld (Val := Elt Ideal) (e' := .bf16) X (Rect.unit (s := S4x1024x1408) ![2, 0, 0] ![1, 1024, 1408] inb_S4x1024x1408_S1x1024x1408_2_0_0))
      ((ms0_7 t).view.readCov (Val := Elt Ideal) (pcs m c t W) (Rect.unit (s := S256x5632) ![0, 4224] ![256, 1408] inb_S256x5632_S256x1408_0_4224).toLoadRect)
      (View.ld (Val := Elt Ideal) (e' := .bf16) X (Rect.unit (s := S4x1024x1408) ![3, 0, 0] ![1, 1024, 1408] inb_S4x1024x1408_S1x1024x1408_3_0_0))
      (ix2 r k) = ((duv dh h gp gq wgu wd (rowi t r) k : ℝ) : EReal) := by
  have eW' : W = liftA S2816x1024 .bf16 wd := eW.trans A.a5
  exact du_blk A t _ _ _ _ _ _ _ _
    (pcs_cols A t W eW' (ms0_7 t).view 0 (by omega) _) (pcs_cols A t W eW' (ms0_7 t).view 1408 (by omega) _)
    (pcs_cols A t W eW' (ms0_7 t).view 2816 (by omega) _) (pcs_cols A t W eW' (ms0_7 t).view 4224 (by omega) _)
    (wgu_later A X eX 0 (by omega) _) (wgu_later A X eX 1 (by omega) _) (wgu_later A X eX 2 (by omega) _) (wgu_later A X eX 3 (by omega) _)

/-- A slab of the copied gate-and-up weight, read at the point that copies it. -/
theorem wgu_first (q : ℕ) (hq : q < 4) (inb : ∀ a, (![q, 0, 0] : Fin 3 → ℕ) a + (![1, 1024, 1408] : Fin 3 → ℕ) a ≤ S4x1024x1408.size a)
    (k : Fin 1024) (n : Fin 1408) :
    (show FVec Ideal S1x1024x1408 .bf16 from (View.whole cc0_scratch0).readCov (Val := Elt Ideal)
      [⟨Rect.whole S4x1024x1408,
          ReadAs.same.apply (View.read (Elt Ideal) (View.whole main_arg4) (V m c main_arg4))⟩]
      (Rect.unit (s := S4x1024x1408) ![q, 0, 0] ![1, 1024, 1408] inb).toLoadRect) (ix3 0 k n)
      = ((wgu (ix3 (⟨q, hq⟩ : Fin 4) k n) : ℝ) : EReal) := by
  have e := whole_read m c (Rect.unit (s := S4x1024x1408) ![q, 0, 0] ![1, 1024, 1408] inb)
  have e2 := congrFun e (ix3 0 k n)
  have e3 := wgu_later A _ rfl q hq inb k n
  rw [← e3]
  exact e2

/-- The gradient of the normalised input, at the point that copies the weights. -/
theorem du_first (W : FVec Ideal S2816x1024 .bf16) (eW : W = V m c main_arg5) :
    ∀ r k, k0_pay18 (F := Ideal)
      ((ms0_7 t).view.readCov (Val := Elt Ideal) (pcs m c t W) (Rect.unit (s := S256x5632) ![0, 0] ![256, 1408] inb_S256x5632_S256x1408_0_0).toLoadRect)
      ((View.whole cc0_scratch0).readCov (Val := Elt Ideal)
        [⟨Rect.whole S4x1024x1408, ReadAs.same.apply (View.read (Elt Ideal) (View.whole main_arg4) (V m c main_arg4))⟩]
        (Rect.unit (s := S4x1024x1408) ![0, 0, 0] ![1, 1024, 1408] inb_S4x1024x1408_S1x1024x1408_0_0_0).toLoadRect)
      ((ms0_7 t).view.readCov (Val := Elt Ideal) (pcs m c t W) (Rect.unit (s := S256x5632) ![0, 1408] ![256, 1408] inb_S256x5632_S256x1408_0_1408).toLoadRect)
      ((View.whole cc0_scratch0).readCov (Val := Elt Ideal)
        [⟨Rect.whole S4x1024x1408, ReadAs.same.apply (View.read (Elt Ideal) (View.whole main_arg4) (V m c main_arg4))⟩]
        (Rect.unit (s := S4x1024x1408) ![1, 0, 0] ![1, 1024, 1408] inb_S4x1024x1408_S1x1024x1408_1_0_0).toLoadRect)
      ((ms0_7 t).view.readCov (Val := Elt Ideal) (pcs m c t W) (Rect.unit (s := S256x5632) ![0, 2816] ![256, 1408] inb_S256x5632_S256x1408_0_2816).toLoadRect)
      ((View.whole cc0_scratch0).readCov (Val := Elt Ideal)
        [⟨Rect.whole S4x1024x1408, ReadAs.same.apply (View.read (Elt Ideal) (View.whole main_arg4) (V m c main_arg4))⟩]
        (Rect.unit (s := S4x1024x1408) ![2, 0, 0] ![1, 1024, 1408] inb_S4x1024x1408_S1x1024x1408_2_0_0).toLoadRect)
      ((ms0_7 t).view.readCov (Val := Elt Ideal) (pcs m c t W) (Rect.unit (s := S256x5632) ![0, 4224] ![256, 1408] inb_S256x5632_S256x1408_0_4224).toLoadRect)
      ((View.whole cc0_scratch0).readCov (Val := Elt Ideal)
        [⟨Rect.whole S4x1024x1408, ReadAs.same.apply (View.read (Elt Ideal) (View.whole main_arg4) (V m c main_arg4))⟩]
        (Rect.unit (s := S4x1024x1408) ![3, 0, 0] ![1, 1024, 1408] inb_S4x1024x1408_S1x1024x1408_3_0_0).toLoadRect)
      (ix2 r k) = ((duv dh h gp gq wgu wd (rowi t r) k : ℝ) : EReal) := by
  have eW' : W = liftA S2816x1024 .bf16 wd := eW.trans A.a5
  exact du_blk A t _ _ _ _ _ _ _ _
    (pcs_cols A t W eW' (ms0_7 t).view 0 (by omega) _) (pcs_cols A t W eW' (ms0_7 t).view 1408 (by omega) _)
    (pcs_cols A t W eW' (ms0_7 t).view 2816 (by omega) _) (pcs_cols A t W eW' (ms0_7 t).view 4224 (by omega) _)
    (wgu_first A 0 (by omega) _) (wgu_first A 1 (by omega) _) (wgu_first A 2 (by omega) _) (wgu_first A 3 (by omega) _)

theorem out8 (r : Fin 256) (k : Fin 1024) :
    (outsAt0 m c t.val t.isLt).2.2.1 (ix2 r k) = ((dhv dh h gp gq wgu wd (rowi t r) k : ℝ) : EReal) := by
  by_cases h0 : t.val % 16 = 0
  · rw [outsAt0_A m c t h0 h0 h0]
    dsimp only
    frame_out
    exact pay4_real _ _ _ _ _ _ _ _ (blk0 A t) (blk2 A t) (du_first A t _ (wd_first m c)) (blk4 A t) r k
  · rw [outsAt0_B m c t h0 h0 h0]
    dsimp only
    frame_out
    simp only [read_unread_whole, (scr m c _ _).1, (scr m c _ _).2]
    exact pay4_real _ _ _ _ _ _ _ _ (blk0 A t) (blk2 A t) (du_eq A t _ rfl _ rfl) (blk4 A t) r k

variable (dh h gp gq wgu wd) in
omit A in
/-- What one block adds to the norms' weight gradients. -/
def part (z : Fin 8) (k : Fin 1024) : ℝ :=
  if z.val = 4 then ∑ r, duv dh h gp gq wgu wd (rowi t r) k * (row h (rowi t r) k * rr (row h (rowi t r)))
  else if z.val = 5 then ∑ r, row dh (rowi t r) k * (yv h gp wgu wd (rowi t r) k * rr (yv h gp wgu wd (rowi t r)))
  else 0

omit A in
theorem ld_row (P : FVec Ideal S8x1024 .f32) (o : ℕ) (ho : o < 8)
    (inb : ∀ a, (![o, 0] : Fin 2 → ℕ) a + (![1, 1024] : Fin 2 → ℕ) a ≤ S8x1024.size a) (k : Fin 1024) :
    (show FVec Ideal S1x1024 .f32 from View.ld (Val := Elt Ideal) (e' := .f32) P (Rect.unit (s := S8x1024) ![o, 0] ![1, 1024] inb)) (ix2 0 k)
      = P (ix2 (⟨o, ho⟩ : Fin 8) k) := by
  show P _ = P _
  refine congrArg P (funext fun a => Fin.ext ?_)
  fin_cases a
  · show o + 1 * 0 = o
    omega
  · show 0 + 1 * k.val = k.val
    omega

/-- A later point adds its part to what was there. -/
theorem add_later (P : FVec Ideal S8x1024 .f32) (p : Fin 8 → Fin 1024 → ℝ) (eP : ∀ z k, P (ix2 z k) = ((p z k : ℝ) : EReal))
    (du : FVec Ideal S256x1024 .f32) (edu : ∀ r k, du (ix2 r k) = ((duv dh h gp gq wgu wd (rowi t r) k : ℝ) : EReal))
    (b : Memref sig .tc .vmem S8x1024 .f32) (hb : b.IsWhole) (z : Fin 8) (k : Fin 1024) :
    View.read (Elt Ideal) b.view (b.view.writes (Elt Ideal) (hb.unread P)
        [⟨Rect.unit ![4, 0] ![1, 1024] inb_S8x1024_S1x1024_4_0,
            k0_pay3 (F := Ideal) du (iblk m c 2 t) (k0_pay19 (F := Ideal) (iblk m c 2 t)) (k0_pay20 (F := Ideal))
              (View.ld (Val := Elt Ideal) (e' := .f32) P (Rect.unit (s := S8x1024) ![4, 0] ![1, 1024] inb_S8x1024_S1x1024_4_0))⟩,
          ⟨Rect.unit ![5, 0] ![1, 1024] inb_S8x1024_S1x1024_5_0,
            k0_pay11 (F := Ideal) (k0_pay10 (F := Ideal) (iblk m c 0 t) (iblk m c 1 t))
              (View.ld (Val := Elt Ideal) (e' := .f32) P (Rect.unit (s := S8x1024) ![5, 0] ![1, 1024] inb_S8x1024_S1x1024_5_0))⟩])
      (ix2 z k) = ((p z k + part dh h gp gq wgu wd t z k : ℝ) : EReal) := by
  by_cases h4 : z.val = 4
  · obtain rfl : z = 4 := Fin.ext h4
    refine (View.read_writes_cons_unit_of_mem b.view _ _ _ _ _ (ix2 0 k) rfl ?_).trans ?_
    · intro a
      fin_cases a
      · rfl
      · show k.val = 0 + k.val
        omega
    refine (pay3_real _ _ _ _ _ (p 4) (blk2 A t) edu (fun k => ?_) 0 k).trans ?_
    · exact (ld_row P 4 (by omega) _ k).trans (eP 4 k)
    · rw [part, if_pos h4]
  · rw [View.read_writes_cons_unit_of_not_mem b.view _ _ _ _ _ rfl (0 : Fin 2) (by show z.val < 4 ∨ 4 + 1 ≤ z.val; omega)]
    by_cases h5 : z.val = 5
    · obtain rfl : z = 5 := Fin.ext h5
      refine (View.read_writes_cons_unit_of_mem b.view _ _ _ _ _ (ix2 0 k) rfl ?_).trans ?_
      · intro a
        fin_cases a
        · rfl
        · show k.val = 0 + k.val
          omega
      refine (pay11_real _ _ _ _ _ (p 5) (blk0 A t) (blk1 A t) (fun k => ?_) 0 k).trans ?_
      · exact (ld_row P 5 (by omega) _ k).trans (eP 5 k)
      · rw [part, if_neg h4, if_pos h5]
    · rw [View.read_writes_cons_unit_of_not_mem b.view _ _ _ _ _ rfl (0 : Fin 2) (by show z.val < 5 ∨ 5 + 1 ≤ z.val; omega)]
      refine (congrFun (hb.read_unread (Val := Elt Ideal) P) _).trans ?_
      rw [part, if_neg h4, if_neg h5, add_zero]
      exact eP z k

omit A in
theorem canon_zero (y : S8x1024.Idx) :
    View.canon (Val := Elt Ideal) (s := S8x1024) (e := .f32) [⟨Rect.unit (s := S8x1024) ![0, 0] ![8, 1024] inb_S8x1024_S8x1024_0_0, k0_pay5 (F := Ideal)⟩] y = (0 : EReal) := by
  refine (congrFun (View.canon_unit_zero (by ext a; fin_cases a <;> rfl) _ _) y).trans ?_
  rw [eq_ix2 y]
  pointwise [k0_pay5]

omit A in
/-- The fifth row of the zeros. -/
theorem zero_row5 (v : View sig .tc .vmem S8x1024 .f32) (k : Fin 1024) :
    (show FVec Ideal S1x1024 .f32 from v.readCov (Val := Elt Ideal)
      [⟨Rect.unit (s := S8x1024) ![0, 0] ![8, 1024] inb_S8x1024_S8x1024_0_0, k0_pay5 (F := Ideal)⟩]
      (Rect.unit (s := S8x1024) ![5, 0] ![1, 1024] inb_S8x1024_S1x1024_5_0).toLoadRect) (ix2 0 k) = ((0 : ℝ) : EReal) := by
  have e := View.readCov_eq_canon_ld (Val := Elt Ideal) v
    [⟨Rect.unit (s := S8x1024) ![0, 0] ![8, 1024] inb_S8x1024_S8x1024_0_0, k0_pay5 (F := Ideal)⟩]
    (Rect.unit (s := S8x1024) ![5, 0] ![1, 1024] inb_S8x1024_S1x1024_5_0)
    (fun y => ⟨_, List.mem_singleton_self _, View.mem_set_unit_zero (S := S8x1024) (off := ![0, 0]) (by ext a; fin_cases a <;> rfl) inb_S8x1024_S8x1024_0_0 y⟩)
  exact (congrFun e (ix2 0 k)).trans (canon_zero _)

omit A in
/-- The fourth row is still zero when the fifth has been stored. -/
theorem zero_row4 (v : View sig .tc .vmem S8x1024 .f32) (R : FVec Ideal S1x1024 .f32) (k : Fin 1024) :
    (show FVec Ideal S1x1024 .f32 from v.readCov (Val := Elt Ideal)
      [⟨Rect.unit (s := S8x1024) ![5, 0] ![1, 1024] inb_S8x1024_S1x1024_5_0, R⟩,
        ⟨Rect.unit (s := S8x1024) ![0, 0] ![8, 1024] inb_S8x1024_S8x1024_0_0, k0_pay5 (F := Ideal)⟩]
      (Rect.unit (s := S8x1024) ![4, 0] ![1, 1024] inb_S8x1024_S1x1024_4_0).toLoadRect) (ix2 0 k) = ((0 : ℝ) : EReal) := by
  have e := View.readCov_eq_canon_ld (Val := Elt Ideal) v
    [⟨Rect.unit (s := S8x1024) ![5, 0] ![1, 1024] inb_S8x1024_S1x1024_5_0, R⟩,
      ⟨Rect.unit (s := S8x1024) ![0, 0] ![8, 1024] inb_S8x1024_S8x1024_0_0, k0_pay5 (F := Ideal)⟩]
    (Rect.unit (s := S8x1024) ![4, 0] ![1, 1024] inb_S8x1024_S1x1024_4_0)
    (fun y => ⟨_, List.mem_cons_of_mem _ (List.mem_singleton_self _), View.mem_set_unit_zero (S := S8x1024) (off := ![0, 0]) (by ext a; fin_cases a <;> rfl) inb_S8x1024_S8x1024_0_0 y⟩)
  refine (congrFun e (ix2 0 k)).trans ((View.canon_cons_of_not_mem _ _ (fun hm => ?_)).trans (canon_zero _))
  have := (Rect.mem_set_unit (s := S8x1024) (off := ![5, 0]) (size := ![1, 1024]) (inb := inb_S8x1024_S1x1024_5_0)).mp hm 0
  exact absurd this.1 (by show ¬ 5 ≤ 4 + 1 * 0; omega)

/-- The first point stores its part over zeros. -/
theorem add_first (R4 R5 : FVec Ideal S1x1024 .f32) (e4 : ∀ k, R4 (ix2 0 k) = ((0 : ℝ) : EReal)) (e5 : ∀ k, R5 (ix2 0 k) = ((0 : ℝ) : EReal))
    (du : FVec Ideal S256x1024 .f32) (edu : ∀ r k, du (ix2 r k) = ((duv dh h gp gq wgu wd (rowi t r) k : ℝ) : EReal))
    (z : Fin 8) (k : Fin 1024) :
    View.canon (Val := Elt Ideal) (s := S8x1024) (e := .f32)
        [⟨Rect.unit (s := S8x1024) ![4, 0] ![1, 1024] inb_S8x1024_S1x1024_4_0,
            k0_pay3 (F := Ideal) du (iblk m c 2 t) (k0_pay19 (F := Ideal) (iblk m c 2 t)) (k0_pay20 (F := Ideal)) R4⟩,
          ⟨Rect.unit (s := S8x1024) ![5, 0] ![1, 1024] inb_S8x1024_S1x1024_5_0,
            k0_pay11 (F := Ideal) (k0_pay10 (F := Ideal) (iblk m c 0 t) (iblk m c 1 t)) R5⟩,
          ⟨Rect.unit (s := S8x1024) ![0, 0] ![8, 1024] inb_S8x1024_S8x1024_0_0, k0_pay5 (F := Ideal)⟩]
      (ix2 z k) = ((part dh h gp gq wgu wd t z k : ℝ) : EReal) := by
  by_cases h4 : z.val = 4
  · obtain rfl : z = 4 := Fin.ext h4
    have e : (Rect.unit (s := S8x1024) ![4, 0] ![1, 1024] inb_S8x1024_S1x1024_4_0).emb (ix2 0 k : S1x1024.Idx) = ix2 (4 : Fin 8) k := by
      funext a
      refine Fin.ext ?_
      fin_cases a
      · rfl
      · show 0 + 1 * k.val = k.val
        omega
    rw [← e, View.canon_cons_emb]
    refine (pay3_real _ _ _ _ _ (fun _ => 0) (blk2 A t) edu e4 0 k).trans ?_
    rw [part, if_pos h4, zero_add]
  · rw [View.canon_cons_of_not_mem _ _ (fun hm => h4 (by
      have := (Rect.mem_set_unit (s := S8x1024) (off := ![4, 0]) (size := ![1, 1024]) (inb := inb_S8x1024_S1x1024_4_0)).mp hm 0
      have h1 : 4 ≤ z.val := this.1
      have h2 : z.val < 4 + 1 := this.2
      omega))]
    by_cases h5 : z.val = 5
    · obtain rfl : z = 5 := Fin.ext h5
      have e : (Rect.unit (s := S8x1024) ![5, 0] ![1, 1024] inb_S8x1024_S1x1024_5_0).emb (ix2 0 k : S1x1024.Idx) = ix2 (5 : Fin 8) k := by
        funext a
        refine Fin.ext ?_
        fin_cases a
        · rfl
        · show 0 + 1 * k.val = k.val
          omega
      rw [← e, View.canon_cons_emb]
      refine (pay11_real _ _ _ _ _ (fun _ => 0) (blk0 A t) (blk1 A t) e5 0 k).trans ?_
      rw [part, if_neg h4, if_pos h5, zero_add]
    · rw [View.canon_cons_of_not_mem _ _ (fun hm => h5 (by
        have := (Rect.mem_set_unit (s := S8x1024) (off := ![5, 0]) (size := ![1, 1024]) (inb := inb_S8x1024_S1x1024_5_0)).mp hm 0
        have h1 : 5 ≤ z.val := this.1
        have h2 : z.val < 5 + 1 := this.2
        omega))]
      refine (canon_zero _).trans ?_
      rw [part, if_neg h4, if_neg h5]
      rfl

theorem out9_step (z : Fin 8) (k : Fin 1024) (h0 : ¬ t.val % 16 = 0) (p : Fin 8 → Fin 1024 → ℝ)
    (ep : ∀ z k, (outsAt0 m c (t.val - 1) (Nat.lt_of_le_of_lt (Nat.sub_le _ _) t.isLt)).2.2.2.1 (ix2 z k) = ((p z k : ℝ) : EReal)) :
    (outsAt0 m c t.val t.isLt).2.2.2.1 (ix2 z k) = ((p z k + part dh h gp gq wgu wd t z k : ℝ) : EReal) := by
  rw [outsAt0_B m c t h0 h0 h0]
  dsimp only
  frame_out
  simp only [read_unread_whole, (scr m c _ _).1, (scr m c _ _).2]
  exact add_later A t _ p ep _ (du_eq A t _ rfl _ rfl) (ms0_9 t) _ z k

theorem out9_first (z : Fin 8) (k : Fin 1024) (h0 : t.val % 16 = 0) :
    (outsAt0 m c t.val t.isLt).2.2.2.1 (ix2 z k) = ((part dh h gp gq wgu wd t z k : ℝ) : EReal) := by
  rw [outsAt0_A m c t h0 h0 h0]
  dsimp only
  frame_out
  refine add_first A t _ _ (fun k => ?_) (fun k => ?_) _ (du_first A t _ (wd_first m c)) z k
  · exact zero_row4 _ _ k
  · exact zero_row5 _ k

/-- What the points so far have added up. -/
theorem out9 (n : ℕ) (hn : n < cfg0.N) (z : Fin 8) (k : Fin 1024) :
    (outsAt0 m c n hn).2.2.2.1 (ix2 z k)
      = ((∑ s ∈ Finset.range (n + 1), (if hs : s < cfg0.N then part dh h gp gq wgu wd ⟨s, hs⟩ z k else 0) : ℝ) : EReal) := by
  induction n generalizing z k with
  | zero =>
    rw [Finset.sum_range_one, dif_pos hn]
    exact out9_first A ⟨0, hn⟩ z k rfl
  | succ n ih =>
    have hN := lt_of_lt_of_eq hn (show cfg0.N = 16 from N_0)
    rw [Finset.sum_range_succ, dif_pos hn]
    exact out9_step A ⟨n + 1, hn⟩ z k (by dsimp only; omega) _ (fun z k => ih _ z k)

omit A in
/-- Rows of all blocks are all rows. -/
theorem sum_rows (f : Fin 4096 → ℝ) : ∑ t : Fin cfg0.N, ∑ r : Fin 256, f (rowi t r) = ∑ i, f i := by
  rw [← Fintype.sum_prod_type' (f := fun (t : Fin cfg0.N) (r : Fin 256) => f (rowi t r))]
  exact Fintype.sum_equiv (finProdFinEquiv (m := 16) (n := 256)) _ _ fun p => congrArg f (Fin.ext (by
    show p.1.val * 256 + p.2.val = p.2.val + 256 * p.1.val
    omega))

theorem out9_last (z : Fin 8) (k : Fin 1024) :
    (outsAt0 m c 15 (by rw [show cfg0.N = 16 from N_0]; omega)).2.2.2.1 (ix2 z k) = ((packv dh h gp gq wgu wd z k : ℝ) : EReal) := by
  rw [out9 A]
  refine congrArg (fun v : ℝ => (v : EReal)) ?_
  have e : ∑ s ∈ Finset.range (15 + 1), (if hs : s < cfg0.N then part dh h gp gq wgu wd ⟨s, hs⟩ z k else 0)
      = ∑ t : Fin cfg0.N, part dh h gp gq wgu wd t z k := by
    rw [show 15 + 1 = cfg0.N from N_0.symm, Finset.sum_range]
    exact Finset.sum_congr rfl fun t _ => dif_pos t.isLt
  rw [e]
  unfold part packv
  split
  · exact sum_rows (fun i => duv dh h gp gq wgu wd i k * (row h i k * rr (row h i)))
  · split
    · exact sum_rows (fun i => row dh i k * (yv h gp wgu wd i k * rr (yv h gp wgu wd i)))
    · exact Finset.sum_const_zero

theorem fin6 : (dats m 0 c).arrAt 6 cfg0.N
    = (fun i => ((dyv dh h gp gq wgu wd (i 0) (i 1) : ℝ) : EReal) : FVec Ideal S4096x1024 .bf16) := by
  refine (dats m 0 c).arrAt_eq_of_covers 6 _ (by decide +kernel) fun t hf y => ?_
  blk_simp
  rw [after0_6]
  obtain ⟨r, k, rfl⟩ : ∃ (r : Fin 256) (k : Fin 1024), y = ix2 r k := ⟨y 0, y 1, by ext a; fin_cases a <;> rfl⟩
  refine (out6 A t r k).trans ?_
  have e0 : rowi t r = (win0_6.blk t).view.emb (ix2 r k) 0 := by
    refine Fin.ext ?_
    blk_simp [idx t]
    rfl
  have e1 : k = (win0_6.blk t).view.emb (ix2 r k) 1 := by
    refine Fin.ext ?_
    simp [idx t]
  exact congrArg₂ (fun i k => ((dyv dh h gp gq wgu wd i k : ℝ) : EReal)) e0 e1

theorem fin7 : (dats m 0 c).arrAt 7 cfg0.N
    = (fun i => ((dguv dh h gp gq wgu wd (i 0) (i 1) : ℝ) : EReal) : FVec Ideal S4096x5632 .bf16) := by
  refine (dats m 0 c).arrAt_eq_of_covers 7 _ (by decide +kernel) fun t hf y => ?_
  blk_simp
  rw [after0_7]
  obtain ⟨r, k, rfl⟩ : ∃ (r : Fin 256) (k : Fin 5632), y = ix2 r k := ⟨y 0, y 1, by ext a; fin_cases a <;> rfl⟩
  refine (out7 A t r k).trans ?_
  have e0 : rowi t r = (win0_7.blk t).view.emb (ix2 r k) 0 := by
    refine Fin.ext ?_
    blk_simp [idx t]
    rfl
  have e1 : k = (win0_7.blk t).view.emb (ix2 r k) 1 := by
    refine Fin.ext ?_
    simp [idx t]
  exact congrArg₂ (fun i k => ((dguv dh h gp gq wgu wd i k : ℝ) : EReal)) e0 e1

theorem fin8 : (dats m 0 c).arrAt 8 cfg0.N
    = (fun i => ((dhv dh h gp gq wgu wd (i 0) (i 1) : ℝ) : EReal) : FVec Ideal S4096x1024 .f32) := by
  refine (dats m 0 c).arrAt_eq_of_covers 8 _ (by decide +kernel) fun t hf y => ?_
  blk_simp
  rw [after0_8]
  obtain ⟨r, k, rfl⟩ : ∃ (r : Fin 256) (k : Fin 1024), y = ix2 r k := ⟨y 0, y 1, by ext a; fin_cases a <;> rfl⟩
  refine (out8 A t r k).trans ?_
  have e0 : rowi t r = (win0_8.blk t).view.emb (ix2 r k) 0 := by
    refine Fin.ext ?_
    blk_simp [idx t]
    rfl
  have e1 : k = (win0_8.blk t).view.emb (ix2 r k) 1 := by
    refine Fin.ext ?_
    simp [idx t]
  exact congrArg₂ (fun i k => ((dhv dh h gp gq wgu wd i k : ℝ) : EReal)) e0 e1

theorem fin9 : (dats m 0 c).arrAt 9 cfg0.N
    = (fun i => ((packv dh h gp gq wgu wd (i 0) (i 1) : ℝ) : EReal) : FVec Ideal S8x1024 .f32) := by
  refine (dats m 0 c).arrAt_eq_of_after_last 9 t0_15 (by decide +kernel) _ fun j => ?_
  obtain ⟨r, k, rfl⟩ : ∃ (r : Fin 8) (k : Fin 1024), j = ix2 r k := ⟨j 0, j 1, by ext a; fin_cases a <;> rfl⟩
  rw [after0_9]
  exact out9_last A r k

end Cert.Ffn
-- ==== Proof.FfnEnd.lean ====
module

public import proofs.«01_k».proof.Defs
public import proofs.«01_k».proof.Proof.FfnKer
public import proofs.«01_k».proof.Proof.Gen.Pre_finite
public import proofs.«01_k».proof.Proof.Gen.ReferenceIdeal.Run
public import Idealize.ShloMosaic.Lib.ReduceAll

@[expose] public section

set_option maxRecDepth 16384

noncomputable section

namespace Cert.Ffn

open Idealize.ShloMosaic Idealize.ShloMosaic.TcCoe Idealize.SL.Sem

/-- A number whose absolute value lies below infinity is not an infinity. -/
theorem finite_elt (x : EReal) (h : Ideal.cmp .olt (max x (-x)) (Ideal.ofBits .f32 0x7F800000#32) = 1#1) : x ≠ ⊤ ∧ x ≠ ⊥ := by
  rw [word_inf] at h
  constructor
  · rintro rfl
    revert h
    simp [Ideal.cmp]
  · rintro rfl
    revert h
    simp [Ideal.cmp]

instance : Subsingleton Cert.Pre_finite.S_.Idx := ⟨fun a b => funext fun k => k.elim0⟩

theorem finite_vec {s : Shape} {axes : List (Fin s.rank)} (x : FVec Ideal s .f32) (hb : Cert.Pre_finite.S_.BroadcastsInDim s (![] : Fin 0 → Fin s.rank))
    (hr : s.ReducesTo axes Cert.Pre_finite.S_) (hu : 0 < Cert.Pre_finite.S_.numel) (j : Cert.Pre_finite.S_.Idx)
    (h : Host.reduce IntOp.andi (cmpf (F := Ideal) .olt (Host.absf x) (broadcastInDim s ![] hb (constant Cert.Pre_finite.S_ .f32 0x7F800000#32)))
      (constantI Cert.Pre_finite.S_ 1 1#1) hr hu j = 1#1) (i : s.Idx) : (x i : EReal) ≠ ⊤ ∧ (x i : EReal) ≠ ⊥ :=
  finite_elt _ (Host.reduce_andi_all _ _ hr hu j h i)

open Cert.Pre_finite in
/-- What the precondition says of six arrays. -/
theorem finite_all (x0 x1 : FVec Ideal S4096x1024 .f32) (x2 x3 : FVec Ideal S1x1024 .f32) (x4 : FVec Ideal S4x1024x1408 .bf16)
    (x5 : FVec Ideal S2816x1024 .bf16) (h : Cert.Pre_finite.fn (F := Ideal) x0 x1 x2 x3 x4 x5 = fun _ => 1#1) :
    (∀ i, (x0 i : EReal) ≠ ⊤ ∧ (x0 i : EReal) ≠ ⊥) ∧ (∀ i, (x1 i : EReal) ≠ ⊤ ∧ (x1 i : EReal) ≠ ⊥)
      ∧ (∀ i, (x2 i : EReal) ≠ ⊤ ∧ (x2 i : EReal) ≠ ⊥) ∧ (∀ i, (x3 i : EReal) ≠ ⊤ ∧ (x3 i : EReal) ≠ ⊥)
      ∧ (∀ i, (x4 i : EReal) ≠ ⊤ ∧ (x4 i : EReal) ≠ ⊥) ∧ (∀ i, (x5 i : EReal) ≠ ⊤ ∧ (x5 i : EReal) ≠ ⊥) := by
  have h0 := congrFun h (fun k => k.elim0)
  unfold Cert.Pre_finite.fn Cert.Pre_finite.fn_part1 at h0
  replace ⟨h0, e5⟩ := IntOp.andi_eq_one.1 h0
  replace ⟨h0, e4⟩ := IntOp.andi_eq_one.1 h0
  replace ⟨h0, e3⟩ := IntOp.andi_eq_one.1 h0
  replace ⟨h0, e2⟩ := IntOp.andi_eq_one.1 h0
  have ⟨e0, e1⟩ := IntOp.andi_eq_one.1 h0
  clear h h0
  beta_reduce at e0 e1 e2 e3 e4 e5
  have f4 := finite_vec _ _ _ _ _ e4
  have f5 := finite_vec _ _ _ _ _ e5
  exact ⟨finite_vec _ _ _ _ _ e0, finite_vec _ _ _ _ _ e1, finite_vec _ _ _ _ _ e2, finite_vec _ _ _ _ _ e3, f4, f5⟩

open Cert.KernelIdeal in
/-- The precondition gives the kernel's arguments as arrays of real numbers. -/
theorem args_of_pre (m : (ℓ : Loc nD τ sig) → Buf (Elt Ideal) ℓ) (h : Cert.Pre_KernelIdeal_finite m) (c : Dev nD) :
    ∃ dh h gp gq wgu wd, Args m c dh h gp gq wgu wd := by
  obtain ⟨h0, h1, h2, h3, h4, h5⟩ := finite_all _ _ _ _ _ _ (h c)
  obtain ⟨f0, e0⟩ := exists_lift S4096x1024 .f32 _ h0
  obtain ⟨f1, e1⟩ := exists_lift S4096x1024 .f32 _ h1
  obtain ⟨f2, e2⟩ := exists_lift S1x1024 .f32 _ h2
  obtain ⟨f3, e3⟩ := exists_lift S1x1024 .f32 _ h3
  obtain ⟨f4, e4⟩ := exists_lift S4x1024x1408 .bf16 _ h4
  obtain ⟨f5, e5⟩ := exists_lift S2816x1024 .bf16 _ h5
  exact ⟨f0, f1, f2, f3, f4, f5, ⟨e0, e1, e2, e3, e4, e5⟩⟩

theorem idx2 {a b : ℕ} (i : Shape.Idx ⟨2, ![a, b]⟩) : i = ix2 (n0 := a) (n1 := b) (i 0) (i 1) := by
  funext k; fin_cases k <;> rfl

open Cert.ReferenceIdeal.Read in
/-- The reference's four results are the kernel's. -/
theorem value : Cert.algebraic_KernelIdeal_ReferenceIdeal_pre_finite := by
  intro m g m' g' hpre hargs
  refine ⟨_, _, _, _, (θ_run _ _ _).mono (fun r h c => h c) (Cert.KernelIdeal.Value.run_blocks m g),
    (θ_run _ _ _).mono (fun r h c => ?_) (Cert.ReferenceIdeal.Value.run m' g')⟩
  obtain ⟨dh, hh, gp, gq, wgu, wd, A⟩ := args_of_pre m hpre c
  obtain ⟨a0, a1, a2, a3, a4, a5⟩ := hargs c
  obtain ⟨r0, r1, r2, r3, k⟩ := h c
  have b0 : StableHlo.launchContents m' c (Proc.devRef .tc Cert.ReferenceIdeal.main_arg0) = _ := a0.trans A.a0
  have b1 : StableHlo.launchContents m' c (Proc.devRef .tc Cert.ReferenceIdeal.main_arg1) = _ := a1.trans A.a1
  have b2 : StableHlo.launchContents m' c (Proc.devRef .tc Cert.ReferenceIdeal.main_arg2) = _ := a2.trans A.a2
  have b3 : StableHlo.launchContents m' c (Proc.devRef .tc Cert.ReferenceIdeal.main_arg3) = _ := a3.trans A.a3
  have b4 : StableHlo.launchContents m' c (Proc.devRef .tc Cert.ReferenceIdeal.main_arg4) = _ := a4.trans A.a4
  have b5 : StableHlo.launchContents m' c (Proc.devRef .tc Cert.ReferenceIdeal.main_arg5) = _ := a5.trans A.a5
  refine ⟨r0.trans ?_, r1.trans ?_, r2.trans ?_, r3.trans ?_, k⟩ <;> clear h r0 r1 r2 r3 k hargs
  · refine Eq.trans ?_ (fin6 A).symm
    refine (val_main_v94_eq _).trans ?_
    rw [b0, b1, b2, b3, b4, b5]
    funext i
    rw [idx2 i]
    exact ref_dy ..
  · refine Eq.trans ?_ (fin7 A).symm
    refine (val_main_v95_eq _).trans ?_
    rw [b0, b1, b2, b3, b4, b5]
    funext i
    rw [idx2 i]
    exact ref_dgu ..
  · refine Eq.trans ?_ (fin8 A).symm
    refine (val_main_v90_eq _).trans ?_
    rw [b0, b1, b2, b3, b4, b5]
    funext i
    rw [idx2 i]
    exact ref_dh ..
  · refine Eq.trans ?_ (fin9 A).symm
    refine (val_main_v93_eq _).trans ?_
    rw [b0, b1, b2, b3, b4, b5]
    funext i
    rw [idx2 i]
    exact ref_pack ..

end Cert.Ffn

end
-- ==== Proof.FwdRef.lean ====
/- The feed-forward block's forward pass over the extended reals: the functions both programs compute, and the
   reference's stages read as them. Nothing here needs the arguments to be finite. -/
module

public import proofs.«01_k».proof.Proof.Gen.Reference3Ideal.Read
public import Idealize.ShloMosaic.Lib.Pointwise

@[expose] public section

set_option maxRecDepth 16384

noncomputable section

namespace Cert.Fwd

open Idealize.ShloMosaic Idealize.ShloMosaic.TcCoe Idealize.SL.Sem

/-- The reciprocal root mean square of a row. -/
def rr (x : Fin 1024 → EReal) : EReal :=
  Ideal.rsqrt (Ideal.div (∑ k, x k * x k) (Ideal.ofBits .f32 0x44800000#32) + Ideal.ofBits .f32 0x358637BD#32)

/-- A row normalised and weighted. -/
def nrm (x g : Fin 1024 → EReal) (k : Fin 1024) : EReal := x k * rr x * g k

/-- The gate and up columns of a row, the weight in four column blocks. -/
def gu (x g : Fin 1024 → EReal) (w : Fin 4 → Fin 1024 → Fin 1408 → EReal) (n : Fin 5632) : EReal :=
  ∑ k, nrm x g k * w ⟨n.val / 1408, by omega⟩ k ⟨n.val % 1408, Nat.mod_lt _ (by norm_num)⟩

/-- The gated activation of a gate and an up value. -/
def gat (a b : EReal) : EReal := a * Ideal.div 1 (1 + Ideal.exp (-a)) * b

/-- The gated activation of a row. -/
def act (x g : Fin 1024 → EReal) (w : Fin 4 → Fin 1024 → Fin 1408 → EReal) (n : Fin 2816) : EReal :=
  gat (gu x g w ⟨n.val, by omega⟩) (gu x g w ⟨2816 + n.val, by omega⟩)

/-- The block's output before its norm. -/
def y (x g : Fin 1024 → EReal) (w : Fin 4 → Fin 1024 → Fin 1408 → EReal) (wd : Fin 2816 → Fin 1024 → EReal) (d : Fin 1024) : EReal :=
  ∑ n, act x g w n * wd n d

/-- The block's output added to its input. -/
def out (x g q : Fin 1024 → EReal) (w : Fin 4 → Fin 1024 → Fin 1408 → EReal) (wd : Fin 2816 → Fin 1024 → EReal) (d : Fin 1024) : EReal :=
  x d + nrm (y x g w wd) q d

section
open Cert.Reference3Ideal Cert.Reference3Ideal.Gen Cert.Reference3Ideal.Read

variable (X : FVec Ideal S4096x1024 .f32) (G Q : FVec Ideal S1x1024 .f32) (W : FVec Ideal S4x1024x1408 .bf16) (D : FVec Ideal S2816x1024 .bf16)

/-- Row `i` of the input. -/
def rowX (i : Fin 4096) (k : Fin 1024) : EReal := X (ix2 i k)

/-- The row of a norm's weight. -/
def rowG (k : Fin 1024) : EReal := G (ix2 0 k)

/-- The gate-and-up weight by block, row and column. -/
def wW (q : Fin 4) (k : Fin 1024) (n : Fin 1408) : EReal := W (ix3 q k n)

/-- The down weight by row and column. -/
def wD (n : Fin 2816) (k : Fin 1024) : EReal := D (ix2 n k)

theorem ref_rr (i : Fin 4096) (z : Fin 1) : val_main_v10 (F := Ideal) X (ix2 i z) = rr (rowX X i) := by
  pointwise [val_main_v10, val_main_v9, val_main_v8, val_main_v7, val_main_v6, val_main_v5, val_main_v4, val_main_v3,
    val_main_cst, val_main_cst_0, val_main_cst_1]
  rfl

theorem ref_u (i : Fin 4096) (k : Fin 1024) : val_main_v14 (F := Ideal) X G (ix2 i k) = nrm (rowX X i) (rowG G) k := by
  pointwise [val_main_v14, val_main_v13, val_main_v12, val_main_v11]
  simp only [ref_rr]
  rfl

theorem ref_wg (k : Fin 1024) (n : Fin 5632) : val_main_v2 (F := Ideal) W (ix2 k n)
    = wW W ⟨n.val / 1408, by omega⟩ k ⟨n.val % 1408, Nat.mod_lt _ (by norm_num)⟩ := by
  pointwise [val_main_v2, val_main_v1, val_main_v0]
  rfl

theorem ref_gu (i : Fin 4096) (n : Fin 5632) : val_main_v15 (F := Ideal) X G W (ix2 i n) = gu (rowX X i) (rowG G) (wW W) n := by
  pointwise [val_main_v15]
  simp only [ref_u, ref_wg, zero_add]
  rfl

theorem ref_gate (i : Fin 4096) (n : Fin 2816) :
    val_main_v16 (F := Ideal) X G W (ix2 i n) = gu (rowX X i) (rowG G) (wW W) ⟨n.val, by omega⟩ := by
  pointwise [val_main_v16]
  simp only [ref_gu]

theorem ref_up (i : Fin 4096) (n : Fin 2816) :
    val_main_v17 (F := Ideal) X G W (ix2 i n) = gu (rowX X i) (rowG G) (wW W) ⟨2816 + n.val, by omega⟩ := by
  pointwise [val_main_v17]
  simp only [ref_gu]

theorem ref_act (i : Fin 4096) (n : Fin 2816) :
    val_main_v19 (F := Ideal) X G W (ix2 i n) = act (rowX X i) (rowG G) (wW W) n := by
  pointwise [val_main_v19, val_main_v18, val_main_call0_v5, val_main_call0_v4, val_main_call0_v3, val_main_call0_v2,
    val_main_call0_v1, val_main_call0_v0, val_main_call0_cst, val_main_call0_cst_0]
  simp only [ref_gate, ref_up]
  rfl

theorem ref_y (i : Fin 4096) (d : Fin 1024) :
    val_main_v21 (F := Ideal) X G W D (ix2 i d) = y (rowX X i) (rowG G) (wW W) (wD D) d := by
  pointwise [val_main_v21, val_main_v20]
  simp only [ref_act, zero_add]
  rfl

theorem ref_yrr (i : Fin 4096) (z : Fin 1) :
    val_main_v32 (F := Ideal) X G W D (ix2 i z) = rr (y (rowX X i) (rowG G) (wW W) (wD D)) := by
  pointwise [val_main_v32, val_main_v31, val_main_v30, val_main_v29, val_main_v28, val_main_v27, val_main_v26, val_main_v25,
    val_main_cst_2, val_main_cst_3, val_main_cst_4]
  simp only [ref_y, zero_add]
  rfl

theorem ref_out (i : Fin 4096) (d : Fin 1024) :
    val_main_v37 (F := Ideal) X G Q W D (ix2 i d) = out (rowX X i) (rowG G) (rowG Q) (wW W) (wD D) d := by
  pointwise [val_main_v37, val_main_v36, val_main_v35, val_main_v34, val_main_v33]
  simp only [ref_y, ref_yrr]
  rfl

theorem ref_u16 (i : Fin 4096) (k : Fin 1024) : val_main_v22 (F := Ideal) X G (ix2 i k) = nrm (rowX X i) (rowG G) k := by
  pointwise [val_main_v22]
  exact ref_u ..

theorem ref_gu16 (i : Fin 4096) (n : Fin 5632) : val_main_v23 (F := Ideal) X G W (ix2 i n) = gu (rowX X i) (rowG G) (wW W) n := by
  pointwise [val_main_v23]
  exact ref_gu ..

theorem ref_act16 (i : Fin 4096) (n : Fin 2816) : val_main_v24 (F := Ideal) X G W (ix2 i n) = act (rowX X i) (rowG G) (wW W) n := by
  pointwise [val_main_v24]
  exact ref_act ..

end

end Cert.Fwd
-- ==== Proof.FwdPay.lean ====
/- What the forward body computes on one block of 256 rows: each stored vector read as the functions of the rows. -/
module

public import proofs.«01_k».proof.Proof.Gen.Kernel3Ideal.Skeleton
public import proofs.«01_k».proof.Proof.FwdRef
public import Idealize.ShloMosaic.Lib.Pointwise

@[expose] public section

set_option maxRecDepth 16384

noncomputable section

namespace Cert.Fwd

open Idealize.ShloMosaic Idealize.ShloMosaic.TcCoe Idealize.SL.Sem
open Cert.Kernel3Ideal Cert.Kernel3Ideal.Gen

variable (X : FVec Ideal S256x1024 .f32) (G Q : FVec Ideal S1x1024 .f32) (x : Fin 256 → Fin 1024 → EReal) (g q : Fin 1024 → EReal)
variable (ex : ∀ r k, X (ix2 r k) = x r k) (eg : ∀ k, G (ix2 0 k) = g k) (eq : ∀ k, Q (ix2 0 k) = q k)

include ex eg in
theorem pay3_at (r : Fin 256) (k : Fin 1024) : k0_pay3 (F := Ideal) X G (ix2 r k) = nrm (x r) g k := by
  pointwise [k0_pay3]
  simp only [ex, eg]
  rfl

variable (U : FVec Ideal S256x1024 .bf16) (B : FVec Ideal S1x1024x1408 .bf16) (u : Fin 256 → Fin 1024 → EReal) (b : Fin 1024 → Fin 1408 → EReal)
variable (eu : ∀ r k, U (ix2 r k) = u r k) (eb : ∀ k n, B (ix3 0 k n) = b k n)

include eu eb in
theorem pay7_at (r : Fin 256) (n : Fin 1408) : k0_pay7 (F := Ideal) U B (ix2 r n) = ∑ k, u r k * b k n := by
  pointwise [k0_pay7]
  simp only [eu, eb, zero_add]

theorem pay8_eq : k0_pay8 (F := Ideal) U B = k0_pay7 (F := Ideal) U B := rfl
theorem pay4_eq : k0_pay4 (F := Ideal) X G B = k0_pay7 (F := Ideal) (k0_pay3 (F := Ideal) X G) B := rfl
theorem pay6_eq : k0_pay6 (F := Ideal) (k0_pay5 (F := Ideal) X G B) = k0_pay7 (F := Ideal) (k0_pay3 (F := Ideal) X G) B := rfl

theorem pay9_at (C : FVec Ideal S256x5632 .f32) (r : Fin 256) (n : Fin 5632) :
    k0_pay9 (F := Ideal) C (ix2 r n) = C (ix2 r n) := rfl

theorem pay10_at (A C : FVec Ideal S256x2816 .f32) (r : Fin 256) (n : Fin 2816) :
    k0_pay10 (F := Ideal) A C (ix2 r n) = gat (A (ix2 r n)) (C (ix2 r n)) := by
  pointwise [k0_pay10]
  simp only [zero_sub]
  rfl

variable (E : FVec Ideal S256x2816 .bf16) (D : FVec Ideal S2816x1024 .bf16) (e : Fin 256 → Fin 2816 → EReal) (d : Fin 2816 → Fin 1024 → EReal)
variable (ee : ∀ r n, E (ix2 r n) = e r n) (ed : ∀ n k, D (ix2 n k) = d n k)

include ee ed in
theorem pay1_at (r : Fin 256) (k : Fin 1024) : k0_pay1 (F := Ideal) E D (ix2 r k) = ∑ n, e r n * d n k := by
  pointwise [k0_pay1]
  simp only [ee, ed, zero_add]

include ex ee ed eq in
theorem pay2_at (r : Fin 256) (k : Fin 1024) :
    k0_pay2 (F := Ideal) X E D Q (ix2 r k) = x r k + nrm (fun k => ∑ n, e r n * d n k) q k := by
  pointwise [k0_pay2]
  simp only [pay1_at E D e d ee ed, ex, eq]
  rfl

end Cert.Fwd
-- ==== Proof.FwdKer.lean ====
/- The forward kernel's five results, block by block. -/
module

public import proofs.«01_k».proof.Proof.Gen.Kernel3Ideal.Value
public import proofs.«01_k».proof.Proof.FwdPay
public import Idealize.ShloMosaic.Lib.Pipeline.ValueKit
public import Idealize.ShloMosaic.Lib.Claim
public import Idealize.ShloMosaic.Lib.Pipeline.ReadBack
public import Idealize.ShloMosaic.Lib.WritesUnit

@[expose] public section

set_option maxRecDepth 16384

noncomputable section

namespace Cert.Fwd

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ) (c : Dev nD)

theorem scr (n : ℕ) (hn : n < cfg0.N) : (outsAt0 m c n hn).2.2.2.2.2.1 = V m c main_arg3 ∧ (outsAt0 m c n hn).2.2.2.2.2.2 = V m c main_arg4 := by
  induction n with
  | zero =>
    rw [outsAt0_A m c ⟨0, hn⟩ rfl rfl]
    dsimp only
    frame_out
    exact ⟨View.canon_unit_zero rfl _ _, View.canon_unit_zero rfl _ _⟩
  | succ n ih =>
    have hN := lt_of_lt_of_eq hn (show cfg0.N = 16 from N_0)
    rw [outsAt0_B m c ⟨n + 1, hn⟩ (by dsimp only; omega) (by dsimp only; omega)]
    dsimp only
    unfold sout0_B_0 sout0_B_1
    exact ih _

/-- The block index of every window at a grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0])

/-- The copied down weight, read at the point that copies it. -/
theorem wd_first :
    ((View.whole cc0_scratch1).readCov (Val := Elt Ideal)
      [⟨Rect.whole S2816x1024,
          ReadAs.same.apply (View.read (Elt Ideal) (View.whole main_arg4) (V m c main_arg4))⟩]
      (Rect.unit ![0, 0] ![2816, 1024] inb_S2816x1024_S2816x1024_0_0).toLoadRect) = V m c main_arg4 := by
  rw [View.readCov_eq_canon_ld _ _ _ (fun y => ⟨_, List.mem_singleton_self _, by
    show y ∈ (Rect.whole S2816x1024).set; rw [Rect.set_whole]; exact Finset.mem_univ y⟩)]
  refine (View.ld_unit_zero (by ext a; fin_cases a <;> rfl) _ _).trans ?_
  exact View.canon_unit_zero rfl _ _

/-- The copied gate-and-up weight, read at the point that copies it. -/
theorem whole_read (r : Rect S4x1024x1408) :
    (View.whole cc0_scratch0).readCov (Val := Elt Ideal)
      [⟨Rect.whole S4x1024x1408,
          ReadAs.same.apply (View.read (Elt Ideal) (View.whole main_arg3) (V m c main_arg3))⟩] r.toLoadRect
      = View.ld (Val := Elt Ideal) (e' := .bf16) (V m c main_arg3) r := by
  rw [View.readCov_eq_canon_ld _ _ _ (fun y => ⟨_, List.mem_singleton_self _, by
    show y ∈ (Rect.whole S4x1024x1408).set; rw [Rect.set_whole]; exact Finset.mem_univ y⟩)]
  have e : View.canon (Val := Elt Ideal) [⟨Rect.whole S4x1024x1408,
      ReadAs.same.apply (View.read (Elt Ideal) (View.whole main_arg3) (V m c main_arg3))⟩] = V m c main_arg3 :=
    View.canon_unit_zero rfl _ _
  rw [e]
  rfl

/-- Row `r` of block `t`. -/
def rowi (t : Fin cfg0.N) (r : Fin 256) : Fin 4096 :=
  ⟨t.val * 256 + r.val, by have h := lt_of_lt_of_eq t.isLt (show cfg0.N = 16 from N_0); omega⟩

/-- The rows of the input. -/
abbrev xs (i : Fin 4096) : Fin 1024 → EReal := rowX (m ((c : Thread nD τ).loc main_arg0)) i

/-- The first norm's weight. -/
abbrev gs : Fin 1024 → EReal := rowG (m ((c : Thread nD τ).loc main_arg1))

/-- The second norm's weight. -/
abbrev qs : Fin 1024 → EReal := rowG (m ((c : Thread nD τ).loc main_arg2))

/-- The gate-and-up weight. -/
abbrev ws : Fin 4 → Fin 1024 → Fin 1408 → EReal := wW (m ((c : Thread nD τ).loc main_arg3))

/-- The down weight. -/
abbrev ds : Fin 2816 → Fin 1024 → EReal := wD (m ((c : Thread nD τ).loc main_arg4))

variable (t : Fin cfg0.N)

theorem blk0 (r : Fin 256) (k : Fin 1024) :
    (show FVec Ideal S256x1024 .f32 from iblk m c 0 t) (ix2 r k) = xs m c (rowi t r) k := by
  show _ = m ((c : Thread nD τ).loc main_arg0) (ix2 (rowi t r) k)
  blk_point [iblk, V, idx t]
  all_goals rfl

theorem blk1 (k : Fin 1024) : (show FVec Ideal S1x1024 .f32 from iblk m c 1 t) (ix2 0 k) = gs m c k := by
  show _ = m ((c : Thread nD τ).loc main_arg1) (ix2 0 k)
  blk_point [iblk, V, idx t]
  all_goals rfl

theorem blk2 (k : Fin 1024) : (show FVec Ideal S1x1024 .f32 from iblk m c 2 t) (ix2 0 k) = qs m c k := by
  show _ = m ((c : Thread nD τ).loc main_arg2) (ix2 0 k)
  blk_point [iblk, V, idx t]
  all_goals rfl

/-- A slab of the gate-and-up weight. -/
theorem slab (q : ℕ) (hq : q < 4) (inb : ∀ a, (![q, 0, 0] : Fin 3 → ℕ) a + (![1, 1024, 1408] : Fin 3 → ℕ) a ≤ S4x1024x1408.size a)
    (k : Fin 1024) (n : Fin 1408) :
    (show FVec Ideal S1x1024x1408 .bf16 from
      View.ld (Val := Elt Ideal) (e' := .bf16) (V m c main_arg3) (Rect.unit (s := S4x1024x1408) ![q, 0, 0] ![1, 1024, 1408] inb)) (ix3 0 k n)
      = ws m c ⟨q, hq⟩ k n := by
  show V m c main_arg3 _ = m ((c : Thread nD τ).loc main_arg3) _
  refine congrArg (m ((c : Thread nD τ).loc main_arg3)) (funext fun a => Fin.ext ?_)
  fin_cases a
  · show q + 1 * 0 = q
    omega
  · show 0 + 1 * k.val = k.val
    omega
  · show 0 + 1 * n.val = n.val
    omega

/-- The normalised rows of the block. -/
abbrev ub : FVec Ideal S256x1024 .bf16 := k0_pay3 (F := Ideal) (iblk m c 0 t) (iblk m c 1 t)

theorem ub_at (r : Fin 256) (k : Fin 1024) : ub m c t (ix2 r k) = nrm (xs m c (rowi t r)) (gs m c) k :=
  pay3_at _ _ _ _ (blk0 m c t) (blk1 m c t) r k

/-- A slab of the copied gate-and-up weight, read at the point that copies it. -/
theorem slab_first (q : ℕ) (hq : q < 4) (inb : ∀ a, (![q, 0, 0] : Fin 3 → ℕ) a + (![1, 1024, 1408] : Fin 3 → ℕ) a ≤ S4x1024x1408.size a)
    (k : Fin 1024) (n : Fin 1408) :
    (show FVec Ideal S1x1024x1408 .bf16 from (View.whole cc0_scratch0).readCov (Val := Elt Ideal)
      [⟨Rect.whole S4x1024x1408,
          ReadAs.same.apply (View.read (Elt Ideal) (View.whole main_arg3) (V m c main_arg3))⟩]
      (Rect.unit (s := S4x1024x1408) ![q, 0, 0] ![1, 1024, 1408] inb).toLoadRect) (ix3 0 k n) = ws m c ⟨q, hq⟩ k n :=
  (congrFun (whole_read m c (Rect.unit (s := S4x1024x1408) ![q, 0, 0] ![1, 1024, 1408] inb)) (ix3 0 k n)).trans (slab m c q hq inb k n)

variable (L0 L1 L2 L3 : FVec Ideal S1x1024x1408 .bf16)

/-- The four stores of the gate and up columns, from the weight's four slabs. -/
def pcs : List (View.Piece (Elt Ideal) S256x5632 .f32) :=
  [⟨Rect.unit ![0, 4224] ![256, 1408] inb_S256x5632_S256x1408_0_4224, k0_pay8 (F := Ideal) (ub m c t) L3⟩,
    ⟨Rect.unit ![0, 2816] ![256, 1408] inb_S256x5632_S256x1408_0_2816, k0_pay7 (F := Ideal) (ub m c t) L2⟩,
    ⟨Rect.unit ![0, 1408] ![256, 1408] inb_S256x5632_S256x1408_0_1408, k0_pay6 (F := Ideal) (k0_pay5 (F := Ideal) (iblk m c 0 t) (iblk m c 1 t) L1)⟩,
    ⟨Rect.unit ![0, 0] ![256, 1408] inb_S256x5632_S256x1408_0_0, k0_pay4 (F := Ideal) (iblk m c 0 t) (iblk m c 1 t) L0⟩]

/-- What the four slabs hold. -/
structure Slabs : Prop where
  l0 : ∀ k n, L0 (ix3 0 k n) = ws m c 0 k n
  l1 : ∀ k n, L1 (ix3 0 k n) = ws m c 1 k n
  l2 : ∀ k n, L2 (ix3 0 k n) = ws m c 2 k n
  l3 : ∀ k n, L3 (ix3 0 k n) = ws m c 3 k n

theorem mem_cols (o : ℕ) (inb : ∀ a, (![0, o] : Fin 2 → ℕ) a + (![256, 1408] : Fin 2 → ℕ) a ≤ S256x5632.size a) (y : S256x5632.Idx)
    (h0 : o ≤ (y 1).val) (h1 : (y 1).val < o + 1408) :
    y ∈ (Rect.unit (s := S256x5632) ![0, o] ![256, 1408] inb).set := by
  have h2 : (y 0).val < 256 := (y 0).isLt
  refine (Rect.mem_set_unit (s := S256x5632) (off := ![0, o]) (size := ![256, 1408]) (inb := inb)).mpr fun a => ?_
  fin_cases a
  · exact ⟨Nat.zero_le _, by show (y 0).val < 0 + 256; omega⟩
  · exact ⟨h0, h1⟩

theorem pcs_cover (y : S256x5632.Idx) : ∃ p ∈ pcs m c t L0 L1 L2 L3, y ∈ p.1.set := by
  have h1 : (y 1).val < 5632 := (y 1).isLt
  by_cases a : (y 1).val < 1408
  · exact ⟨_, List.mem_cons_of_mem _ (List.mem_cons_of_mem _ (List.mem_cons_of_mem _ List.mem_cons_self)), mem_cols 0 inb_S256x5632_S256x1408_0_0 y (by omega) (by omega)⟩
  by_cases b : (y 1).val < 2816
  · exact ⟨_, List.mem_cons_of_mem _ (List.mem_cons_of_mem _ List.mem_cons_self), mem_cols 1408 inb_S256x5632_S256x1408_0_1408 y (by omega) (by omega)⟩
  by_cases d : (y 1).val < 4224
  · exact ⟨_, List.mem_cons_of_mem _ List.mem_cons_self, mem_cols 2816 inb_S256x5632_S256x1408_0_2816 y (by omega) (by omega)⟩
  · exact ⟨_, List.mem_cons_self, mem_cols 4224 inb_S256x5632_S256x1408_0_4224 y (by omega) (by omega)⟩

/-- One of the four stores, read at its row and column. -/
theorem piece_at (L : FVec Ideal S1x1024x1408 .bf16) (q o : ℕ) (hq : q < 4) (ho : o = 1408 * q) (hL : ∀ k n, L (ix3 0 k n) = ws m c ⟨q, hq⟩ k n)
    (inb' : ∀ a, (![0, o] : Fin 2 → ℕ) a + (![256, 1408] : Fin 2 → ℕ) a ≤ S256x5632.size a) (x : Shape.Idx ⟨2, ![256, 1408]⟩) :
    k0_pay7 (F := Ideal) (ub m c t) L x
      = gu (xs m c (rowi t ((Rect.unit (s := S256x5632) ![0, o] ![256, 1408] inb').emb x 0))) (gs m c) (ws m c)
          ((Rect.unit (s := S256x5632) ![0, o] ![256, 1408] inb').emb x 1) := by
  obtain ⟨r, n, rfl⟩ : ∃ (r : Fin 256) (n : Fin 1408), x = ix2 r n := ⟨x 0, x 1, by ext a; fin_cases a <;> rfl⟩
  refine (pay7_at _ _ _ _ (ub_at m c t) hL r n).trans ?_
  have e0 : (Rect.unit (s := S256x5632) ![0, o] ![256, 1408] inb').emb (ix2 r n) 0 = r := Fin.ext (by
    show 0 + 1 * r.val = r.val
    omega)
  have e1 : (((Rect.unit (s := S256x5632) ![0, o] ![256, 1408] inb').emb (ix2 r n) 1 : Fin 5632)).val = o + n.val := by
    show o + 1 * n.val = o + n.val
    omega
  rw [e0]
  refine Finset.sum_congr rfl fun k _ => congrArg (nrm (xs m c (rowi t r)) (gs m c) k * ·) ?_
  have f0 : (⟨q, hq⟩ : Fin 4) = ⟨((Rect.unit (s := S256x5632) ![0, o] ![256, 1408] inb').emb (ix2 r n) 1 : Fin 5632).val / 1408, by omega⟩ :=
    Fin.ext (by dsimp only; rw [e1]; omega)
  have f1 : n = ⟨((Rect.unit (s := S256x5632) ![0, o] ![256, 1408] inb').emb (ix2 r n) 1 : Fin 5632).val % 1408, Nat.mod_lt _ (by norm_num)⟩ :=
    Fin.ext (by dsimp only; rw [e1]; omega)
  exact congrArg₂ (fun a b => ws m c a k b) f0 f1

variable {L0 L1 L2 L3} (S : Slabs m c L0 L1 L2 L3)
include S

/-- What the four stores leave. -/
theorem pcs_val (y : S256x5632.Idx) :
    View.canon (pcs m c t L0 L1 L2 L3) y = gu (xs m c (rowi t (y 0))) (gs m c) (ws m c) (y 1) := by
  refine View.canon_append_of_piecesOf (fun y : S256x5632.Idx => gu (xs m c (rowi t (y 0))) (gs m c) (ws m c) (y 1))
    [] (pcs m c t L0 L1 L2 L3) ⟨?_, ?_, ?_, ?_, trivial⟩ y (pcs_cover m c t L0 L1 L2 L3 y)
  · exact piece_at m c t L3 3 4224 (by omega) (by omega) S.l3 inb_S256x5632_S256x1408_0_4224
  · exact piece_at m c t L2 2 2816 (by omega) (by omega) S.l2 inb_S256x5632_S256x1408_0_2816
  · exact piece_at m c t L1 1 1408 (by omega) (by omega) S.l1 inb_S256x5632_S256x1408_0_1408
  · exact piece_at m c t L0 0 0 (by omega) (by omega) S.l0 inb_S256x5632_S256x1408_0_0

/-- Columns of it read back. -/
theorem pcs_read (w o : ℕ) (v : View sig .tc .vmem S256x5632 .f32)
    (inb : ∀ a, (![0, o] : Fin 2 → ℕ) a + (![256, w] : Fin 2 → ℕ) a ≤ S256x5632.size a) (r : Fin 256) (n : Fin w) (h : o + n.val < 5632) :
    (show FVec Ideal ⟨2, ![256, w]⟩ .f32 from v.readCov (Val := Elt Ideal) (pcs m c t L0 L1 L2 L3) (Rect.unit (s := S256x5632) ![0, o] ![256, w] inb).toLoadRect) (ix2 r n)
      = gu (xs m c (rowi t r)) (gs m c) (ws m c) ⟨o + n.val, h⟩ := by
  refine (congrFun (View.readCov_eq_canon_ld (Val := Elt Ideal) v (pcs m c t L0 L1 L2 L3) (Rect.unit (s := S256x5632) ![0, o] ![256, w] inb) (pcs_cover m c t L0 L1 L2 L3)) (ix2 r n)).trans ?_
  refine (pcs_val m c t S _).trans ?_
  have e0 : (Rect.unit (s := S256x5632) ![0, o] ![256, w] inb).emb (ix2 r n) 0 = r := Fin.ext (by
    show 0 + 1 * r.val = r.val
    omega)
  have e1 : ((Rect.unit (s := S256x5632) ![0, o] ![256, w] inb).emb (ix2 r n) 1 : Fin 5632) = ⟨o + n.val, h⟩ := Fin.ext (by
    show o + 1 * n.val = o + n.val
    omega)
  exact congrArg₂ (fun a b => gu (xs m c (rowi t a)) (gs m c) (ws m c) b) e0 e1

variable (L0 L1 L2 L3) in
omit S in
/-- The block's activation. -/
abbrev ab : FVec Ideal S256x2816 .bf16 := k0_pay10 (F := Ideal)
  ((View.whole cc0_scratch2).readCov (Val := Elt Ideal) (pcs m c t L0 L1 L2 L3) (Rect.unit (s := S256x5632) ![0, 0] ![256, 2816] inb_S256x5632_S256x2816_0_0).toLoadRect)
  ((View.whole cc0_scratch2).readCov (Val := Elt Ideal) (pcs m c t L0 L1 L2 L3) (Rect.unit (s := S256x5632) ![0, 2816] ![256, 2816] inb_S256x5632_S256x2816_0_2816).toLoadRect)

theorem ab_at (r : Fin 256) (n : Fin 2816) : ab m c t L0 L1 L2 L3 (ix2 r n) = act (xs m c (rowi t r)) (gs m c) (ws m c) n := by
  refine (pay10_at _ _ r n).trans ?_
  refine congrArg₂ gat ?_ ?_
  · refine (pcs_read m c t S 2816 0 (View.whole cc0_scratch2) _ r n (by omega)).trans ?_
    exact congrArg _ (Fin.ext (by dsimp only; omega))
  · exact pcs_read m c t S 2816 2816 (View.whole cc0_scratch2) _ r n (by omega)

theorem yb_at (r : Fin 256) (k : Fin 1024) : k0_pay1 (F := Ideal) (ab m c t L0 L1 L2 L3) (V m c main_arg4) (ix2 r k)
    = y (xs m c (rowi t r)) (gs m c) (ws m c) (ds m c) k :=
  pay1_at _ _ _ _ (ab_at m c t S) (fun _ _ => rfl) r k

theorem hb_at (r : Fin 256) (k : Fin 1024) :
    k0_pay2 (F := Ideal) (iblk m c 0 t) (ab m c t L0 L1 L2 L3) (V m c main_arg4) (iblk m c 2 t) (ix2 r k)
      = out (xs m c (rowi t r)) (gs m c) (qs m c) (ws m c) (ds m c) k :=
  pay2_at _ _ _ _ (blk0 m c t) (blk2 m c t) _ _ _ _ (ab_at m c t S) (fun _ _ => rfl) r k

theorem gb_at (r : Fin 256) (n : Fin 5632) :
    k0_pay9 (F := Ideal) ((View.whole cc0_scratch2).readCov (Val := Elt Ideal) (pcs m c t L0 L1 L2 L3)
      (Rect.unit (s := S256x5632) ![0, 0] ![256, 5632] inb_S256x5632_S256x5632_0_0).toLoadRect) (ix2 r n)
      = gu (xs m c (rowi t r)) (gs m c) (ws m c) n :=
  (pay9_at _ r n).trans <| (pcs_read m c t S 5632 0 (View.whole cc0_scratch2) inb_S256x5632_S256x5632_0_0 r n (by omega)).trans
    (congrArg _ (Fin.ext (by dsimp only; omega) : (⟨0 + n.val, by omega⟩ : Fin 5632) = n))

omit S

theorem out3 (r : Fin 256) (k : Fin 1024) :
    (outsAt0 m c t.val t.isLt).1 (ix2 r k) = nrm (xs m c (rowi t r)) (gs m c) k := by
  by_cases h0 : t.val % 16 = 0
  · rw [outsAt0_A m c t h0 h0]
    dsimp only
    frame_out
    exact ub_at m c t r k
  · rw [outsAt0_B m c t h0 h0]
    dsimp only
    frame_out
    exact ub_at m c t r k

theorem out4 (r : Fin 256) (n : Fin 5632) :
    (outsAt0 m c t.val t.isLt).2.1 (ix2 r n) = gu (xs m c (rowi t r)) (gs m c) (ws m c) n := by
  by_cases h0 : t.val % 16 = 0
  · rw [outsAt0_A m c t h0 h0]
    dsimp only
    frame_out
    exact gb_at m c t
      ⟨slab_first m c 0 (by omega) inb_S4x1024x1408_S1x1024x1408_0_0_0, slab_first m c 1 (by omega) inb_S4x1024x1408_S1x1024x1408_1_0_0, slab_first m c 2 (by omega) inb_S4x1024x1408_S1x1024x1408_2_0_0, slab_first m c 3 (by omega) inb_S4x1024x1408_S1x1024x1408_3_0_0⟩ r n
  · rw [outsAt0_B m c t h0 h0]
    dsimp only
    frame_out
    simp only [read_unread_whole, (scr m c _ _).1]
    exact gb_at m c t
      ⟨slab m c 0 (by omega) inb_S4x1024x1408_S1x1024x1408_0_0_0, slab m c 1 (by omega) inb_S4x1024x1408_S1x1024x1408_1_0_0, slab m c 2 (by omega) inb_S4x1024x1408_S1x1024x1408_2_0_0, slab m c 3 (by omega) inb_S4x1024x1408_S1x1024x1408_3_0_0⟩ r n

theorem out5 (r : Fin 256) (n : Fin 2816) :
    (outsAt0 m c t.val t.isLt).2.2.1 (ix2 r n) = act (xs m c (rowi t r)) (gs m c) (ws m c) n := by
  by_cases h0 : t.val % 16 = 0
  · rw [outsAt0_A m c t h0 h0]
    dsimp only
    frame_out
    exact ab_at m c t
      ⟨slab_first m c 0 (by omega) inb_S4x1024x1408_S1x1024x1408_0_0_0, slab_first m c 1 (by omega) inb_S4x1024x1408_S1x1024x1408_1_0_0, slab_first m c 2 (by omega) inb_S4x1024x1408_S1x1024x1408_2_0_0, slab_first m c 3 (by omega) inb_S4x1024x1408_S1x1024x1408_3_0_0⟩ r n
  · rw [outsAt0_B m c t h0 h0]
    dsimp only
    frame_out
    simp only [read_unread_whole, (scr m c _ _).1]
    exact ab_at m c t
      ⟨slab m c 0 (by omega) inb_S4x1024x1408_S1x1024x1408_0_0_0, slab m c 1 (by omega) inb_S4x1024x1408_S1x1024x1408_1_0_0, slab m c 2 (by omega) inb_S4x1024x1408_S1x1024x1408_2_0_0, slab m c 3 (by omega) inb_S4x1024x1408_S1x1024x1408_3_0_0⟩ r n

theorem out6 (r : Fin 256) (k : Fin 1024) :
    (outsAt0 m c t.val t.isLt).2.2.2.1 (ix2 r k) = y (xs m c (rowi t r)) (gs m c) (ws m c) (ds m c) k := by
  by_cases h0 : t.val % 16 = 0
  · rw [outsAt0_A m c t h0 h0]
    dsimp only
    frame_out
    rw [wd_first]
    exact yb_at m c t
      ⟨slab_first m c 0 (by omega) inb_S4x1024x1408_S1x1024x1408_0_0_0, slab_first m c 1 (by omega) inb_S4x1024x1408_S1x1024x1408_1_0_0, slab_first m c 2 (by omega) inb_S4x1024x1408_S1x1024x1408_2_0_0, slab_first m c 3 (by omega) inb_S4x1024x1408_S1x1024x1408_3_0_0⟩ r k
  · rw [outsAt0_B m c t h0 h0]
    dsimp only
    frame_out
    simp only [read_unread_whole, (scr m c _ _).1, (scr m c _ _).2]
    exact yb_at m c t
      ⟨slab m c 0 (by omega) inb_S4x1024x1408_S1x1024x1408_0_0_0, slab m c 1 (by omega) inb_S4x1024x1408_S1x1024x1408_1_0_0, slab m c 2 (by omega) inb_S4x1024x1408_S1x1024x1408_2_0_0, slab m c 3 (by omega) inb_S4x1024x1408_S1x1024x1408_3_0_0⟩ r k

theorem out7 (r : Fin 256) (k : Fin 1024) :
    (outsAt0 m c t.val t.isLt).2.2.2.2.1 (ix2 r k) = out (xs m c (rowi t r)) (gs m c) (qs m c) (ws m c) (ds m c) k := by
  by_cases h0 : t.val % 16 = 0
  · rw [outsAt0_A m c t h0 h0]
    dsimp only
    frame_out
    rw [wd_first]
    exact hb_at m c t
      ⟨slab_first m c 0 (by omega) inb_S4x1024x1408_S1x1024x1408_0_0_0, slab_first m c 1 (by omega) inb_S4x1024x1408_S1x1024x1408_1_0_0, slab_first m c 2 (by omega) inb_S4x1024x1408_S1x1024x1408_2_0_0, slab_first m c 3 (by omega) inb_S4x1024x1408_S1x1024x1408_3_0_0⟩ r k
  · rw [outsAt0_B m c t h0 h0]
    dsimp only
    frame_out
    simp only [read_unread_whole, (scr m c _ _).1, (scr m c _ _).2]
    exact hb_at m c t
      ⟨slab m c 0 (by omega) inb_S4x1024x1408_S1x1024x1408_0_0_0, slab m c 1 (by omega) inb_S4x1024x1408_S1x1024x1408_1_0_0, slab m c 2 (by omega) inb_S4x1024x1408_S1x1024x1408_2_0_0, slab m c 3 (by omega) inb_S4x1024x1408_S1x1024x1408_3_0_0⟩ r k

theorem fin3 : (dats m 0 c).arrAt 3 cfg0.N = (fun i => nrm (xs m c (i 0)) (gs m c) (i 1) : FVec Ideal S4096x1024 .bf16) := by
  refine (dats m 0 c).arrAt_eq_of_covers 3 _ (by decide +kernel) fun t hf y => ?_
  blk_simp
  rw [after0_3]
  obtain ⟨r, k, rfl⟩ : ∃ (r : Fin 256) (k : Fin 1024), y = ix2 r k := ⟨y 0, y 1, by ext a; fin_cases a <;> rfl⟩
  refine (out3 m c t r k).trans ?_
  have e0 : rowi t r = (win0_3.blk t).view.emb (ix2 r k) 0 := by
    refine Fin.ext ?_
    blk_simp [idx t]
    rfl
  have e1 : k = (win0_3.blk t).view.emb (ix2 r k) 1 := by
    refine Fin.ext ?_
    simp [idx t]
  exact congrArg₂ (fun i k => nrm (xs m c i) (gs m c) k) e0 e1

theorem fin4 : (dats m 0 c).arrAt 4 cfg0.N = (fun i => gu (xs m c (i 0)) (gs m c) (ws m c) (i 1) : FVec Ideal S4096x5632 .bf16) := by
  refine (dats m 0 c).arrAt_eq_of_covers 4 _ (by decide +kernel) fun t hf y => ?_
  blk_simp
  rw [after0_4]
  obtain ⟨r, k, rfl⟩ : ∃ (r : Fin 256) (k : Fin 5632), y = ix2 r k := ⟨y 0, y 1, by ext a; fin_cases a <;> rfl⟩
  refine (out4 m c t r k).trans ?_
  have e0 : rowi t r = (win0_4.blk t).view.emb (ix2 r k) 0 := by
    refine Fin.ext ?_
    blk_simp [idx t]
    rfl
  have e1 : k = (win0_4.blk t).view.emb (ix2 r k) 1 := by
    refine Fin.ext ?_
    simp [idx t]
  exact congrArg₂ (fun i k => gu (xs m c i) (gs m c) (ws m c) k) e0 e1

theorem fin5 : (dats m 0 c).arrAt 5 cfg0.N = (fun i => act (xs m c (i 0)) (gs m c) (ws m c) (i 1) : FVec Ideal S4096x2816 .bf16) := by
  refine (dats m 0 c).arrAt_eq_of_covers 5 _ (by decide +kernel) fun t hf y => ?_
  blk_simp
  rw [after0_5]
  obtain ⟨r, k, rfl⟩ : ∃ (r : Fin 256) (k : Fin 2816), y = ix2 r k := ⟨y 0, y 1, by ext a; fin_cases a <;> rfl⟩
  refine (out5 m c t r k).trans ?_
  have e0 : rowi t r = (win0_5.blk t).view.emb (ix2 r k) 0 := by
    refine Fin.ext ?_
    blk_simp [idx t]
    rfl
  have e1 : k = (win0_5.blk t).view.emb (ix2 r k) 1 := by
    refine Fin.ext ?_
    simp [idx t]
  exact congrArg₂ (fun i k => act (xs m c i) (gs m c) (ws m c) k) e0 e1

theorem fin6 : (dats m 0 c).arrAt 6 cfg0.N = (fun i => y (xs m c (i 0)) (gs m c) (ws m c) (ds m c) (i 1) : FVec Ideal S4096x1024 .f32) := by
  refine (dats m 0 c).arrAt_eq_of_covers 6 _ (by decide +kernel) fun t hf y => ?_
  blk_simp
  rw [after0_6]
  obtain ⟨r, k, rfl⟩ : ∃ (r : Fin 256) (k : Fin 1024), y = ix2 r k := ⟨y 0, y 1, by ext a; fin_cases a <;> rfl⟩
  refine (out6 m c t r k).trans ?_
  have e0 : rowi t r = (win0_6.blk t).view.emb (ix2 r k) 0 := by
    refine Fin.ext ?_
    blk_simp [idx t]
    rfl
  have e1 : k = (win0_6.blk t).view.emb (ix2 r k) 1 := by
    refine Fin.ext ?_
    simp [idx t]
  exact congrArg₂ (fun i k => y (xs m c i) (gs m c) (ws m c) (ds m c) k) e0 e1

theorem fin7 : (dats m 0 c).arrAt 7 cfg0.N = (fun i => out (xs m c (i 0)) (gs m c) (qs m c) (ws m c) (ds m c) (i 1) : FVec Ideal S4096x1024 .f32) := by
  refine (dats m 0 c).arrAt_eq_of_covers 7 _ (by decide +kernel) fun t hf y => ?_
  blk_simp
  rw [after0_7]
  obtain ⟨r, k, rfl⟩ : ∃ (r : Fin 256) (k : Fin 1024), y = ix2 r k := ⟨y 0, y 1, by ext a; fin_cases a <;> rfl⟩
  refine (out7 m c t r k).trans ?_
  have e0 : rowi t r = (win0_7.blk t).view.emb (ix2 r k) 0 := by
    refine Fin.ext ?_
    blk_simp [idx t]
    rfl
  have e1 : k = (win0_7.blk t).view.emb (ix2 r k) 1 := by
    refine Fin.ext ?_
    simp [idx t]
  exact congrArg₂ (fun i k => out (xs m c i) (gs m c) (qs m c) (ws m c) (ds m c) k) e0 e1

end Cert.Fwd
-- ==== Proof.FwdEnd.lean ====
module

public import proofs.«01_k».proof.Defs
public import proofs.«01_k».proof.Proof.FwdKer
public import proofs.«01_k».proof.Proof.Gen.Reference3Ideal.Run

@[expose] public section

set_option maxRecDepth 16384

noncomputable section

namespace Cert.Fwd

open Idealize.ShloMosaic Idealize.ShloMosaic.TcCoe Idealize.SL.Sem

theorem idx2 {a b : ℕ} (i : Shape.Idx ⟨2, ![a, b]⟩) : i = ix2 (n0 := a) (n1 := b) (i 0) (i 1) := by
  funext k; fin_cases k <;> rfl

open Cert.Reference3Ideal.Read in
/-- The reference's five results are the forward kernel's. -/
theorem value : Cert.algebraic_Kernel3Ideal_Reference3Ideal := by
  intro m g m' g' hpre hargs
  refine ⟨_, _, _, _, _, (θ_run _ _ _).mono (fun r h c => h c) (Cert.Kernel3Ideal.Value.run_blocks m g),
    (θ_run _ _ _).mono (fun r h c => ?_) (Cert.Reference3Ideal.Value.run m' g')⟩
  obtain ⟨a0, a1, a2, a3, a4⟩ := hargs c
  obtain ⟨r0, r1, r2, r3, r4, k⟩ := h c
  refine ⟨r0.trans ?_, r1.trans ?_, r2.trans ?_, r3.trans ?_, r4.trans ?_, k⟩ <;> clear h r0 r1 r2 r3 r4 k hargs
  · refine Eq.trans ?_ (fin3 m c).symm
    refine (val_main_v22_eq _ _).trans ?_
    rw [a0, a1]
    funext i
    rw [idx2 i]
    exact ref_u16 ..
  · refine Eq.trans ?_ (fin4 m c).symm
    refine (val_main_v23_eq _ _ _).trans ?_
    rw [a0, a1, a3]
    funext i
    rw [idx2 i]
    exact ref_gu16 ..
  · refine Eq.trans ?_ (fin5 m c).symm
    refine (val_main_v24_eq _ _ _).trans ?_
    rw [a0, a1, a3]
    funext i
    rw [idx2 i]
    exact ref_act16 ..
  · refine Eq.trans ?_ (fin6 m c).symm
    refine (val_main_v21_eq _ _ _ _).trans ?_
    rw [a0, a1, a3, a4]
    funext i
    rw [idx2 i]
    exact ref_y ..
  · refine Eq.trans ?_ (fin7 m c).symm
    refine (val_main_v37_eq _ _).trans ?_
    rw [a0, a1, a2, a3, a4]
    funext i
    rw [idx2 i]
    exact ref_out ..

end Cert.Fwd

end
-- ==== Proof.HgReal.lean ====
/- The gated linear recurrence over the real numbers: the decay, the gates, and the gradient of the values, as one sum
   over the later positions and as the kernel's chunks add it up. -/
module

public import proofs.«01_k».proof.Proof.FfnReal
public import Idealize.ShloMosaic.Lib.Pointwise

@[expose] public section

noncomputable section

namespace Cert.Hg

open Idealize.ShloMosaic Cert.Ffn

/-- The element of a matrix at two natural numbers, zero outside the matrix. -/
def at2 {n k : ℕ} (x : (⟨2, ![n, k]⟩ : Shape).Idx → ℝ) (r c : ℕ) : ℝ :=
  if h : r < n ∧ c < k then x (ix2 ⟨r, h.1⟩ ⟨c, h.2⟩) else 0

theorem at2_ix {n k : ℕ} (x : (⟨2, ![n, k]⟩ : Shape).Idx → ℝ) (r c : ℕ) (hr : r < n) (hc : c < k) :
    x (ix2 ⟨r, hr⟩ ⟨c, hc⟩) = at2 x r c := by unfold at2; rw [dif_pos ⟨hr, hc⟩]

theorem at2_at {n k : ℕ} (x : (⟨2, ![n, k]⟩ : Shape).Idx → ℝ) (i : (⟨2, ![n, k]⟩ : Shape).Idx) :
    x i = at2 x (i 0).val (i 1).val := by
  rw [← at2_ix x (i 0).val (i 1).val (i 0).isLt (i 1).isLt]
  congr 1
  funext a
  match a with
  | ⟨0, _⟩ => rfl
  | ⟨1, _⟩ => rfl

theorem at2_fin {n k : ℕ} (x : (⟨2, ![n, k]⟩ : Shape).Idx → ℝ) (r : Fin n) (c : Fin k) :
    x (ix2 r c) = at2 x r.val c.val := at2_ix x r.val c.val r.isLt c.isLt

theorem sg_pos (z : ℝ) : 0 < sg z := div_pos one_pos (add_pos one_pos (Real.exp_pos _))

theorem sg_neg (z : ℝ) : sg (-z) = 1 - sg z := by
  have h : Real.exp z * Real.exp (-z) = 1 := by rw [← Real.exp_add]; simp
  have h1 : 1 + Real.exp z ≠ 0 := (add_pos one_pos (Real.exp_pos _)).ne'
  have h2 : 1 + Real.exp (-z) ≠ 0 := (add_pos one_pos (Real.exp_pos _)).ne'
  unfold sg
  rw [neg_neg]
  field_simp
  linear_combination (-1 : ℝ) * h

theorem sg_lt (z : ℝ) : sg z < 1 := by have := sg_pos (-z); rw [sg_neg] at this; linarith

/-- The number the lower bound is taken from, by the two rows of `gamma`. -/
def lbr (a b : ℝ) : ℝ := 1 / (1 + Real.exp (b - a))

theorem lbr_eq (a b : ℝ) : lbr a b = sg (a - b) := by unfold lbr sg; rw [neg_sub]

theorem lbr_pos (a b : ℝ) : 0 < lbr a b := lbr_eq a b ▸ sg_pos _

theorem lbr_lt (a b : ℝ) : lbr a b < 1 := lbr_eq a b ▸ sg_lt _

/-- A softmax of two numbers, shifted by any third number. -/
theorem softmax_two (a b m : ℝ) :
    Real.exp (a - m) / (Real.exp (a - m) + Real.exp (b - m)) = lbr a b := by
  have h : Real.exp (b - m) = Real.exp (a - m) * Real.exp (b - a) := by rw [← Real.exp_add]; congr 1; ring
  have h1 := (Real.exp_pos (a - m)).ne'
  have h2 : 1 + Real.exp (b - a) ≠ 0 := (add_pos one_pos (Real.exp_pos _)).ne'
  unfold lbr
  rw [h]
  field_simp

/-- The logarithm of a sum of two exponentials, by the larger of the two. -/
theorem logaddexp (a c : ℝ) : max a c + Real.log (1 + Real.exp (-|a - c|)) = Real.log (Real.exp a + Real.exp c) := by
  have key : ∀ a c : ℝ, c ≤ a → max a c + Real.log (1 + Real.exp (-|a - c|)) = Real.log (Real.exp a + Real.exp c) := by
    intro a c h
    rw [max_eq_left h, abs_of_nonneg (sub_nonneg.2 h)]
    have h1 : (1 + Real.exp (-(a - c))) ≠ 0 := (add_pos one_pos (Real.exp_pos _)).ne'
    have : Real.exp a + Real.exp c = Real.exp a * (1 + Real.exp (-(a - c))) := by
      rw [mul_add, mul_one, ← Real.exp_add]; congr 2; ring
    rw [this, Real.log_mul (Real.exp_pos a).ne' h1, Real.log_exp]
  rcases le_total c a with h | h
  · exact key a c h
  · rw [max_comm, abs_sub_comm, key c a h, add_comm]

/-- The logarithm of the logistic function, as the softplus of the negated number writes it. -/
theorem log_sg (z : ℝ) : -(max (-z) 0 + Real.log (1 + Real.exp (-|(-z) - 0|))) = Real.log (sg z) := by
  rw [logaddexp]
  unfold sg
  rw [Real.exp_zero, one_div, Real.log_inv, add_comm]

variable (x : (⟨2, ![4096, 2048]⟩ : Shape).Idx → ℝ) (gm : (⟨2, ![2, 512]⟩ : Shape).Idx → ℝ)
  (d : (⟨2, ![4096, 512]⟩ : Shape).Idx → ℝ)

/-- The decay's lower bound in a column. -/
def lb (c : ℕ) : ℝ := lbr (at2 gm 0 c) (at2 gm 1 c)

/-- The decay. -/
def fg (r c : ℕ) : ℝ := lb gm c + (1 - lb gm c) * sg (at2 x r (512 + c))

theorem lb_pos (c : ℕ) : 0 < lb gm c := lbr_pos _ _

theorem lb_lt (c : ℕ) : lb gm c < 1 := lbr_lt _ _

theorem fg_pos (r c : ℕ) : 0 < fg x gm r c :=
  add_pos (lb_pos gm c) (mul_pos (sub_pos.2 (lb_lt gm c)) (sg_pos _))

theorem fg_lt (r c : ℕ) : fg x gm r c < 1 := by
  have h := mul_lt_mul_of_pos_left (sg_lt (at2 x r (512 + c))) (sub_pos.2 (lb_lt gm c))
  unfold fg; linarith

/-- The key. -/
def kk (r c : ℕ) : ℝ := (1 - lb gm c) * sg (-at2 x r (512 + c))

theorem kk_eq (r c : ℕ) : 1 - fg x gm r c = kk x gm r c := by unfold fg kk; rw [sg_neg]; ring

/-- The query. -/
def qq (r c : ℕ) : ℝ := at2 x r c * sg (at2 x r c)

/-- The decay's logarithm. -/
def lg (r c : ℕ) : ℝ := Real.log (fg x gm r c)

/-- The sum of the decay's logarithms over the rows before `n`. -/
def pre (c n : ℕ) : ℝ := ∑ i ∈ Finset.range n, lg x gm i c

theorem pre_le (c : ℕ) {a b : ℕ} (h : a ≤ b) : pre x gm c b ≤ pre x gm c a := by
  obtain ⟨e, rfl⟩ := Nat.exists_eq_add_of_le h
  unfold pre
  rw [Finset.sum_range_add]
  have : ∑ i ∈ Finset.range e, lg x gm (a + i) c ≤ 0 :=
    Finset.sum_nonpos fun i _ => Real.log_nonpos (fg_pos x gm _ c).le (fg_lt x gm _ c).le
  linarith

/-- The sum of the logarithms over a run of rows of the chunk that begins at row `a`. -/
theorem pre_window (c a lo hi : ℕ) (h : lo ≤ hi) (h2 : hi ≤ 64) :
    (∑ j : Fin 64, (if lo ≤ j.val ∧ j.val < hi then 1 else 0) * lg x gm (a + j.val) c)
      = pre x gm c (a + hi) - pre x gm c (a + lo) := by
  have hs : ∀ n, pre x gm c (a + n) = pre x gm c a + ∑ i ∈ Finset.range n, lg x gm (a + i) c := fun n => by
    unfold pre; rw [Finset.sum_range_add]
  rw [hs, hs, Fin.sum_univ_eq_sum_range
    (fun j => (if lo ≤ j ∧ j < hi then (1 : ℝ) else 0) * lg x gm (a + j) c) 64]
  have h3 : ∀ n, n ≤ 64 → ∑ i ∈ Finset.range n, lg x gm (a + i) c
      = ∑ i ∈ Finset.range 64, (if i < n then (1 : ℝ) else 0) * lg x gm (a + i) c := by
    intro n hn
    rw [← Finset.sum_subset (Finset.range_subset_range.2 hn)]
    · exact Finset.sum_congr rfl fun i hi => by rw [if_pos (Finset.mem_range.1 hi), one_mul]
    · intro i _ hi; rw [if_neg (fun h => hi (Finset.mem_range.2 h)), zero_mul]
  rw [h3 hi h2, h3 lo (h.trans h2), add_sub_add_left_eq_sub, ← Finset.sum_sub_distrib]
  refine Finset.sum_congr rfl fun i _ => ?_
  rw [← sub_mul]
  congr 1
  by_cases h4 : i < hi <;> by_cases h5 : i < lo <;> simp [h4, h5, Nat.not_lt.1] <;> omega

/-- The weight that position `t` gives to position `s`, in the head whose columns begin at `c0`. -/
def scr (c0 t s : ℕ) : ℝ :=
  ∑ k : Fin 128, qq x t (c0 + k.val) * Real.exp (pre x gm (c0 + k.val) (t + 1) - pre x gm (c0 + k.val) (s + 1))
    * kk x gm s (c0 + k.val)

/-- The values' gradient. -/
def dhi (c0 s v : ℕ) : ℝ :=
  ∑ t ∈ Finset.Ico s 4096, at2 d t (c0 + v) * scr x gm c0 t s

/-- What the later chunks hand to the chunk before row `a`: the state's gradient. -/
def dst (c0 a v k : ℕ) : ℝ :=
  ∑ t ∈ Finset.Ico a 4096, at2 d t (c0 + v) * (qq x t (c0 + k) * Real.exp (pre x gm (c0 + k) (t + 1) - pre x gm (c0 + k) a))

theorem dst_end (c0 v k : ℕ) : dst x gm d c0 4096 v k = 0 := by unfold dst; simp

/-- One chunk's step of the state's gradient. -/
theorem dst_step (c0 a v k : ℕ) (h : a + 64 ≤ 4096) :
    dst x gm d c0 (a + 64) v k * Real.exp (pre x gm (c0 + k) (a + 64) - pre x gm (c0 + k) a)
      + (∑ t : Fin 64, at2 d (a + t.val) (c0 + v)
          * (qq x (a + t.val) (c0 + k) * Real.exp (pre x gm (c0 + k) (a + (t.val + 1)) - pre x gm (c0 + k) a)))
      = dst x gm d c0 a v k := by
  unfold dst
  rw [← Finset.sum_Ico_consecutive _ (Nat.le_add_right a 64) h, Finset.sum_mul, add_comm]
  congr 1
  · rw [Finset.sum_Ico_eq_sum_range, Nat.add_sub_cancel_left, ← Fin.sum_univ_eq_sum_range
      (fun t => at2 d (a + t) (c0 + v) * (qq x (a + t) (c0 + k)
        * Real.exp (pre x gm (c0 + k) (a + t + 1) - pre x gm (c0 + k) a)))]
    rfl
  · refine Finset.sum_congr rfl fun t _ => ?_
    rw [mul_assoc, mul_assoc, ← Real.exp_add]
    congr 3
    ring

/-- A row of the values' gradient: its own chunk's positions, and the later chunks through the state's gradient. -/
theorem dhi_chunk (c0 a v : ℕ) (s : Fin 64) (h : a + 64 ≤ 4096) :
    (∑ t : Fin 64, (if s.val ≤ t.val then scr x gm c0 (a + t.val) (a + s.val) else 0) * at2 d (a + t.val) (c0 + v))
      + (∑ k : Fin 128, kk x gm (a + s.val) (c0 + k.val)
          * Real.exp (pre x gm (c0 + k.val) (a + 64) - pre x gm (c0 + k.val) (a + (s.val + 1)))
          * dst x gm d c0 (a + 64) v k.val)
      = dhi x gm d c0 (a + s.val) v := by
  unfold dhi
  have hs := s.isLt
  rw [← Finset.sum_Ico_consecutive _ (by omega : a + s.val ≤ a + 64) h]
  congr 1
  · rw [Fin.sum_univ_eq_sum_range
      (fun t => (if s.val ≤ t then scr x gm c0 (a + t) (a + s.val) else 0) * at2 d (a + t) (c0 + v)) 64,
      Finset.sum_Ico_eq_sum_range, ← Finset.sum_subset (s₁ := Finset.Ico s.val 64)
        (fun i hi => Finset.mem_range.2 (Finset.mem_Ico.1 hi).2), Finset.sum_Ico_eq_sum_range]
    · rw [show a + 64 - (a + s.val) = 64 - s.val by omega]
      refine Finset.sum_congr rfl fun t _ => ?_
      rw [if_pos (Nat.le_add_right _ _), mul_comm, add_assoc]
    · intro i h1 h2
      rw [if_neg, zero_mul]
      intro h3
      exact h2 (Finset.mem_Ico.2 ⟨h3, Finset.mem_range.1 h1⟩)
  · unfold dst scr
    simp only [Finset.mul_sum]
    rw [Finset.sum_comm]
    refine Finset.sum_congr rfl fun t _ => Finset.sum_congr rfl fun k _ => ?_
    rw [show pre x gm (c0 + k.val) (t + 1) - pre x gm (c0 + k.val) (a + s.val + 1)
        = (pre x gm (c0 + k.val) (a + 64) - pre x gm (c0 + k.val) (a + (s.val + 1)))
          + (pre x gm (c0 + k.val) (t + 1) - pre x gm (c0 + k.val) (a + 64)) by rw [add_assoc a]; ring, Real.exp_add]
    ring

end Cert.Hg

end
-- ==== Proof.HgRef.lean ====
/- The recurrence's reference on finite arguments: its stages up to the gradient of the values, each the array of the
   real numbers it stands for. -/
module

public import proofs.«01_k».proof.Proof.Gen.Reference2Ideal.Read
public import proofs.«01_k».proof.Proof.HgReal
public import Idealize.ShloMosaic.Lib.Pointwise
public import Idealize.ShloMosaic.PureOps.Reduce

@[expose] public section

set_option maxRecDepth 16384

noncomputable section

namespace Cert.Hg

open Idealize.ShloMosaic Idealize.ShloMosaic.TcCoe Idealize.SL.Sem Cert.Ffn
open Cert.Reference2Ideal Cert.Reference2Ideal.Gen Cert.Reference2Ideal.Read

theorem foldl_sum {N : ℕ} (g : Fin N → EReal) (v : EReal) :
    (List.finRange N).foldl (fun r n => r + g n) v = v + ∑ n, g n := by
  have h : ∀ (l : List (Fin N)) (v : EReal), l.foldl (fun r n => r + g n) v = v + (l.map g).sum := by
    intro l
    induction l with
    | nil => intro v; simp
    | cons a l ih => intro v; rw [List.foldl_cons, ih, List.map_cons, List.sum_cons, add_assoc]
  rw [h, Fin.sum_univ_def]

/-- A sum over a window, as a sum over the window's positions. -/
theorem window_sum {s t u : Shape} (window strides lo hi : Fin s.rank → Nat) (x : FVec Ideal s .f32)
    (init : u.Idx → Ideal .f32) (h : s.ReduceWindows window strides lo hi t) (hu : 0 < u.numel)
    (h0 : (init (Shape.Idx.first hu) : EReal) = 0) (j : t.Idx) :
    Host.reduceWindowAdd window strides lo hi x init h hu j
      = (∑ q : (⟨s.rank, window⟩ : Shape).Idx,
          if hin : ∀ a, lo a ≤ (j (a.cast h.1.symm)).val * strides a + (q a).val
              ∧ (j (a.cast h.1.symm)).val * strides a + (q a).val - lo a < s.size a
            then (x (fun a => ⟨(j (a.cast h.1.symm)).val * strides a + (q a).val - lo a, (hin a).2⟩) : EReal) else 0 : EReal) := by
  have e : Host.reduceWindowAdd window strides lo hi x init h hu j
      = Ideal.hostReduceWindowAdd window strides lo hi h x (init (Shape.Idx.first hu)) j := rfl
  rw [e, h0]
  unfold Ideal.hostReduceWindowAdd Host.reduceWindow
  dsimp only
  rw [foldl_sum, zero_add]
  rw [← Equiv.sum_comp (⟨s.rank, window⟩ : Shape).rowMajor.symm]
  refine Finset.sum_congr rfl fun n _ => ?_
  split_ifs with h1
  · rfl
  · rfl

/-- A running sum along the first axis, at a row: the sum of the operand's rows up to it. -/
theorem running (F : FVec Ideal S4096x4x128 .f32) (init : S_.Idx → Ideal .f32)
    (h : S4096x4x128.ReduceWindows ![4096, 1, 1] ![1, 1, 1] ![4095, 0, 0] ![0, 0, 0] S4096x4x128) (hu : 0 < S_.numel)
    (h0 : (init (Shape.Idx.first hu) : EReal) = 0) (i : Fin 4096) (a : Fin 4) (b : Fin 128) :
    Host.reduceWindowAdd ![4096, 1, 1] ![1, 1, 1] ![4095, 0, 0] ![0, 0, 0] F init h hu (ix3 i a b)
      = (∑ k : Fin 4096, if h : 4095 ≤ i.val + k.val then (F (ix3 ⟨i.val + k.val - 4095, by omega⟩ a b) : EReal) else 0 : EReal) := by
  rw [window_sum _ _ _ _ _ _ _ _ h0]
  refine (sum_idx3 (n0 := 4096) (n1 := 1) (n2 := 1) _).trans ?_
  refine Finset.sum_congr rfl fun k _ => ?_
  simp only [Finset.univ_unique, Finset.sum_singleton]
  by_cases hk : 4095 ≤ i.val + k.val
  · rw [dif_pos hk, dif_pos]
    · refine congrArg F (funext fun e => ?_)
      match e with
      | ⟨0, _⟩ => exact Fin.ext (by show i.val * 1 + k.val - 4095 = i.val + k.val - 4095; omega)
      | ⟨1, _⟩ => exact Fin.ext (by show a.val * 1 + 0 - 0 = a.val; omega)
      | ⟨2, _⟩ => exact Fin.ext (by show b.val * 1 + 0 - 0 = b.val; omega)
    · intro e
      match e with
      | ⟨0, _⟩ => exact ⟨by show 4095 ≤ i.val * 1 + k.val; omega, by show i.val * 1 + k.val - 4095 < 4096; omega⟩
      | ⟨1, _⟩ => exact ⟨by show 0 ≤ a.val * 1 + 0; omega, by show a.val * 1 + 0 - 0 < 4; omega⟩
      | ⟨2, _⟩ => exact ⟨by show 0 ≤ b.val * 1 + 0; omega, by show b.val * 1 + 0 - 0 < 128; omega⟩
  · rw [dif_neg hk, dif_neg]
    intro hh
    have := (hh (0 : Fin 3)).1
    have h2 : 4095 ≤ i.val * 1 + k.val := this
    omega

/-- A running sum along the first of two rows is that row. -/
theorem running_first (F : FVec Ideal S2x512 .f32) (init : S_.Idx → Ideal .f32)
    (h : S2x512.ReduceWindows ![2, 1] ![1, 1] ![1, 0] ![0, 0] S2x512) (hu : 0 < S_.numel)
    (h0 : (init (Shape.Idx.first hu) : EReal) = 0) (b : Fin 512) :
    (Host.reduceWindowAdd ![2, 1] ![1, 1] ![1, 0] ![0, 0] F init h hu (ix2 0 b) : EReal) = F (ix2 0 b) := by
  rw [window_sum _ _ _ _ _ _ _ _ h0]
  refine (sum_idx2 (n0 := 2) (n1 := 1) _).trans ?_
  simp only [Finset.univ_unique, Finset.sum_singleton, Fin.sum_univ_two]
  rw [dif_neg, dif_pos, zero_add]
  · refine congrArg F (funext fun e => ?_)
    match e with
    | ⟨0, _⟩ => rfl
    | ⟨1, _⟩ => exact Fin.ext (by show b.val * 1 + 0 - 0 = b.val; omega)
  · intro e
    match e with
    | ⟨0, _⟩ => exact ⟨by show 1 ≤ 0 * 1 + 1; omega, by show 0 * 1 + 1 - 1 < 2; omega⟩
    | ⟨1, _⟩ => exact ⟨by show 0 ≤ b.val * 1 + 0; omega, by show b.val * 1 + 0 - 0 < 512; omega⟩
  · intro hh
    have h2 : 1 ≤ 0 * 1 + 0 := (hh (0 : Fin 2)).1
    omega

/-- The running sum of a row's numbers, over natural numbers. -/
theorem running_real (f : ℕ → ℝ) (i : Fin 4096) :
    (∑ k : Fin 4096, if 4095 ≤ i.val + k.val then f (i.val + k.val - 4095) else 0) = ∑ j ∈ Finset.range (i.val + 1), f j := by
  rw [Fin.sum_univ_eq_sum_range (fun k => if 4095 ≤ i.val + k then f (i.val + k - 4095) else 0) 4096]
  have e : 4096 = (4095 - i.val) + (i.val + 1) := by omega
  rw [show Finset.range 4096 = Finset.range ((4095 - i.val) + (i.val + 1)) from congrArg Finset.range e, Finset.sum_range_add,
    Finset.sum_eq_zero, zero_add]
  · refine Finset.sum_congr rfl fun j hj => ?_
    rw [if_pos (by omega), show i.val + (4095 - i.val + j) - 4095 = j by omega]
  · intro j hj
    rw [if_neg]
    have := Finset.mem_range.1 hj
    omega

variable (x : (⟨2, ![4096, 2048]⟩ : Shape).Idx → ℝ) (gm : (⟨2, ![2, 512]⟩ : Shape).Idx → ℝ)
  (d : (⟨2, ![4096, 512]⟩ : Shape).Idx → ℝ)

theorem word_ninf : Ideal.ofBits .f32 0xFF800000#32 = ⊥ := by simp [Ideal.ofBits, Ideal.ieee]

theorem fold_two (f : Fin 2 → ℝ) (b : EReal) (hb : b = ⊥) :
    (Finset.univ : Finset (Fin 2)).fold (max : EReal → EReal → EReal) b (fun k => ((f k : ℝ) : EReal)) = ((max (f 0) (f 1) : ℝ) : EReal) := by
  subst hb
  rw [show (Finset.univ : Finset (Fin 2)) = insert 0 {1} from rfl, Finset.fold_insert (by decide), Finset.fold_singleton,
    max_bot_right, EReal.coe_strictMono.monotone.map_max]

theorem ref_max (c : Fin 512) : ∃ mx : ℝ, (val_main_v12 (F := Ideal) (liftA S2x512 FTy.f32 gm) (ix1 c) : EReal) = (mx : EReal) := by
  have h5 : ∃ mx : ℝ, (val_main_v5 (F := Ideal) (liftA S2x512 FTy.f32 gm) (ix1 c) : EReal) = (mx : ℝ) := by
    unfold val_main_v5
    rw [Host.reduce_eq_fold_single (a := 0) _ _ _ _ (by decide)]
    exact ⟨_, fold_two (fun k => gm ((by decide : S2x512.Reduces [0] S512).lift (ix1 c) k)) _ word_ninf⟩
  obtain ⟨mx, h5⟩ := h5
  refine ⟨mx, ?_⟩
  pointwise [val_main_v12, val_main_v11, val_main_cst_1]
  rw [h5]
  simp [word_ninf]

theorem ref_lb (c : Fin 512) : (val_main_v35 (F := Ideal) (liftA S2x512 FTy.f32 gm) (ix1 c) : EReal) = (lb gm c.val : ℝ) := by
  obtain ⟨mx, hmx⟩ := ref_max gm c
  have h29 : (val_main_v29 (F := Ideal) (liftA S2x512 FTy.f32 gm) (ix2 0 c) : EReal) = (lb gm c.val : ℝ) := by
    pointwise [val_main_v29, val_main_v28, val_main_v27, val_main_v26, val_main_v25, val_main_v24, val_main_v23, val_main_v22, val_main_cst_7]
    simp only [hmx, liftA_apply, Fin.sum_univ_two, at2_fin, ← EReal.coe_sub, Ideal.exp_coe, ← EReal.coe_add]
    rw [Ideal.div_coe (add_pos (Real.exp_pos _) (Real.exp_pos _)).ne', ← EReal.coe_mul, mul_one_div]
    exact congrArg _ (softmax_two _ _ _)
  pointwise [val_main_v35, val_main_v34]
  unfold val_main_v33
  refine (running_first _ _ _ _ ?_ _).trans h29
  pointwise [val_main_call1_call0_v0, val_main_call1_call0_cst]

theorem log_pos {r : ℝ} (h : 0 < r) : Ideal.log (r : EReal) = ((Real.log r : ℝ) : EReal) := by
  rw [Ideal.log_coe, if_neg h.not_ge]

theorem log1p_pos {r : ℝ} (h : 0 < 1 + r) : Ideal.log1p (r : EReal) = ((Real.log (1 + r) : ℝ) : EReal) := by
  unfold Ideal.log1p
  rw [← EReal.coe_one, ← EReal.coe_add, log_pos h]

theorem ref_log_lb (c : Fin 512) :
    (val_main_v36 (F := Ideal) (liftA S2x512 FTy.f32 gm) (ix1 c) : EReal) = (Real.log (lb gm c.val) : ℝ) := by
  pointwise [val_main_v36]
  simp only [ref_lb, log_pos (lb_pos gm _)]

theorem ref_log_one (c : Fin 512) :
    (val_main_v38 (F := Ideal) (liftA S2x512 FTy.f32 gm) (ix1 c) : EReal) = (Real.log (1 - lb gm c.val) : ℝ) := by
  have h : 0 < 1 + -lb gm c.val := by have := lb_lt gm c.val; linarith
  pointwise [val_main_v38, val_main_v37]
  simp only [ref_lb, ← EReal.coe_neg, log1p_pos h, ← sub_eq_add_neg]

theorem cmp_une (a : ℝ) : Ideal.cmp .une ((a : ℝ) : EReal) ((a : ℝ) : EReal) = 0#1 := by
  simp [Ideal.cmp]

theorem cmp_une_if (a : ℝ) (u v : EReal) :
    (if ((a : ℝ) : EReal) ≠ ((a : ℝ) : EReal) then u else v) = v := if_neg (fun h => h rfl)

theorem abs_coe (a : ℝ) : @Eq EReal (FloatOps.absf (F := Ideal) (φ := .f32) ((a : ℝ) : EReal)) ((|a| : ℝ) : EReal) := by
  show max ((a : ℝ) : EReal) (-((a : ℝ) : EReal)) = _
  rw [← EReal.coe_neg, ← EReal.coe_strictMono.monotone.map_max]
  rfl

theorem one_exp_pos (a : ℝ) : 0 < 1 + Real.exp a := add_pos one_pos (Real.exp_pos _)

theorem max_coe (a b : ℝ) : max ((a : ℝ) : EReal) ((b : ℝ) : EReal) = ((max a b : ℝ) : EReal) :=
  (EReal.coe_strictMono.monotone.map_max).symm

theorem ref_log_sg (r : Fin 4096) (c : Fin 512) :
    (val_main_v41_0 (F := Ideal) (liftA S4096x2048 FTy.f32 x) (ix2 r c) : EReal) = (Real.log (sg (at2 x r.val (512 + c.val))) : ℝ) := by
  pointwise [val_main_v41_0, val_main_call2_v1_0, val_main_call2_call0_v11, val_main_call2_call0_v10, val_main_call2_call0_v9, val_main_call2_call0_v8,
    val_main_call2_call0_v7, val_main_call2_call0_v6, val_main_call2_call0_v5, val_main_call2_call0_v4, val_main_call2_call0_v3, val_main_call2_call0_v2,
    val_main_call2_call0_v1, val_main_call2_call0_v0, val_main_call2_v0, val_main_call2_call0_cst, val_main_v1]
  have e : x (ix2 r ⟨512 + c.val, by omega⟩) = at2 x r.val (512 + c.val) := at2_ix x _ _ _ _
  have h := one_exp_pos (-|(-at2 x r.val (512 + c.val))|)
  simp only [liftA_apply, e, ← EReal.coe_neg, cmp_une_if, abs_coe, Ideal.exp_coe]
  rw [log1p_pos h, ← EReal.coe_zero, max_coe, ← EReal.coe_add, ← EReal.coe_neg, ← log_sg, sub_zero]

theorem ref_lg (r : Fin 4096) (c : Fin 512) :
    (val_main_v58 (F := Ideal) (liftA S4096x2048 FTy.f32 x) (liftA S2x512 FTy.f32 gm) (ix2 r c) : EReal) = (lg x gm r.val c.val : ℝ) := by
  pointwise [val_main_v58, val_main_v57, val_main_v56, val_main_v55, val_main_v54, val_main_v53, val_main_v52, val_main_v51, val_main_v50, val_main_v49,
    val_main_v48, val_main_v47, val_main_v46, val_main_v45, val_main_v44, val_main_v43, val_main_v42]
  have hl := lb_pos gm c.val
  have h1 : 0 < 1 - lb gm c.val := by have := lb_lt gm c.val; linarith
  have hs := sg_pos (at2 x r.val (512 + c.val))
  simp only [ref_log_lb, ref_log_one, ref_log_sg, ← EReal.coe_neg, ← EReal.coe_add, ← EReal.coe_sub, cmp_une_if, abs_coe, Ideal.exp_coe, max_coe,
    log1p_pos (one_exp_pos _)]
  rw [logaddexp, ← Real.log_mul h1.ne' hs.ne', Real.exp_log hl, Real.exp_log (mul_pos h1 hs)]
  rfl

theorem ref_key (r : Fin 4096) (c : Fin 512) :
    (val_main_v82 (F := Ideal) (liftA S4096x2048 FTy.f32 x) (liftA S2x512 FTy.f32 gm) (ix2 r c) : EReal) = (kk x gm r.val c.val : ℝ) := by
  pointwise [val_main_v82, val_main_v80]
  simp only [ref_lg]
  rw [Ideal.exp_coe, ← EReal.coe_one, ← EReal.coe_sub, ← EReal.coe_neg, ← kk_eq]
  unfold lg
  rw [Real.exp_log (fg_pos x gm _ _), neg_sub]

theorem ref_query (r : Fin 4096) (c : Fin 512) :
    (val_main_v3_0 (F := Ideal) (liftA S4096x2048 FTy.f32 x) (ix2 r c) : EReal) = (qq x r.val c.val : ℝ) := by
  pointwise [val_main_v3_0, val_main_v3_2, val_main_call0_v4, val_main_call0_v3, val_main_call0_v2, val_main_call0_v1, val_main_call0_v0, val_main_call0_cst_0, val_main_call0_cst,
    val_main_v0]
  have e : x (ix2 r ⟨c.val, by omega⟩) = at2 x r.val c.val := at2_ix x _ _ _ _
  simp only [liftA_apply, e, ← EReal.coe_neg, Ideal.exp_coe]
  rw [← EReal.coe_one, ← EReal.coe_add, Ideal.div_coe (one_exp_pos _).ne', ← EReal.coe_mul, ← EReal.coe_mul, one_mul]
  rfl

theorem ref_pre (r : Fin 4096) (a : Fin 4) (b : Fin 128) :
    (val_main_v86 (F := Ideal) (liftA S4096x2048 FTy.f32 x) (liftA S2x512 FTy.f32 gm) (ix3 r a b) : EReal)
      = (pre x gm (128 * a.val + b.val) (r.val + 1) : ℝ) := by
  have h85 : ∀ i : Fin 4096, (val_main_v85 (F := Ideal) (liftA S4096x2048 FTy.f32 x) (liftA S2x512 FTy.f32 gm) (ix3 i a b) : EReal)
      = (lg x gm i.val (128 * a.val + b.val) : ℝ) := by
    intro i
    pointwise [val_main_v85]
    rw [ref_lg]
    exact congrArg (fun k => ((lg x gm i.val k : ℝ) : EReal)) (by show a.val * 128 + b.val = _; omega)
  unfold val_main_v86
  rw [running _ _ _ _ (by pointwise [val_main_call3_call0_v0, val_main_call3_call0_cst])]
  unfold pre
  rw [← running_real (fun j => lg x gm j (128 * a.val + b.val)), ← coe_sum]
  refine Finset.sum_congr rfl fun k _ => ?_
  split_ifs with h
  · exact h85 _
  · rfl

theorem bit_le (t s : Fin 4096) :
    IntOp.cmpi .sle (BitVec.ofNat 32 s.val) (BitVec.ofNat 32 t.val) = if s.val ≤ t.val then 1#1 else 0#1 := by
  have e : ∀ r : Fin 4096, (BitVec.ofNat 32 r.val).toInt = (r.val : ℤ) := by
    intro r
    have hr := r.isLt
    rw [BitVec.toInt_eq_toNat_of_lt (by rw [BitVec.toNat_ofNat]; omega), BitVec.toNat_ofNat, Nat.mod_eq_of_lt (by omega)]
  simp only [IntOp.cmpi, BitVec.sle, e, Nat.cast_le]
  by_cases h : s.val ≤ t.val <;> simp [h]

theorem ref_prod (t s : Fin 4096) (a : Fin 4) (b : Fin 128) :
    (val_main_v114 (F := Ideal) (liftA S4096x2048 FTy.f32 x) (liftA S2x512 FTy.f32 gm) (ix4 t s a b) : EReal)
      = ((if s.val ≤ t.val then qq x t.val (128 * a.val + b.val) * Real.exp (pre x gm (128 * a.val + b.val) (t.val + 1) - pre x gm (128 * a.val + b.val) (s.val + 1))
          * kk x gm s.val (128 * a.val + b.val) else 0 : ℝ) : EReal) := by
  pointwise [val_main_v114, val_main_v113, val_main_v112, val_main_v111, val_main_v110, val_main_v109, val_main_v108_0, val_main_call4_v2, val_main_call4_v0, val_main_cst_24,
    val_main_v107, val_main_v97, val_main_v96, val_main_v95, val_main_v94, val_main_v93, val_main_v92, val_main_v91, val_main_v90, val_main_v89, val_main_v88, val_main_v87, val_main_cst_18,
    val_main_v4, val_main_v83, val_main_v108_1]
  simp only [ref_pre, ref_query, ref_key, ← EReal.coe_sub, bit_le, show a.val * 128 + b.val = 128 * a.val + b.val by omega]
  by_cases h : s.val ≤ t.val
  · have hp := pre_le x gm (128 * a.val + b.val) (show s.val + 1 ≤ t.val + 1 by omega)
    rw [if_pos h, if_pos h, min_eq_left (by rw [← EReal.coe_zero]; exact EReal.coe_le_coe_iff.2 (by linarith)), Ideal.exp_coe]
    exact (EReal.coe_mul _ _).symm ▸ (EReal.coe_mul _ _).symm ▸ rfl
  · rw [if_neg h, if_neg h]
    show (_ * Ideal.ofBits .f32 0x00000000#32 * _ : EReal) = _
    rw [show Ideal.ofBits .f32 0x00000000#32 = 0 by simp [Ideal.ofBits, Ideal.ieee], mul_zero, zero_mul]
    rfl

theorem ref_scr (t s : Fin 4096) (a : Fin 4) :
    (val_main_v115 (F := Ideal) (liftA S4096x2048 FTy.f32 x) (liftA S2x512 FTy.f32 gm) (ix3 t s a) : EReal)
      = ((if s.val ≤ t.val then scr x gm (128 * a.val) t.val s.val else 0 : ℝ) : EReal) := by
  pointwise [val_main_v115, val_main_cst_25]
  simp only [ref_prod, coe_sum]
  refine congrArg _ ?_
  by_cases h : s.val ≤ t.val
  · simp only [if_pos h]; rfl
  · simp only [if_neg h, Finset.sum_const_zero]

theorem ref_dhi (r : Fin 4096) (c : Fin 512) :
    (val_main_v151 (F := Ideal) (liftA S4096x2048 FTy.f32 x) (liftA S2x512 FTy.f32 gm) (liftA S4096x512 FTy.f32 d) (ix2 r c) : EReal)
      = (dhi x gm d (128 * (c.val / 128)) r.val (c.val % 128) : ℝ) := by
  pointwise [val_main_v151, val_main_v124, val_main_v123, val_main_v120, val_main_v119]
  simp only [ref_scr, liftA_apply, ← EReal.coe_mul, coe_sum, at2_fin]
  refine congrArg _ ?_
  unfold dhi
  rw [Fin.sum_univ_eq_sum_range (fun i => at2 d i c.val * if r.val ≤ i then scr x gm (128 * (c.val / 128)) i r.val else 0) 4096, Nat.div_add_mod,
    Finset.range_eq_Ico, ← Finset.sum_Ico_consecutive _ (Nat.zero_le r.val) r.isLt.le, Finset.sum_eq_zero, zero_add]
  · refine Finset.sum_congr rfl fun i hi => ?_
    rw [if_pos (Finset.mem_Ico.1 hi).1]
  · intro i hi
    rw [if_neg (by have := (Finset.mem_Ico.1 hi).2; omega), mul_zero]

end Cert.Hg

end
-- ==== Proof.HgLev.lean ====
/- Which rows of a chunk each row of the kernel's zero-one matrix adds up, and what the rows of one level share. -/
module

public import Mathlib.Data.Fintype.Basic

@[expose] public section

namespace Cert.Hg

/-- Half the width of row `r`'s blocks. -/
def half (r : ℕ) : ℕ := 2 ^ (7 - r / 64)

/-- The first column after the middle of the block that row `r` lies in. -/
def mid (r : ℕ) : ℕ := (r % 64) / (2 * half r) * (2 * half r) + half r

/-- The first column that row `r` sums. -/
def lo (r : ℕ) : ℕ := if r / 64 = 0 then 0 else if r / 64 = 1 then r % 64 + 1 else min (mid r) (r % 64 + 1)

/-- The column after the last that row `r` sums. -/
def hi (r : ℕ) : ℕ := if r / 64 = 0 then r % 64 + 1 else if r / 64 = 1 then 64 else max (mid r) (r % 64 + 1)

theorem window_ok : ∀ r : Fin 512, lo r.val ≤ hi r.val ∧ hi r.val ≤ 64 := by decide +kernel

end Cert.Hg
-- ==== Proof.HgMask.lean ====
/- The masks that pick, for each pair of rows of a chunk, the level whose product gives the pair's weight. -/
module

public import proofs.«01_k».proof.Proof.Gen.Kernel2Ideal.Skeleton
public import proofs.«01_k».proof.Proof.HgLev
public import Idealize.ShloMosaic.Lib.Pointwise

@[expose] public section

set_option maxRecDepth 16384

noncomputable section

namespace Cert.Hg

open Idealize.ShloMosaic Idealize.ShloMosaic.TcCoe
open Cert.Kernel2Ideal Cert.Kernel2Ideal.Gen

/-- The masks of the six levels. -/
def m32 : IVec S64x64 1 := k0_pay16
def m16 : IVec S64x64 1 := k0_pay17
def m8 : IVec S64x64 1 := k0_pay19 (iota .tc S64x64 32 [0] iota_S64x64_d0_w32) (iota .tc S64x64 32 [1] iota_S64x64_d1_w32) k0_pay18
def m4 : IVec S64x64 1 := k0_pay20 (iota .tc S64x64 32 [0] iota_S64x64_d0_w32) (iota .tc S64x64 32 [1] iota_S64x64_d1_w32) k0_pay14
def m2 : IVec S64x64 1 := k0_pay21 (iota .tc S64x64 32 [0] iota_S64x64_d0_w32) (iota .tc S64x64 32 [1] iota_S64x64_d1_w32) k0_pay14
def m1 : IVec S64x64 1 := k0_pay22 (iota .tc S64x64 32 [0] iota_S64x64_d0_w32) (iota .tc S64x64 32 [1] iota_S64x64_d1_w32) k0_pay14

/-- What a level's mask says of a pair of rows: the first is later, and between them the level's two decays meet. -/
def Meets (L t s : ℕ) : Prop :=
  s ≤ t ∧ hi (64 * L + t) = t + 1 ∧ lo (64 * L + s) = s + 1 ∧ lo (64 * L + t) = hi (64 * L + s)

instance (L t s : ℕ) : Decidable (Meets L t s) := by unfold Meets; infer_instance

theorem m32_meets : ∀ t s : Fin 64, m32 (ix2 t s) = 1#1 → Meets 2 t.val s.val := by decide +kernel
theorem m16_meets : ∀ t s : Fin 64, m16 (ix2 t s) = 1#1 → Meets 3 t.val s.val := by decide +kernel
theorem m8_meets : ∀ t s : Fin 64, m8 (ix2 t s) = 1#1 → Meets 4 t.val s.val := by decide +kernel
theorem m4_meets : ∀ t s : Fin 64, m4 (ix2 t s) = 1#1 → Meets 5 t.val s.val := by decide +kernel
theorem m2_meets : ∀ t s : Fin 64, m2 (ix2 t s) = 1#1 → Meets 6 t.val s.val := by decide +kernel
theorem m1_meets : ∀ t s : Fin 64, m1 (ix2 t s) = 1#1 → Meets 7 t.val s.val := by decide +kernel
theorem m0_meets : ∀ t s : Fin 64, k0_pay15 (ix2 t s) = 1#1 → t = s := by decide +kernel
theorem m_some : ∀ t s : Fin 64, s ≤ t → k0_pay15 (ix2 t s) = 1#1 ∨ m32 (ix2 t s) = 1#1 ∨ m16 (ix2 t s) = 1#1 ∨ m8 (ix2 t s) = 1#1
    ∨ m4 (ix2 t s) = 1#1 ∨ m2 (ix2 t s) = 1#1 ∨ m1 (ix2 t s) = 1#1 := by decide +kernel

end Cert.Hg

end
-- ==== Proof.HgPay.lean ====
/- What the recurrence's backward body computes on one block of 256 rows: the decays, the weights, the state's gradient
   and the values' gradient of one chunk and one head, as the real numbers they stand for. -/
module

public import proofs.«01_k».proof.Proof.Gen.Kernel2Ideal.Skeleton
public import proofs.«01_k».proof.Proof.HgReal

public import proofs.«01_k».proof.Proof.HgMask
public import Idealize.ShloMosaic.Lib.Pointwise

@[expose] public section

set_option maxRecDepth 16384

noncomputable section

namespace Cert.Hg

open Idealize.ShloMosaic Idealize.ShloMosaic.TcCoe Idealize.SL.Sem Cert.Ffn
open Cert.Kernel2Ideal Cert.Kernel2Ideal.Gen

variable (x : (⟨2, ![4096, 2048]⟩ : Shape).Idx → ℝ) (gm : (⟨2, ![2, 512]⟩ : Shape).Idx → ℝ)
  (d : (⟨2, ![4096, 512]⟩ : Shape).Idx → ℝ)

theorem one_exp (a : ℝ) : 0 < 1 + Real.exp a := add_pos one_pos (Real.exp_pos _)

section gates

variable (G : FVec Ideal S2x512 .f32) (HQ HF : FVec Ideal S256x512 .f32) (a : ℕ)
  (eg : ∀ (r : Fin 2) (c : Fin 512), (G (ix2 r c) : EReal) = (at2 gm r.val c.val : ℝ))
  (eq : ∀ (r : Fin 256) (c : Fin 512), (HQ (ix2 r c) : EReal) = (at2 x (a + r.val) c.val : ℝ))
  (ef : ∀ (r : Fin 256) (c : Fin 512), (HF (ix2 r c) : EReal) = (at2 x (a + r.val) (512 + c.val) : ℝ))

include eg in
theorem pay_lb (c : Fin 512) : (k0_pay6 (F := Ideal) G (ix2 0 c) : EReal) = (lb gm c.val : ℝ) := by
  pointwise [k0_pay6]
  simp only [eg, ← EReal.coe_sub, Ideal.exp_coe]
  rw [← EReal.coe_one, ← EReal.coe_add, Ideal.div_coe (one_exp _).ne', ← EReal.coe_mul, one_mul]
  rfl

include eq in
theorem pay_q (r : Fin 256) (c : Fin 512) : (k0_pay8 (F := Ideal) HQ (ix2 r c) : EReal) = (qq x (a + r.val) c.val : ℝ) := by
  pointwise [k0_pay8, k0_pay7]
  simp only [eq, zero_sub, ← EReal.coe_neg, Ideal.exp_coe]
  rw [← EReal.coe_one, ← EReal.coe_add, Ideal.div_coe (one_exp _).ne', ← EReal.coe_mul, ← EReal.coe_mul, one_mul]
  rfl

include ef in
theorem pay_sf (r : Fin 256) (c : Fin 512) :
    (k0_pay9 (F := Ideal) HF (ix2 r c) : EReal) = (sg (at2 x (a + r.val) (512 + c.val)) : ℝ) := by
  pointwise [k0_pay9]
  simp only [ef, zero_sub, ← EReal.coe_neg, Ideal.exp_coe]
  rw [← EReal.coe_one, ← EReal.coe_add, Ideal.div_coe (one_exp _).ne', ← EReal.coe_mul, one_mul]
  rfl

include eg ef in
theorem pay_k (r : Fin 256) (c : Fin 512) :
    (k0_pay12 (F := Ideal) HF (k0_pay6 (F := Ideal) G) (FloatOps.ofBits .f32 0x00000000#32) (ix2 r c) : EReal) = (kk x gm (a + r.val) c.val : ℝ) := by
  have h := pay_lb gm G eg c
  pointwise [k0_pay12, k0_pay10]
  simp only [h, ef, zero_sub, ← EReal.coe_neg, Ideal.exp_coe]
  rw [← EReal.coe_one, ← EReal.coe_sub, ← EReal.coe_add, Ideal.div_coe (one_exp _).ne', ← EReal.coe_mul, ← EReal.coe_mul, one_mul]
  rfl

include eg ef in
theorem pay_lg (r : Fin 256) (c : Fin 512) :
    (k0_pay13 (F := Ideal) (k0_pay6 (F := Ideal) G) (k0_pay9 (F := Ideal) HF) (ix2 r c) : EReal) = (lg x gm (a + r.val) c.val : ℝ) := by
  have h := pay_lb gm G eg c
  have h2 := pay_sf x HF a ef r c
  pointwise [k0_pay13, k0_pay11]
  simp only [h, h2]
  rw [← EReal.coe_one, ← EReal.coe_sub, ← EReal.coe_mul, ← EReal.coe_add, Ideal.log_coe, if_neg]
  · rfl
  · exact (fg_pos x gm (a + r.val) c.val).not_ge

end gates

/-- The decays of one chunk: the exponential of the partial sums of its 64 rows of the log decays. -/
def chunkA (o : ℕ) (e : S256x512.Slices ![o, 0] S64x512) (L : FVec Ideal S256x512 .f32) (M : FVec Ideal S512x64 .bf16) : FVec Ideal S512x512 .f32 :=
  exp (addf
    (matmul dot_S512x64_S64x512_S512x512_1_0_0_1_n_n none M
      (truncf .bf16 (extractStridedSlice S64x512 ![o, 0] L e) bitsLt_bf16_f32) (constant S512x512 .f32 0x00000000#32))
    (matmul dot_S512x64_S64x512_S512x512_1_0_0_1_n_n none M
      (truncf .bf16 (subf (extractStridedSlice S64x512 ![o, 0] L e)
        (extf .f32 (truncf .bf16 (extractStridedSlice S64x512 ![o, 0] L e) bitsLt_bf16_f32) bitsLt_bf16_f32)) bitsLt_bf16_f32)
      (constant S512x512 .f32 0x00000000#32)))

theorem chunkA_at (o a : ℕ) (e : S256x512.Slices ![o, 0] S64x512) (ho : o + 64 ≤ 256) (L : FVec Ideal S256x512 .f32) (M : FVec Ideal S512x64 .bf16)
    (el : ∀ (r : Fin 256) (c : Fin 512), (L (ix2 r c) : EReal) = (lg x gm (a + r.val) c.val : ℝ))
    (em : ∀ (r : Fin 512) (j : Fin 64), (M (ix2 r j) : EReal) = ((if lo r.val ≤ j.val ∧ j.val < hi r.val then 1 else 0 : ℝ) : EReal))
    (r c : Fin 512) :
    (chunkA o e L M (ix2 r c) : EReal)
      = (Real.exp (pre x gm c.val (a + o + hi r.val) - pre x gm c.val (a + o + lo r.val)) : ℝ) := by
  pointwise [chunkA]
  have hw := window_ok r
  have z : ∀ j : Fin 64, ((lg x gm (a + (o + j.val)) c.val - lg x gm (a + (o + j.val)) c.val : ℝ)) = 0 := fun j => sub_self _
  simp only [em, el, ← EReal.coe_sub, ← EReal.coe_mul, coe_sum, ← EReal.coe_add, z, mul_zero, Finset.sum_const_zero, add_zero, Ideal.exp_coe]
  rw [← pre_window x gm c.val (a + o) (lo r.val) (hi r.val) hw.1 hw.2]
  refine congrArg (fun z : ℝ => ((Real.exp z : ℝ) : EReal)) ?_
  exact Finset.sum_congr rfl fun j _ => by rw [add_assoc]

/-- The product of one level: the rows' queries and keys, each times its decay. -/
def prod (A q k : FVec Ideal S64x128 .f32) : FVec Ideal S64x64 .f32 :=
  matmul dot_S64x128_S64x128_S64x64_1_1_0_0_n_n none (truncf .bf16 (mulf q A) bitsLt_bf16_f32) (truncf .bf16 (mulf k A) bitsLt_bf16_f32)
    (constant S64x64 .f32 0x00000000#32)

/-- The product of the diagonal, where nothing decays. -/
def prod0 (q k : FVec Ideal S64x128 .f32) : FVec Ideal S64x64 .f32 :=
  matmul dot_S64x128_S64x128_S64x64_1_1_0_0_n_n none (truncf .bf16 q bitsLt_bf16_f32) (truncf .bf16 k bitsLt_bf16_f32)
    (constant S64x64 .f32 0x00000000#32)

theorem prod_at (A q k : FVec Ideal S64x128 .f32) (t s : Fin 64) :
    (prod A q k (ix2 t s) : EReal) = ∑ c : Fin 128, ((q (ix2 t c) : EReal) * A (ix2 t c)) * ((k (ix2 s c) : EReal) * A (ix2 s c)) := by
  pointwise [prod]

theorem prod0_at (q k : FVec Ideal S64x128 .f32) (t s : Fin 64) :
    (prod0 q k (ix2 t s) : EReal) = ∑ c : Fin 128, (q (ix2 t c) : EReal) * k (ix2 s c) := by
  pointwise [prod0]

/-- The weights of one chunk, each pair of rows from the level whose mask holds there. -/
def sel (p0 p1 p2 p3 p4 p5 p6 : FVec Ideal S64x64 .f32) : FVec Ideal S64x64 .f32 :=
  select m1 p6 (select m2 p5 (select m4 p4 (select m8 p3 (select m16 p2 (select m32 p1 (select k0_pay15 p0
    (broadcast S64x64 (Scalar.ofBits .f32 0x00000000#32))))))))

/-- What the rows of one chunk hand to their own values. -/
def dvi (sc : FVec Ideal S64x64 .f32) (D : FVec Ideal S64x128 .f32) : FVec Ideal S64x128 .f32 :=
  matmul dot_S64x64_S64x128_S64x128_0_0_1_1_n_n none (truncf .bf16 sc bitsLt_bf16_f32) (truncf .bf16 D bitsLt_bf16_f32)
    (constant S64x128 .f32 0x00000000#32)

/-- What the later chunks hand to the values of one chunk. -/
def dvs (A k : FVec Ideal S64x128 .f32) (Z : FVec Ideal S128x128 .f32) : FVec Ideal S64x128 .f32 :=
  matmul dot_S64x128_S128x128_S64x128_1_1_0_0_n_n none (truncf .bf16 (mulf k A) bitsLt_bf16_f32) (truncf .bf16 Z bitsLt_bf16_f32)
    (constant S64x128 .f32 0x00000000#32)

/-- One chunk's step of the state's gradient. -/
def dstep (A q D : FVec Ideal S64x128 .f32) (Z : FVec Ideal S128x128 .f32) : FVec Ideal S128x128 .f32 :=
  addf (mulf Z (broadcastTo S128x128 (extractStridedSlice S1x128 ![63, 0] A slices_S64x128_o63_0_S1x128) broadcasts_S1x128_S128x128))
    (matmul dot_S64x128_S64x128_S128x128_0_0_1_1_n_n none (truncf .bf16 D bitsLt_bf16_f32) (truncf .bf16 (mulf q A) bitsLt_bf16_f32)
      (constant S128x128 .f32 0x00000000#32))

section chunk

variable (c0 a : ℕ) (ha : a + 64 ≤ 4096) (q k D : FVec Ideal S64x128 .f32) (Z : FVec Ideal S128x128 .f32) (A : Fin 8 → FVec Ideal S64x128 .f32)
  (eq : ∀ (t : Fin 64) (j : Fin 128), (q (ix2 t j) : EReal) = (qq x (a + t.val) (c0 + j.val) : ℝ))
  (ek : ∀ (t : Fin 64) (j : Fin 128), (k (ix2 t j) : EReal) = (kk x gm (a + t.val) (c0 + j.val) : ℝ))
  (ed : ∀ (t : Fin 64) (j : Fin 128), (D (ix2 t j) : EReal) = (at2 d (a + t.val) (c0 + j.val) : ℝ))
  (ez : ∀ (v j : Fin 128), (Z (ix2 v j) : EReal) = (dst x gm d c0 (a + 64) v.val j.val : ℝ))
  (eA : ∀ (L : Fin 8) (t : Fin 64) (j : Fin 128), (A L (ix2 t j) : EReal)
    = (Real.exp (pre x gm (c0 + j.val) (a + hi (64 * L.val + t.val)) - pre x gm (c0 + j.val) (a + lo (64 * L.val + t.val))) : ℝ))

include eq ek eA in
theorem prod_scr (L : Fin 8) (t s : Fin 64) (h : Meets L.val t.val s.val) :
    (prod (A L) q k (ix2 t s) : EReal) = (scr x gm c0 (a + t.val) (a + s.val) : ℝ) := by
  obtain ⟨h1, h2, h3, h4⟩ := h
  rw [prod_at]
  unfold scr
  simp only [eq, ek, eA L _ _, ← EReal.coe_mul, coe_sum]
  refine congrArg _ (Finset.sum_congr rfl fun j _ => ?_)
  rw [h2, h3, h4, ← add_assoc, ← add_assoc, show pre x gm (c0 + j.val) (a + t.val + 1) - pre x gm (c0 + j.val) (a + s.val + 1)
    = (pre x gm (c0 + j.val) (a + t.val + 1) - pre x gm (c0 + j.val) (a + hi (64 * L.val + s.val)))
      + (pre x gm (c0 + j.val) (a + hi (64 * L.val + s.val)) - pre x gm (c0 + j.val) (a + s.val + 1)) by ring, Real.exp_add]
  ring

include eq ek eA in
theorem sel_at (t s : Fin 64) :
    (sel (prod0 q k) (prod (A 2) q k) (prod (A 3) q k) (prod (A 4) q k) (prod (A 5) q k) (prod (A 6) q k) (prod (A 7) q k) (ix2 t s) : EReal)
      = ((if s.val ≤ t.val then scr x gm c0 (a + t.val) (a + s.val) else 0 : ℝ) : EReal) := by
  have P := prod_scr x gm c0 a q k A eq ek eA
  have P0 : k0_pay15 (ix2 t s) = 1#1 → (prod0 q k (ix2 t s) : EReal) = (scr x gm c0 (a + t.val) (a + s.val) : ℝ) := by
    intro h
    rw [m0_meets t s h, prod0_at]
    unfold scr
    simp only [eq, ek, ← EReal.coe_mul, coe_sum, sub_self, Real.exp_zero, mul_one]
  show (Scalar.select (m1 (ix2 t s)) _ (Scalar.select (m2 (ix2 t s)) _ (Scalar.select (m4 (ix2 t s)) _ (Scalar.select (m8 (ix2 t s)) _
    (Scalar.select (m16 (ix2 t s)) _ (Scalar.select (m32 (ix2 t s)) _ (Scalar.select (k0_pay15 (ix2 t s)) _ (Ideal.ofBits .f32 0x00000000#32))))))) : EReal) = _
  have pick : ∀ (b : BitVec 1) (u v w : EReal), (b = 1#1 → u = w) → (b ≠ 1#1 → v = w) → (Scalar.select b u v : EReal) = w := by
    intro b u v w h1 h2
    show (if b = 1#1 then u else v) = w
    by_cases hb : b = 1#1
    · rw [if_pos hb]; exact h1 hb
    · rw [if_neg hb]; exact h2 hb
  by_cases h : s.val ≤ t.val
  · rw [if_pos h]
    refine pick _ _ _ _ (fun e => P 7 t s (m1_meets t s e)) fun n1 => ?_
    refine pick _ _ _ _ (fun e => P 6 t s (m2_meets t s e)) fun n2 => ?_
    refine pick _ _ _ _ (fun e => P 5 t s (m4_meets t s e)) fun n3 => ?_
    refine pick _ _ _ _ (fun e => P 4 t s (m8_meets t s e)) fun n4 => ?_
    refine pick _ _ _ _ (fun e => P 3 t s (m16_meets t s e)) fun n5 => ?_
    refine pick _ _ _ _ (fun e => P 2 t s (m32_meets t s e)) fun n6 => ?_
    refine pick _ _ _ _ P0 fun n0 => ?_
    exact absurd (m_some t s h) (by simp only [n0, n1, n2, n3, n4, n5, n6, or_self, not_false_eq_true])
  · rw [if_neg h]
    refine pick _ _ _ _ (fun e => absurd (m1_meets t s e).1 h) fun n1 => ?_
    refine pick _ _ _ _ (fun e => absurd (m2_meets t s e).1 h) fun n2 => ?_
    refine pick _ _ _ _ (fun e => absurd (m4_meets t s e).1 h) fun n3 => ?_
    refine pick _ _ _ _ (fun e => absurd (m8_meets t s e).1 h) fun n4 => ?_
    refine pick _ _ _ _ (fun e => absurd (m16_meets t s e).1 h) fun n5 => ?_
    refine pick _ _ _ _ (fun e => absurd (m32_meets t s e).1 h) fun n6 => ?_
    refine pick _ _ _ _ (fun e => absurd (congrArg Fin.val (m0_meets t s e)) (by omega)) fun n0 => ?_
    simp [Ideal.ofBits, Ideal.ieee]

include ha eq ek ed ez eA in
theorem piece_at (s : Fin 64) (v : Fin 128) :
    (addf (dvi (sel (prod0 q k) (prod (A 2) q k) (prod (A 3) q k) (prod (A 4) q k) (prod (A 5) q k) (prod (A 6) q k) (prod (A 7) q k)) D)
      (dvs (A 1) k Z) (ix2 s v) : EReal) = (dhi x gm d c0 (a + s.val) v.val : ℝ) := by
  have S := sel_at x gm c0 a q k A eq ek eA
  rw [← dhi_chunk x gm d c0 a v.val s ha]
  pointwise [dvi, dvs]
  simp only [S, ed, ek, ez, eA 1 _ _, ← EReal.coe_mul, coe_sum]
  have h1 : hi (64 * (1 : Fin 8).val + s.val) = 64 := by show hi (64 * 1 + s.val) = _; unfold hi; rw [if_neg (by omega), if_pos (by omega)]
  have h2 : lo (64 * (1 : Fin 8).val + s.val) = s.val + 1 := by show lo (64 * 1 + s.val) = _; unfold lo; rw [if_neg (by omega), if_pos (by omega)]; omega
  rw [h1, h2, ← EReal.coe_add]

include ha eq ed ez eA in
theorem dstep_at (v j : Fin 128) : (dstep (A 0) q D Z (ix2 v j) : EReal) = (dst x gm d c0 a v.val j.val : ℝ) := by
  rw [← dst_step x gm d c0 a v.val j.val ha]
  pointwise [dstep]
  simp only [ed, eq, ez, eA 0 _ _, ← EReal.coe_mul, coe_sum]
  have h1 : ∀ i : Fin 64, hi (64 * (0 : Fin 8).val + i.val) = i.val + 1 := fun i => by show hi (64 * 0 + i.val) = _; unfold hi; rw [if_pos (by omega)]; omega
  have h2 : ∀ i : Fin 64, lo (64 * (0 : Fin 8).val + i.val) = 0 := fun i => by show lo (64 * 0 + i.val) = _; unfold lo; rw [if_pos (by omega)]
  simp only [h1, h2, add_zero, ← EReal.coe_add]
  rfl

end chunk

end Cert.Hg

end
-- ==== Proof.HgPc.lean ====
/- The stores of the recurrence's backward body at one grid point: the values' gradient of the block's four chunks and
   four heads, and the state's gradient handed to the earlier block. -/
module

public import proofs.«01_k».proof.Proof.HgPay
public import Idealize.ShloMosaic.Lib.Pipeline.ReadBack
public import Idealize.ShloMosaic.Lib.WritesUnit

@[expose] public section

set_option maxRecDepth 16384

noncomputable section

namespace Cert.Hg

open Idealize.ShloMosaic Idealize.ShloMosaic.TcCoe Idealize.SL.Sem Cert.Ffn
open Cert.Kernel2Ideal Cert.Kernel2Ideal.Gen

theorem cut_ok (s h : Fin 4) : S256x512.Slices ![64 * s.val, 128 * h.val] S64x128 := by
  revert s h; decide

theorem row_ok (s : Fin 4) : S256x512.Slices ![64 * s.val, 0] S64x512 := by
  revert s; decide

theorem lev_ok (L : Fin 8) (h : Fin 4) : S512x512.Slices ![64 * L.val, 128 * h.val] S64x128 := by
  revert L h; decide

/-- One chunk's rows of one head's columns. -/
def cut (X : FVec Ideal S256x512 .f32) (s h : Fin 4) : FVec Ideal S64x128 .f32 :=
  extractStridedSlice S64x128 ![64 * s.val, 128 * h.val] X (cut_ok s h)

/-- One chunk's decays of one head, by level. -/
def dec (L : FVec Ideal S256x512 .f32) (M : FVec Ideal S512x64 .bf16) (s h : Fin 4) (l : Fin 8) : FVec Ideal S64x128 .f32 :=
  extractStridedSlice S64x128 ![64 * l.val, 128 * h.val] (chunkA (64 * s.val) (row_ok s) L M) (lev_ok l h)

/-- The values' gradient of one chunk and one head, from the state's gradient after the chunk. -/
def pc (Q K L : FVec Ideal S256x512 .f32) (M : FVec Ideal S512x64 .bf16) (D : FVec Ideal S256x512 .f32) (s h : Fin 4)
    (Z : FVec Ideal S128x128 .f32) : FVec Ideal S64x128 .f32 :=
  addf (dvi (sel (prod0 (cut Q s h) (cut K s h)) (prod (dec L M s h 2) (cut Q s h) (cut K s h)) (prod (dec L M s h 3) (cut Q s h) (cut K s h))
    (prod (dec L M s h 4) (cut Q s h) (cut K s h)) (prod (dec L M s h 5) (cut Q s h) (cut K s h)) (prod (dec L M s h 6) (cut Q s h) (cut K s h))
    (prod (dec L M s h 7) (cut Q s h) (cut K s h))) (cut D s h)) (dvs (dec L M s h 1) (cut K s h) Z)

/-- The state's gradient before one chunk, from the one after it. -/
def st (Q L : FVec Ideal S256x512 .f32) (M : FVec Ideal S512x64 .bf16) (D : FVec Ideal S256x512 .f32) (s h : Fin 4)
    (Z : FVec Ideal S128x128 .f32) : FVec Ideal S128x128 .f32 :=
  dstep (dec L M s h 0) (cut Q s h) (cut D s h) Z

section

variable (G : FVec Ideal S2x512 .f32) (HQ HF D : FVec Ideal S256x512 .f32) (M : FVec Ideal S512x64 .bf16)
  (Z0 Z1 Z2 Z3 : FVec Ideal S1x128x128 .f32)

/-- The queries, the keys and the log decays of the block. -/
abbrev bq : FVec Ideal S256x512 .f32 := k0_pay8 (F := Ideal) HQ
abbrev bk : FVec Ideal S256x512 .f32 := k0_pay12 (F := Ideal) HF (k0_pay6 (F := Ideal) G) (FloatOps.ofBits .f32 0x00000000#32)
abbrev bl : FVec Ideal S256x512 .f32 := k0_pay13 (F := Ideal) (k0_pay6 (F := Ideal) G) (k0_pay9 (F := Ideal) HF)

/-- The state's gradient before the block's last chunk, its last two, its last three and all four. -/
def z4 (h : Fin 4) (Z : FVec Ideal S1x128x128 .f32) : FVec Ideal S128x128 .f32 := shapeCast S128x128 Z shapeCasts_S1x128x128_S128x128
def z3 (h : Fin 4) (Z : FVec Ideal S1x128x128 .f32) : FVec Ideal S128x128 .f32 := st (bq HQ) (bl G HF) M D 3 h (z4 h Z)
def z2 (h : Fin 4) (Z : FVec Ideal S1x128x128 .f32) : FVec Ideal S128x128 .f32 := st (bq HQ) (bl G HF) M D 2 h (z3 G HQ HF D M h Z)
def z1 (h : Fin 4) (Z : FVec Ideal S1x128x128 .f32) : FVec Ideal S128x128 .f32 := st (bq HQ) (bl G HF) M D 1 h (z2 G HQ HF D M h Z)
def z0 (h : Fin 4) (Z : FVec Ideal S1x128x128 .f32) : FVec Ideal S128x128 .f32 := st (bq HQ) (bl G HF) M D 0 h (z1 G HQ HF D M h Z)

/-- The sixteen stores of the values' gradient. -/
def pcs : List (View.Piece (Elt Ideal) S256x512 .f32) :=
  [⟨Rect.unit ![0, 384] ![64, 128] inb_S256x512_S64x128_0_384, pc (bq HQ) (bk G HF) (bl G HF) M D 0 3 (z1 G HQ HF D M 3 Z3)⟩,
   ⟨Rect.unit ![0, 256] ![64, 128] inb_S256x512_S64x128_0_256, pc (bq HQ) (bk G HF) (bl G HF) M D 0 2 (z1 G HQ HF D M 2 Z2)⟩,
   ⟨Rect.unit ![0, 128] ![64, 128] inb_S256x512_S64x128_0_128, pc (bq HQ) (bk G HF) (bl G HF) M D 0 1 (z1 G HQ HF D M 1 Z1)⟩,
   ⟨Rect.unit ![0, 0] ![64, 128] inb_S256x512_S64x128_0_0, pc (bq HQ) (bk G HF) (bl G HF) M D 0 0 (z1 G HQ HF D M 0 Z0)⟩,
   ⟨Rect.unit ![64, 384] ![64, 128] inb_S256x512_S64x128_64_384, pc (bq HQ) (bk G HF) (bl G HF) M D 1 3 (z2 G HQ HF D M 3 Z3)⟩,
   ⟨Rect.unit ![64, 256] ![64, 128] inb_S256x512_S64x128_64_256, pc (bq HQ) (bk G HF) (bl G HF) M D 1 2 (z2 G HQ HF D M 2 Z2)⟩,
   ⟨Rect.unit ![64, 128] ![64, 128] inb_S256x512_S64x128_64_128, pc (bq HQ) (bk G HF) (bl G HF) M D 1 1 (z2 G HQ HF D M 1 Z1)⟩,
   ⟨Rect.unit ![64, 0] ![64, 128] inb_S256x512_S64x128_64_0, pc (bq HQ) (bk G HF) (bl G HF) M D 1 0 (z2 G HQ HF D M 0 Z0)⟩,
   ⟨Rect.unit ![128, 384] ![64, 128] inb_S256x512_S64x128_128_384, pc (bq HQ) (bk G HF) (bl G HF) M D 2 3 (z3 G HQ HF D M 3 Z3)⟩,
   ⟨Rect.unit ![128, 256] ![64, 128] inb_S256x512_S64x128_128_256, pc (bq HQ) (bk G HF) (bl G HF) M D 2 2 (z3 G HQ HF D M 2 Z2)⟩,
   ⟨Rect.unit ![128, 128] ![64, 128] inb_S256x512_S64x128_128_128, pc (bq HQ) (bk G HF) (bl G HF) M D 2 1 (z3 G HQ HF D M 1 Z1)⟩,
   ⟨Rect.unit ![128, 0] ![64, 128] inb_S256x512_S64x128_128_0, pc (bq HQ) (bk G HF) (bl G HF) M D 2 0 (z3 G HQ HF D M 0 Z0)⟩,
   ⟨Rect.unit ![192, 384] ![64, 128] inb_S256x512_S64x128_192_384, pc (bq HQ) (bk G HF) (bl G HF) M D 3 3 (z4 3 Z3)⟩,
   ⟨Rect.unit ![192, 256] ![64, 128] inb_S256x512_S64x128_192_256, pc (bq HQ) (bk G HF) (bl G HF) M D 3 2 (z4 2 Z2)⟩,
   ⟨Rect.unit ![192, 128] ![64, 128] inb_S256x512_S64x128_192_128, pc (bq HQ) (bk G HF) (bl G HF) M D 3 1 (z4 1 Z1)⟩,
   ⟨Rect.unit ![192, 0] ![64, 128] inb_S256x512_S64x128_192_0, pc (bq HQ) (bk G HF) (bl G HF) M D 3 0 (z4 0 Z0)⟩]

/-- The four stores of the state's gradient. -/
def zcs : List (View.Piece (Elt Ideal) S4x128x128 .f32) :=
  [⟨Rect.unit ![3, 0, 0] ![1, 128, 128] inb_S4x128x128_S1x128x128_3_0_0, shapeCast S1x128x128 (z0 G HQ HF D M 3 Z3) shapeCasts_S128x128_S1x128x128⟩,
   ⟨Rect.unit ![2, 0, 0] ![1, 128, 128] inb_S4x128x128_S1x128x128_2_0_0, shapeCast S1x128x128 (z0 G HQ HF D M 2 Z2) shapeCasts_S128x128_S1x128x128⟩,
   ⟨Rect.unit ![1, 0, 0] ![1, 128, 128] inb_S4x128x128_S1x128x128_1_0_0, shapeCast S1x128x128 (z0 G HQ HF D M 1 Z1) shapeCasts_S128x128_S1x128x128⟩,
   ⟨Rect.unit ![0, 0, 0] ![1, 128, 128] inb_S4x128x128_S1x128x128_0_0_0, shapeCast S1x128x128 (z0 G HQ HF D M 0 Z0) shapeCasts_S128x128_S1x128x128⟩]

variable (x : (⟨2, ![4096, 2048]⟩ : Shape).Idx → ℝ) (gm : (⟨2, ![2, 512]⟩ : Shape).Idx → ℝ)
  (d : (⟨2, ![4096, 512]⟩ : Shape).Idx → ℝ) (a : ℕ)

/-- What the block's operands hold: rows `a` to `a + 256` of the projections and of the incoming gradient, the gate's
    parameters, the zero-one matrix, and the state's gradient after the block. -/
structure Blocks : Prop where
  ha : a + 256 ≤ 4096
  eg : ∀ (r : Fin 2) (c : Fin 512), (G (ix2 r c) : EReal) = (at2 gm r.val c.val : ℝ)
  eq : ∀ (r : Fin 256) (c : Fin 512), (HQ (ix2 r c) : EReal) = (at2 x (a + r.val) c.val : ℝ)
  ef : ∀ (r : Fin 256) (c : Fin 512), (HF (ix2 r c) : EReal) = (at2 x (a + r.val) (512 + c.val) : ℝ)
  ed : ∀ (r : Fin 256) (c : Fin 512), (D (ix2 r c) : EReal) = (at2 d (a + r.val) c.val : ℝ)
  em : ∀ (r : Fin 512) (j : Fin 64), (M (ix2 r j) : EReal) = ((if lo r.val ≤ j.val ∧ j.val < hi r.val then 1 else 0 : ℝ) : EReal)

variable (B : Blocks G HQ HF D M x gm d a)

theorem cut_at (X : FVec Ideal S256x512 .f32) (s h : Fin 4) (t : Fin 64) (j : Fin 128) :
    cut X s h (ix2 t j) = X (ix2 ⟨64 * s.val + t.val, by omega⟩ ⟨128 * h.val + j.val, by omega⟩) := by
  pointwise [cut]

include B in
theorem dec_at (s h : Fin 4) (l : Fin 8) (t : Fin 64) (j : Fin 128) :
    (dec (bl G HF) M s h l (ix2 t j) : EReal)
      = (Real.exp (pre x gm (128 * h.val + j.val) (a + 64 * s.val + hi (64 * l.val + t.val))
          - pre x gm (128 * h.val + j.val) (a + 64 * s.val + lo (64 * l.val + t.val))) : ℝ) := by
  have e : dec (bl G HF) M s h l (ix2 t j)
      = chunkA (64 * s.val) (row_ok s) (bl G HF) M (ix2 ⟨64 * l.val + t.val, by omega⟩ ⟨128 * h.val + j.val, by omega⟩) := by
    pointwise [dec]
  rw [e]
  exact chunkA_at x gm (64 * s.val) a (row_ok s) (by omega) _ _ (pay_lg x gm G HF a B.eg B.ef) B.em _ _

/-- A state's gradient of one head is the one before row `n`. -/
abbrev Is (n : ℕ) (h : Fin 4) (Z : FVec Ideal S128x128 .f32) : Prop :=
  ∀ v j : Fin 128, (Z (ix2 v j) : EReal) = (dst x gm d (128 * h.val) n v.val j.val : ℝ)

include B in
theorem cut_q (s h : Fin 4) (t : Fin 64) (j : Fin 128) :
    (cut (bq HQ) s h (ix2 t j) : EReal) = (qq x (a + 64 * s.val + t.val) (128 * h.val + j.val) : ℝ) := by
  rw [cut_at, add_assoc]
  exact pay_q x HQ a B.eq _ _

include B in
theorem cut_k (s h : Fin 4) (t : Fin 64) (j : Fin 128) :
    (cut (bk G HF) s h (ix2 t j) : EReal) = (kk x gm (a + 64 * s.val + t.val) (128 * h.val + j.val) : ℝ) := by
  rw [cut_at, add_assoc]
  exact pay_k x gm G HF a B.eg B.ef _ _

include B in
theorem cut_d (s h : Fin 4) (t : Fin 64) (j : Fin 128) :
    (cut D s h (ix2 t j) : EReal) = (at2 d (a + 64 * s.val + t.val) (128 * h.val + j.val) : ℝ) := by
  rw [cut_at, add_assoc]
  exact B.ed _ _

include B in
theorem pc_at (s h : Fin 4) (Z : FVec Ideal S128x128 .f32) (hZ : Is x gm d (a + 64 * s.val + 64) h Z) (t : Fin 64) (v : Fin 128) :
    (pc (bq HQ) (bk G HF) (bl G HF) M D s h Z (ix2 t v) : EReal) = (dhi x gm d (128 * h.val) (a + 64 * s.val + t.val) v.val : ℝ) :=
  piece_at x gm d (128 * h.val) (a + 64 * s.val) (by have := B.ha; omega) (cut (bq HQ) s h) (cut (bk G HF) s h) (cut D s h) Z (dec (bl G HF) M s h)
    (cut_q G HQ HF D M x gm d a B s h) (cut_k G HQ HF D M x gm d a B s h) (cut_d G HQ HF D M x gm d a B s h) hZ (dec_at G HQ HF D M x gm d a B s h) t v

include B in
theorem st_at (s h : Fin 4) (Z : FVec Ideal S128x128 .f32) (hZ : Is x gm d (a + 64 * s.val + 64) h Z) :
    Is x gm d (a + 64 * s.val) h (st (bq HQ) (bl G HF) M D s h Z) := fun v j =>
  dstep_at x gm d (128 * h.val) (a + 64 * s.val) (by have := B.ha; omega) (cut (bq HQ) s h) (cut D s h) Z (dec (bl G HF) M s h)
    (cut_q G HQ HF D M x gm d a B s h) (cut_d G HQ HF D M x gm d a B s h) hZ (dec_at G HQ HF D M x gm d a B s h) v j

section head

variable (h : Fin 4) (Z : FVec Ideal S1x128x128 .f32)
  (hZ : ∀ v j : Fin 128, (Z (ix3 0 v j) : EReal) = (dst x gm d (128 * h.val) (a + 256) v.val j.val : ℝ))

include hZ in
theorem z4_at : Is x gm d (a + 256) h (z4 h Z) := by
  intro v j
  refine Eq.trans ?_ (hZ v j)
  pointwise [z4]

include B hZ
theorem z3_at : Is x gm d (a + 192) h (z3 G HQ HF D M h Z) := st_at G HQ HF D M x gm d a B 3 h _ (z4_at x gm d a h Z hZ)
theorem z2_at : Is x gm d (a + 128) h (z2 G HQ HF D M h Z) := st_at G HQ HF D M x gm d a B 2 h _ (z3_at G HQ HF D M x gm d a B h Z hZ)
theorem z1_at : Is x gm d (a + 64) h (z1 G HQ HF D M h Z) := st_at G HQ HF D M x gm d a B 1 h _ (z2_at G HQ HF D M x gm d a B h Z hZ)
theorem z0_at : Is x gm d a h (z0 G HQ HF D M h Z) := st_at G HQ HF D M x gm d a B 0 h _ (z1_at G HQ HF D M x gm d a B h Z hZ)

end head

theorem pcs_piece (s h : Fin 4) (o w : ℕ) (ho : o = 64 * s.val) (hw : w = 128 * h.val)
    (inb : ∀ b, (![o, w] : Fin 2 → ℕ) b + (![64, 128] : Fin 2 → ℕ) b ≤ S256x512.size b) (P : FVec Ideal S64x128 .f32)
    (hP : ∀ (t : Fin 64) (v : Fin 128), (P (ix2 t v) : EReal) = (dhi x gm d (128 * h.val) (a + 64 * s.val + t.val) v.val : ℝ))
    (z : Shape.Idx ⟨2, ![64, 128]⟩) :
    P z = (fun y : S256x512.Idx => ((dhi x gm d (128 * ((y 1 : Fin 512).val / 128)) (a + (y 0 : Fin 256).val) ((y 1 : Fin 512).val % 128) : ℝ) : EReal))
      ((Rect.unit (s := S256x512) ![o, w] ![64, 128] inb).emb z) := by
  obtain ⟨t, v, rfl⟩ : ∃ (t : Fin 64) (v : Fin 128), z = ix2 t v := ⟨z 0, z 1, by ext b; fin_cases b <;> rfl⟩
  refine (hP t v).trans ?_
  have e0 : ((Rect.unit (s := S256x512) ![o, w] ![64, 128] inb).emb (ix2 t v) 0 : Fin 256).val = o + t.val := by
    show o + 1 * t.val = _
    omega
  have e1 : ((Rect.unit (s := S256x512) ![o, w] ![64, 128] inb).emb (ix2 t v) 1 : Fin 512).val = w + v.val := by
    show w + 1 * v.val = _
    omega
  dsimp only
  rw [e0, e1, show (w + v.val) / 128 = h.val by omega, show (w + v.val) % 128 = v.val by omega, ho, add_assoc]

theorem zcs_piece (h : Fin 4) (o : ℕ) (ho : o = h.val)
    (inb : ∀ b, (![o, 0, 0] : Fin 3 → ℕ) b + (![1, 128, 128] : Fin 3 → ℕ) b ≤ S4x128x128.size b) (P : FVec Ideal S128x128 .f32)
    (hP : Is x gm d a h P) (z : Shape.Idx ⟨3, ![1, 128, 128]⟩) :
    shapeCast S1x128x128 P shapeCasts_S128x128_S1x128x128 z
      = (fun y : S4x128x128.Idx => ((dst x gm d (128 * (y 0 : Fin 4).val) a (y 1 : Fin 128).val (y 2 : Fin 128).val : ℝ) : EReal))
      ((Rect.unit (s := S4x128x128) ![o, 0, 0] ![1, 128, 128] inb).emb z) := by
  obtain ⟨u, t, v, rfl⟩ : ∃ (u : Fin 1) (t v : Fin 128), z = ix3 u t v := ⟨z 0, z 1, z 2, by ext b; fin_cases b <;> rfl⟩
  have e : shapeCast S1x128x128 P shapeCasts_S128x128_S1x128x128 (ix3 u t v) = P (ix2 t v) := by
    pointwise []
  refine e.trans ((hP t v).trans ?_)
  have e0 : ((Rect.unit (s := S4x128x128) ![o, 0, 0] ![1, 128, 128] inb).emb (ix3 u t v) 0 : Fin 4).val = h.val := by
    show o + 1 * u.val = _
    omega
  have e1 : ((Rect.unit (s := S4x128x128) ![o, 0, 0] ![1, 128, 128] inb).emb (ix3 u t v) 1 : Fin 128).val = t.val := by
    show 0 + 1 * t.val = _
    omega
  have e2 : ((Rect.unit (s := S4x128x128) ![o, 0, 0] ![1, 128, 128] inb).emb (ix3 u t v) 2 : Fin 128).val = v.val := by
    show 0 + 1 * v.val = _
    omega
  dsimp only
  rw [e0, e1, e2]

variable (hz0 : ∀ v j : Fin 128, (Z0 (ix3 0 v j) : EReal) = (dst x gm d (128 * (0 : Fin 4).val) (a + 256) v.val j.val : ℝ))
  (hz1 : ∀ v j : Fin 128, (Z1 (ix3 0 v j) : EReal) = (dst x gm d (128 * (1 : Fin 4).val) (a + 256) v.val j.val : ℝ))
  (hz2 : ∀ v j : Fin 128, (Z2 (ix3 0 v j) : EReal) = (dst x gm d (128 * (2 : Fin 4).val) (a + 256) v.val j.val : ℝ))
  (hz3 : ∀ v j : Fin 128, (Z3 (ix3 0 v j) : EReal) = (dst x gm d (128 * (3 : Fin 4).val) (a + 256) v.val j.val : ℝ))

/-- Every entry is in one of the sixteen rectangles. -/
theorem pcs_cover (y : S256x512.Idx) : ∃ p ∈ pcs G HQ HF D M Z0 Z1 Z2 Z3, y ∈ p.1.set := by
  obtain ⟨r, n, rfl⟩ : ∃ (r : Fin 256) (n : Fin 512), y = ix2 r n := ⟨y 0, y 1, by ext b; fin_cases b <;> rfl⟩
  have hr := r.isLt
  have hn := n.isLt
  have key : ∀ (o w : ℕ) (inb : ∀ b, (![o, w] : Fin 2 → ℕ) b + (![64, 128] : Fin 2 → ℕ) b ≤ S256x512.size b),
      o ≤ r.val → r.val < o + 64 → w ≤ n.val → n.val < w + 128 → ix2 r n ∈ (Rect.unit (s := S256x512) ![o, w] ![64, 128] inb).set := by
    intro o w inb h1 h2 h3 h4
    rw [Rect.mem_set_unit]
    intro b
    fin_cases b
    · exact ⟨h1, h2⟩
    · exact ⟨h3, h4⟩
  have hs : r.val < 64 ∨ (64 ≤ r.val ∧ r.val < 128) ∨ (128 ≤ r.val ∧ r.val < 192) ∨ 192 ≤ r.val := by omega
  have hh : n.val < 128 ∨ (128 ≤ n.val ∧ n.val < 256) ∨ (256 ≤ n.val ∧ n.val < 384) ∨ 384 ≤ n.val := by omega
  unfold pcs
  simp only [List.mem_cons, List.not_mem_nil, or_false, exists_eq_or_imp, exists_eq_left]
  rcases hs with hs | hs | hs | hs <;> rcases hh with hh | hh | hh | hh
  all_goals
    repeat first
      | exact Or.inl (key _ _ _ (by omega) (by omega) (by omega) (by omega))
      | exact key _ _ _ (by omega) (by omega) (by omega) (by omega)
      | refine Or.inr ?_

/-- Every entry is in one of the four slabs. -/
theorem zcs_cover (y : S4x128x128.Idx) : ∃ p ∈ zcs G HQ HF D M Z0 Z1 Z2 Z3, y ∈ p.1.set := by
  obtain ⟨u, r, n, rfl⟩ : ∃ (u : Fin 4) (r n : Fin 128), y = ix3 u r n := ⟨y 0, y 1, y 2, by ext b; fin_cases b <;> rfl⟩
  have key : ∀ (o : ℕ) (inb : ∀ b, (![o, 0, 0] : Fin 3 → ℕ) b + (![1, 128, 128] : Fin 3 → ℕ) b ≤ S4x128x128.size b),
      o = u.val → ix3 u r n ∈ (Rect.unit (s := S4x128x128) ![o, 0, 0] ![1, 128, 128] inb).set := by
    intro o inb h1
    rw [Rect.mem_set_unit]
    have hr := r.isLt
    have hn := n.isLt
    intro b
    fin_cases b
    · show o ≤ u.val ∧ u.val < o + 1
      omega
    · show 0 ≤ r.val ∧ r.val < 0 + 128
      omega
    · show 0 ≤ n.val ∧ n.val < 0 + 128
      omega
  unfold zcs
  simp only [List.mem_cons, List.not_mem_nil, or_false, exists_eq_or_imp, exists_eq_left]
  fin_cases u
  · exact Or.inr (Or.inr (Or.inr (key 0 _ rfl)))
  · exact Or.inr (Or.inr (Or.inl (key 1 _ rfl)))
  · exact Or.inr (Or.inl (key 2 _ rfl))
  · exact Or.inl (key 3 _ rfl)

include B hz0 hz1 hz2 hz3

/-- What the sixteen stores leave. -/
theorem pcs_val (y : S256x512.Idx) :
    View.canon (pcs G HQ HF D M Z0 Z1 Z2 Z3) y
      = ((dhi x gm d (128 * ((y 1 : Fin 512).val / 128)) (a + (y 0 : Fin 256).val) ((y 1 : Fin 512).val % 128) : ℝ) : EReal) := by
  refine View.canon_append_of_piecesOf (Val := Elt Ideal) (e := .f32) (fun y : S256x512.Idx =>
    ((dhi x gm d (128 * ((y 1 : Fin 512).val / 128)) (a + (y 0 : Fin 256).val) ((y 1 : Fin 512).val % 128) : ℝ) : EReal))
    [] (pcs G HQ HF D M Z0 Z1 Z2 Z3) ⟨?_, ?_, ?_, ?_, ?_, ?_, ?_, ?_, ?_, ?_, ?_, ?_, ?_, ?_, ?_, ?_, trivial⟩ y (pcs_cover G HQ HF D M Z0 Z1 Z2 Z3 y)
  · exact pcs_piece x gm d a 0 3 (64 * 0) (128 * 3) rfl rfl inb_S256x512_S64x128_0_384 _ (pc_at G HQ HF D M x gm d a B 0 3 _ (z1_at G HQ HF D M x gm d a B 3 _ hz3))
  · exact pcs_piece x gm d a 0 2 (64 * 0) (128 * 2) rfl rfl inb_S256x512_S64x128_0_256 _ (pc_at G HQ HF D M x gm d a B 0 2 _ (z1_at G HQ HF D M x gm d a B 2 _ hz2))
  · exact pcs_piece x gm d a 0 1 (64 * 0) (128 * 1) rfl rfl inb_S256x512_S64x128_0_128 _ (pc_at G HQ HF D M x gm d a B 0 1 _ (z1_at G HQ HF D M x gm d a B 1 _ hz1))
  · exact pcs_piece x gm d a 0 0 (64 * 0) (128 * 0) rfl rfl inb_S256x512_S64x128_0_0 _ (pc_at G HQ HF D M x gm d a B 0 0 _ (z1_at G HQ HF D M x gm d a B 0 _ hz0))
  · exact pcs_piece x gm d a 1 3 (64 * 1) (128 * 3) rfl rfl inb_S256x512_S64x128_64_384 _ (pc_at G HQ HF D M x gm d a B 1 3 _ (z2_at G HQ HF D M x gm d a B 3 _ hz3))
  · exact pcs_piece x gm d a 1 2 (64 * 1) (128 * 2) rfl rfl inb_S256x512_S64x128_64_256 _ (pc_at G HQ HF D M x gm d a B 1 2 _ (z2_at G HQ HF D M x gm d a B 2 _ hz2))
  · exact pcs_piece x gm d a 1 1 (64 * 1) (128 * 1) rfl rfl inb_S256x512_S64x128_64_128 _ (pc_at G HQ HF D M x gm d a B 1 1 _ (z2_at G HQ HF D M x gm d a B 1 _ hz1))
  · exact pcs_piece x gm d a 1 0 (64 * 1) (128 * 0) rfl rfl inb_S256x512_S64x128_64_0 _ (pc_at G HQ HF D M x gm d a B 1 0 _ (z2_at G HQ HF D M x gm d a B 0 _ hz0))
  · exact pcs_piece x gm d a 2 3 (64 * 2) (128 * 3) rfl rfl inb_S256x512_S64x128_128_384 _ (pc_at G HQ HF D M x gm d a B 2 3 _ (z3_at G HQ HF D M x gm d a B 3 _ hz3))
  · exact pcs_piece x gm d a 2 2 (64 * 2) (128 * 2) rfl rfl inb_S256x512_S64x128_128_256 _ (pc_at G HQ HF D M x gm d a B 2 2 _ (z3_at G HQ HF D M x gm d a B 2 _ hz2))
  · exact pcs_piece x gm d a 2 1 (64 * 2) (128 * 1) rfl rfl inb_S256x512_S64x128_128_128 _ (pc_at G HQ HF D M x gm d a B 2 1 _ (z3_at G HQ HF D M x gm d a B 1 _ hz1))
  · exact pcs_piece x gm d a 2 0 (64 * 2) (128 * 0) rfl rfl inb_S256x512_S64x128_128_0 _ (pc_at G HQ HF D M x gm d a B 2 0 _ (z3_at G HQ HF D M x gm d a B 0 _ hz0))
  · exact pcs_piece x gm d a 3 3 (64 * 3) (128 * 3) rfl rfl inb_S256x512_S64x128_192_384 _ (pc_at G HQ HF D M x gm d a B 3 3 _ (z4_at x gm d a 3 _ hz3))
  · exact pcs_piece x gm d a 3 2 (64 * 3) (128 * 2) rfl rfl inb_S256x512_S64x128_192_256 _ (pc_at G HQ HF D M x gm d a B 3 2 _ (z4_at x gm d a 2 _ hz2))
  · exact pcs_piece x gm d a 3 1 (64 * 3) (128 * 1) rfl rfl inb_S256x512_S64x128_192_128 _ (pc_at G HQ HF D M x gm d a B 3 1 _ (z4_at x gm d a 1 _ hz1))
  · exact pcs_piece x gm d a 3 0 (64 * 3) (128 * 0) rfl rfl inb_S256x512_S64x128_192_0 _ (pc_at G HQ HF D M x gm d a B 3 0 _ (z4_at x gm d a 0 _ hz0))

/-- What the four stores of the state's gradient leave, whatever the scratch held. -/
theorem zcs_val (L' : List (View.Piece (Elt Ideal) S4x128x128 .f32)) (y : S4x128x128.Idx) :
    View.canon (zcs G HQ HF D M Z0 Z1 Z2 Z3 ++ L') y
      = ((dst x gm d (128 * (y 0 : Fin 4).val) a (y 1 : Fin 128).val (y 2 : Fin 128).val : ℝ) : EReal) := by
  refine View.canon_append_of_piecesOf (Val := Elt Ideal) (e := .f32) (fun y : S4x128x128.Idx =>
    ((dst x gm d (128 * (y 0 : Fin 4).val) a (y 1 : Fin 128).val (y 2 : Fin 128).val : ℝ) : EReal))
    L' (zcs G HQ HF D M Z0 Z1 Z2 Z3) ⟨?_, ?_, ?_, ?_, trivial⟩ y (zcs_cover G HQ HF D M Z0 Z1 Z2 Z3 y)
  · exact zcs_piece x gm d a 3 3 rfl inb_S4x128x128_S1x128x128_3_0_0 _ (z0_at G HQ HF D M x gm d a B 3 _ hz3)
  · exact zcs_piece x gm d a 2 2 rfl inb_S4x128x128_S1x128x128_2_0_0 _ (z0_at G HQ HF D M x gm d a B 2 _ hz2)
  · exact zcs_piece x gm d a 1 1 rfl inb_S4x128x128_S1x128x128_1_0_0 _ (z0_at G HQ HF D M x gm d a B 1 _ hz1)
  · exact zcs_piece x gm d a 0 0 rfl inb_S4x128x128_S1x128x128_0_0_0 _ (z0_at G HQ HF D M x gm d a B 0 _ hz0)

end

end Cert.Hg

end
-- ==== Proof.HgQry.lean ====
/- The queries' gradient of the recurrence: as one sum over the earlier positions, as the kernel's chunks add it up from
   the state before the chunk, and what the body computes for one chunk and one head. -/
module

public import proofs.«01_k».proof.Proof.HgPc

@[expose] public section

set_option maxRecDepth 16384

noncomputable section

namespace Cert.Hg

open Idealize.ShloMosaic Idealize.ShloMosaic.TcCoe Idealize.SL.Sem Cert.Ffn
open Cert.Kernel2Ideal Cert.Kernel2Ideal.Gen

variable (x : (⟨2, ![4096, 2048]⟩ : Shape).Idx → ℝ) (gm : (⟨2, ![2, 512]⟩ : Shape).Idx → ℝ)
  (d : (⟨2, ![4096, 512]⟩ : Shape).Idx → ℝ)

/-- What the incoming gradient of position `t` says of the values of position `s`. -/
def dat (c0 t s : ℕ) : ℝ := ∑ v : Fin 128, at2 d t (c0 + v.val) * at2 x s (1024 + (c0 + v.val))

/-- The weight with which key `s` reaches position `n`. -/
def wk (c s n : ℕ) : ℝ := Real.exp (pre x gm c n - pre x gm c (s + 1)) * kk x gm s c

/-- The state before row `a`. -/
def sta (c0 a v k : ℕ) : ℝ := ∑ s ∈ Finset.range a, wk x gm (c0 + k) s a * at2 x s (1024 + (c0 + v))

/-- The gradient of the gated query. -/
def dqr (c0 t k : ℕ) : ℝ := ∑ s ∈ Finset.range (t + 1), dat x d c0 t s * wk x gm (c0 + k) s (t + 1)

/-- The gradient of the query before its gate. -/
def dhq (c t : ℕ) : ℝ :=
  dqr x gm d (128 * (c / 128)) t (c % 128) * (sg (at2 x t c) * (1 + at2 x t c * (1 - sg (at2 x t c))))

theorem wk_step (c s a n : ℕ) : Real.exp (pre x gm c n - pre x gm c a) * wk x gm c s a = wk x gm c s n := by
  unfold wk
  rw [← mul_assoc, ← Real.exp_add]
  congr 2
  ring

/-- A row of the queries' gradient: the earlier chunks through the state, and its own chunk's positions. -/
theorem dqr_chunk (c0 a k : ℕ) (i : Fin 64) :
    Real.exp (pre x gm (c0 + k) (a + (i.val + 1)) - pre x gm (c0 + k) a)
        * (∑ v : Fin 128, at2 d (a + i.val) (c0 + v.val) * sta x gm c0 a v.val k)
      + (∑ s : Fin 64, (if s.val ≤ i.val then 1 else 0) * (dat x d c0 (a + i.val) (a + s.val) * wk x gm (c0 + k) (a + s.val) (a + (i.val + 1))))
      = dqr x gm d c0 (a + i.val) k := by
  have hi := i.isLt
  unfold dqr
  rw [add_assoc, Finset.sum_range_add]
  congr 1
  · unfold sta
    simp only [Finset.mul_sum]
    rw [Finset.sum_comm]
    refine Finset.sum_congr rfl fun s _ => ?_
    unfold dat
    rw [Finset.sum_mul]
    refine Finset.sum_congr rfl fun v _ => ?_
    rw [← wk_step x gm _ s a (a + (i.val + 1))]
    ring
  · rw [Fin.sum_univ_eq_sum_range (fun s => (if s ≤ i.val then (1 : ℝ) else 0)
      * (dat x d c0 (a + i.val) (a + s) * wk x gm (c0 + k) (a + s) (a + (i.val + 1)))) 64,
      ← Finset.sum_subset (Finset.range_subset_range.2 (show i.val + 1 ≤ 64 by omega))]
    · refine Finset.sum_congr rfl fun s hs => ?_
      rw [if_pos (by have := Finset.mem_range.1 hs; omega), one_mul]
    · intro s _ hs
      rw [if_neg (fun h => hs (Finset.mem_range.2 (by omega))), zero_mul]

/-- Of the seven masks exactly one holds where the second row is not later, none elsewhere. -/
theorem m_count : ∀ t s : Fin 64, (k0_pay15 (ix2 t s)).toNat + (m32 (ix2 t s)).toNat + (m16 (ix2 t s)).toNat + (m8 (ix2 t s)).toNat
    + (m4 (ix2 t s)).toNat + (m2 (ix2 t s)).toNat + (m1 (ix2 t s)).toNat = if s ≤ t then 1 else 0 := by decide +kernel

theorem m_sum (t s : Fin 64) (w : ℝ) : ((k0_pay15 (ix2 t s)).toNat : ℝ) * w + ((m32 (ix2 t s)).toNat : ℝ) * w + ((m16 (ix2 t s)).toNat : ℝ) * w
    + ((m8 (ix2 t s)).toNat : ℝ) * w + ((m4 (ix2 t s)).toNat : ℝ) * w + ((m2 (ix2 t s)).toNat : ℝ) * w + ((m1 (ix2 t s)).toNat : ℝ) * w
    = (if s.val ≤ t.val then 1 else 0) * w := by
  have h := congrArg (fun n : ℕ => (n : ℝ)) (m_count t s)
  push_cast at h
  rw [← add_mul, ← add_mul, ← add_mul, ← add_mul, ← add_mul, ← add_mul, h]
  rfl

theorem sel_bit (b : BitVec 1) (r : ℝ) : (Scalar.select b ((r : ℝ) : EReal) 0 : EReal) = (((b.toNat : ℝ) * r : ℝ) : EReal) := by
  show (if b = 1#1 then ((r : ℝ) : EReal) else 0) = _
  rcases BitVec.eq_zero_or_eq_one b with rfl | rfl
  · rw [if_neg (by decide)]; simp
  · rw [if_pos rfl]; simp

theorem bit_mul (b : BitVec 1) (u v : ℝ) (h : b = 1#1 → u = v) : (b.toNat : ℝ) * u = (b.toNat : ℝ) * v := by
  rcases BitVec.eq_zero_or_eq_one b with rfl | rfl
  · simp
  · rw [h rfl]

/-- What the incoming gradient says of the values, for each pair of rows of a chunk. -/
def dav (D V : FVec Ideal S64x128 .f32) : FVec Ideal S64x64 .f32 :=
  matmul dot_S64x128_S64x128_S64x64_1_1_0_0_n_n none (truncf .bf16 D bitsLt_bf16_f32) (truncf .bf16 V bitsLt_bf16_f32)
    (constant S64x64 .f32 0x00000000#32)

/-- What the state before the chunk hands to the chunk's queries. -/
def qst (A D : FVec Ideal S64x128 .f32) (S : FVec Ideal S128x128 .f32) : FVec Ideal S64x128 .f32 :=
  mulf A (matmul dot_S64x128_S128x128_S64x128_1_0_0_1_n_n none (truncf .bf16 D bitsLt_bf16_f32) (truncf .bf16 S bitsLt_bf16_f32)
    (constant S64x128 .f32 0x00000000#32))

/-- What the pairs of one mask hand to the queries. -/
def qm (b : IVec S64x64 1) (a : FVec Ideal S64x64 .f32) (k : FVec Ideal S64x128 .f32) : FVec Ideal S64x128 .f32 :=
  matmul dot_S64x64_S64x128_S64x128_1_0_0_1_n_n none
    (truncf .bf16 (select b a (broadcast S64x64 (Scalar.ofBits .f32 0x00000000#32))) bitsLt_bf16_f32) (truncf .bf16 k bitsLt_bf16_f32)
    (constant S64x128 .f32 0x00000000#32)

/-- The same for a level, whose rows decay. -/
def ql (b : IVec S64x64 1) (a : FVec Ideal S64x64 .f32) (A k : FVec Ideal S64x128 .f32) : FVec Ideal S64x128 .f32 :=
  mulf A (qm b a (mulf k A))

/-- The queries' gradient of one chunk and one head. -/
def dqi (A : Fin 8 → FVec Ideal S64x128 .f32) (k D V : FVec Ideal S64x128 .f32) (S : FVec Ideal S128x128 .f32) : FVec Ideal S64x128 .f32 :=
  addf (addf (addf (addf (addf (addf (addf (qst (A 0) D S) (qm k0_pay15 (dav D V) k)) (ql m32 (dav D V) (A 2) k)) (ql m16 (dav D V) (A 3) k))
    (ql m8 (dav D V) (A 4) k)) (ql m4 (dav D V) (A 5) k)) (ql m2 (dav D V) (A 6) k)) (ql m1 (dav D V) (A 7) k)

section chunk

variable (c0 a : ℕ) (k D V : FVec Ideal S64x128 .f32) (S : FVec Ideal S128x128 .f32) (A : Fin 8 → FVec Ideal S64x128 .f32)
  (ek : ∀ (t : Fin 64) (j : Fin 128), (k (ix2 t j) : EReal) = (kk x gm (a + t.val) (c0 + j.val) : ℝ))
  (ed : ∀ (t : Fin 64) (j : Fin 128), (D (ix2 t j) : EReal) = (at2 d (a + t.val) (c0 + j.val) : ℝ))
  (ev : ∀ (t : Fin 64) (j : Fin 128), (V (ix2 t j) : EReal) = (at2 x (a + t.val) (1024 + (c0 + j.val)) : ℝ))
  (es : ∀ (v j : Fin 128), (S (ix2 v j) : EReal) = (sta x gm c0 a v.val j.val : ℝ))
  (eA : ∀ (L : Fin 8) (t : Fin 64) (j : Fin 128), (A L (ix2 t j) : EReal)
    = (Real.exp (pre x gm (c0 + j.val) (a + hi (64 * L.val + t.val)) - pre x gm (c0 + j.val) (a + lo (64 * L.val + t.val))) : ℝ))

include ed ev in
theorem dav_at (t s : Fin 64) : (dav D V (ix2 t s) : EReal) = (dat x d c0 (a + t.val) (a + s.val) : ℝ) := by
  pointwise [dav]
  simp only [ed, ev, ← EReal.coe_mul, coe_sum]
  rfl

include ed es eA in
theorem qst_at (t : Fin 64) (j : Fin 128) : (qst (A 0) D S (ix2 t j) : EReal)
    = (Real.exp (pre x gm (c0 + j.val) (a + (t.val + 1)) - pre x gm (c0 + j.val) a)
        * (∑ v : Fin 128, at2 d (a + t.val) (c0 + v.val) * sta x gm c0 a v.val j.val) : ℝ) := by
  pointwise [qst]
  have h1 : hi (64 * (0 : Fin 8).val + t.val) = t.val + 1 := by show hi (64 * 0 + t.val) = _; unfold hi; rw [if_pos (by omega)]; omega
  have h2 : lo (64 * (0 : Fin 8).val + t.val) = 0 := by show lo (64 * 0 + t.val) = _; unfold lo; rw [if_pos (by omega)]
  simp only [ed, es, eA 0 _ _, ← EReal.coe_mul, coe_sum, h1, h2, add_zero]

theorem qm_at (b : IVec S64x64 1) (p : FVec Ideal S64x64 .f32) (K : FVec Ideal S64x128 .f32) (f : ℕ → ℕ → ℝ) (g : ℕ → ℕ → ℝ)
    (ep : ∀ t s : Fin 64, (p (ix2 t s) : EReal) = (f t.val s.val : ℝ)) (eK : ∀ (t : Fin 64) (j : Fin 128), (K (ix2 t j) : EReal) = (g t.val j.val : ℝ))
    (t : Fin 64) (j : Fin 128) : (qm b p K (ix2 t j) : EReal) = (∑ s : Fin 64, ((b (ix2 t s)).toNat : ℝ) * f t.val s.val * g s.val j.val : ℝ) := by
  pointwise [qm]
  simp only [ep, eK, sel_bit, ← EReal.coe_mul, coe_sum, mul_assoc]

include ek ed ev in
theorem qm0_at (t : Fin 64) (j : Fin 128) : (qm k0_pay15 (dav D V) k (ix2 t j) : EReal)
    = (∑ s : Fin 64, ((k0_pay15 (ix2 t s)).toNat : ℝ) * (dat x d c0 (a + t.val) (a + s.val) * wk x gm (c0 + j.val) (a + s.val) (a + (t.val + 1))) : ℝ) := by
  rw [qm_at k0_pay15 (dav D V) k (fun t s => dat x d c0 (a + t) (a + s)) (fun s j => kk x gm (a + s) (c0 + j)) (dav_at x d c0 a D V ed ev) ek]
  refine congrArg _ (Finset.sum_congr rfl fun s _ => ?_)
  rw [mul_assoc]
  refine bit_mul _ _ _ fun h => ?_
  have e := m0_meets t s h
  subst e
  unfold wk
  rw [← add_assoc, sub_self, Real.exp_zero, one_mul]

include ek ed ev eA in
theorem ql_at (b : IVec S64x64 1) (L : Fin 8) (hb : ∀ t s : Fin 64, b (ix2 t s) = 1#1 → Meets L.val t.val s.val) (t : Fin 64) (j : Fin 128) :
    (ql b (dav D V) (A L) k (ix2 t j) : EReal)
    = (∑ s : Fin 64, ((b (ix2 t s)).toNat : ℝ) * (dat x d c0 (a + t.val) (a + s.val) * wk x gm (c0 + j.val) (a + s.val) (a + (t.val + 1))) : ℝ) := by
  have e : (ql b (dav D V) (A L) k (ix2 t j) : EReal) = (A L (ix2 t j) : EReal) * (qm b (dav D V) (mulf k (A L)) (ix2 t j) : EReal) := rfl
  rw [e, qm_at b (dav D V) (mulf k (A L)) (fun t s => dat x d c0 (a + t) (a + s)) (fun s j => kk x gm (a + s) (c0 + j)
    * Real.exp (pre x gm (c0 + j) (a + hi (64 * L.val + s)) - pre x gm (c0 + j) (a + lo (64 * L.val + s)))) (dav_at x d c0 a D V ed ev)
    (fun t j => by
      show ((k (ix2 t j) : EReal) * (A L (ix2 t j) : EReal)) = _
      rw [ek, eA, ← EReal.coe_mul]), eA, ← EReal.coe_mul, Finset.mul_sum]
  refine congrArg _ (Finset.sum_congr rfl fun s _ => ?_)
  rw [mul_assoc, mul_left_comm]
  refine bit_mul _ _ _ fun h => ?_
  obtain ⟨h1, h2, h3, h4⟩ := hb t s h
  unfold wk
  rw [h2, h3, h4, add_assoc a s.val 1, show pre x gm (c0 + j.val) (a + (t.val + 1)) - pre x gm (c0 + j.val) (a + (s.val + 1))
    = (pre x gm (c0 + j.val) (a + (t.val + 1)) - pre x gm (c0 + j.val) (a + hi (64 * L.val + s.val)))
      + (pre x gm (c0 + j.val) (a + hi (64 * L.val + s.val)) - pre x gm (c0 + j.val) (a + (s.val + 1))) by ring, Real.exp_add]
  ring

include ek ed ev es eA in
theorem dqi_at (t : Fin 64) (j : Fin 128) : (dqi A k D V S (ix2 t j) : EReal) = (dqr x gm d c0 (a + t.val) j.val : ℝ) := by
  have Q := ql_at x gm d c0 a k D V A ek ed ev eA
  have e : (dqi A k D V S (ix2 t j) : EReal) = (qst (A 0) D S (ix2 t j) : EReal) + (qm k0_pay15 (dav D V) k (ix2 t j) : EReal)
    + (ql m32 (dav D V) (A 2) k (ix2 t j) : EReal) + (ql m16 (dav D V) (A 3) k (ix2 t j) : EReal) + (ql m8 (dav D V) (A 4) k (ix2 t j) : EReal)
    + (ql m4 (dav D V) (A 5) k (ix2 t j) : EReal) + (ql m2 (dav D V) (A 6) k (ix2 t j) : EReal) + (ql m1 (dav D V) (A 7) k (ix2 t j) : EReal) := rfl
  rw [e, qst_at x gm d c0 a D S A ed es eA, qm0_at x gm d c0 a k D V ek ed ev, Q m32 2 m32_meets, Q m16 3 m16_meets, Q m8 4 m8_meets, Q m4 5 m4_meets,
    Q m2 6 m2_meets, Q m1 7 m1_meets]
  simp only [← EReal.coe_add]
  rw [← dqr_chunk, add_assoc, add_assoc, add_assoc, add_assoc, add_assoc, add_assoc]
  refine congrArg _ (congrArg _ ?_)
  simp only [← Finset.sum_add_distrib]
  refine Finset.sum_congr rfl fun s _ => ?_
  rw [← m_sum]
  ring

end chunk

end Cert.Hg

end
-- ==== Proof.HgRefQ.lean ====
/- The recurrence's reference on finite arguments: the gradient of the queries. -/
module

public import proofs.«01_k».proof.Proof.HgRef
public import proofs.«01_k».proof.Proof.HgQry

@[expose] public section

set_option maxRecDepth 16384

noncomputable section

namespace Cert.Hg

open Idealize.ShloMosaic Idealize.ShloMosaic.TcCoe Idealize.SL.Sem Cert.Ffn
open Cert.Reference2Ideal Cert.Reference2Ideal.Gen Cert.Reference2Ideal.Read

variable (x : (⟨2, ![4096, 2048]⟩ : Shape).Idx → ℝ) (gm : (⟨2, ![2, 512]⟩ : Shape).Idx → ℝ)
  (d : (⟨2, ![4096, 512]⟩ : Shape).Idx → ℝ)

theorem ref_val (r : Fin 4096) (a : Fin 4) (b : Fin 128) :
    (val_main_v84 (F := Ideal) (liftA S4096x2048 FTy.f32 x) (ix3 r a b) : EReal) = (at2 x r.val (1024 + (128 * a.val + b.val)) : ℝ) := by
  pointwise [val_main_v84, val_main_v2]
  simp only [liftA_apply, at2_fin]
  exact congrArg (fun k => ((at2 x r.val k : ℝ) : EReal)) (by show 1024 + (a.val * 128 + b.val) = _; omega)

theorem ref_dat (t s : Fin 4096) (a : Fin 4) :
    (val_main_v122 (F := Ideal) (liftA S4096x2048 FTy.f32 x) (liftA S4096x512 FTy.f32 d) (ix3 t s a) : EReal) = (dat x d (128 * a.val) t.val s.val : ℝ) := by
  pointwise [val_main_v122, val_main_v121, val_main_v120, val_main_v119]
  simp only [ref_val, liftA_apply, at2_fin, ← EReal.coe_mul, coe_sum, show ∀ b : Fin 128, a.val * 128 + b.val = 128 * a.val + b.val from fun b => by omega]
  rfl

theorem ref_wk (t s : Fin 4096) (a : Fin 4) (b : Fin 128) :
    (val_main_v134 (F := Ideal) (liftA S4096x2048 FTy.f32 x) (liftA S2x512 FTy.f32 gm) (liftA S4096x512 FTy.f32 d) (ix4 t s a b) : EReal)
      = ((if s.val ≤ t.val then dat x d (128 * a.val) t.val s.val * wk x gm (128 * a.val + b.val) s.val (t.val + 1) else 0 : ℝ) : EReal) := by
  pointwise [val_main_v134, val_main_v130, val_main_v129, val_main_v125, val_main_v112, val_main_v108_0, val_main_call4_v2, val_main_call4_v0, val_main_cst_24,
    val_main_v107, val_main_v97, val_main_v96, val_main_v95, val_main_v94, val_main_v93, val_main_v92, val_main_v91, val_main_v90, val_main_v89, val_main_v88, val_main_v87, val_main_cst_18,
    val_main_v83, val_main_v108_1]
  simp only [ref_dat, ref_pre, ref_key, ← EReal.coe_sub, bit_le, show a.val * 128 + b.val = 128 * a.val + b.val by omega]
  by_cases h : s.val ≤ t.val
  · have hp := pre_le x gm (128 * a.val + b.val) (show s.val + 1 ≤ t.val + 1 by omega)
    rw [if_pos h, if_pos h, min_eq_left (by rw [← EReal.coe_zero]; exact EReal.coe_le_coe_iff.2 (by linarith)), Ideal.exp_coe]
    unfold wk
    rw [mul_comm (Real.exp _), ← mul_assoc]
    exact (EReal.coe_mul _ _).symm ▸ (EReal.coe_mul _ _).symm ▸ rfl
  · rw [if_neg h, if_neg h]
    show (_ * Ideal.ofBits .f32 0x00000000#32 : EReal) = _
    rw [show Ideal.ofBits .f32 0x00000000#32 = 0 by simp [Ideal.ofBits, Ideal.ieee], mul_zero]
    rfl

theorem ref_dqr (t : Fin 4096) (a : Fin 4) (b : Fin 128) :
    (val_main_v137 (F := Ideal) (liftA S4096x2048 FTy.f32 x) (liftA S2x512 FTy.f32 gm) (liftA S4096x512 FTy.f32 d) (ix3 t a b) : EReal)
      = (dqr x gm d (128 * a.val) t.val b.val : ℝ) := by
  pointwise [val_main_v137, val_main_v136, val_main_v135, val_main_cst_28, val_main_cst_29]
  simp only [ref_wk, coe_sum, Finset.univ_unique, Finset.sum_singleton]
  refine congrArg _ ?_
  unfold dqr
  rw [Fin.sum_univ_eq_sum_range (fun s => if s ≤ t.val then dat x d (128 * a.val) t.val s * wk x gm (128 * a.val + b.val) s (t.val + 1) else 0) 4096,
    ← Finset.sum_subset (Finset.range_subset_range.2 (show t.val + 1 ≤ 4096 by omega))]
  · refine Finset.sum_congr rfl fun s hs => ?_
    rw [if_pos (by have := Finset.mem_range.1 hs; omega)]
  · intro s _ hs
    rw [if_neg (fun h => hs (Finset.mem_range.2 (by omega)))]

theorem ref_dhq (r : Fin 4096) (c : Fin 512) :
    (val_main_v185 (F := Ideal) (liftA S4096x2048 FTy.f32 x) (liftA S2x512 FTy.f32 gm) (liftA S4096x512 FTy.f32 d) (ix2 r c) : EReal)
      = (dhq x gm d c.val r.val : ℝ) := by
  have e : x (ix2 r ⟨c.val, by omega⟩) = at2 x r.val c.val := at2_ix x _ _ _ _
  have hs : (val_main_v3_2 (F := Ideal) (liftA S4096x2048 FTy.f32 x) (ix2 r c) : EReal) = (sg (at2 x r.val c.val) : ℝ) := by
    pointwise [val_main_v3_2, val_main_call0_v4, val_main_call0_v3, val_main_call0_v2, val_main_call0_v1, val_main_call0_v0, val_main_call0_cst_0, val_main_call0_cst,
      val_main_v0]
    simp only [liftA_apply, e, ← EReal.coe_neg, Ideal.exp_coe]
    rw [← EReal.coe_one, ← EReal.coe_add, Ideal.div_coe (one_exp_pos _).ne', ← EReal.coe_mul, one_mul]
    rfl
  pointwise [val_main_v185, val_main_call9_v1, val_main_call9_v2, val_main_call9_v0, val_main_v184, val_main_v3_1, val_main_call0_v7, val_main_call0_v6, val_main_call0_cst_1, val_main_v0]
  simp only [ref_dqr, hs, liftA_apply, e]
  rw [← EReal.coe_one, ← EReal.coe_sub, ← EReal.coe_mul, ← EReal.coe_mul, ← EReal.coe_mul, ← EReal.coe_mul, ← EReal.coe_add]
  refine congrArg _ ?_
  unfold dhq
  ring

end Cert.Hg

end
-- ==== Proof.HgFor.lean ====
/- The decays' gradient of the recurrence as one sum over the pairs of positions it lies between, and as the kernel's
   chunks add it up; the keys' gradient in the same way. -/
module

public import proofs.«01_k».proof.Proof.HgQry

@[expose] public section

set_option maxRecDepth 16384

noncomputable section

namespace Cert.Hg

open Idealize.ShloMosaic Idealize.ShloMosaic.TcCoe Cert.Ffn
open Cert.Kernel2Ideal Cert.Kernel2Ideal.Gen

variable (x : (⟨2, ![4096, 2048]⟩ : Shape).Idx → ℝ) (gm : (⟨2, ![2, 512]⟩ : Shape).Idx → ℝ)
  (d : (⟨2, ![4096, 512]⟩ : Shape).Idx → ℝ)

/-- What the pair of query `t` and key `s` hands to each decay between them. -/
def pr (c0 t s k : ℕ) : ℝ := dat x d c0 t s * (qq x t (c0 + k) * wk x gm (c0 + k) s (t + 1))

/-- The gradient of the key. -/
def dkr (c0 s k : ℕ) : ℝ :=
  ∑ t ∈ Finset.Ico s 4096, dat x d c0 t s * (qq x t (c0 + k) * Real.exp (pre x gm (c0 + k) (t + 1) - pre x gm (c0 + k) (s + 1)))

/-- The gradient of the decay's logarithm through the weights: every pair that the decay lies between. -/
def dgr (c0 r k : ℕ) : ℝ := ∑ t ∈ Finset.Ico r 4096, ∑ s ∈ Finset.range r, pr x gm d c0 t s k

/-- A sum over the rows of a chunk from one on. -/
theorem sum_from (G : ℕ → ℝ) (a j : ℕ) (hj : j ≤ 64) :
    ∑ t ∈ Finset.Ico (a + j) (a + 64), G t = ∑ t : Fin 64, if j ≤ t.val then G (a + t.val) else 0 := by
  rw [Fin.sum_univ_eq_sum_range (fun t => if j ≤ t then G (a + t) else 0) 64, ← Finset.sum_subset (s₁ := Finset.Ico j 64)
    (fun i hi => Finset.mem_range.2 (Finset.mem_Ico.1 hi).2), Finset.sum_Ico_eq_sum_range, Finset.sum_Ico_eq_sum_range]
  · rw [show a + 64 - (a + j) = 64 - j by omega]
    refine Finset.sum_congr rfl fun t _ => ?_
    rw [if_pos (Nat.le_add_right _ _), add_assoc]
  · intro i h1 h2
    rw [if_neg]
    intro h3
    exact h2 (Finset.mem_Ico.2 ⟨h3, Finset.mem_range.1 h1⟩)

/-- A sum over the rows of a chunk before one. -/
theorem sum_before (G : ℕ → ℝ) (j : ℕ) (hj : j ≤ 64) :
    ∑ s ∈ Finset.range j, G s = ∑ s : Fin 64, if s.val < j then G s.val else 0 := by
  rw [Fin.sum_univ_eq_sum_range (fun s => if s < j then G s else 0) 64, ← Finset.sum_subset (Finset.range_subset_range.2 hj)]
  · exact Finset.sum_congr rfl fun s hs => by rw [if_pos (Finset.mem_range.1 hs)]
  · intro i _ h; rw [if_neg (fun h' => h (Finset.mem_range.2 h'))]

/-- The pairs around a row, by whether each of the two lies in the row's chunk. -/
theorem quad (F : ℕ → ℕ → ℝ) (a j : ℕ) (hj : j < 64) (ha : a + 64 ≤ 4096) :
    (∑ t : Fin 64, if j ≤ t.val then ∑ s ∈ Finset.range a, F (a + t.val) s else 0)
      + (∑ t ∈ Finset.Ico (a + 64) 4096, ∑ s ∈ Finset.range a, F t s)
      + (∑ s : Fin 64, if s.val < j then ∑ t ∈ Finset.Ico (a + 64) 4096, F t (a + s.val) else 0)
      + (∑ t : Fin 64, ∑ s : Fin 64, (if s.val < j ∧ j ≤ t.val then 1 else 0) * F (a + t.val) (a + s.val))
      = ∑ t ∈ Finset.Ico (a + j) 4096, ∑ s ∈ Finset.range (a + j), F t s := by
  rw [← Finset.sum_Ico_consecutive _ (show a + j ≤ a + 64 by omega) ha]
  simp only [Finset.sum_range_add, Finset.sum_add_distrib]
  rw [← sum_from (fun t => ∑ s ∈ Finset.range a, F t s) a j hj.le, sum_from (fun t => ∑ s ∈ Finset.range j, F t (a + s)) a j hj.le,
    ← sum_before (fun s => ∑ t ∈ Finset.Ico (a + 64) 4096, F t (a + s)) j hj.le, Finset.sum_comm (s := Finset.range j)]
  have e : (∑ t : Fin 64, ∑ s : Fin 64, (if s.val < j ∧ j ≤ t.val then 1 else 0) * F (a + t.val) (a + s.val))
      = ∑ t : Fin 64, if j ≤ t.val then ∑ s ∈ Finset.range j, F (a + t.val) (a + s) else 0 := by
    refine Finset.sum_congr rfl fun t _ => ?_
    rw [sum_before (fun s => F (a + t.val) (a + s)) j hj.le]
    by_cases h : j ≤ t.val
    · rw [if_pos h]
      refine Finset.sum_congr rfl fun s _ => ?_
      by_cases h' : s.val < j
      · rw [if_pos h', if_pos ⟨h', h⟩, one_mul]
      · rw [if_neg h', if_neg (fun h2 => h' h2.1), zero_mul]
    · rw [if_neg h]
      exact Finset.sum_eq_zero fun s _ => by rw [if_neg (fun h2 => h h2.2), zero_mul]
  rw [e]
  ring

/-- Whether column `j` is among those that row `r` of the zero-one matrix sums. -/
def win (r j : ℕ) : ℝ := if lo r ≤ j ∧ j < hi r then 1 else 0

theorem win_first (t : Fin 64) (j : ℕ) : win (64 * 0 + t.val) j = if j ≤ t.val then 1 else 0 := by
  have h1 : lo (64 * 0 + t.val) = 0 := by unfold lo; rw [if_pos (by omega)]
  have h2 : hi (64 * 0 + t.val) = t.val + 1 := by unfold hi; rw [if_pos (by omega)]; omega
  unfold win
  rw [h1, h2]
  by_cases h : j ≤ t.val
  · rw [if_pos h, if_pos ⟨by omega, by omega⟩]
  · rw [if_neg h, if_neg (by omega)]

theorem win_second (t : Fin 64) (j : ℕ) (hj : j < 64) : win (64 * 1 + t.val) j = if t.val < j then 1 else 0 := by
  have h1 : lo (64 * 1 + t.val) = t.val + 1 := by unfold lo; rw [if_neg (by omega), if_pos (by omega)]; omega
  have h2 : hi (64 * 1 + t.val) = 64 := by unfold hi; rw [if_neg (by omega), if_pos (by omega)]
  unfold win
  rw [h1, h2]
  by_cases h : t.val < j
  · rw [if_pos h, if_pos ⟨by omega, by omega⟩]
  · rw [if_neg h, if_neg (by omega)]

/-- A level's rows, each summed over its own columns, are the level's pairs, each over the rows between them. -/
theorem level_pairs (b : IVec S64x64 1) (L : Fin 8) (hb : ∀ t s : Fin 64, b (ix2 t s) = 1#1 → Meets L.val t.val s.val) (p : Fin 64 → Fin 64 → ℝ)
    (j : ℕ) :
    ∑ t : Fin 64, win (64 * L.val + t.val) j * ((∑ s : Fin 64, ((b (ix2 t s)).toNat : ℝ) * p t s) + ∑ u : Fin 64, ((b (ix2 u t)).toNat : ℝ) * p u t)
      = ∑ t : Fin 64, ∑ s : Fin 64, ((b (ix2 t s)).toNat : ℝ) * ((if s.val < j ∧ j ≤ t.val then 1 else 0) * p t s) := by
  simp only [mul_add, Finset.sum_add_distrib, Finset.mul_sum]
  rw [Finset.sum_comm (f := fun t u : Fin 64 => win (64 * L.val + t.val) j * (((b (ix2 u t)).toNat : ℝ) * p u t))]
  simp only [← Finset.sum_add_distrib]
  refine Finset.sum_congr rfl fun t _ => Finset.sum_congr rfl fun s _ => ?_
  rw [← mul_assoc, ← mul_assoc, ← add_mul, ← mul_assoc]
  rw [← add_mul, mul_comm (_ + _) _]
  congr 1
  refine bit_mul _ _ _ fun h => ?_
  obtain ⟨h1, h2, h3, h4⟩ := hb t s h
  have ht := (window_ok ⟨64 * L.val + t.val, by omega⟩).1
  have hs := (window_ok ⟨64 * L.val + s.val, by omega⟩).1
  dsimp only at ht hs
  unfold win
  rw [h2, h3, h4]
  rw [h2, h4] at ht
  rw [h3] at hs
  by_cases q1 : hi (64 * L.val + s.val) ≤ j ∧ j < t.val + 1
  · rw [if_pos q1, if_neg (by omega), if_pos (by omega), add_zero]
  · rw [if_neg q1, zero_add]
    by_cases q2 : s.val + 1 ≤ j ∧ j < hi (64 * L.val + s.val)
    · rw [if_pos q2, if_pos (by omega)]
    · rw [if_neg q2, if_neg (by omega)]

theorem sum512 (f : ℕ → ℝ) : ∑ r : Fin 512, f r.val = ∑ L : Fin 8, ∑ t : Fin 64, f (64 * L.val + t.val) := by
  rw [← Finset.sum_product', Finset.univ_product_univ, ← Equiv.sum_comp (finProdFinEquiv (m := 8) (n := 64))]
  refine Finset.sum_congr rfl fun q _ => congrArg f ?_
  show q.2.val + 64 * q.1.val = _
  omega

/-- A row of the decays' gradient, as the zero-one matrix sums the chunk's eight blocks of rows. -/
theorem dgr_chunk (c0 a k : ℕ) (j : Fin 64) (ha : a + 64 ≤ 4096) (E : ℕ → ℝ)
    (p : Fin 64 → Fin 64 → ℝ) (hp : ∀ t s, p t s = pr x gm d c0 (a + t.val) (a + s.val) k)
    (h0 : ∀ t : Fin 64, E (64 * 0 + t.val) = (∑ s ∈ Finset.range a, pr x gm d c0 (a + t.val) s k)
      + if t.val = 63 then ∑ u ∈ Finset.Ico (a + 64) 4096, ∑ s ∈ Finset.range a, pr x gm d c0 u s k else 0)
    (h1 : ∀ t : Fin 64, E (64 * 1 + t.val) = ∑ u ∈ Finset.Ico (a + 64) 4096, pr x gm d c0 u (a + t.val) k)
    (hL : ∀ (b : IVec S64x64 1) (L : Fin 8), (b = m32 ∧ L = 2) ∨ (b = m16 ∧ L = 3) ∨ (b = m8 ∧ L = 4) ∨ (b = m4 ∧ L = 5) ∨ (b = m2 ∧ L = 6) ∨ (b = m1 ∧ L = 7) →
      ∀ t : Fin 64, E (64 * L.val + t.val) = (∑ s : Fin 64, ((b (ix2 t s)).toNat : ℝ) * p t s) + ∑ u : Fin 64, ((b (ix2 u t)).toNat : ℝ) * p u t) :
    ∑ r : Fin 512, win r.val j.val * E r.val = dgr x gm d c0 (a + j.val) k := by
  have hj := j.isLt
  have key : ∀ (b : IVec S64x64 1) (L : Fin 8) (hb : ∀ t s : Fin 64, b (ix2 t s) = 1#1 → Meets L.val t.val s.val),
      (b = m32 ∧ L = 2) ∨ (b = m16 ∧ L = 3) ∨ (b = m8 ∧ L = 4) ∨ (b = m4 ∧ L = 5) ∨ (b = m2 ∧ L = 6) ∨ (b = m1 ∧ L = 7) →
      (∑ t : Fin 64, win (64 * L.val + t.val) j.val * E (64 * L.val + t.val))
        = ∑ t : Fin 64, ∑ s : Fin 64, ((b (ix2 t s)).toNat : ℝ) * ((if s.val < j.val ∧ j.val ≤ t.val then 1 else 0) * p t s) := by
    intro b L hb h
    rw [← level_pairs b L hb p j.val]
    exact Finset.sum_congr rfl fun t _ => by rw [hL b L h t]
  rw [sum512 (fun r => win r j.val * E r), Fin.sum_univ_eight, key m32 2 m32_meets (by simp), key m16 3 m16_meets (by simp), key m8 4 m8_meets (by simp),
    key m4 5 m4_meets (by simp), key m2 6 m2_meets (by simp), key m1 7 m1_meets (by simp)]
  unfold dgr
  rw [← quad (fun t s => pr x gm d c0 t s k) a j.val hj ha]
  have e0 : (∑ t : Fin 64, win (64 * (0 : Fin 8).val + t.val) j.val * E (64 * (0 : Fin 8).val + t.val))
      = (∑ t : Fin 64, if j.val ≤ t.val then ∑ s ∈ Finset.range a, pr x gm d c0 (a + t.val) s k else 0)
        + ∑ t ∈ Finset.Ico (a + 64) 4096, ∑ s ∈ Finset.range a, pr x gm d c0 t s k := by
    have e : ∀ t : Fin 64, win (64 * (0 : Fin 8).val + t.val) j.val * E (64 * (0 : Fin 8).val + t.val)
        = (if j.val ≤ t.val then ∑ s ∈ Finset.range a, pr x gm d c0 (a + t.val) s k else 0)
          + if t = (63 : Fin 64) then ∑ u ∈ Finset.Ico (a + 64) 4096, ∑ s ∈ Finset.range a, pr x gm d c0 u s k else 0 := by
      intro t
      refine (congrArg₂ (· * ·) (win_first t j.val) (h0 t)).trans ?_
      by_cases ht : t = (63 : Fin 64)
      · subst ht
        rw [if_pos (show j.val ≤ (63 : Fin 64).val by show j.val ≤ 63; omega), if_pos (show j.val ≤ (63 : Fin 64).val by show j.val ≤ 63; omega),
          if_pos (show (63 : Fin 64).val = 63 from rfl), if_pos rfl, one_mul]
      · rw [if_neg ht, if_neg (show ¬ t.val = 63 from fun h => ht (Fin.ext h)), add_zero, add_zero, ite_mul, one_mul, zero_mul]
    rw [Finset.sum_congr rfl fun t _ => e t, Finset.sum_add_distrib, Finset.sum_ite_eq' Finset.univ (63 : Fin 64), if_pos (Finset.mem_univ _)]
  have e1 : (∑ t : Fin 64, win (64 * (1 : Fin 8).val + t.val) j.val * E (64 * (1 : Fin 8).val + t.val))
      = ∑ s : Fin 64, if s.val < j.val then ∑ t ∈ Finset.Ico (a + 64) 4096, pr x gm d c0 t (a + s.val) k else 0 := by
    refine Finset.sum_congr rfl fun t _ => (congrArg₂ (· * ·) (win_second t j.val hj) (h1 t)).trans ?_
    rw [ite_mul, one_mul, zero_mul]
  rw [e0, e1]
  have e2 : (∑ t : Fin 64, ∑ s : Fin 64, (if s.val < j.val ∧ j.val ≤ t.val then 1 else 0) * pr x gm d c0 (a + t.val) (a + s.val) k)
      = ∑ t : Fin 64, ∑ s : Fin 64, (((m32 (ix2 t s)).toNat : ℝ) * ((if s.val < j.val ∧ j.val ≤ t.val then 1 else 0) * p t s)
        + ((m16 (ix2 t s)).toNat : ℝ) * ((if s.val < j.val ∧ j.val ≤ t.val then 1 else 0) * p t s)
        + ((m8 (ix2 t s)).toNat : ℝ) * ((if s.val < j.val ∧ j.val ≤ t.val then 1 else 0) * p t s)
        + ((m4 (ix2 t s)).toNat : ℝ) * ((if s.val < j.val ∧ j.val ≤ t.val then 1 else 0) * p t s)
        + ((m2 (ix2 t s)).toNat : ℝ) * ((if s.val < j.val ∧ j.val ≤ t.val then 1 else 0) * p t s)
        + ((m1 (ix2 t s)).toNat : ℝ) * ((if s.val < j.val ∧ j.val ≤ t.val then 1 else 0) * p t s)) := by
    refine Finset.sum_congr rfl fun t _ => Finset.sum_congr rfl fun s _ => ?_
    rw [← hp]
    have h := m_sum t s ((if s.val < j.val ∧ j.val ≤ t.val then 1 else 0) * p t s)
    have hz : ((k0_pay15 (ix2 t s)).toNat : ℝ) * ((if s.val < j.val ∧ j.val ≤ t.val then 1 else 0) * p t s) = 0 := by
      rcases BitVec.eq_zero_or_eq_one (k0_pay15 (ix2 t s)) with h' | h'
      · rw [h']; simp
      · have e := m0_meets t s h'
        subst e
        rw [if_neg (by omega), zero_mul, mul_zero]
    rw [hz, zero_add] at h
    rw [h]
    by_cases hst : s.val ≤ t.val
    · rw [if_pos hst, one_mul]
    · rw [if_neg hst, if_neg (by omega), zero_mul, zero_mul]
  rw [e2]
  simp only [Finset.sum_add_distrib]
  ring

end Cert.Hg

end
-- ==== Proof.HgKey.lean ====
/- What the recurrence's backward body computes of the keys' gradient and of the decays' gradient for one chunk and one
   head. -/
module

public import proofs.«01_k».proof.Proof.HgFor

@[expose] public section

set_option maxRecDepth 16384

noncomputable section

namespace Cert.Hg

open Idealize.ShloMosaic Idealize.ShloMosaic.TcCoe Idealize.SL.Sem Cert.Ffn
open Cert.Kernel2Ideal Cert.Kernel2Ideal.Gen

variable (x : (⟨2, ![4096, 2048]⟩ : Shape).Idx → ℝ) (gm : (⟨2, ![2, 512]⟩ : Shape).Idx → ℝ)
  (d : (⟨2, ![4096, 512]⟩ : Shape).Idx → ℝ)

/-- The weight with which query `t` reaches back to position `n`, through the decays. -/
def wq (c t n : ℕ) : ℝ := qq x t c * Real.exp (pre x gm c (t + 1) - pre x gm c n)

theorem wq_wk (c t s : ℕ) : qq x t c * wk x gm c s (t + 1) = wq x gm c t (s + 1) * kk x gm s c := by
  unfold wk wq; ring

theorem wq_step (c t n a : ℕ) : Real.exp (pre x gm c a - pre x gm c n) * wq x gm c t a = wq x gm c t n := by
  unfold wq
  rw [mul_left_comm, ← Real.exp_add]
  congr 2
  ring

/-- A row of the keys' gradient: the later chunks through the state's gradient, and its own chunk's positions. -/
theorem dkr_chunk (c0 a k : ℕ) (i : Fin 64) (ha : a + 64 ≤ 4096) :
    Real.exp (pre x gm (c0 + k) (a + 64) - pre x gm (c0 + k) (a + (i.val + 1)))
        * (∑ v : Fin 128, at2 x (a + i.val) (1024 + (c0 + v.val)) * dst x gm d c0 (a + 64) v.val k)
      + (∑ u : Fin 64, (if i.val ≤ u.val then 1 else 0) * (dat x d c0 (a + u.val) (a + i.val) * wq x gm (c0 + k) (a + u.val) (a + (i.val + 1))))
      = dkr x gm d c0 (a + i.val) k := by
  have hi := i.isLt
  have e : dkr x gm d c0 (a + i.val) k = ∑ t ∈ Finset.Ico (a + i.val) 4096, dat x d c0 t (a + i.val) * wq x gm (c0 + k) t (a + (i.val + 1)) := rfl
  rw [e, ← Finset.sum_Ico_consecutive _ (show a + i.val ≤ a + 64 by omega) ha, sum_from _ a i.val hi.le, add_comm]
  congr 1
  · refine Finset.sum_congr rfl fun u _ => ?_
    rw [ite_mul, one_mul, zero_mul]
  · unfold dst
    simp only [Finset.mul_sum]
    rw [Finset.sum_comm]
    refine Finset.sum_congr rfl fun t _ => ?_
    unfold dat
    rw [Finset.sum_mul]
    refine Finset.sum_congr rfl fun v _ => ?_
    rw [← wq_step x gm (c0 + k) t _ (a + 64)]
    unfold wq
    ring

/-- A key's later chunks, as the pairs it makes with their positions. -/
theorem later_pairs (c0 a k s : ℕ) :
    kk x gm s (c0 + k) * (Real.exp (pre x gm (c0 + k) (a + 64) - pre x gm (c0 + k) (s + 1))
        * (∑ v : Fin 128, at2 x s (1024 + (c0 + v.val)) * dst x gm d c0 (a + 64) v.val k))
      = ∑ u ∈ Finset.Ico (a + 64) 4096, pr x gm d c0 u s k := by
  unfold dst pr
  simp only [Finset.mul_sum]
  rw [Finset.sum_comm]
  refine Finset.sum_congr rfl fun t _ => ?_
  rw [wq_wk, ← wq_step x gm (c0 + k) t _ (a + 64)]
  unfold dat
  rw [Finset.sum_mul]
  refine Finset.sum_congr rfl fun v _ => ?_
  unfold wq
  ring

/-- A query's earlier chunks, as the pairs it makes with their positions. -/
theorem earlier_pairs (c0 a k t : ℕ) :
    qq x t (c0 + k) * (Real.exp (pre x gm (c0 + k) (t + 1) - pre x gm (c0 + k) a)
        * (∑ v : Fin 128, at2 d t (c0 + v.val) * sta x gm c0 a v.val k))
      = ∑ s ∈ Finset.range a, pr x gm d c0 t s k := by
  unfold sta pr
  simp only [Finset.mul_sum]
  rw [Finset.sum_comm]
  refine Finset.sum_congr rfl fun s _ => ?_
  unfold dat
  rw [Finset.sum_mul]
  refine Finset.sum_congr rfl fun v _ => ?_
  rw [← wk_step x gm (c0 + k) s a (t + 1)]
  ring

/-- The state and its gradient, as the pairs on both sides of the chunk. -/
theorem outer_pairs (c0 a k : ℕ) :
    (∑ v : Fin 128, sta x gm c0 a v.val k * dst x gm d c0 (a + 64) v.val k) * Real.exp (pre x gm (c0 + k) (a + 64) - pre x gm (c0 + k) a)
      = ∑ u ∈ Finset.Ico (a + 64) 4096, ∑ s ∈ Finset.range a, pr x gm d c0 u s k := by
  have e : ∀ u s : ℕ, pr x gm d c0 u s k = ∑ v : Fin 128, (wk x gm (c0 + k) s a * at2 x s (1024 + (c0 + v.val)))
      * (at2 d u (c0 + v.val) * wq x gm (c0 + k) u (a + 64)) * Real.exp (pre x gm (c0 + k) (a + 64) - pre x gm (c0 + k) a) := by
    intro u s
    unfold pr dat
    rw [← wk_step x gm (c0 + k) s a (u + 1), Finset.sum_mul]
    refine Finset.sum_congr rfl fun v _ => ?_
    rw [show qq x u (c0 + k) * (Real.exp (pre x gm (c0 + k) (u + 1) - pre x gm (c0 + k) a) * wk x gm (c0 + k) s a)
      = wq x gm (c0 + k) u a * wk x gm (c0 + k) s a by unfold wq; ring, ← wq_step x gm (c0 + k) u a (a + 64)]
    ring
  simp only [e]
  rw [Finset.sum_congr rfl fun u _ => Finset.sum_comm, Finset.sum_comm, Finset.sum_mul]
  refine Finset.sum_congr rfl fun v _ => ?_
  unfold sta dst
  rw [mul_comm (∑ s ∈ Finset.range a, _) _, Finset.sum_mul, Finset.sum_mul]
  refine Finset.sum_congr rfl fun u _ => ?_
  rw [Finset.mul_sum, Finset.sum_mul]
  refine Finset.sum_congr rfl fun s _ => ?_
  unfold wq
  ring

/-- What the state's gradient after the chunk hands to the chunk's keys. -/
def kst (A V : FVec Ideal S64x128 .f32) (Z : FVec Ideal S128x128 .f32) : FVec Ideal S64x128 .f32 :=
  mulf A (matmul dot_S64x128_S128x128_S64x128_1_0_0_1_n_n none (truncf .bf16 V bitsLt_bf16_f32) (truncf .bf16 Z bitsLt_bf16_f32)
    (constant S64x128 .f32 0x00000000#32))

/-- What the pairs of one mask hand to the keys. -/
def km (b : IVec S64x64 1) (a : FVec Ideal S64x64 .f32) (q : FVec Ideal S64x128 .f32) : FVec Ideal S64x128 .f32 :=
  matmul dot_S64x64_S64x128_S64x128_0_0_1_1_n_n none
    (truncf .bf16 (select b a (broadcast S64x64 (Scalar.ofBits .f32 0x00000000#32))) bitsLt_bf16_f32) (truncf .bf16 q bitsLt_bf16_f32)
    (constant S64x128 .f32 0x00000000#32)

/-- The same for a level, whose rows decay. -/
def kl (b : IVec S64x64 1) (a : FVec Ideal S64x64 .f32) (A q : FVec Ideal S64x128 .f32) : FVec Ideal S64x128 .f32 :=
  mulf A (km b a (mulf q A))

/-- The keys' gradient of one chunk and one head. -/
def dki (A : Fin 8 → FVec Ideal S64x128 .f32) (q D V : FVec Ideal S64x128 .f32) (Z : FVec Ideal S128x128 .f32) : FVec Ideal S64x128 .f32 :=
  addf (addf (addf (addf (addf (addf (addf (kst (A 1) V Z) (km k0_pay15 (dav D V) q)) (kl m32 (dav D V) (A 2) q)) (kl m16 (dav D V) (A 3) q))
    (kl m8 (dav D V) (A 4) q)) (kl m4 (dav D V) (A 5) q)) (kl m2 (dav D V) (A 6) q)) (kl m1 (dav D V) (A 7) q)

/-- The rows of the decays' gradient through one level. -/
def el (b : IVec S64x64 1) (a : FVec Ideal S64x64 .f32) (A q k : FVec Ideal S64x128 .f32) : FVec Ideal S64x128 .f32 :=
  addf (mulf q (ql b a A k)) (mulf k (kl b a A q))

/-- The eight blocks of rows whose windows make the decays' gradient. -/
def deb (A : Fin 8 → FVec Ideal S64x128 .f32) (q k D V : FVec Ideal S64x128 .f32) (S Z : FVec Ideal S128x128 .f32) (L : Fin 8) : FVec Ideal S1x64x128 .f32 :=
  match L.val with
  | 0 => k0_pay1068 (F := Ideal) k0_pay23 (A 0) S q (qst (A 0) D S) Z
  | 1 => k0_pay1070 (F := Ideal) (mulf k (kst (A 1) V Z))
  | 2 => shapeCast S1x64x128 (el m32 (dav D V) (A 2) q k) shapeCasts_S64x128_S1x64x128
  | 3 => shapeCast S1x64x128 (el m16 (dav D V) (A 3) q k) shapeCasts_S64x128_S1x64x128
  | 4 => shapeCast S1x64x128 (el m8 (dav D V) (A 4) q k) shapeCasts_S64x128_S1x64x128
  | 5 => shapeCast S1x64x128 (el m4 (dav D V) (A 5) q k) shapeCasts_S64x128_S1x64x128
  | 6 => shapeCast S1x64x128 (el m2 (dav D V) (A 6) q k) shapeCasts_S64x128_S1x64x128
  | _ => shapeCast S1x64x128 (el m1 (dav D V) (A 7) q k) shapeCasts_S64x128_S1x64x128

theorem one_slab (Y : FVec Ideal S64x128 .f32) (t : Fin 64) (j : Fin 128) :
    (shapeCast S1x64x128 Y shapeCasts_S64x128_S1x64x128 (ix3 0 t j) : EReal) = Y (ix2 t j) := by
  pointwise []

/-- The mask of a level. -/
def mk (L : ℕ) : IVec S64x64 1 :=
  match L with
  | 2 => m32
  | 3 => m16
  | 4 => m8
  | 5 => m4
  | 6 => m2
  | _ => m1

/-- The rows whose windows make the decays' gradient: the earlier chunks' pairs, with those on both sides of the chunk in the
    last row, the later chunks' pairs, and the pairs of each level. -/
def ebr (c0 a n k : ℕ) : ℝ :=
  if n / 64 = 0 then (∑ s ∈ Finset.range a, pr x gm d c0 (a + n % 64) s k)
    + if n % 64 = 63 then ∑ u ∈ Finset.Ico (a + 64) 4096, ∑ s ∈ Finset.range a, pr x gm d c0 u s k else 0
  else if n / 64 = 1 then ∑ u ∈ Finset.Ico (a + 64) 4096, pr x gm d c0 u (a + n % 64) k
  else (∑ s : Fin 64, ((mk (n / 64) (ix2 (⟨n % 64, Nat.mod_lt _ (by decide)⟩ : Fin 64) s)).toNat : ℝ) * pr x gm d c0 (a + n % 64) (a + s.val) k)
    + ∑ u : Fin 64, ((mk (n / 64) (ix2 u (⟨n % 64, Nat.mod_lt _ (by decide)⟩ : Fin 64))).toNat : ℝ) * pr x gm d c0 (a + u.val) (a + n % 64) k

theorem ebr_first (c0 a k : ℕ) (t : Fin 64) : ebr x gm d c0 a (64 * 0 + t.val) k = (∑ s ∈ Finset.range a, pr x gm d c0 (a + t.val) s k)
    + if t.val = 63 then ∑ u ∈ Finset.Ico (a + 64) 4096, ∑ s ∈ Finset.range a, pr x gm d c0 u s k else 0 := by
  unfold ebr
  rw [if_pos (by omega), show (64 * 0 + t.val) % 64 = t.val by omega]

theorem ebr_second (c0 a k : ℕ) (t : Fin 64) : ebr x gm d c0 a (64 * 1 + t.val) k = ∑ u ∈ Finset.Ico (a + 64) 4096, pr x gm d c0 u (a + t.val) k := by
  unfold ebr
  rw [if_neg (by omega), if_pos (by omega), show (64 * 1 + t.val) % 64 = t.val by omega]

theorem ebr_level (c0 a k L : ℕ) (hL : 2 ≤ L) (t : Fin 64) : ebr x gm d c0 a (64 * L + t.val) k
    = (∑ s : Fin 64, ((mk L (ix2 t s)).toNat : ℝ) * pr x gm d c0 (a + t.val) (a + s.val) k)
      + ∑ u : Fin 64, ((mk L (ix2 u t)).toNat : ℝ) * pr x gm d c0 (a + u.val) (a + t.val) k := by
  have h1 : (64 * L + t.val) % 64 = t.val := by omega
  have h2 : (64 * L + t.val) / 64 = L := by omega
  have h3 : (⟨(64 * L + t.val) % 64, Nat.mod_lt _ (by decide)⟩ : Fin 64) = t := Fin.ext h1
  unfold ebr
  rw [h3, h2, h1, if_neg (by omega), if_neg (by omega)]

/-- The zero-one matrix sums those rows to the decays' gradient. -/
theorem ebr_sum (c0 a k : ℕ) (j : Fin 64) (ha : a + 64 ≤ 4096) :
    ∑ r : Fin 512, win r.val j.val * ebr x gm d c0 a r.val k = dgr x gm d c0 (a + j.val) k := by
  refine dgr_chunk x gm d c0 a k j ha (fun r => ebr x gm d c0 a r k) (fun t s => pr x gm d c0 (a + t.val) (a + s.val) k) (fun _ _ => rfl)
    (ebr_first x gm d c0 a k) (ebr_second x gm d c0 a k) ?_
  intro b L h t
  rcases h with ⟨rfl, rfl⟩ | ⟨rfl, rfl⟩ | ⟨rfl, rfl⟩ | ⟨rfl, rfl⟩ | ⟨rfl, rfl⟩ | ⟨rfl, rfl⟩
  · exact ebr_level x gm d c0 a k 2 (by omega) t
  · exact ebr_level x gm d c0 a k 3 (by omega) t
  · exact ebr_level x gm d c0 a k 4 (by omega) t
  · exact ebr_level x gm d c0 a k 5 (by omega) t
  · exact ebr_level x gm d c0 a k 6 (by omega) t
  · exact ebr_level x gm d c0 a k 7 (by omega) t

theorem last_row (t : Fin 64) (j : Fin 128) : k0_pay23 (ix2 t j) = if t.val = 63 then 1#1 else 0#1 := by
  have e : k0_pay23 (ix2 t j) = IntOp.cmpi .eq (BitVec.ofNat 32 t.val) 63#32 := by
    pointwise [k0_pay23]
  rw [e]
  clear e
  revert t
  decide

section chunk

variable (c0 a : ℕ) (ha : a + 64 ≤ 4096) (q k D V : FVec Ideal S64x128 .f32) (S Z : FVec Ideal S128x128 .f32) (A : Fin 8 → FVec Ideal S64x128 .f32)
  (eq : ∀ (t : Fin 64) (j : Fin 128), (q (ix2 t j) : EReal) = (qq x (a + t.val) (c0 + j.val) : ℝ))
  (ek : ∀ (t : Fin 64) (j : Fin 128), (k (ix2 t j) : EReal) = (kk x gm (a + t.val) (c0 + j.val) : ℝ))
  (ed : ∀ (t : Fin 64) (j : Fin 128), (D (ix2 t j) : EReal) = (at2 d (a + t.val) (c0 + j.val) : ℝ))
  (ev : ∀ (t : Fin 64) (j : Fin 128), (V (ix2 t j) : EReal) = (at2 x (a + t.val) (1024 + (c0 + j.val)) : ℝ))
  (es : ∀ (v j : Fin 128), (S (ix2 v j) : EReal) = (sta x gm c0 a v.val j.val : ℝ))
  (ez : ∀ (v j : Fin 128), (Z (ix2 v j) : EReal) = (dst x gm d c0 (a + 64) v.val j.val : ℝ))
  (eA : ∀ (L : Fin 8) (t : Fin 64) (j : Fin 128), (A L (ix2 t j) : EReal)
    = (Real.exp (pre x gm (c0 + j.val) (a + hi (64 * L.val + t.val)) - pre x gm (c0 + j.val) (a + lo (64 * L.val + t.val))) : ℝ))

include ev ez eA in
theorem kst_at (t : Fin 64) (j : Fin 128) : (kst (A 1) V Z (ix2 t j) : EReal)
    = (Real.exp (pre x gm (c0 + j.val) (a + 64) - pre x gm (c0 + j.val) (a + (t.val + 1)))
        * (∑ v : Fin 128, at2 x (a + t.val) (1024 + (c0 + v.val)) * dst x gm d c0 (a + 64) v.val j.val) : ℝ) := by
  pointwise [kst]
  have h1 : hi (64 * (1 : Fin 8).val + t.val) = 64 := by
    show hi (64 * 1 + t.val) = _; unfold hi; rw [if_neg (by omega), if_pos (by omega)]
  have h2 : lo (64 * (1 : Fin 8).val + t.val) = t.val + 1 := by
    show lo (64 * 1 + t.val) = _; unfold lo; rw [if_neg (by omega), if_pos (by omega)]; omega
  simp only [ev, ez, eA 1 _ _, ← EReal.coe_mul, coe_sum, h1, h2]

theorem km_at (b : IVec S64x64 1) (p : FVec Ideal S64x64 .f32) (K : FVec Ideal S64x128 .f32) (f : ℕ → ℕ → ℝ) (g : ℕ → ℕ → ℝ)
    (ep : ∀ t s : Fin 64, (p (ix2 t s) : EReal) = (f t.val s.val : ℝ)) (eK : ∀ (t : Fin 64) (j : Fin 128), (K (ix2 t j) : EReal) = (g t.val j.val : ℝ))
    (t : Fin 64) (j : Fin 128) : (km b p K (ix2 t j) : EReal) = (∑ u : Fin 64, ((b (ix2 u t)).toNat : ℝ) * f u.val t.val * g u.val j.val : ℝ) := by
  pointwise [km]
  simp only [ep, eK, sel_bit, ← EReal.coe_mul, coe_sum, mul_assoc]

include eq ed ev in
theorem km0_at (t : Fin 64) (j : Fin 128) : (km k0_pay15 (dav D V) q (ix2 t j) : EReal)
    = (∑ u : Fin 64, ((k0_pay15 (ix2 u t)).toNat : ℝ) * (dat x d c0 (a + u.val) (a + t.val) * wq x gm (c0 + j.val) (a + u.val) (a + (t.val + 1))) : ℝ) := by
  rw [km_at k0_pay15 (dav D V) q (fun t s => dat x d c0 (a + t) (a + s)) (fun u j => qq x (a + u) (c0 + j)) (dav_at x d c0 a D V ed ev) eq]
  refine congrArg _ (Finset.sum_congr rfl fun u _ => ?_)
  rw [mul_assoc]
  refine bit_mul _ _ _ fun h => ?_
  have e := m0_meets u t h
  subst e
  unfold wq
  rw [← add_assoc, sub_self, Real.exp_zero, mul_one]

include eq ed ev eA in
theorem kl_at (b : IVec S64x64 1) (L : Fin 8) (hb : ∀ t s : Fin 64, b (ix2 t s) = 1#1 → Meets L.val t.val s.val) (t : Fin 64) (j : Fin 128) :
    (kl b (dav D V) (A L) q (ix2 t j) : EReal)
    = (∑ u : Fin 64, ((b (ix2 u t)).toNat : ℝ) * (dat x d c0 (a + u.val) (a + t.val) * wq x gm (c0 + j.val) (a + u.val) (a + (t.val + 1))) : ℝ) := by
  have e : (kl b (dav D V) (A L) q (ix2 t j) : EReal) = (A L (ix2 t j) : EReal) * (km b (dav D V) (mulf q (A L)) (ix2 t j) : EReal) := rfl
  rw [e, km_at b (dav D V) (mulf q (A L)) (fun t s => dat x d c0 (a + t) (a + s)) (fun s j => qq x (a + s) (c0 + j)
    * Real.exp (pre x gm (c0 + j) (a + hi (64 * L.val + s)) - pre x gm (c0 + j) (a + lo (64 * L.val + s)))) (dav_at x d c0 a D V ed ev)
    (fun t j => by
      show ((q (ix2 t j) : EReal) * (A L (ix2 t j) : EReal)) = _
      rw [eq, eA, ← EReal.coe_mul]), eA, ← EReal.coe_mul, Finset.mul_sum]
  refine congrArg _ (Finset.sum_congr rfl fun u _ => ?_)
  rw [mul_assoc, mul_left_comm]
  refine bit_mul _ _ _ fun h => ?_
  obtain ⟨h1, h2, h3, h4⟩ := hb u t h
  unfold wq
  rw [h2, h3, h4, add_assoc a u.val 1, show pre x gm (c0 + j.val) (a + (u.val + 1)) - pre x gm (c0 + j.val) (a + (t.val + 1))
    = (pre x gm (c0 + j.val) (a + (u.val + 1)) - pre x gm (c0 + j.val) (a + hi (64 * L.val + t.val)))
      + (pre x gm (c0 + j.val) (a + hi (64 * L.val + t.val)) - pre x gm (c0 + j.val) (a + (t.val + 1))) by ring, Real.exp_add]
  ring

include ha eq ed ev ez eA in
theorem dki_at (t : Fin 64) (j : Fin 128) : (dki A q D V Z (ix2 t j) : EReal) = (dkr x gm d c0 (a + t.val) j.val : ℝ) := by
  have Q := kl_at x gm d c0 a q D V A eq ed ev eA
  have e : (dki A q D V Z (ix2 t j) : EReal) = (kst (A 1) V Z (ix2 t j) : EReal) + (km k0_pay15 (dav D V) q (ix2 t j) : EReal)
    + (kl m32 (dav D V) (A 2) q (ix2 t j) : EReal) + (kl m16 (dav D V) (A 3) q (ix2 t j) : EReal) + (kl m8 (dav D V) (A 4) q (ix2 t j) : EReal)
    + (kl m4 (dav D V) (A 5) q (ix2 t j) : EReal) + (kl m2 (dav D V) (A 6) q (ix2 t j) : EReal) + (kl m1 (dav D V) (A 7) q (ix2 t j) : EReal) := rfl
  rw [e, kst_at x gm d c0 a V Z A ev ez eA, km0_at x gm d c0 a q D V eq ed ev, Q m32 2 m32_meets, Q m16 3 m16_meets, Q m8 4 m8_meets, Q m4 5 m4_meets,
    Q m2 6 m2_meets, Q m1 7 m1_meets]
  simp only [← EReal.coe_add]
  rw [← dkr_chunk x gm d c0 a j.val t ha, add_assoc, add_assoc, add_assoc, add_assoc, add_assoc, add_assoc]
  refine congrArg _ (congrArg _ ?_)
  simp only [← Finset.sum_add_distrib]
  refine Finset.sum_congr rfl fun u _ => ?_
  rw [← m_sum]
  ring

include eq ek ed ev eA in
theorem el_at (b : IVec S64x64 1) (L : Fin 8) (hb : ∀ t s : Fin 64, b (ix2 t s) = 1#1 → Meets L.val t.val s.val) (t : Fin 64) (j : Fin 128) :
    (el b (dav D V) (A L) q k (ix2 t j) : EReal)
    = ((∑ s : Fin 64, ((b (ix2 t s)).toNat : ℝ) * pr x gm d c0 (a + t.val) (a + s.val) j.val)
        + ∑ u : Fin 64, ((b (ix2 u t)).toNat : ℝ) * pr x gm d c0 (a + u.val) (a + t.val) j.val : ℝ) := by
  have e : (el b (dav D V) (A L) q k (ix2 t j) : EReal) = (q (ix2 t j) : EReal) * (ql b (dav D V) (A L) k (ix2 t j) : EReal)
    + (k (ix2 t j) : EReal) * (kl b (dav D V) (A L) q (ix2 t j) : EReal) := rfl
  rw [e, ql_at x gm d c0 a k D V A ek ed ev eA b L hb, kl_at x gm d c0 a q D V A eq ed ev eA b L hb, eq, ek, ← EReal.coe_mul, ← EReal.coe_mul, ← EReal.coe_add,
    Finset.mul_sum, Finset.mul_sum]
  refine congrArg _ (congrArg₂ (· + ·) (Finset.sum_congr rfl fun s _ => ?_) (Finset.sum_congr rfl fun u _ => ?_))
  · unfold pr
    rw [add_assoc a t.val 1]
    ring
  · unfold pr
    rw [wq_wk, add_assoc a t.val 1]
    ring

include eq ed es ez eA in
theorem deb0_at (t : Fin 64) (j : Fin 128) :
    (k0_pay1068 (F := Ideal) k0_pay23 (A 0) S q (qst (A 0) D S) Z (ix3 0 t j) : EReal) = (ebr x gm d c0 a (64 * 0 + t.val) j.val : ℝ) := by
  have hq := qst_at x gm d c0 a D S A ed es eA t j
  have h1 : hi (64 * (0 : Fin 8).val + (63 : Fin 64).val) = 64 := by decide
  have h2 : lo (64 * (0 : Fin 8).val + (63 : Fin 64).val) = 0 := by decide
  pointwise [k0_pay1068]
  simp only [hq, eq, es, ez, last_row, eA 0 _ _, ← EReal.coe_mul, coe_sum]
  have e := ebr_first x gm d c0 a j.val t
  rw [Nat.mul_zero, Nat.zero_add] at e
  simp only [h1, h2, add_zero]
  rw [e, sel_bit, outer_pairs, ← add_assoc a t.val 1, earlier_pairs, ← EReal.coe_add]
  refine congrArg _ (congrArg _ ?_)
  by_cases h : t.val = 63
  · rw [if_pos h, if_pos h]; simp
  · rw [if_neg h, if_neg h]; simp

include eq ek ed ev es ez eA in
theorem deb_at (L : Fin 8) (t : Fin 64) (j : Fin 128) :
    (deb A q k D V S Z L (ix3 0 t j) : EReal) = (ebr x gm d c0 a (64 * L.val + t.val) j.val : ℝ) := by
  have Q := el_at x gm d c0 a q k D V A eq ek ed ev eA
  have lev : ∀ (b : IVec S64x64 1) (L : Fin 8), (∀ t s : Fin 64, b (ix2 t s) = 1#1 → Meets L.val t.val s.val) → 2 ≤ L.val → mk L.val = b →
      (shapeCast S1x64x128 (el b (dav D V) (A L) q k) shapeCasts_S64x128_S1x64x128 (ix3 0 t j) : EReal) = (ebr x gm d c0 a (64 * L.val + t.val) j.val : ℝ) := by
    intro b L hb h2 hm
    rw [ebr_level x gm d c0 a j.val L.val h2 t, hm]
    exact (one_slab _ t j).trans (Q b L hb t j)
  fin_cases L
  · exact deb0_at x gm d c0 a q D S Z A eq ed es ez eA t j
  · refine (one_slab (mulf k (kst (A 1) V Z)) t j).trans ?_
    have e : (mulf k (kst (A 1) V Z) (ix2 t j) : EReal) = (k (ix2 t j) : EReal) * (kst (A 1) V Z (ix2 t j) : EReal) := rfl
    rw [e, ek, kst_at x gm d c0 a V Z A ev ez eA, ← EReal.coe_mul, ← add_assoc a t.val 1, later_pairs]
    exact congrArg _ (ebr_second x gm d c0 a j.val t).symm
  · exact lev m32 2 m32_meets (by decide) rfl
  · exact lev m16 3 m16_meets (by decide) rfl
  · exact lev m8 4 m8_meets (by decide) rfl
  · exact lev m4 5 m4_meets (by decide) rfl
  · exact lev m2 6 m2_meets (by decide) rfl
  · exact lev m1 7 m1_meets (by decide) rfl

end chunk

end Cert.Hg

end
-- ==== Proof.HgQp.lean ====
/- The stores of the queries' gradient of the recurrence's backward body at one grid point: the block's four chunks and four
   heads, gathered in a scratch array, and the gate's derivative applied to the whole block. -/
module

public import proofs.«01_k».proof.Proof.HgQry

@[expose] public section

set_option maxRecDepth 16384

noncomputable section

namespace Cert.Hg

open Idealize.ShloMosaic Idealize.ShloMosaic.TcCoe Idealize.SL.Sem Cert.Ffn
open Cert.Kernel2Ideal Cert.Kernel2Ideal.Gen

/-- Sixteen stores, one for each chunk and head. -/
def grid16 (P : Fin 4 → Fin 4 → FVec Ideal S64x128 .f32) : List (View.Piece (Elt Ideal) S256x512 .f32) :=
  [⟨Rect.unit ![0, 384] ![64, 128] inb_S256x512_S64x128_0_384, P 0 3⟩,
   ⟨Rect.unit ![0, 256] ![64, 128] inb_S256x512_S64x128_0_256, P 0 2⟩,
   ⟨Rect.unit ![0, 128] ![64, 128] inb_S256x512_S64x128_0_128, P 0 1⟩,
   ⟨Rect.unit ![0, 0] ![64, 128] inb_S256x512_S64x128_0_0, P 0 0⟩,
   ⟨Rect.unit ![64, 384] ![64, 128] inb_S256x512_S64x128_64_384, P 1 3⟩,
   ⟨Rect.unit ![64, 256] ![64, 128] inb_S256x512_S64x128_64_256, P 1 2⟩,
   ⟨Rect.unit ![64, 128] ![64, 128] inb_S256x512_S64x128_64_128, P 1 1⟩,
   ⟨Rect.unit ![64, 0] ![64, 128] inb_S256x512_S64x128_64_0, P 1 0⟩,
   ⟨Rect.unit ![128, 384] ![64, 128] inb_S256x512_S64x128_128_384, P 2 3⟩,
   ⟨Rect.unit ![128, 256] ![64, 128] inb_S256x512_S64x128_128_256, P 2 2⟩,
   ⟨Rect.unit ![128, 128] ![64, 128] inb_S256x512_S64x128_128_128, P 2 1⟩,
   ⟨Rect.unit ![128, 0] ![64, 128] inb_S256x512_S64x128_128_0, P 2 0⟩,
   ⟨Rect.unit ![192, 384] ![64, 128] inb_S256x512_S64x128_192_384, P 3 3⟩,
   ⟨Rect.unit ![192, 256] ![64, 128] inb_S256x512_S64x128_192_256, P 3 2⟩,
   ⟨Rect.unit ![192, 128] ![64, 128] inb_S256x512_S64x128_192_128, P 3 1⟩,
   ⟨Rect.unit ![192, 0] ![64, 128] inb_S256x512_S64x128_192_0, P 3 0⟩]

/-- Every entry is in one of the sixteen rectangles. -/
theorem grid16_cover (P : Fin 4 → Fin 4 → FVec Ideal S64x128 .f32) (y : S256x512.Idx) : ∃ p ∈ grid16 P, y ∈ p.1.set := by
  obtain ⟨p, hp, hy⟩ := pcs_cover (constant S2x512 .f32 0x00000000#32) (constant S256x512 .f32 0x00000000#32) (constant S256x512 .f32 0x00000000#32)
    (constant S256x512 .f32 0x00000000#32) (constant S512x64 .bf16 0x0000#16) (constant S1x128x128 .f32 0x00000000#32)
    (constant S1x128x128 .f32 0x00000000#32) (constant S1x128x128 .f32 0x00000000#32) (constant S1x128x128 .f32 0x00000000#32) y
  have e : ∀ l : List (View.Piece (Elt Ideal) S256x512 .f32), (∃ p ∈ l, y ∈ p.1.set) ↔ ∃ r ∈ l.map (fun p => p.1), y ∈ r.set := fun l => by
    simp only [List.mem_map, exists_exists_and_eq_and]
  have h := (e _).1 ⟨p, hp, hy⟩
  exact (e (grid16 P)).2 h

theorem grid16_piece (f : ℕ → ℕ → ℝ) (s h : Fin 4) (o w : ℕ) (ho : o = 64 * s.val) (hw : w = 128 * h.val)
    (inb : ∀ b, (![o, w] : Fin 2 → ℕ) b + (![64, 128] : Fin 2 → ℕ) b ≤ S256x512.size b) (P : FVec Ideal S64x128 .f32)
    (hP : ∀ (t : Fin 64) (v : Fin 128), (P (ix2 t v) : EReal) = (f (64 * s.val + t.val) (128 * h.val + v.val) : ℝ))
    (z : Shape.Idx ⟨2, ![64, 128]⟩) :
    P z = (fun y : S256x512.Idx => ((f (y 0 : Fin 256).val (y 1 : Fin 512).val : ℝ) : EReal)) ((Rect.unit (s := S256x512) ![o, w] ![64, 128] inb).emb z) := by
  obtain ⟨t, v, rfl⟩ : ∃ (t : Fin 64) (v : Fin 128), z = ix2 t v := ⟨z 0, z 1, by ext b; fin_cases b <;> rfl⟩
  refine (hP t v).trans ?_
  have e0 : ((Rect.unit (s := S256x512) ![o, w] ![64, 128] inb).emb (ix2 t v) 0 : Fin 256).val = o + t.val := by
    show o + 1 * t.val = _
    omega
  have e1 : ((Rect.unit (s := S256x512) ![o, w] ![64, 128] inb).emb (ix2 t v) 1 : Fin 512).val = w + v.val := by
    show w + 1 * v.val = _
    omega
  dsimp only
  rw [e0, e1, ho, hw]

/-- What sixteen stores leave, each the rows and columns of one array. -/
theorem grid16_val (P : Fin 4 → Fin 4 → FVec Ideal S64x128 .f32) (f : ℕ → ℕ → ℝ)
    (hP : ∀ (s h : Fin 4) (t : Fin 64) (v : Fin 128), (P s h (ix2 t v) : EReal) = (f (64 * s.val + t.val) (128 * h.val + v.val) : ℝ)) (y : S256x512.Idx) :
    View.canon (grid16 P) y = ((f (y 0 : Fin 256).val (y 1 : Fin 512).val : ℝ) : EReal) := by
  refine View.canon_append_of_piecesOf (Val := Elt Ideal) (e := .f32) (fun y : S256x512.Idx => ((f (y 0 : Fin 256).val (y 1 : Fin 512).val : ℝ) : EReal))
    [] (grid16 P) ⟨?_, ?_, ?_, ?_, ?_, ?_, ?_, ?_, ?_, ?_, ?_, ?_, ?_, ?_, ?_, ?_, trivial⟩ y (grid16_cover P y)
  · exact grid16_piece f 0 3 0 384 rfl rfl inb_S256x512_S64x128_0_384 _ (hP 0 3)
  · exact grid16_piece f 0 2 0 256 rfl rfl inb_S256x512_S64x128_0_256 _ (hP 0 2)
  · exact grid16_piece f 0 1 0 128 rfl rfl inb_S256x512_S64x128_0_128 _ (hP 0 1)
  · exact grid16_piece f 0 0 0 0 rfl rfl inb_S256x512_S64x128_0_0 _ (hP 0 0)
  · exact grid16_piece f 1 3 64 384 rfl rfl inb_S256x512_S64x128_64_384 _ (hP 1 3)
  · exact grid16_piece f 1 2 64 256 rfl rfl inb_S256x512_S64x128_64_256 _ (hP 1 2)
  · exact grid16_piece f 1 1 64 128 rfl rfl inb_S256x512_S64x128_64_128 _ (hP 1 1)
  · exact grid16_piece f 1 0 64 0 rfl rfl inb_S256x512_S64x128_64_0 _ (hP 1 0)
  · exact grid16_piece f 2 3 128 384 rfl rfl inb_S256x512_S64x128_128_384 _ (hP 2 3)
  · exact grid16_piece f 2 2 128 256 rfl rfl inb_S256x512_S64x128_128_256 _ (hP 2 2)
  · exact grid16_piece f 2 1 128 128 rfl rfl inb_S256x512_S64x128_128_128 _ (hP 2 1)
  · exact grid16_piece f 2 0 128 0 rfl rfl inb_S256x512_S64x128_128_0 _ (hP 2 0)
  · exact grid16_piece f 3 3 192 384 rfl rfl inb_S256x512_S64x128_192_384 _ (hP 3 3)
  · exact grid16_piece f 3 2 192 256 rfl rfl inb_S256x512_S64x128_192_256 _ (hP 3 2)
  · exact grid16_piece f 3 1 192 128 rfl rfl inb_S256x512_S64x128_192_128 _ (hP 3 1)
  · exact grid16_piece f 3 0 192 0 rfl rfl inb_S256x512_S64x128_192_0 _ (hP 3 0)

theorem sta0_ok (h : Fin 4) : ∀ b, (![0, h.val, 0, 0] : Fin 4 → ℕ) b + (![1, 1, 128, 128] : Fin 4 → ℕ) b ≤ S1x4x128x128.size b := by
  revert h; decide

theorem stan_ok (s h : Fin 4) : ∀ b, (![s.val - 1, h.val, 0, 0] : Fin 4 → ℕ) b + (![1, 1, 128, 128] : Fin 4 → ℕ) b ≤ S4x4x128x128.size b := by
  revert s h; decide

/-- The state before a chunk, as the body reads it: the earlier block's last one before the first chunk, dropped in the first
    block, and the block's own ones before the others. -/
def sin (w : Ideal .f32) (W : FVec Ideal S1x4x128x128 .f32) (X : FVec Ideal S4x4x128x128 .f32) (s h : Fin 4) : FVec Ideal S128x128 .f32 :=
  match s.val with
  | 0 => k0_pay195 (F := Ideal) w (View.ld (Val := Elt Ideal) (e' := .f32) W (Rect.unit (s := S1x4x128x128) ![0, h.val, 0, 0] ![1, 1, 128, 128] (sta0_ok h)))
  | _ + 1 => shapeCast S128x128 (View.ld (Val := Elt Ideal) (e' := .f32) X (Rect.unit (s := S4x4x128x128) ![s.val - 1, h.val, 0, 0] ![1, 1, 128, 128] (stan_ok s h)) :
      FVec Ideal S1x1x128x128 .f32) shapeCasts_S1x1x128x128_S128x128

/-- The queries' gradient of one chunk and one head, as the body stores it. -/
def qpc (G : FVec Ideal S2x512 .f32) (HF HI D : FVec Ideal S256x512 .f32) (M : FVec Ideal S512x64 .bf16) (w : Ideal .f32)
    (W : FVec Ideal S1x4x128x128 .f32) (X : FVec Ideal S4x4x128x128 .f32) (s h : Fin 4) : FVec Ideal S64x128 .f32 :=
  shapeCast S64x128 (dqi (dec (bl G HF) M s h) (cut (bk G HF) s h) (cut D s h) (cut HI s h) (sin w W X s h)) shapeCasts_S64x128_S64x128

section

variable (G : FVec Ideal S2x512 .f32) (HQ HF HI D : FVec Ideal S256x512 .f32) (M : FVec Ideal S512x64 .bf16) (w : Ideal .f32)
  (W : FVec Ideal S1x4x128x128 .f32) (X : FVec Ideal S4x4x128x128 .f32)
  (x : (⟨2, ![4096, 2048]⟩ : Shape).Idx → ℝ) (gm : (⟨2, ![2, 512]⟩ : Shape).Idx → ℝ)
  (d : (⟨2, ![4096, 512]⟩ : Shape).Idx → ℝ) (a : ℕ)
  (B : Blocks G HQ HF D M x gm d a)
  (hi_ : ∀ (r : Fin 256) (c : Fin 512), (HI (ix2 r c) : EReal) = (at2 x (a + r.val) (1024 + c.val) : ℝ))
  (hw : (w : EReal) = ((if a = 0 then 0 else 1 : ℝ) : EReal))
  (hW : a ≠ 0 → ∀ (h : Fin 4) (v j : Fin 128), (W (ix4 0 h v j) : EReal) = (sta x gm (128 * h.val) a v.val j.val : ℝ))
  (hW0 : ∀ (h : Fin 4) (v j : Fin 128), ∃ r : ℝ, (W (ix4 0 h v j) : EReal) = (r : ℝ))
  (hX : ∀ (s h : Fin 4) (v j : Fin 128), (X (ix4 s h v j) : EReal) = (sta x gm (128 * h.val) (a + 64 * (s.val + 1)) v.val j.val : ℝ))

theorem four_two (Y : FVec Ideal S1x1x128x128 .f32) (v j : Fin 128) :
    (shapeCast S128x128 Y shapeCasts_S1x1x128x128_S128x128 (ix2 v j) : EReal) = Y (ix4 0 0 v j) := by
  pointwise []

include hw hW hW0 hX in
theorem sin_at (s h : Fin 4) (v j : Fin 128) : (sin w W X s h (ix2 v j) : EReal) = (sta x gm (128 * h.val) (a + 64 * s.val) v.val j.val : ℝ) := by
  match s with
  | ⟨0, _⟩ =>
    have e : (k0_pay195 (F := Ideal) w (View.ld (Val := Elt Ideal) (e' := .f32) W (Rect.unit (s := S1x4x128x128) ![0, h.val, 0, 0] ![1, 1, 128, 128] (sta0_ok h)))
        (ix2 v j) : EReal) = (W (ix4 0 h v j) : EReal) * w := by
      pointwise [k0_pay195]
    refine Eq.trans e ?_
    rw [hw]
    by_cases ha : a = 0
    · obtain ⟨r, hr⟩ := hW0 h v j
      rw [hr, if_pos ha, ← EReal.coe_mul, mul_zero, ha]
      unfold sta
      simp
    · rw [hW ha, if_neg ha, ← EReal.coe_mul, mul_one]
      rfl
  | ⟨n + 1, hn⟩ =>
    have e : (shapeCast S128x128 (View.ld (Val := Elt Ideal) (e' := .f32) X (Rect.unit (s := S4x4x128x128) ![n, h.val, 0, 0] ![1, 1, 128, 128]
        (stan_ok ⟨n + 1, hn⟩ h)) : FVec Ideal S1x1x128x128 .f32) shapeCasts_S1x1x128x128_S128x128 (ix2 v j) : EReal) = (X (ix4 (⟨n, by omega⟩ : Fin 4) h v j) : EReal) := by
      refine (four_two _ v j).trans ?_
      refine congrArg X ?_
      funext b
      fin_cases b
      · exact Fin.ext (show n + 1 * 0 = n by omega)
      · exact Fin.ext (show h.val + 1 * 0 = h.val by omega)
      · exact Fin.ext (show 0 + 1 * v.val = v.val by omega)
      · exact Fin.ext (show 0 + 1 * j.val = j.val by omega)
    exact Eq.trans e (hX _ h v j)

include B hi_ hw hW hW0 hX in
theorem qpc_at (s h : Fin 4) (t : Fin 64) (j : Fin 128) :
    (qpc G HF HI D M w W X s h (ix2 t j) : EReal) = (dqr x gm d (128 * ((128 * h.val + j.val) / 128)) (a + (64 * s.val + t.val)) ((128 * h.val + j.val) % 128) : ℝ) := by
  have e : (qpc G HF HI D M w W X s h (ix2 t j) : EReal)
      = (dqi (dec (bl G HF) M s h) (cut (bk G HF) s h) (cut D s h) (cut HI s h) (sin w W X s h) (ix2 t j) : EReal) := by
    have f : ∀ Y : FVec Ideal S64x128 .f32, shapeCast S64x128 Y shapeCasts_S64x128_S64x128 (ix2 t j) = Y (ix2 t j) := fun Y => by
      pointwise []
    exact f _
  rw [e, show (128 * h.val + j.val) / 128 = h.val by omega, show (128 * h.val + j.val) % 128 = j.val by omega, ← add_assoc]
  refine dqi_at x gm d (128 * h.val) (a + 64 * s.val) _ _ _ _ _ (cut_k G HQ HF D M x gm d a B s h) (cut_d G HQ HF D M x gm d a B s h) ?_
    (sin_at w W X x gm a hw hW hW0 hX s h) (dec_at G HQ HF D M x gm d a B s h) t j
  intro t j
  rw [cut_at, add_assoc]
  exact hi_ _ _

/-- What the body leaves of the queries' gradient. -/
def qout (Y : FVec Ideal S256x512 .f32) : FVec Ideal S256x512 .f32 :=
  k0_pay1133 (F := Ideal) HQ (k0_pay7 (F := Ideal) HQ) Y

include B in
theorem qout_at (Y : FVec Ideal S256x512 .f32)
    (hY : ∀ (r : Fin 256) (c : Fin 512), (Y (ix2 r c) : EReal) = (dqr x gm d (128 * (c.val / 128)) (a + r.val) (c.val % 128) : ℝ)) (r : Fin 256) (c : Fin 512) :
    (qout HQ Y (ix2 r c) : EReal) = (dhq x gm d c.val (a + r.val) : ℝ) := by
  have hs : (k0_pay7 (F := Ideal) HQ (ix2 r c) : EReal) = (sg (at2 x (a + r.val) c.val) : ℝ) := by
    pointwise [k0_pay7]
    simp only [B.eq, zero_sub, ← EReal.coe_neg, Ideal.exp_coe]
    rw [← EReal.coe_one, ← EReal.coe_add, Ideal.div_coe (one_exp _).ne', ← EReal.coe_mul, one_mul]
    rfl
  pointwise [qout, k0_pay1133]
  simp only [hs, hY, B.eq]
  rw [← EReal.coe_one, ← EReal.coe_sub, ← EReal.coe_mul, ← EReal.coe_add, ← EReal.coe_mul, ← EReal.coe_mul]
  rfl

end

end Cert.Hg

end
-- ==== Proof.HgDp.lean ====
/- The stores of the gradient of the decays' arguments of the recurrence's backward body at one grid point: the keys'
   gradient of the block's chunks and heads, the rows that the zero-one matrix sums to the decays' gradient, and the
   derivative of the gates applied to both. -/
module

public import proofs.«01_k».proof.Proof.HgKey
public import proofs.«01_k».proof.Proof.HgQp

@[expose] public section

set_option maxRecDepth 16384

noncomputable section

namespace Cert.Hg

open Idealize.ShloMosaic Idealize.ShloMosaic.TcCoe Idealize.SL.Sem Cert.Ffn
open Cert.Kernel2Ideal Cert.Kernel2Ideal.Gen

theorem eight_ok (s h : Fin 4) (b : Fin 8) :
    ∀ e, (![s.val, 64 * b.val, 128 * h.val] : Fin 3 → ℕ) e + (![1, 64, 128] : Fin 3 → ℕ) e ≤ S4x512x512.size e := by
  revert s h b; decide

/-- The stores of the rows the zero-one matrix sums, one for each chunk, head and block of rows. -/
def grid128 (P : Fin 4 → Fin 4 → Fin 8 → FVec Ideal S1x64x128 .f32) : List (View.Piece (Elt Ideal) S4x512x512 .f32) :=
  ([0, 1, 2, 3] : List (Fin 4)).flatMap fun s => ([3, 2, 1, 0] : List (Fin 4)).flatMap fun h => ([7, 6, 5, 4, 3, 2, 1, 0] : List (Fin 8)).map fun b =>
    ⟨Rect.unit ![s.val, 64 * b.val, 128 * h.val] ![1, 64, 128] (eight_ok s h b), P s h b⟩

theorem grid128_mem (P : Fin 4 → Fin 4 → Fin 8 → FVec Ideal S1x64x128 .f32) (p : View.Piece (Elt Ideal) S4x512x512 .f32) :
    p ∈ grid128 P ↔ ∃ (s h : Fin 4) (b : Fin 8), p = ⟨Rect.unit ![s.val, 64 * b.val, 128 * h.val] ![1, 64, 128] (eight_ok s h b), P s h b⟩ := by
  have h4 : ∀ s : Fin 4, s ∈ ([0, 1, 2, 3] : List (Fin 4)) := by decide
  have h4' : ∀ s : Fin 4, s ∈ ([3, 2, 1, 0] : List (Fin 4)) := by decide
  have h8 : ∀ b : Fin 8, b ∈ ([7, 6, 5, 4, 3, 2, 1, 0] : List (Fin 8)) := by decide
  unfold grid128
  constructor
  · intro h
    obtain ⟨s, _, h⟩ := List.mem_flatMap.1 h
    obtain ⟨k, _, h⟩ := List.mem_flatMap.1 h
    obtain ⟨b, _, h⟩ := List.mem_map.1 h
    exact ⟨s, k, b, h.symm⟩
  · rintro ⟨s, k, b, rfl⟩
    exact List.mem_flatMap.2 ⟨s, h4 s, List.mem_flatMap.2 ⟨k, h4' k, List.mem_map.2 ⟨b, h8 b, rfl⟩⟩⟩

theorem grid128_cover (P : Fin 4 → Fin 4 → Fin 8 → FVec Ideal S1x64x128 .f32) (y : S4x512x512.Idx) : ∃ p ∈ grid128 P, y ∈ p.1.set := by
  obtain ⟨s, r, n, rfl⟩ : ∃ (s : Fin 4) (r n : Fin 512), y = ix3 s r n := ⟨y 0, y 1, y 2, by ext b; fin_cases b <;> rfl⟩
  have hr := r.isLt
  have hn := n.isLt
  refine ⟨_, (grid128_mem P _).2 ⟨s, ⟨n.val / 128, by omega⟩, ⟨r.val / 64, by omega⟩, rfl⟩, ?_⟩
  rw [Rect.mem_set_unit]
  intro b
  fin_cases b
  · show s.val ≤ s.val ∧ s.val < s.val + 1
    omega
  · show 64 * (r.val / 64) ≤ r.val ∧ r.val < 64 * (r.val / 64) + 64
    omega
  · show 128 * (n.val / 128) ≤ n.val ∧ n.val < 128 * (n.val / 128) + 128
    omega

/-- What those stores leave, each the rows and columns of one array. -/
theorem grid128_val (P : Fin 4 → Fin 4 → Fin 8 → FVec Ideal S1x64x128 .f32) (f : ℕ → ℕ → ℕ → ℝ)
    (hP : ∀ (s h : Fin 4) (b : Fin 8) (t : Fin 64) (v : Fin 128), (P s h b (ix3 0 t v) : EReal) = (f s.val (64 * b.val + t.val) (128 * h.val + v.val) : ℝ))
    (y : S4x512x512.Idx) :
    View.canon (grid128 P) y = ((f (y 0 : Fin 4).val (y 1 : Fin 512).val (y 2 : Fin 512).val : ℝ) : EReal) := by
  have e := View.canon_append_of_pieces (Val := Elt Ideal) (e := .f32) (fun y : S4x512x512.Idx =>
    ((f (y 0 : Fin 4).val (y 1 : Fin 512).val (y 2 : Fin 512).val : ℝ) : EReal)) [] (grid128 P) ?_ y (grid128_cover P y)
  · rw [List.append_nil] at e
    exact e
  · intro p hp z
    obtain ⟨s, h, b, rfl⟩ := (grid128_mem P p).1 hp
    obtain ⟨u, t, v, rfl⟩ : ∃ (u : Fin 1) (t : Fin 64) (v : Fin 128), z = ix3 u t v := ⟨z 0, z 1, z 2, by ext b; fin_cases b <;> rfl⟩
    have hu : u = 0 := Subsingleton.elim _ _
    subst hu
    refine (hP s h b t v).trans ?_
    have e0 : ((Rect.unit (s := S4x512x512) ![s.val, 64 * b.val, 128 * h.val] ![1, 64, 128] (eight_ok s h b)).emb (ix3 0 t v) 0 : Fin 4).val = s.val := by
      show s.val + 1 * 0 = _
      omega
    have e1 : ((Rect.unit (s := S4x512x512) ![s.val, 64 * b.val, 128 * h.val] ![1, 64, 128] (eight_ok s h b)).emb (ix3 0 t v) 1 : Fin 512).val = 64 * b.val + t.val := by
      show 64 * b.val + 1 * t.val = _
      omega
    have e2 : ((Rect.unit (s := S4x512x512) ![s.val, 64 * b.val, 128 * h.val] ![1, 64, 128] (eight_ok s h b)).emb (ix3 0 t v) 2 : Fin 512).val = 128 * h.val + v.val := by
      show 128 * h.val + 1 * v.val = _
      omega
    dsimp only
    rw [e0, e1, e2]

/-- What one chunk's rows sum to, by the zero-one matrix. -/
abbrev dgc (T : FVec Ideal S64x512 .bf16) (E : FVec Ideal S1x512x512 .f32) : FVec Ideal S64x512 .f32 := k0_pay1128 (F := Ideal) T E

/-- The block's four chunks of them. -/
def dgo (T : FVec Ideal S64x512 .bf16) (E0 E1 E2 E3 : FVec Ideal S1x512x512 .f32) : FVec Ideal S256x512 .f32 :=
  k0_pay1132 (F := Ideal) (k0_pay1128 (F := Ideal) T E0) T (k0_pay1129 (F := Ideal) E1) (k0_pay1130 (F := Ideal) E1) (k0_pay1131 (F := Ideal) E1) T E2 T E3

theorem cat4 (X0 X1 X2 X3 : FVec Ideal S64x512 .f32) (f : ℕ → ℕ → ℝ)
    (h0 : ∀ (t : Fin 64) (c : Fin 512), (X0 (ix2 t c) : EReal) = (f t.val c.val : ℝ))
    (h1 : ∀ (t : Fin 64) (c : Fin 512), (X1 (ix2 t c) : EReal) = (f (64 + t.val) c.val : ℝ))
    (h2 : ∀ (t : Fin 64) (c : Fin 512), (X2 (ix2 t c) : EReal) = (f (128 + t.val) c.val : ℝ))
    (h3 : ∀ (t : Fin 64) (c : Fin 512), (X3 (ix2 t c) : EReal) = (f (192 + t.val) c.val : ℝ)) (r : Fin 256) (c : Fin 512) :
    (concatenate S256x512 0 [⟨S64x512, X0⟩, ⟨S64x512, X1⟩, ⟨S64x512, X2⟩, ⟨S64x512, X3⟩] concatenates_S64x512_S64x512_S64x512_S64x512_S256x512_d0 (ix2 r c) : EReal)
      = (f r.val c.val : ℝ) := by
  pointwise []
  simp only [h0, h1, h2, h3]
  split_ifs with a1 a2 a3
  · rfl
  · exact congrArg (fun n => ((f n c.val : ℝ) : EReal)) (by omega)
  · exact congrArg (fun n => ((f n c.val : ℝ) : EReal)) (by omega)
  · exact congrArg (fun n => ((f n c.val : ℝ) : EReal)) (by omega)

section

variable (x : (⟨2, ![4096, 2048]⟩ : Shape).Idx → ℝ) (gm : (⟨2, ![2, 512]⟩ : Shape).Idx → ℝ)
  (d : (⟨2, ![4096, 512]⟩ : Shape).Idx → ℝ) (a : ℕ)

theorem dgc_at (T : FVec Ideal S64x512 .bf16) (E : FVec Ideal S1x512x512 .f32) (ha : a + 64 ≤ 4096)
    (eT : ∀ (j : Fin 64) (r : Fin 512), (T (ix2 j r) : EReal) = (win r.val j.val : ℝ))
    (eE : ∀ (r c : Fin 512), (E (ix3 0 r c) : EReal) = (ebr x gm d (128 * (c.val / 128)) a r.val (c.val % 128) : ℝ)) (j : Fin 64) (c : Fin 512) :
    (dgc T E (ix2 j c) : EReal) = (dgr x gm d (128 * (c.val / 128)) (a + j.val) (c.val % 128) : ℝ) := by
  pointwise [dgc, k0_pay1128]
  simp only [eT, eE, ← EReal.coe_sub, sub_self, ← EReal.coe_mul, mul_zero, coe_sum, Finset.sum_const_zero, ← EReal.coe_add, add_zero]
  rw [ebr_sum x gm d _ a _ j ha]

theorem dgo_at (T : FVec Ideal S64x512 .bf16) (E0 E1 E2 E3 : FVec Ideal S1x512x512 .f32) (ha : a + 256 ≤ 4096)
    (eT : ∀ (j : Fin 64) (r : Fin 512), (T (ix2 j r) : EReal) = (win r.val j.val : ℝ))
    (e0 : ∀ (r c : Fin 512), (E0 (ix3 0 r c) : EReal) = (ebr x gm d (128 * (c.val / 128)) (a + 64 * 0) r.val (c.val % 128) : ℝ))
    (e1 : ∀ (r c : Fin 512), (E1 (ix3 0 r c) : EReal) = (ebr x gm d (128 * (c.val / 128)) (a + 64 * 1) r.val (c.val % 128) : ℝ))
    (e2 : ∀ (r c : Fin 512), (E2 (ix3 0 r c) : EReal) = (ebr x gm d (128 * (c.val / 128)) (a + 64 * 2) r.val (c.val % 128) : ℝ))
    (e3 : ∀ (r c : Fin 512), (E3 (ix3 0 r c) : EReal) = (ebr x gm d (128 * (c.val / 128)) (a + 64 * 3) r.val (c.val % 128) : ℝ))
    (r : Fin 256) (c : Fin 512) :
    (dgo T E0 E1 E2 E3 (ix2 r c) : EReal) = (dgr x gm d (128 * (c.val / 128)) (a + r.val) (c.val % 128) : ℝ) := by
  have e : dgo T E0 E1 E2 E3 = concatenate S256x512 0 [⟨S64x512, dgc T E0⟩, ⟨S64x512, dgc T E1⟩, ⟨S64x512, dgc T E2⟩, ⟨S64x512, dgc T E3⟩]
    concatenates_S64x512_S64x512_S64x512_S64x512_S256x512_d0 := rfl
  rw [e]
  refine cat4 _ _ _ _ (fun r c => dgr x gm d (128 * (c / 128)) (a + r) (c % 128)) ?_ ?_ ?_ ?_ r c
  · intro t c
    refine (dgc_at x gm d _ T E0 (by omega) eT e0 t c).trans ?_
    rw [Nat.mul_zero, Nat.add_zero]
  · intro t c
    refine (dgc_at x gm d _ T E1 (by omega) eT e1 t c).trans ?_
    rw [add_assoc]
  · intro t c
    refine (dgc_at x gm d _ T E2 (by omega) eT e2 t c).trans ?_
    rw [add_assoc]
  · intro t c
    refine (dgc_at x gm d _ T E3 (by omega) eT e3 t c).trans ?_
    rw [add_assoc]

/-- The gradient that both the decay's argument and its lower bound pass on. -/
def com (c r : ℕ) : ℝ := dgr x gm d (128 * (c / 128)) r (c % 128) / fg x gm r c - dkr x gm d (128 * (c / 128)) r (c % 128)

/-- The gradient of the decay's argument. -/
def dhf (c r : ℕ) : ℝ := (1 - lb gm c) * sg (at2 x r (512 + c)) * sg (-at2 x r (512 + c)) * com x gm d c r

variable (G : FVec Ideal S2x512 .f32) (HQ HF HI D : FVec Ideal S256x512 .f32) (M : FVec Ideal S512x64 .bf16) (w : Ideal .f32)
  (W : FVec Ideal S1x4x128x128 .f32) (X : FVec Ideal S4x4x128x128 .f32) (Zs : Fin 4 → FVec Ideal S1x128x128 .f32)
  (B : Blocks G HQ HF D M x gm d a)
  (hi_ : ∀ (r : Fin 256) (c : Fin 512), (HI (ix2 r c) : EReal) = (at2 x (a + r.val) (1024 + c.val) : ℝ))
  (hw : (w : EReal) = ((if a = 0 then 0 else 1 : ℝ) : EReal))
  (hW : a ≠ 0 → ∀ (h : Fin 4) (v j : Fin 128), (W (ix4 0 h v j) : EReal) = (sta x gm (128 * h.val) a v.val j.val : ℝ))
  (hW0 : ∀ (h : Fin 4) (v j : Fin 128), ∃ r : ℝ, (W (ix4 0 h v j) : EReal) = (r : ℝ))
  (hX : ∀ (s h : Fin 4) (v j : Fin 128), (X (ix4 s h v j) : EReal) = (sta x gm (128 * h.val) (a + 64 * (s.val + 1)) v.val j.val : ℝ))
  (hZ : ∀ (h : Fin 4) (v j : Fin 128), (Zs h (ix3 0 v j) : EReal) = (dst x gm d (128 * h.val) (a + 256) v.val j.val : ℝ))

/-- The state's gradient after a chunk. -/
def zou (s h : Fin 4) : FVec Ideal S128x128 .f32 :=
  match s.val with
  | 0 => z1 G HQ HF D M h (Zs h)
  | 1 => z2 G HQ HF D M h (Zs h)
  | 2 => z3 G HQ HF D M h (Zs h)
  | _ => z4 h (Zs h)

/-- The keys' gradient of one chunk and one head, as the body stores it. -/
def kpc (s h : Fin 4) : FVec Ideal S64x128 .f32 :=
  shapeCast S64x128 (dki (dec (bl G HF) M s h) (cut (bq HQ) s h) (cut D s h) (cut HI s h) (zou G HQ HF D M Zs s h)) shapeCasts_S64x128_S64x128

/-- One block of the rows the zero-one matrix sums, for one chunk and one head. -/
def epc (s h : Fin 4) (b : Fin 8) : FVec Ideal S1x64x128 .f32 :=
  deb (dec (bl G HF) M s h) (cut (bq HQ) s h) (cut (bk G HF) s h) (cut D s h) (cut HI s h) (sin w W X s h) (zou G HQ HF D M Zs s h) b

include B hZ in
theorem zou_at (s h : Fin 4) : Is x gm d (a + 64 * s.val + 64) h (zou G HQ HF D M Zs s h) := by
  fin_cases s
  · exact z1_at G HQ HF D M x gm d a B h _ (hZ h)
  · exact z2_at G HQ HF D M x gm d a B h _ (hZ h)
  · exact z3_at G HQ HF D M x gm d a B h _ (hZ h)
  · exact z4_at x gm d a h _ (hZ h)

include hi_ in
theorem cut_v (s h : Fin 4) (t : Fin 64) (j : Fin 128) :
    (cut HI s h (ix2 t j) : EReal) = (at2 x (a + 64 * s.val + t.val) (1024 + (128 * h.val + j.val)) : ℝ) := by
  rw [cut_at, add_assoc]
  exact hi_ _ _

include B hi_ hZ in
theorem kpc_at (s h : Fin 4) (t : Fin 64) (j : Fin 128) : (kpc G HQ HF HI D M Zs s h (ix2 t j) : EReal)
    = (dkr x gm d (128 * ((128 * h.val + j.val) / 128)) (a + (64 * s.val + t.val)) ((128 * h.val + j.val) % 128) : ℝ) := by
  have e : (kpc G HQ HF HI D M Zs s h (ix2 t j) : EReal)
      = (dki (dec (bl G HF) M s h) (cut (bq HQ) s h) (cut D s h) (cut HI s h) (zou G HQ HF D M Zs s h) (ix2 t j) : EReal) := by
    have f : ∀ Y : FVec Ideal S64x128 .f32, shapeCast S64x128 Y shapeCasts_S64x128_S64x128 (ix2 t j) = Y (ix2 t j) := fun Y => by
      pointwise []
    exact f _
  rw [e, show (128 * h.val + j.val) / 128 = h.val by omega, show (128 * h.val + j.val) % 128 = j.val by omega, ← add_assoc]
  exact dki_at x gm d (128 * h.val) (a + 64 * s.val) (by have := B.ha; omega) _ _ _ _ _ (cut_q G HQ HF D M x gm d a B s h) (cut_d G HQ HF D M x gm d a B s h)
    (cut_v x a HI hi_ s h) (zou_at x gm d a G HQ HF D M Zs B hZ s h) (dec_at G HQ HF D M x gm d a B s h) t j

include B hi_ hw hW hW0 hX hZ in
theorem epc_at (s h : Fin 4) (b : Fin 8) (t : Fin 64) (j : Fin 128) : (epc G HQ HF HI D M w W X Zs s h b (ix3 0 t j) : EReal)
    = (ebr x gm d (128 * ((128 * h.val + j.val) / 128)) (a + 64 * s.val) (64 * b.val + t.val) ((128 * h.val + j.val) % 128) : ℝ) := by
  rw [show (128 * h.val + j.val) / 128 = h.val by omega, show (128 * h.val + j.val) % 128 = j.val by omega]
  exact deb_at x gm d (128 * h.val) (a + 64 * s.val) _ _ _ _ _ _ _ (cut_q G HQ HF D M x gm d a B s h) (cut_k G HQ HF D M x gm d a B s h)
    (cut_d G HQ HF D M x gm d a B s h) (cut_v x a HI hi_ s h) (sin_at w W X x gm a hw hW hW0 hX s h) (zou_at x gm d a G HQ HF D M Zs B hZ s h)
    (dec_at G HQ HF D M x gm d a B s h) b t j

/-- What both gradients of the gate are a multiple of, as the body computes it. -/
def cout (G : FVec Ideal S2x512 .f32) (HF Y K : FVec Ideal S256x512 .f32) : FVec Ideal S256x512 .f32 :=
  k0_pay1134 (F := Ideal) (k0_pay11 (F := Ideal) (k0_pay6 (F := Ideal) G) (k0_pay9 (F := Ideal) HF)) Y K

/-- What the body leaves of the gradient of the decay's argument. -/
def fout (G : FVec Ideal S2x512 .f32) (HF Y K : FVec Ideal S256x512 .f32) : FVec Ideal S256x512 .f32 :=
  k0_pay1135 (F := Ideal) (k0_pay6 (F := Ideal) G) (k0_pay9 (F := Ideal) HF) (k0_pay10 (F := Ideal) HF (FloatOps.ofBits .f32 0x00000000#32))
    (k0_pay11 (F := Ideal) (k0_pay6 (F := Ideal) G) (k0_pay9 (F := Ideal) HF)) Y K

theorem nsig_at (HF : FVec Ideal S256x512 .f32)
    (ef : ∀ (r : Fin 256) (c : Fin 512), (HF (ix2 r c) : EReal) = (at2 x (a + r.val) (512 + c.val) : ℝ)) (r : Fin 256) (c : Fin 512) :
    (k0_pay10 (F := Ideal) HF (FloatOps.ofBits .f32 0x00000000#32) (ix2 r c) : EReal) = (sg (-at2 x (a + r.val) (512 + c.val)) : ℝ) := by
  pointwise [k0_pay10]
  simp only [ef, zero_sub, ← EReal.coe_neg, Ideal.exp_coe]
  rw [← EReal.coe_one, ← EReal.coe_add, Ideal.div_coe (one_exp _).ne', ← EReal.coe_mul, one_mul]
  rfl

include B in
theorem cout_at (Y K : FVec Ideal S256x512 .f32)
    (hY : ∀ (r : Fin 256) (c : Fin 512), (Y (ix2 r c) : EReal) = (dgr x gm d (128 * (c.val / 128)) (a + r.val) (c.val % 128) : ℝ))
    (hK : ∀ (r : Fin 256) (c : Fin 512), (K (ix2 r c) : EReal) = (dkr x gm d (128 * (c.val / 128)) (a + r.val) (c.val % 128) : ℝ)) (r : Fin 256) (c : Fin 512) :
    (cout G HF Y K (ix2 r c) : EReal) = (com x gm d c.val (a + r.val) : ℝ) := by
  have h := pay_lb gm G B.eg c
  have h2 := pay_sf x HF a B.ef r c
  have hf : (k0_pay11 (F := Ideal) (k0_pay6 (F := Ideal) G) (k0_pay9 (F := Ideal) HF) (ix2 r c) : EReal) = (fg x gm (a + r.val) c.val : ℝ) := by
    pointwise [k0_pay11]
    simp only [h, h2]
    rw [← EReal.coe_one, ← EReal.coe_sub, ← EReal.coe_mul, ← EReal.coe_add]
    rfl
  pointwise [cout, k0_pay1134]
  simp only [hf, hY, hK]
  rw [Ideal.div_coe (fg_pos x gm _ _).ne', ← EReal.coe_mul, ← EReal.coe_sub, mul_one_div]
  rfl

include B in
theorem fout_at (Y K : FVec Ideal S256x512 .f32)
    (hY : ∀ (r : Fin 256) (c : Fin 512), (Y (ix2 r c) : EReal) = (dgr x gm d (128 * (c.val / 128)) (a + r.val) (c.val % 128) : ℝ))
    (hK : ∀ (r : Fin 256) (c : Fin 512), (K (ix2 r c) : EReal) = (dkr x gm d (128 * (c.val / 128)) (a + r.val) (c.val % 128) : ℝ)) (r : Fin 256) (c : Fin 512) :
    (fout G HF Y K (ix2 r c) : EReal) = (dhf x gm d c.val (a + r.val) : ℝ) := by
  have h := pay_lb gm G B.eg c
  have h2 := pay_sf x HF a B.ef r c
  have h3 := nsig_at x a HF B.ef r c
  have h4 : (k0_pay1134 (F := Ideal) (k0_pay11 (F := Ideal) (k0_pay6 (F := Ideal) G) (k0_pay9 (F := Ideal) HF)) Y K (ix2 r c) : EReal)
      = (com x gm d c.val (a + r.val) : ℝ) := cout_at x gm d a G HQ HF D M B Y K hY hK r c
  unfold fout
  generalize k0_pay10 (F := Ideal) HF (FloatOps.ofBits .f32 0x00000000#32) = N at h3 ⊢
  pointwise [k0_pay1135]
  simp only [h, h2, h3, h4]
  rw [← EReal.coe_one, ← EReal.coe_sub, ← EReal.coe_mul, ← EReal.coe_mul, ← EReal.coe_mul]
  rfl

end

end Cert.Hg

end
-- ==== Proof.HgRefF.lean ====
/- The recurrence's reference on finite arguments: the gradient of the decays' arguments. -/
module

public import proofs.«01_k».proof.Proof.HgRefQ
public import proofs.«01_k».proof.Proof.HgDp

@[expose] public section

set_option maxRecDepth 16384

noncomputable section

namespace Cert.Hg

open Idealize.ShloMosaic Idealize.ShloMosaic.TcCoe Idealize.SL.Sem Cert.Ffn
open Cert.Reference2Ideal Cert.Reference2Ideal.Gen Cert.Reference2Ideal.Read

/-- A running sum from the last row down, at a row: the sum of the operand's rows from it on. -/
theorem running_back (F : FVec Ideal S4096x4x128 .f32) (init : S_.Idx → Ideal .f32)
    (h : S4096x4x128.ReduceWindows ![4096, 1, 1] ![1, 1, 1] ![0, 0, 0] ![4095, 0, 0] S4096x4x128) (hu : 0 < S_.numel)
    (h0 : (init (Shape.Idx.first hu) : EReal) = 0) (i : Fin 4096) (a : Fin 4) (b : Fin 128) :
    Host.reduceWindowAdd ![4096, 1, 1] ![1, 1, 1] ![0, 0, 0] ![4095, 0, 0] F init h hu (ix3 i a b)
      = (∑ k : Fin 4096, if h : i.val + k.val < 4096 then (F (ix3 ⟨i.val + k.val, h⟩ a b) : EReal) else 0 : EReal) := by
  rw [window_sum _ _ _ _ _ _ _ _ h0]
  refine (sum_idx3 (n0 := 4096) (n1 := 1) (n2 := 1) _).trans ?_
  refine Finset.sum_congr rfl fun k _ => ?_
  simp only [Finset.univ_unique, Finset.sum_singleton]
  by_cases hk : i.val + k.val < 4096
  · rw [dif_pos hk, dif_pos]
    · refine congrArg F (funext fun e => ?_)
      match e with
      | ⟨0, _⟩ => exact Fin.ext (by show i.val * 1 + k.val - 0 = i.val + k.val; omega)
      | ⟨1, _⟩ => exact Fin.ext (by show a.val * 1 + 0 - 0 = a.val; omega)
      | ⟨2, _⟩ => exact Fin.ext (by show b.val * 1 + 0 - 0 = b.val; omega)
    · intro e
      match e with
      | ⟨0, _⟩ => exact ⟨by show 0 ≤ i.val * 1 + k.val; omega, by show i.val * 1 + k.val - 0 < 4096; omega⟩
      | ⟨1, _⟩ => exact ⟨by show 0 ≤ a.val * 1 + 0; omega, by show a.val * 1 + 0 - 0 < 4; omega⟩
      | ⟨2, _⟩ => exact ⟨by show 0 ≤ b.val * 1 + 0; omega, by show b.val * 1 + 0 - 0 < 128; omega⟩
  · rw [dif_neg hk, dif_neg]
    intro hh
    have := (hh (0 : Fin 3)).2
    have h2 : i.val * 1 + k.val - 0 < 4096 := this
    omega

/-- The sum of the rows from one on, over natural numbers. -/
theorem back_real (f : ℕ → ℝ) (i : Fin 4096) :
    (∑ k : Fin 4096, if i.val + k.val < 4096 then f (i.val + k.val) else 0) = ∑ u ∈ Finset.Ico i.val 4096, f u := by
  rw [Fin.sum_univ_eq_sum_range (fun k => if i.val + k < 4096 then f (i.val + k) else 0) 4096, Finset.sum_Ico_eq_sum_range,
    ← Finset.sum_subset (Finset.range_subset_range.2 (show 4096 - i.val ≤ 4096 by omega))]
  · refine Finset.sum_congr rfl fun k hk => ?_
    rw [if_pos (by have := Finset.mem_range.1 hk; omega)]
  · intro k _ hk
    rw [if_neg (fun h => hk (Finset.mem_range.2 (by omega)))]

/-- Over pairs of which none has its first member below its second, the rows' sums less the columns' sums, added up from one
    row on, are the pairs that the row lies between. -/
theorem row_less_col (e : ℕ → ℕ → ℝ) (he : ∀ t s, t < s → e t s = 0) (r : ℕ) (hr : r ≤ 4096) :
    ∑ u ∈ Finset.Ico r 4096, (-(∑ t ∈ Finset.range 4096, e t u) + ∑ s ∈ Finset.range 4096, e u s)
      = ∑ t ∈ Finset.Ico r 4096, ∑ s ∈ Finset.range r, e t s := by
  have split : ∀ f : ℕ → ℝ, ∑ s ∈ Finset.range 4096, f s = ∑ s ∈ Finset.range r, f s + ∑ s ∈ Finset.Ico r 4096, f s := fun f => by
    rw [Finset.range_eq_Ico, Finset.range_eq_Ico, Finset.sum_Ico_consecutive _ (Nat.zero_le r) hr]
  rw [Finset.sum_add_distrib, Finset.sum_neg_distrib]
  simp only [split, Finset.sum_add_distrib]
  rw [Finset.sum_comm (s := Finset.Ico r 4096) (t := Finset.Ico r 4096) (f := fun u t => e t u),
    Finset.sum_eq_zero (s := Finset.Ico r 4096) (f := fun u => ∑ t ∈ Finset.range r, e t u)]
  · ring
  · intro u hu
    refine Finset.sum_eq_zero fun t ht => he t u ?_
    have := Finset.mem_range.1 ht
    have := (Finset.mem_Ico.1 hu).1
    omega

variable (x : (⟨2, ![4096, 2048]⟩ : Shape).Idx → ℝ) (gm : (⟨2, ![2, 512]⟩ : Shape).Idx → ℝ)
  (d : (⟨2, ![4096, 512]⟩ : Shape).Idx → ℝ)

theorem pre_lt (c : ℕ) {a b : ℕ} (h : a < b) : pre x gm c b < pre x gm c a := by
  refine lt_of_le_of_lt (pre_le x gm c (show a + 1 ≤ b by omega)) ?_
  unfold pre
  rw [Finset.sum_range_succ]
  have := Real.log_neg (fg_pos x gm a c) (fg_lt x gm a c)
  unfold lg
  linarith

theorem word_inf : Ideal.ofBits .f32 0x7F800000#32 = ⊤ := by simp [Ideal.ofBits, Ideal.ieee]

theorem word_half : Ideal.ofBits .f32 0x3F000000#32 = ((1 / 2 : ℝ) : EReal) := by
  simp [Ideal.ofBits, Ideal.ieee]
  rw [← EReal.coe_mul]
  norm_num

theorem sel_one (u v : Ideal .f32) : Scalar.select (1#1) u v = u := rfl

theorem sel_zero (u v : Ideal .f32) : Scalar.select (0#1) u v = v := rfl

theorem exp_none : Ideal.exp 0 = ((1 : ℝ) : EReal) := by
  rw [← EReal.coe_zero, Ideal.exp_coe, Real.exp_zero]

/-- What a pair hands on, the diagonal's pairs halved. -/
def er (c0 t s k : ℕ) : ℝ := if s < t then pr x gm d c0 t s k else if s = t then pr x gm d c0 t s k * (1 / 2) else 0

theorem ref_er (t s : Fin 4096) (a : Fin 4) (b : Fin 128) :
    (val_main_v140 (F := Ideal) (liftA S4096x2048 FTy.f32 x) (liftA S2x512 FTy.f32 gm) (liftA S4096x512 FTy.f32 d) (ix4 t s a b) : EReal)
      = (er x gm d (128 * a.val) t.val s.val b.val : ℝ) := by
  pointwise [val_main_v140, val_main_v139, val_main_v138, val_main_v133, val_main_v132, val_main_v109, val_main_v4, val_main_v130, val_main_v129, val_main_v112, val_main_v125,
    val_main_call5_v0, val_main_call5_cst, val_main_v106, val_main_v105, val_main_v104, val_main_v103, val_main_v102, val_main_v101, val_main_v100, val_main_v99, val_main_v98,
    val_main_cst_19, val_main_cst_20, val_main_cst_21, val_main_cst_22, val_main_cst_23,
    val_main_v107, val_main_v97, val_main_v96, val_main_v95, val_main_v94, val_main_v93, val_main_v92, val_main_v91, val_main_v90, val_main_v89, val_main_v88, val_main_v87, val_main_cst_18,
    val_main_v83, val_main_v108_1]
  simp only [ref_dat, ref_pre, ref_key, ref_query, ← EReal.coe_sub, bit_le, show a.val * 128 + b.val = 128 * a.val + b.val by omega]
  rw [word_half]
  unfold er pr wk
  by_cases h : s.val ≤ t.val
  · rw [if_pos h, sel_one]
    by_cases h2 : s.val < t.val
    · have hp := pre_lt x gm (128 * a.val + b.val) (show s.val + 1 < t.val + 1 by omega)
      have hn : pre x gm (128 * a.val + b.val) (t.val + 1) - pre x gm (128 * a.val + b.val) (s.val + 1) < 0 := by linarith
      rw [if_pos h2, if_pos (by rw [← EReal.coe_zero]; exact EReal.coe_lt_coe_iff.2 hn), min_eq_left (by rw [← EReal.coe_zero]; exact EReal.coe_le_coe_iff.2 hn.le),
        Ideal.exp_coe, mul_one, ← EReal.coe_mul, ← EReal.coe_mul, ← EReal.coe_mul]
      exact congrArg _ (by ring)
    · have h3 : s.val = t.val := by omega
      rw [if_neg h2, if_pos h3, h3, sub_self, EReal.coe_zero, if_neg (lt_irrefl _), if_pos rfl, min_self, exp_none, ← EReal.coe_mul, ← EReal.coe_mul, ← EReal.coe_mul, ← EReal.coe_mul]
      exact congrArg _ (by rw [Real.exp_zero]; ring)
  · rw [if_neg h, sel_zero, if_neg (by omega), if_neg (by omega), EReal.coe_zero]

theorem ref_dgr (r : Fin 4096) (a : Fin 4) (b : Fin 128) :
    (val_main_v149 (F := Ideal) (liftA S4096x2048 FTy.f32 x) (liftA S2x512 FTy.f32 gm) (liftA S4096x512 FTy.f32 d) (ix3 r a b) : EReal)
      = (dgr x gm d (128 * a.val) r.val b.val : ℝ) := by
  have h148 : ∀ u : Fin 4096, (val_main_v148 (F := Ideal) (liftA S4096x2048 FTy.f32 x) (liftA S2x512 FTy.f32 gm) (liftA S4096x512 FTy.f32 d) (ix3 u a b) : EReal)
      = ((-(∑ t ∈ Finset.range 4096, er x gm d (128 * a.val) t u.val b.val) + ∑ s ∈ Finset.range 4096, er x gm d (128 * a.val) u.val s b.val : ℝ) : EReal) := by
    intro u
    pointwise [val_main_v148, val_main_v147, val_main_v146, val_main_v145, val_main_v144, val_main_v143, val_main_v142, val_main_v141, val_main_cst_30, val_main_cst_31,
      val_main_cst_32, val_main_cst_33]
    simp only [ref_er, ← EReal.coe_neg, coe_sum, Finset.univ_unique, Finset.sum_singleton, ← EReal.coe_add]
    rw [Finset.sum_neg_distrib, Fin.sum_univ_eq_sum_range (fun t => er x gm d (128 * a.val) t u.val b.val) 4096,
      Fin.sum_univ_eq_sum_range (fun s => er x gm d (128 * a.val) u.val s b.val) 4096]
  unfold val_main_v149
  rw [running_back _ _ _ _ (by pointwise [val_main_call6_call0_v0, val_main_call6_call0_cst])]
  have e : dgr x gm d (128 * a.val) r.val b.val = ∑ t ∈ Finset.Ico r.val 4096, ∑ s ∈ Finset.range r.val, er x gm d (128 * a.val) t s b.val := by
    unfold dgr
    refine Finset.sum_congr rfl fun t ht => Finset.sum_congr rfl fun s hs => ?_
    unfold er
    rw [if_pos (by have := Finset.mem_range.1 hs; have := (Finset.mem_Ico.1 ht).1; omega)]
  rw [e, ← row_less_col (fun t s => er x gm d (128 * a.val) t s b.val) (fun t s h => by unfold er; rw [if_neg (by omega), if_neg (by omega)]) r.val r.isLt.le,
    ← back_real (fun u => -(∑ t ∈ Finset.range 4096, er x gm d (128 * a.val) t u b.val) + ∑ s ∈ Finset.range 4096, er x gm d (128 * a.val) u s b.val), ← coe_sum]
  refine Finset.sum_congr rfl fun k _ => ?_
  split_ifs with h
  · exact h148 _
  · rfl

theorem ref_dkr (r : Fin 4096) (a : Fin 4) (b : Fin 128) :
    (val_main_v131 (F := Ideal) (liftA S4096x2048 FTy.f32 x) (liftA S2x512 FTy.f32 gm) (liftA S4096x512 FTy.f32 d) (ix3 r a b) : EReal)
      = (dkr x gm d (128 * a.val) r.val b.val : ℝ) := by
  have h126 : ∀ t s : Fin 4096, (val_main_v126 (F := Ideal) (liftA S4096x2048 FTy.f32 x) (liftA S2x512 FTy.f32 gm) (liftA S4096x512 FTy.f32 d) (ix4 t s a b) : EReal)
      = ((if s.val ≤ t.val then dat x d (128 * a.val) t.val s.val * (qq x t.val (128 * a.val + b.val)
          * Real.exp (pre x gm (128 * a.val + b.val) (t.val + 1) - pre x gm (128 * a.val + b.val) (s.val + 1))) else 0 : ℝ) : EReal) := by
    intro t s
    pointwise [val_main_v126, val_main_v125, val_main_v111, val_main_v110, val_main_v109, val_main_v4, val_main_v108_0, val_main_call4_v2, val_main_call4_v0, val_main_cst_24,
      val_main_v107, val_main_v97, val_main_v96, val_main_v95, val_main_v94, val_main_v93, val_main_v92, val_main_v91, val_main_v90, val_main_v89, val_main_v88, val_main_v87, val_main_cst_18,
      val_main_v108_1]
    simp only [ref_dat, ref_pre, ref_query, ← EReal.coe_sub, bit_le, show a.val * 128 + b.val = 128 * a.val + b.val by omega]
    by_cases h : s.val ≤ t.val
    · have hp := pre_le x gm (128 * a.val + b.val) (show s.val + 1 ≤ t.val + 1 by omega)
      rw [if_pos h, if_pos h, min_eq_left (by rw [← EReal.coe_zero]; exact EReal.coe_le_coe_iff.2 (by linarith)), Ideal.exp_coe, mul_comm (dat x d _ _ _)]
      exact (EReal.coe_mul _ _).symm ▸ (EReal.coe_mul _ _).symm ▸ rfl
    · rw [if_neg h, if_neg h]
      show (_ * Ideal.ofBits .f32 0x00000000#32 * _ : EReal) = _
      rw [show Ideal.ofBits .f32 0x00000000#32 = 0 by simp [Ideal.ofBits, Ideal.ieee], mul_zero, zero_mul]
      rfl
  pointwise [val_main_v131, val_main_v128, val_main_v127, val_main_cst_26, val_main_cst_27]
  simp only [h126, coe_sum, Finset.univ_unique, Finset.sum_singleton]
  refine congrArg _ ?_
  unfold dkr
  rw [Fin.sum_univ_eq_sum_range (fun t => if r.val ≤ t then dat x d (128 * a.val) t r.val * (qq x t (128 * a.val + b.val)
      * Real.exp (pre x gm (128 * a.val + b.val) (t + 1) - pre x gm (128 * a.val + b.val) (r.val + 1))) else 0) 4096,
    Finset.range_eq_Ico, ← Finset.sum_Ico_consecutive _ (Nat.zero_le r.val) r.isLt.le, Finset.sum_eq_zero, zero_add]
  · refine Finset.sum_congr rfl fun i hi => ?_
    rw [if_pos (Finset.mem_Ico.1 hi).1]
  · intro i hi
    rw [if_neg (by have := (Finset.mem_Ico.1 hi).2; omega)]

theorem ref_nsig (r : Fin 4096) (c : Fin 512) :
    (val_main_v41_1 (F := Ideal) (liftA S4096x2048 FTy.f32 x) (ix2 r c) : EReal) = (sg (-at2 x r.val (512 + c.val)) : ℝ) := by
  have e : x (ix2 r ⟨512 + c.val, by omega⟩) = at2 x r.val (512 + c.val) := at2_ix x _ _ _ _
  have hl : (val_main_call2_v1_0 (F := Ideal) (liftA S4096x2048 FTy.f32 x) (ix2 r c) : EReal) = (-Real.log (sg (at2 x r.val (512 + c.val))) : ℝ) := by
    pointwise [val_main_call2_v1_0, val_main_call2_call0_v11, val_main_call2_call0_v10, val_main_call2_call0_v9, val_main_call2_call0_v8,
      val_main_call2_call0_v7, val_main_call2_call0_v6, val_main_call2_call0_v5, val_main_call2_call0_v4, val_main_call2_call0_v3, val_main_call2_call0_v2,
      val_main_call2_call0_v1, val_main_call2_call0_v0, val_main_call2_v0, val_main_call2_call0_cst, val_main_v1]
    have h := one_exp_pos (-|(-at2 x r.val (512 + c.val))|)
    simp only [liftA_apply, e, ← EReal.coe_neg, cmp_une_if, abs_coe, Ideal.exp_coe]
    rw [log1p_pos h, ← EReal.coe_zero, max_coe, ← EReal.coe_add, ← log_sg, sub_zero, neg_neg]
  have hz : (val_main_call2_v0 (F := Ideal) (liftA S4096x2048 FTy.f32 x) (ix2 r c) : EReal) = (-at2 x r.val (512 + c.val) : ℝ) := by
    pointwise [val_main_call2_v0, val_main_v1]
    simp only [liftA_apply, e, ← EReal.coe_neg]
  have hs : Real.exp (-at2 x r.val (512 + c.val) - -Real.log (sg (at2 x r.val (512 + c.val)))) = sg (-at2 x r.val (512 + c.val)) := by
    rw [sub_neg_eq_add, Real.exp_add, Real.exp_log (sg_pos _)]
    unfold sg
    rw [neg_neg]
    have h1 := (one_exp_pos (-at2 x r.val (512 + c.val))).ne'
    have h2 := (one_exp_pos (at2 x r.val (512 + c.val))).ne'
    have h3 : Real.exp (-at2 x r.val (512 + c.val)) * Real.exp (at2 x r.val (512 + c.val)) = 1 := by rw [← Real.exp_add, neg_add_cancel, Real.exp_zero]
    field_simp
    linarith
  pointwise [val_main_v41_1, val_main_call2_call0_v21, val_main_call2_call0_v20, val_main_call2_call0_v19, val_main_call2_call0_v18, val_main_call2_call0_v17,
    val_main_call2_call0_v16, val_main_call2_call0_v15, val_main_call2_call0_v14, val_main_call2_call0_v13, val_main_call2_call0_cst_0, val_main_call2_call0_cst_1,
    val_main_call2_call0_cst_2, val_main_call2_call0_cst_3]
  simp only [hl, hz, word_inf, EReal.coe_ne_top, if_false]
  rw [← EReal.coe_sub, Ideal.exp_coe, hs]

theorem ref_share (r : Fin 4096) (c : Fin 512) :
    (val_main_v79 (F := Ideal) (liftA S4096x2048 FTy.f32 x) (liftA S2x512 FTy.f32 gm) (ix2 r c) : EReal)
      = ((1 - lb gm c.val) * sg (at2 x r.val (512 + c.val)) / fg x gm r.val c.val : ℝ) := by
  have h44 : (val_main_v44 (F := Ideal) (liftA S4096x2048 FTy.f32 x) (liftA S2x512 FTy.f32 gm) (ix2 r c) : EReal)
      = (Real.log ((1 - lb gm c.val) * sg (at2 x r.val (512 + c.val))) : ℝ) := by
    pointwise [val_main_v44, val_main_v43, val_main_v42]
    simp only [ref_log_one, ref_log_sg]
    rw [← EReal.coe_add, ← Real.log_mul (by have := lb_lt gm c.val; linarith) (sg_pos _).ne']
  have h1 : 0 < 1 - lb gm c.val := by have := lb_lt gm c.val; linarith
  have hx : Real.exp (Real.log ((1 - lb gm c.val) * sg (at2 x r.val (512 + c.val))) - lg x gm r.val c.val)
      = (1 - lb gm c.val) * sg (at2 x r.val (512 + c.val)) / fg x gm r.val c.val := by
    unfold lg
    rw [Real.exp_sub, Real.exp_log (mul_pos h1 (sg_pos _)), Real.exp_log (fg_pos x gm _ _)]
  pointwise [val_main_v79, val_main_v78, val_main_v77, val_main_v76, val_main_v75, val_main_v74, val_main_v73, val_main_v72, val_main_v71, val_main_v70,
    val_main_cst_14, val_main_cst_15, val_main_cst_16, val_main_cst_17]
  simp only [h44, ref_lg, word_inf, EReal.coe_ne_top, if_false]
  rw [← EReal.coe_sub, Ideal.exp_coe, hx]

theorem ref_dhf (r : Fin 4096) (c : Fin 512) :
    (val_main_v164 (F := Ideal) (liftA S4096x2048 FTy.f32 x) (liftA S2x512 FTy.f32 gm) (liftA S4096x512 FTy.f32 d) (ix2 r c) : EReal)
      = (dhf x gm d c.val r.val : ℝ) := by
  have h150 : (val_main_v150 (F := Ideal) (liftA S4096x2048 FTy.f32 x) (liftA S2x512 FTy.f32 gm) (liftA S4096x512 FTy.f32 d) (ix2 r c) : EReal)
      = (dgr x gm d (128 * (c.val / 128)) r.val (c.val % 128) : ℝ) := by
    pointwise [val_main_v150]
    simp only [ref_dgr]
  have h152 : (val_main_v152 (F := Ideal) (liftA S4096x2048 FTy.f32 x) (liftA S2x512 FTy.f32 gm) (liftA S4096x512 FTy.f32 d) (ix2 r c) : EReal)
      = (dkr x gm d (128 * (c.val / 128)) r.val (c.val % 128) : ℝ) := by
    pointwise [val_main_v152]
    simp only [ref_dkr]
  pointwise [val_main_v164, val_main_call7_v1, val_main_call7_v0, val_main_v156, val_main_v155, val_main_v154, val_main_v153, val_main_v81]
  simp only [h150, h152, ref_nsig, ref_share, ref_lg, Ideal.exp_coe, ← EReal.coe_neg, ← EReal.coe_mul, ← EReal.coe_add]
  refine congrArg _ ?_
  unfold dhf com lg
  rw [Real.exp_log (fg_pos x gm _ _)]
  have := (fg_pos x gm r.val c.val).ne'
  field_simp
  ring

end Cert.Hg

end
-- ==== Proof.HgLit.lean ====
/- The constant matrix of the chunk's partial sums: its entry at row `r` and column `j` is one where `j` lies between
   the row's two ends, and zero elsewhere. -/
module

public import proofs.«01_k».proof.Kernel2Ideal
public import Mathlib.Tactic.FinCases
public import proofs.«01_k».proof.Proof.HgLev

@[expose] public section

set_option maxRecDepth 16384

namespace Cert.Hg

open Cert.Kernel2Ideal

set_option maxHeartbeats 0 in
theorem lit_block : ∀ b : Fin 32, ∀ r : Fin 16, ∀ j : Fin 64,
    lit0t ((16 * b.val + r.val) * 64 + j.val)
      = if lo (16 * b.val + r.val) ≤ j.val ∧ j.val < hi (16 * b.val + r.val) then 0x3F80#16 else 0#16 := by
  intro b
  fin_cases b <;> decide +kernel

/-- The constant's entry at row `r` and column `j`. -/
theorem lit_row (r : Fin 512) (j : Fin 64) :
    lit0t (r.val * 64 + j.val) = if lo r.val ≤ j.val ∧ j.val < hi r.val then 0x3F80#16 else 0#16 := by
  have h := lit_block ⟨r.val / 16, by omega⟩ ⟨r.val % 16, by omega⟩ j
  rw [show r.val = 16 * (r.val / 16) + r.val % 16 by omega]
  exact h

end Cert.Hg
-- ==== Proof.HgKer.lean ====
/- The recurrence's backward kernel, point by point: the state's gradient carried from each point to the next, and the
   values' gradient the run leaves. -/
module

public import proofs.«01_k».proof.Proof.Gen.Kernel2Ideal.Value
public import proofs.«01_k».proof.Proof.HgPc
public import proofs.«01_k».proof.Proof.HgLit
public import Idealize.ShloMosaic.Lib.Pipeline.ValueKit
public import Idealize.ShloMosaic.Lib.Claim

@[expose] public section

set_option maxRecDepth 16384

noncomputable section

namespace Cert.Hg

open Idealize.ShloMosaic Idealize.ShloMosaic.TcCoe Idealize.SL.Sem Cert.Ffn
open Idealize.ShloMosaic.Pipeline (Dat)
open Cert.Kernel2Ideal Cert.Kernel2Ideal.Gen

variable (m : (ℓ : Loc nD τ sig) → Buf (Elt Ideal) ℓ) (c : Dev nD)

/-- The block index of every window read or concluded here, at a grid point: the blocks run backward. -/
theorem idx : ∀ t : Fin cfg0.N, win0_0.index t = ![15 - t.val, 0] ∧ win0_1.index t = ![15 - t.val, 1] ∧ win0_3.index t = ![15 - t.val, 0]
    ∧ win0_4.index t = ![0, 0] ∧ win0_5.index t = ![0, 0] ∧ win0_11.index t = ![15 - t.val, 0] :=
  (by decide +kernel : ∀ t : Fin grid0.N, win0_0.index t = ![15 - t.val, 0] ∧ win0_1.index t = ![15 - t.val, 1] ∧ win0_3.index t = ![15 - t.val, 0]
    ∧ win0_4.index t = ![0, 0] ∧ win0_5.index t = ![0, 0] ∧ win0_11.index t = ![15 - t.val, 0])

theorem lt16 (t : Fin cfg0.N) : t.val < 16 := lt_of_lt_of_eq t.isLt (show cfg0.N = 16 from N_0)

/-- The zero-one matrix the region finds. -/
theorem V_main_cst : V m c main_cst = (fun i => FloatOps.ofBits (F := Ideal) .bf16 (lit0 (S512x64.rowMajor i)) : FVec Ideal S512x64 .bf16) := by
  refine Eq.trans ?_ (StableHlo.nullary_result main_cst (fun i => FloatOps.ofBits (F := Ideal) .bf16 (lit0 (S512x64.rowMajor i))) ⟨by decide, rfl⟩ (fun b => m (c, b)))
  exact StableHlo.after_of_forall_not_mem (b := Proc.devRef .tc main_cst) (List.flatten [hostOps0.tail, hostOps0_1, hostOps0_2, hostOps0_3, hostOps0_4, hostOps0_5, hostOps0_6, hostOps0_7, hostOps0_8]) _ (List.forall_iff_forall_mem.mp (by
    simp only [List.tail_cons, hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

variable (t : Fin cfg0.N)

/-- A row of the point's block, in the whole array. -/
def rowi (r : Fin 256) : Fin 4096 := ⟨256 * (15 - t.val) + r.val, by omega⟩

theorem blk0 (r : Fin 256) (k : Fin 512) :
    (show FVec Ideal S256x512 .f32 from iblk m c 0 t) (ix2 r k) = m ((c : Thread nD τ).loc main_arg0) (ix2 (rowi t r) (⟨k.val, by omega⟩ : Fin 2048)) := by
  rw [← V_main_arg0 m c]
  blk_point [iblk, idx t]
  · show (15 - t.val) * 256 + r.val = 256 * (15 - t.val) + r.val
    omega

theorem blk1 (r : Fin 256) (k : Fin 512) :
    (show FVec Ideal S256x512 .f32 from iblk m c 1 t) (ix2 r k) = m ((c : Thread nD τ).loc main_arg0) (ix2 (rowi t r) (⟨512 + k.val, by omega⟩ : Fin 2048)) := by
  rw [← V_main_arg0 m c]
  blk_point [iblk, idx t]
  · show (15 - t.val) * 256 + r.val = 256 * (15 - t.val) + r.val
    omega

theorem blk3 (r : Fin 256) (k : Fin 512) :
    (show FVec Ideal S256x512 .f32 from iblk m c 3 t) (ix2 r k) = m ((c : Thread nD τ).loc main_arg2) (ix2 (rowi t r) k) := by
  rw [← V_main_arg2 m c]
  blk_point [iblk, idx t]
  · show (15 - t.val) * 256 + r.val = 256 * (15 - t.val) + r.val
    omega

theorem blk4 (r : Fin 2) (k : Fin 512) :
    (show FVec Ideal S2x512 .f32 from iblk m c 4 t) (ix2 r k) = m ((c : Thread nD τ).loc main_arg1) (ix2 r k) := by
  rw [← V_main_arg1 m c]
  blk_point [iblk, idx t]
  all_goals rfl

theorem blk5 (r : Fin 512) (j : Fin 64) :
    ((show FVec Ideal S512x64 .bf16 from iblk m c 5 t) (ix2 r j) : EReal) = ((if lo r.val ≤ j.val ∧ j.val < hi r.val then 1 else 0 : ℝ) : EReal) := by
  have e : (show FVec Ideal S512x64 .bf16 from iblk m c 5 t) (ix2 r j) = (show FVec Ideal S512x64 .bf16 from V m c main_cst) (ix2 r j) := by
    blk_point [iblk, idx t]
    all_goals rfl
  rw [e, V_main_cst m c]
  have h : (S512x64.rowMajor (ix2 r j)).val = r.val * 64 + j.val := by
    exact Shape.rowMajor_val_two (ix2 r j)
  have g : lit0 (S512x64.rowMajor (ix2 r j)) = lit0t (S512x64.rowMajor (ix2 r j)).val := rfl
  show Ideal.ofBits .bf16 (lit0 (S512x64.rowMajor (ix2 r j))) = _
  rw [g, h, lit_row]
  split
  · simp [Ideal.ofBits, Ideal.ieee]
    rw [← EReal.coe_mul, ← EReal.coe_one]
    norm_num
  · simp [Ideal.ofBits, Ideal.ieee]

variable (x : (⟨2, ![4096, 2048]⟩ : Shape).Idx → ℝ) (gm : (⟨2, ![2, 512]⟩ : Shape).Idx → ℝ) (d : (⟨2, ![4096, 512]⟩ : Shape).Idx → ℝ)

/-- The run's arguments are finite. -/
structure Args : Prop where
  x : m ((c : Thread nD τ).loc main_arg0) = liftA S4096x2048 FTy.f32 x
  g : m ((c : Thread nD τ).loc main_arg1) = liftA S2x512 FTy.f32 gm
  d : m ((c : Thread nD τ).loc main_arg2) = liftA S4096x512 FTy.f32 d

variable (H : Args m c x gm d)

include H in
theorem blocks : Blocks (iblk m c 4 t) (iblk m c 0 t) (iblk m c 1 t) (iblk m c 3 t) (iblk m c 5 t) x gm d (256 * (15 - t.val)) where
  ha := by omega
  eg r k := by
    refine (blk4 m c t r k).trans ?_
    rw [H.g, liftA_apply, at2_fin gm r k]
  eq r k := by
    refine (blk0 m c t r k).trans ?_
    rw [H.x, liftA_apply, at2_fin x (rowi t r) (⟨k.val, by omega⟩ : Fin 2048)]
    rfl
  ef r k := by
    refine (blk1 m c t r k).trans ?_
    rw [H.x, liftA_apply, at2_fin x (rowi t r) (⟨512 + k.val, by omega⟩ : Fin 2048)]
    rfl
  ed r k := by
    refine (blk3 m c t r k).trans ?_
    rw [H.d, liftA_apply, at2_fin d (rowi t r) k]
    rfl
  em := blk5 m c t

/-- A head's slab of the state's gradient. -/
abbrev slabOf (X : FVec Ideal S4x128x128 .f32) (o : ℕ) (inb : ∀ b, (![o, 0, 0] : Fin 3 → ℕ) b + (![1, 128, 128] : Fin 3 → ℕ) b ≤ S4x128x128.size b) :
    FVec Ideal S1x128x128 .f32 :=
  View.ld (Val := Elt Ideal) (e' := .f32) X (Rect.unit (s := S4x128x128) ![o, 0, 0] ![1, 128, 128] inb)

theorem slab_at (X : FVec Ideal S4x128x128 .f32) (n : ℕ)
    (hX : ∀ (h : Fin 4) (v j : Fin 128), (X (ix3 h v j) : EReal) = (dst x gm d (128 * h.val) n v.val j.val : ℝ))
    (h : Fin 4) (o : ℕ) (ho : o = h.val) (inb : ∀ b, (![o, 0, 0] : Fin 3 → ℕ) b + (![1, 128, 128] : Fin 3 → ℕ) b ≤ S4x128x128.size b) (v j : Fin 128) :
    (slabOf X o inb (ix3 0 v j) : EReal) = (dst x gm d (128 * h.val) n v.val j.val : ℝ) := by
  refine Eq.trans ?_ (hX h v j)
  refine congrArg X ?_
  have e0 : (Rect.unit (s := S4x128x128) ![o, 0, 0] ![1, 128, 128] inb).emb (ix3 0 v j) 0 = h := Fin.ext (by
    show o + 1 * 0 = _
    omega)
  have e1 : (Rect.unit (s := S4x128x128) ![o, 0, 0] ![1, 128, 128] inb).emb (ix3 0 v j) 1 = v := Fin.ext (by
    show 0 + 1 * v.val = _
    omega)
  have e2 : (Rect.unit (s := S4x128x128) ![o, 0, 0] ![1, 128, 128] inb).emb (ix3 0 v j) 2 = j := Fin.ext (by
    show 0 + 1 * j.val = _
    omega)
  funext b
  fin_cases b
  · exact e0
  · exact e1
  · exact e2

/-- What a point leaves, from the heads' slabs of the state's gradient it finds. -/
structure Left (Z0 Z1 Z2 Z3 : FVec Ideal S1x128x128 .f32) (O : FVec Ideal S256x512 .f32) (S : FVec Ideal S4x128x128 .f32) : Prop where
  o : O = View.canon (Val := Elt Ideal) (e := .f32) (pcs (iblk m c 4 t) (iblk m c 0 t) (iblk m c 1 t) (iblk m c 3 t) (iblk m c 5 t) Z0 Z1 Z2 Z3)
  s : ∃ L', S = View.canon (Val := Elt Ideal) (e := .f32) (zcs (iblk m c 4 t) (iblk m c 0 t) (iblk m c 1 t) (iblk m c 3 t) (iblk m c 5 t) Z0 Z1 Z2 Z3 ++ L')

/-- The zero the first point fills the state's gradient with, read back. -/
theorem fill_read (r : Rect S4x128x128) :
    (View.whole cc0_scratch0).readCov (Val := Elt Ideal)
      [⟨Rect.unit (s := S4x128x128) ![0, 0, 0] ![4, 128, 128] inb_S4x128x128_S4x128x128_0_0_0, k0_pay3 (F := Ideal)⟩] r.toLoadRect
      = View.ld (Val := Elt Ideal) (e' := .f32) (k0_pay3 (F := Ideal)) r := by
  rw [View.readCov_eq_canon_ld _ _ _ (fun y => ⟨_, List.mem_singleton_self _, by
    show y ∈ (Rect.unit (s := S4x128x128) ![0, 0, 0] ![4, 128, 128] inb_S4x128x128_S4x128x128_0_0_0).set
    rw [Rect.mem_set_unit]
    intro b
    fin_cases b
    · exact ⟨Nat.zero_le _, by simpa using (y 0).isLt⟩
    · exact ⟨Nat.zero_le _, by simpa using (y 1).isLt⟩
    · exact ⟨Nat.zero_le _, by simpa using (y 2).isLt⟩⟩)]
  have e : View.canon (Val := Elt Ideal) (e := .f32) [⟨Rect.unit (s := S4x128x128) ![0, 0, 0] S4x128x128.size inb_S4x128x128_S4x128x128_0_0_0, k0_pay3 (F := Ideal)⟩]
      = k0_pay3 (F := Ideal) :=
    View.canon_unit_zero (Val := Elt Ideal) (e := .f32) (S := S4x128x128) (off := ![0, 0, 0]) (by decide) _ _
  have e' : View.canon (Val := Elt Ideal) (e := .f32) [⟨Rect.unit (s := S4x128x128) ![0, 0, 0] ![4, 128, 128] inb_S4x128x128_S4x128x128_0_0_0, k0_pay3 (F := Ideal)⟩]
      = k0_pay3 (F := Ideal) := e
  rw [e']
  rfl

/-- A head's slab of that zero. -/
abbrev slabZ (o : ℕ) (inb : ∀ b, (![o, 0, 0] : Fin 3 → ℕ) b + (![1, 128, 128] : Fin 3 → ℕ) b ≤ S4x128x128.size b) : FVec Ideal S1x128x128 .f32 :=
  (View.whole cc0_scratch0).readCov (Val := Elt Ideal)
    [⟨Rect.unit (s := S4x128x128) ![0, 0, 0] ![4, 128, 128] inb_S4x128x128_S4x128x128_0_0_0, k0_pay3 (F := Ideal)⟩]
    (Rect.unit (s := S4x128x128) ![o, 0, 0] ![1, 128, 128] inb).toLoadRect

theorem slabZ_at (o : ℕ) (inb : ∀ b, (![o, 0, 0] : Fin 3 → ℕ) b + (![1, 128, 128] : Fin 3 → ℕ) b ≤ S4x128x128.size b) (v j : Fin 128) (c0 n : ℕ) (hn : n = 4096) :
    (slabZ o inb (ix3 0 v j) : EReal) = (dst x gm d c0 n v.val j.val : ℝ) := by
  rw [hn, dst_end]
  refine (congrFun (fill_read (Rect.unit (s := S4x128x128) ![o, 0, 0] ![1, 128, 128] inb)) (ix3 (n0 := 1) (n1 := 128) (n2 := 128) 0 v j)).trans ?_
  show Ideal.ofBits .f32 0x00000000#32 = _
  simp [Ideal.ofBits, Ideal.ieee]

set_option maxHeartbeats 2000000 in
theorem left_A (h0 : t.val % 16 = 0) (h1 : ¬ t.val % 16 = 15) :
    Left m c t (slabZ 0 inb_S4x128x128_S1x128x128_0_0_0)
      (slabZ 1 inb_S4x128x128_S1x128x128_1_0_0)
      (slabZ 2 inb_S4x128x128_S1x128x128_2_0_0)
      (slabZ 3 inb_S4x128x128_S1x128x128_3_0_0)
      (outsAt0 m c t.val t.isLt).2.2.1 (outsAt0 m c t.val t.isLt).2.2.2.2.1 := by
  rw [outsAt0_A m c t h0 h0 h0 h1]
  dsimp only
  refine ⟨?_, [⟨Rect.unit ![0, 0, 0] ![4, 128, 128] inb_S4x128x128_S4x128x128_0_0_0, k0_pay3 (F := Ideal)⟩], ?_⟩
  · frame_out
    rfl
  · frame_out
    rfl

theorem left_B (h0 : ¬ t.val % 16 = 0) (h1 : ¬ t.val % 16 = 15) :
    Left m c t (slabOf (outsAt0 m c (t.val - 1) (by omega)).2.2.2.2.1 0 inb_S4x128x128_S1x128x128_0_0_0)
      (slabOf (outsAt0 m c (t.val - 1) (by omega)).2.2.2.2.1 1 inb_S4x128x128_S1x128x128_1_0_0)
      (slabOf (outsAt0 m c (t.val - 1) (by omega)).2.2.2.2.1 2 inb_S4x128x128_S1x128x128_2_0_0)
      (slabOf (outsAt0 m c (t.val - 1) (by omega)).2.2.2.2.1 3 inb_S4x128x128_S1x128x128_3_0_0)
      (outsAt0 m c t.val t.isLt).2.2.1 (outsAt0 m c t.val t.isLt).2.2.2.2.1 := by
  rw [outsAt0_B m c t h0 h0 h0 h1]
  dsimp only
  refine ⟨?_, [], ?_⟩
  · frame_out
    simp only [read_unread_whole]
    rfl
  · frame_out
    simp only [read_unread_whole]
    rfl

theorem left_C (h0 : ¬ t.val % 16 = 0) (h1 : t.val % 16 = 15) :
    Left m c t (slabOf (outsAt0 m c (t.val - 1) (by omega)).2.2.2.2.1 0 inb_S4x128x128_S1x128x128_0_0_0)
      (slabOf (outsAt0 m c (t.val - 1) (by omega)).2.2.2.2.1 1 inb_S4x128x128_S1x128x128_1_0_0)
      (slabOf (outsAt0 m c (t.val - 1) (by omega)).2.2.2.2.1 2 inb_S4x128x128_S1x128x128_2_0_0)
      (slabOf (outsAt0 m c (t.val - 1) (by omega)).2.2.2.2.1 3 inb_S4x128x128_S1x128x128_3_0_0)
      (outsAt0 m c t.val t.isLt).2.2.1 (outsAt0 m c t.val t.isLt).2.2.2.2.1 := by
  rw [outsAt0_C m c t h0 h0 h0 h1]
  dsimp only
  refine ⟨?_, [], ?_⟩
  · frame_out
    simp only [read_unread_whole]
    rfl
  · frame_out
    simp only [read_unread_whole]
    rfl

include H in
theorem carried (n : ℕ) (hn : n < cfg0.N) (h : Fin 4) (v j : Fin 128) :
    ((outsAt0 m c n hn).2.2.2.2.1 (ix3 h v j) : EReal) = (dst x gm d (128 * h.val) (256 * (15 - n)) v.val j.val : ℝ) := by
  induction n generalizing h v j with
  | zero =>
    obtain ⟨L', e⟩ := (left_A m c ⟨0, hn⟩ rfl (by dsimp only; omega)).s
    refine (congrFun e _).trans (zcs_val _ _ _ _ _ _ _ _ _ x gm d _ (blocks m c ⟨0, hn⟩ x gm d H) ?_ ?_ ?_ ?_ L' _)
    all_goals exact fun v j => slabZ_at x gm d _ _ v j _ _ (by dsimp only)
  | succ n ih =>
    have hN : n + 1 < 16 := lt16 ⟨n + 1, hn⟩
    have l : Left m c ⟨n + 1, hn⟩ (slabOf (outsAt0 m c n (by omega)).2.2.2.2.1 0 inb_S4x128x128_S1x128x128_0_0_0)
      (slabOf (outsAt0 m c n (by omega)).2.2.2.2.1 1 inb_S4x128x128_S1x128x128_1_0_0)
      (slabOf (outsAt0 m c n (by omega)).2.2.2.2.1 2 inb_S4x128x128_S1x128x128_2_0_0)
      (slabOf (outsAt0 m c n (by omega)).2.2.2.2.1 3 inb_S4x128x128_S1x128x128_3_0_0)
      (outsAt0 m c (n + 1) hn).2.2.1 (outsAt0 m c (n + 1) hn).2.2.2.2.1 := by
      by_cases h1 : (n + 1) % 16 = 15
      · exact left_C m c ⟨n + 1, hn⟩ (by dsimp only; omega) h1
      · exact left_B m c ⟨n + 1, hn⟩ (by dsimp only; omega) h1
    obtain ⟨L', e⟩ := l.s
    have e' : 256 * (15 - (n + 1)) + 256 = 256 * (15 - n) := by omega
    refine (congrFun e _).trans (zcs_val _ _ _ _ _ _ _ _ _ x gm d _ (blocks m c ⟨n + 1, hn⟩ x gm d H) ?_ ?_ ?_ ?_ L' _)
    all_goals
      rw [e']
    · exact slab_at x gm d _ _ (ih _) 0 0 rfl _
    · exact slab_at x gm d _ _ (ih _) 1 1 rfl _
    · exact slab_at x gm d _ _ (ih _) 2 2 rfl _
    · exact slab_at x gm d _ _ (ih _) 3 3 rfl _

include H in
/-- The values' gradient a point leaves. -/
theorem out11 (r : Fin 256) (k : Fin 512) :
    ((outsAt0 m c t.val t.isLt).2.2.1 (ix2 r k) : EReal) = (dhi x gm d (128 * (k.val / 128)) (256 * (15 - t.val) + r.val) (k.val % 128) : ℝ) := by
  have hN := lt16 t
  by_cases h0 : t.val % 16 = 0
  · have l := left_A m c t h0 (by omega)
    refine (congrFun l.o _).trans (pcs_val _ _ _ _ _ _ _ _ _ x gm d _ (blocks m c t x gm d H) ?_ ?_ ?_ ?_ _)
    all_goals exact fun v j => slabZ_at x gm d _ _ v j _ _ (by omega)
  · have l : Left m c t (slabOf (outsAt0 m c (t.val - 1) (by omega)).2.2.2.2.1 0 inb_S4x128x128_S1x128x128_0_0_0)
      (slabOf (outsAt0 m c (t.val - 1) (by omega)).2.2.2.2.1 1 inb_S4x128x128_S1x128x128_1_0_0)
      (slabOf (outsAt0 m c (t.val - 1) (by omega)).2.2.2.2.1 2 inb_S4x128x128_S1x128x128_2_0_0)
      (slabOf (outsAt0 m c (t.val - 1) (by omega)).2.2.2.2.1 3 inb_S4x128x128_S1x128x128_3_0_0)
        (outsAt0 m c t.val t.isLt).2.2.1 (outsAt0 m c t.val t.isLt).2.2.2.2.1 := by
      by_cases h1 : t.val % 16 = 15
      · exact left_C m c t h0 h1
      · exact left_B m c t h0 h1
    have e' : 256 * (15 - t.val) + 256 = 256 * (15 - (t.val - 1)) := by omega
    refine (congrFun l.o _).trans (pcs_val _ _ _ _ _ _ _ _ _ x gm d _ (blocks m c t x gm d H) ?_ ?_ ?_ ?_ _)
    all_goals rw [e']
    · exact slab_at x gm d _ _ (carried m c x gm d H _ _) 0 0 rfl _
    · exact slab_at x gm d _ _ (carried m c x gm d H _ _) 1 1 rfl _
    · exact slab_at x gm d _ _ (carried m c x gm d H _ _) 2 2 rfl _
    · exact slab_at x gm d _ _ (carried m c x gm d H _ _) 3 3 rfl _

include H in
/-- The values' gradient after the run. -/
theorem fin11 : (dats m 0 c).arrAt 11 cfg0.N
    = (fun i => ((dhi x gm d (128 * ((i 1 : Fin 512).val / 128)) (i 0 : Fin 4096).val ((i 1 : Fin 512).val % 128) : ℝ) : EReal) : FVec Ideal S4096x512 .f32) := by
  refine (dats m 0 c).arrAt_eq_of_covers 11 _ (by decide +kernel) fun t hf y => ?_
  blk_simp
  rw [after0_11]
  obtain ⟨r, k, rfl⟩ : ∃ (r : Fin 256) (k : Fin 512), y = ix2 r k := ⟨y 0, y 1, by ext a; fin_cases a <;> rfl⟩
  refine (out11 m c t x gm d H r k).trans ?_
  have i0 : win0_11.index t 0 = 15 - t.val := by simp [idx t]
  have i1 : win0_11.index t 1 = 0 := by simp [idx t]
  rw [i0, i1, zero_mul, zero_add, mul_comm (15 - t.val) 256]
  rfl

end Cert.Hg

end
-- ==== Proof.HgSt.lean ====
/- The states that the host hands to the recurrence's backward kernel, on finite arguments. -/
module

public import proofs.«01_k».proof.Proof.Gen.Kernel2Ideal.Value
public import proofs.«01_k».proof.Proof.HgRefQ
public import Idealize.ShloMosaic.Lib.StableHlo.RunRead

@[expose] public section

set_option maxRecDepth 16384

noncomputable section

namespace Cert.Hg

open Idealize.ShloMosaic Idealize.ShloMosaic.TcCoe Idealize.SL.Sem Cert.Ffn
open Cert.Kernel2Ideal Cert.Kernel2Ideal.Gen

variable (m : (ℓ : Loc nD τ sig) → Buf (Elt Ideal) ℓ) (c : Dev nD)

/-- Each row's decay up to the end of each chunk, zero for the rows after the chunk. -/
def decs (P : FVec Ideal S4096x4x128 .f32) : FVec Ideal S64x4096x4x128 .f32 :=
  select (broadcastInDim S64x4096x4x128 ![0, 1, 2, 3] bcast_S64x4096x1x1_S64x4096x4x128_0_1_2_3
      (broadcastInDim S64x4096x1x1 ![0, 1] bcast_S64x4096_S64x4096x1x1_0_1
        (cmpi .slt (iotaInDim S64x4096 32 1)
          (muli (addi (iotaInDim S64x4096 32 0) (broadcastInDim S64x4096 ![] bcast_S_S64x4096 (constantI S_ 32 1#32)))
            (broadcastInDim S64x4096 ![] bcast_S_S64x4096 (constantI S_ 32 64#32))))))
    (Host.exp (minimumf
      (subf (broadcastInDim S64x4096x4x128 ![0, 1, 2, 3] bcast_S64x1x4x128_S64x4096x4x128_0_1_2_3
          (broadcastInDim S64x1x4x128 ![0, 2, 3] bcast_S64x4x128_S64x1x4x128_0_2_3
            (shapeCast S64x4x128 (extractStridedSlice S64x1x4x128 ![0, 63, 0, 0]
              (shapeCast S64x64x4x128 P shapeCasts_S4096x4x128_S64x64x4x128) slices_S64x64x4x128_S64x1x4x128_0_63_0_0)
              shapeCasts_S64x1x4x128_S64x4x128)))
        (broadcastInDim S64x4096x4x128 ![0, 1, 2, 3] bcast_S1x4096x4x128_S64x4096x4x128_0_1_2_3
          (broadcastInDim S1x4096x4x128 ![1, 2, 3] bcast_S4096x4x128_S1x4096x4x128_1_2_3 P)))
      (broadcastInDim S64x4096x4x128 ![] bcast_S_S64x4096x4x128 (constant S_ .f32 0x00000000#32))))
    (broadcastInDim S64x4096x4x128 ![] bcast_S_S64x4096x4x128 (constant S_ .f32 0x00000000#32))

/-- The states after each chunk, from the running sums of the log decays, the keys and the values. -/
def states (P K X : FVec Ideal S4096x4x128 .f32) : FVec Ideal S64x4x128x128 .f32 :=
  transpose S64x4x128x128 [1, 0, 3, 2]
    (Host.dotGeneral dot_S64x4096x4x128_S4096x4x128_S4x64x128x128_1_0_03_2_2_1 none
      (mulf (broadcastInDim S64x4096x4x128 ![0, 1, 2, 3] bcast_S1x4096x4x128_S64x4096x4x128_0_1_2_3
          (broadcastInDim S1x4096x4x128 ![1, 2, 3] bcast_S4096x4x128_S1x4096x4x128_1_2_3 K)) (decs P)) X)
    transposes_S4x64x128x128_S64x4x128x128_1_0_3_2

/-- The host's lines up to the reshaped log decays, and the lines after them. -/
abbrev front : List (HloOp τ sig (Elt Ideal)) := List.flatten [hostOps0, hostOps0_1, hostOps0_2, hostOps0_3, hostOps0_4]
abbrev back : List (HloOp τ sig (Elt Ideal)) := List.flatten [hostOps0_5, hostOps0_6, hostOps0_7, hostOps0_8]

/-- What the first lines leave. -/
abbrev mid0 : (b : DevRef τ sig) → b.ty.Contents (Elt Ideal) := StableHlo.after front (fun b => m (c, b))

theorem front_lg : (show FVec Ideal S4096x4x128 .f32 from mid0 m c (Proc.devRef .tc main_v41))
    = Cert.Reference2Ideal.Read.val_main_v85 (F := Ideal) (m ((c : Thread nD τ).loc main_arg0)) (m ((c : Thread nD τ).loc main_arg1)) := by
  show StableHlo.after (List.flatten [hostOps0, hostOps0_1, hostOps0_2, hostOps0_3, hostOps0_4]) _ (Proc.devRef .tc main_v41) = _
  after_reads_simp
  rfl

theorem front_key : (show FVec Ideal S4096x4x128 .f32 from mid0 m c (Proc.devRef .tc main_v39))
    = Cert.Reference2Ideal.Read.val_main_v83 (F := Ideal) (m ((c : Thread nD τ).loc main_arg0)) (m ((c : Thread nD τ).loc main_arg1)) := by
  show StableHlo.after (List.flatten [hostOps0, hostOps0_1, hostOps0_2, hostOps0_3, hostOps0_4]) _ (Proc.devRef .tc main_v39) = _
  after_reads_simp
  rfl

theorem front_val : (show FVec Ideal S4096x4x128 .f32 from mid0 m c (Proc.devRef .tc main_v40))
    = Cert.Reference2Ideal.Read.val_main_v84 (F := Ideal) (m ((c : Thread nD τ).loc main_arg0)) := by
  show StableHlo.after (List.flatten [hostOps0, hostOps0_1, hostOps0_2, hostOps0_3, hostOps0_4]) _ (Proc.devRef .tc main_v40) = _
  after_reads_simp
  rfl

/-- The running sum of the log decays. -/
def runs (L : FVec Ideal S4096x4x128 .f32) : FVec Ideal S4096x4x128 .f32 :=
  Host.reduceWindowAdd ![4096, 1, 1] ![1, 1, 1] ![4095, 0, 0] ![0, 0, 0] L
    (broadcastInDim S_ ![] bcast_S_S_ (constant (F := Ideal) S_ .f32 0x00000000#32)) reduceWindows_S4096x4x128_S4096x4x128_w4096s1p4095_0_w1s1p0_0_w1s1p0_0 h_S_

theorem back_states (W : (b : DevRef τ sig) → b.ty.Contents (Elt Ideal)) :
    (show FVec Ideal S64x4x128x128 .f32 from StableHlo.after back W (Proc.devRef .tc main_v67))
    = states (runs (W (Proc.devRef .tc main_v41))) (W (Proc.devRef .tc main_v39)) (W (Proc.devRef .tc main_v40)) := by
  show StableHlo.after (List.flatten [hostOps0_5, hostOps0_6, hostOps0_7, hostOps0_8]) _ (Proc.devRef .tc main_v67) = _
  after_reads_simp
  rfl

/-- The states the region finds. -/
theorem V_states : (show FVec Ideal S64x4x128x128 .f32 from V m c main_v67)
    = states (Cert.Reference2Ideal.Read.val_main_v86 (F := Ideal) (m ((c : Thread nD τ).loc main_arg0)) (m ((c : Thread nD τ).loc main_arg1)))
      (Cert.Reference2Ideal.Read.val_main_v83 (F := Ideal) (m ((c : Thread nD τ).loc main_arg0)) (m ((c : Thread nD τ).loc main_arg1)))
      (Cert.Reference2Ideal.Read.val_main_v84 (F := Ideal) (m ((c : Thread nD τ).loc main_arg0))) := by
  have e : V m c main_v67 = StableHlo.after back (mid0 m c) (Proc.devRef .tc main_v67) :=
    congrFun (StableHlo.after_append front back (fun b => m (c, b))) (Proc.devRef .tc main_v67)
  refine Eq.trans e ((back_states (mid0 m c)).trans ?_)
  rw [show mid0 m c (Proc.devRef .tc main_v41) = _ from front_lg m c, show mid0 m c (Proc.devRef .tc main_v39) = _ from front_key m c,
    show mid0 m c (Proc.devRef .tc main_v40) = _ from front_val m c]
  rfl

variable (P K X : FVec Ideal S4096x4x128 .f32)

theorem bit_lt (n : Fin 64) (s : Fin 4096) :
    IntOp.cmpi .slt (BitVec.ofNat 32 s.val) (IntOp.muli (IntOp.addi (BitVec.ofNat 32 n.val) 1#32) 64#32)
      = if s.val < (n.val + 1) * 64 then 1#1 else 0#1 := by
  have e : IntOp.muli (IntOp.addi (BitVec.ofNat 32 n.val) 1#32) 64#32 = BitVec.ofNat 32 ((n.val + 1) * 64) := by
    revert n; decide +kernel
  have f : ∀ r : ℕ, r ≤ 4096 → (BitVec.ofNat 32 r).toInt = (r : ℤ) := by
    intro r hr
    rw [BitVec.toInt_eq_toNat_of_lt (by rw [BitVec.toNat_ofNat]; omega), BitVec.toNat_ofNat, Nat.mod_eq_of_lt (by omega)]
  rw [e]
  simp only [IntOp.cmpi, BitVec.slt, f s.val (by omega), f ((n.val + 1) * 64) (by omega), Nat.cast_lt]
  by_cases h : s.val < (n.val + 1) * 64 <;> simp [h]

variable (x : (⟨2, ![4096, 2048]⟩ : Shape).Idx → ℝ) (gm : (⟨2, ![2, 512]⟩ : Shape).Idx → ℝ)

include P in
theorem decs_at (eP : ∀ (r : Fin 4096) (a : Fin 4) (b : Fin 128), (P (ix3 r a b) : EReal) = (pre x gm (128 * a.val + b.val) (r.val + 1) : ℝ))
    (n : Fin 64) (s : Fin 4096) (h : Fin 4) (k : Fin 128) : (decs P (ix4 n s h k) : EReal)
      = ((if s.val < (n.val + 1) * 64 then Real.exp (pre x gm (128 * h.val + k.val) ((n.val + 1) * 64) - pre x gm (128 * h.val + k.val) (s.val + 1)) else 0 : ℝ) : EReal) := by
  pointwise [decs]
  simp only [eP, bit_lt, ← EReal.coe_sub]
  rw [show n.val * 64 + 63 + 1 = (n.val + 1) * 64 by omega]
  by_cases hs : s.val < (n.val + 1) * 64
  · have hp := pre_le x gm (128 * h.val + k.val) (show s.val + 1 ≤ (n.val + 1) * 64 by omega)
    rw [if_pos hs, if_pos hs, min_eq_left (by rw [← EReal.coe_zero]; exact EReal.coe_le_coe_iff.2 (by linarith)), Ideal.exp_coe]
    rfl
  · rw [if_neg hs, if_neg hs]
    rfl

theorem states_at (eP : ∀ (r : Fin 4096) (a : Fin 4) (b : Fin 128), (P (ix3 r a b) : EReal) = (pre x gm (128 * a.val + b.val) (r.val + 1) : ℝ))
    (eK : ∀ (r : Fin 4096) (a : Fin 4) (b : Fin 128), (K (ix3 r a b) : EReal) = (kk x gm r.val (128 * a.val + b.val) : ℝ))
    (eX : ∀ (r : Fin 4096) (a : Fin 4) (b : Fin 128), (X (ix3 r a b) : EReal) = (at2 x r.val (1024 + (128 * a.val + b.val)) : ℝ))
    (n : Fin 64) (h : Fin 4) (v k : Fin 128) : (states P K X (ix4 n h v k) : EReal) = (sta x gm (128 * h.val) ((n.val + 1) * 64) v.val k.val : ℝ) := by
  pointwise [states]
  simp only [eK, eX, decs_at P x gm eP, ← EReal.coe_mul, coe_sum]
  refine congrArg _ ?_
  unfold sta wk
  rw [Fin.sum_univ_eq_sum_range (fun s => kk x gm s (128 * h.val + k.val) * (if s < (n.val + 1) * 64 then
      Real.exp (pre x gm (128 * h.val + k.val) ((n.val + 1) * 64) - pre x gm (128 * h.val + k.val) (s + 1)) else 0)
      * at2 x s (1024 + (128 * h.val + v.val))) 4096,
    ← Finset.sum_subset (Finset.range_subset_range.2 (show (n.val + 1) * 64 ≤ 4096 by omega))]
  · refine Finset.sum_congr rfl fun s hs => ?_
    rw [if_pos (Finset.mem_range.1 hs)]
    ring
  · intro s _ hs
    rw [if_neg (fun h => hs (Finset.mem_range.2 h)), mul_zero, zero_mul]

open Cert.Reference2Ideal.Read in
/-- The states the region finds, on finite arguments: after each chunk of 64 rows. -/
theorem V_states_at (ex : m ((c : Thread nD τ).loc main_arg0) = liftA S4096x2048 FTy.f32 x)
    (eg : m ((c : Thread nD τ).loc main_arg1) = liftA S2x512 FTy.f32 gm) (n : Fin 64) (h : Fin 4) (v k : Fin 128) :
    ((show FVec Ideal S64x4x128x128 .f32 from V m c main_v67) (ix4 n h v k) : EReal) = (sta x gm (128 * h.val) ((n.val + 1) * 64) v.val k.val : ℝ) := by
  refine (congrFun (V_states m c) (ix4 n h v k)).trans ?_
  rw [ex, eg]
  refine states_at _ _ _ x gm (ref_pre x gm) ?_ ?_ n h v k
  · intro r a b
    have e : (val_main_v83 (F := Ideal) (liftA S4096x2048 FTy.f32 x) (liftA S2x512 FTy.f32 gm) (ix3 r a b) : EReal)
        = (val_main_v82 (F := Ideal) (liftA S4096x2048 FTy.f32 x) (liftA S2x512 FTy.f32 gm) (ix2 r (⟨a.val * 128 + b.val, by omega⟩ : Fin 512)) : EReal) := by
      pointwise [val_main_v83]
    rw [e, ref_key]
    exact congrArg (fun k => ((kk x gm r.val k : ℝ) : EReal)) (by show a.val * 128 + b.val = _; omega)
  · intro r a b
    exact ref_val x r a b

end Cert.Hg

end
-- ==== Proof.HgQk.lean ====
/- The queries' gradient of the recurrence's backward kernel, point by point, and what the run leaves of it. -/
module

public import proofs.«01_k».proof.Proof.HgKer
public import proofs.«01_k».proof.Proof.HgQp
public import proofs.«01_k».proof.Proof.HgSt

@[expose] public section

set_option maxRecDepth 16384

noncomputable section

namespace Cert.Hg

open Idealize.ShloMosaic Idealize.ShloMosaic.TcCoe Idealize.SL.Sem Cert.Ffn
open Idealize.ShloMosaic.Pipeline (Dat)
open Cert.Kernel2Ideal Cert.Kernel2Ideal.Gen

variable (m : (ℓ : Loc nD τ sig) → Buf (Elt Ideal) ℓ) (c : Dev nD) (t : Fin cfg0.N)

/-- The block index of the values', the states' and the queries' gradient's windows. -/
theorem idxq : ∀ t : Fin cfg0.N, win0_2.index t = ![15 - t.val, 2] ∧ win0_7.index t = ![4 * (15 - t.val) - 1, 0, 0, 0]
    ∧ win0_8.index t = ![15 - t.val, 0, 0, 0] ∧ win0_9.index t = ![15 - t.val, 0] ∧ (grid0.coords t 0).val = t.val :=
  (by decide +kernel : ∀ t : Fin grid0.N, win0_2.index t = ![15 - t.val, 2] ∧ win0_7.index t = ![4 * (15 - t.val) - 1, 0, 0, 0]
    ∧ win0_8.index t = ![15 - t.val, 0, 0, 0] ∧ win0_9.index t = ![15 - t.val, 0] ∧ (grid0.coords t 0).val = t.val)

theorem blk2 (r : Fin 256) (k : Fin 512) :
    (show FVec Ideal S256x512 .f32 from iblk m c 2 t) (ix2 r k) = m ((c : Thread nD τ).loc main_arg0) (ix2 (rowi t r) (⟨1024 + k.val, by omega⟩ : Fin 2048)) := by
  rw [← V_main_arg0 m c]
  blk_point [iblk, idxq t]
  · show (15 - t.val) * 256 + r.val = 256 * (15 - t.val) + r.val
    omega

theorem blk7 (h : Fin 4) (v j : Fin 128) :
    (show FVec Ideal S1x4x128x128 .f32 from iblk m c 7 t) (ix4 0 h v j)
      = (show FVec Ideal S64x4x128x128 .f32 from V m c main_v67) (ix4 (⟨4 * (15 - t.val) - 1, by omega⟩ : Fin 64) h v j) := by
  blk_point [iblk, idxq t]
  all_goals rfl

theorem blk8 (s h : Fin 4) (v j : Fin 128) :
    (show FVec Ideal S4x4x128x128 .f32 from iblk m c 8 t) (ix4 s h v j)
      = (show FVec Ideal S64x4x128x128 .f32 from V m c main_v67) (ix4 (⟨4 * (15 - t.val) + s.val, by omega⟩ : Fin 64) h v j) := by
  blk_point [iblk, idxq t]

/-- Whether there is an earlier block, as the body computes it. -/
abbrev prev : Ideal .f32 := k0_pay24 (F := Ideal) (BitVec.ofNat 32 (grid0.coords t 0).val)

theorem prev_val : (prev t : EReal) = ((if 256 * (15 - t.val) = 0 then 0 else 1 : ℝ) : EReal) := by
  have hN := lt16 t
  have e : ∀ n : Fin 16, (Scalar.extui (Scalar.cmpi .slt (BitVec.ofNat 32 n.val) 15#32) : BitVec 32).toInt = if n.val = 15 then 0 else 1 := by decide +kernel
  have f : (prev t : EReal) = (((Scalar.extui (Scalar.cmpi .slt (BitVec.ofNat 32 (grid0.coords t 0).val) 15#32) : BitVec 32).toInt : ℝ) : EReal) := rfl
  rw [f, (idxq t).2.2.2.2, e ⟨t.val, hN⟩]
  by_cases h : t.val = 15
  · rw [if_pos h, if_pos (by omega)]; simp
  · rw [if_neg h, if_neg (by omega)]; simp

/-- The sixteen stores of a point. -/
abbrev qcs : List (View.Piece (Elt Ideal) S256x512 .f32) :=
  grid16 (qpc (iblk m c 4 t) (iblk m c 1 t) (iblk m c 2 t) (iblk m c 3 t) (iblk m c 5 t) (prev t) (iblk m c 7 t) (iblk m c 8 t))

/-- The scratch array read back after them. -/
abbrev qback : FVec Ideal S256x512 .f32 :=
  (View.whole cc0_scratch2).readCov (Val := Elt Ideal) (qcs m c t) (Rect.unit (s := S256x512) ![0, 0] S256x512.size inb_S256x512_S256x512_0_0).toLoadRect

/-- What a point leaves of the queries' gradient. -/
abbrev Lefq (O : FVec Ideal S256x512 .f32) : Prop :=
  O = View.canon (Val := Elt Ideal) (e := .f32) [⟨Rect.unit (s := S256x512) ![0, 0] S256x512.size inb_S256x512_S256x512_0_0, qout (iblk m c 0 t) (qback m c t)⟩]

theorem lefq_B (h0 : ¬ t.val % 16 = 0) (h1 : ¬ t.val % 16 = 15) : Lefq m c t (outsAt0 m c t.val t.isLt).1 := by
  rw [outsAt0_B m c t h0 h0 h0 h1]
  dsimp only
  unfold Lefq
  frame_out
  rfl

theorem lefq_A (h0 : t.val % 16 = 0) (h1 : ¬ t.val % 16 = 15) : Lefq m c t (outsAt0 m c t.val t.isLt).1 := by
  rw [outsAt0_A m c t h0 h0 h0 h1]
  dsimp only
  unfold Lefq
  frame_out
  rfl

theorem lefq_C (h0 : ¬ t.val % 16 = 0) (h1 : t.val % 16 = 15) : Lefq m c t (outsAt0 m c t.val t.isLt).1 := by
  rw [outsAt0_C m c t h0 h0 h0 h1]
  dsimp only
  unfold Lefq
  frame_out
  rfl

theorem lefq : Lefq m c t (outsAt0 m c t.val t.isLt).1 := by
  by_cases h0 : t.val % 16 = 0
  · exact lefq_A m c t h0 (by omega)
  · by_cases h1 : t.val % 16 = 15
    · exact lefq_C m c t h0 h1
    · exact lefq_B m c t h0 h1

variable (x : (⟨2, ![4096, 2048]⟩ : Shape).Idx → ℝ) (gm : (⟨2, ![2, 512]⟩ : Shape).Idx → ℝ) (d : (⟨2, ![4096, 512]⟩ : Shape).Idx → ℝ)
  (H : Args m c x gm d)

include H in
theorem qback_at (r : Fin 256) (k : Fin 512) :
    (qback m c t (ix2 r k) : EReal) = (dqr x gm d (128 * (k.val / 128)) (256 * (15 - t.val) + r.val) (k.val % 128) : ℝ) := by
  have hN := lt16 t
  have e : qback m c t = View.ld (Val := Elt Ideal) (e' := .f32) (View.canon (Val := Elt Ideal) (e := .f32) (qcs m c t))
      (Rect.unit (s := S256x512) ![0, 0] S256x512.size inb_S256x512_S256x512_0_0) :=
    View.readCov_eq_canon_ld _ _ _ (grid16_cover _)
  have e' : (Rect.unit (s := S256x512) ![0, 0] S256x512.size inb_S256x512_S256x512_0_0).emb (ix2 r k) = ix2 r k := by
    funext b
    fin_cases b
    · exact Fin.ext (show 0 + 1 * r.val = r.val by omega)
    · exact Fin.ext (show 0 + 1 * k.val = k.val by omega)
  refine (congrFun e (ix2 r k)).trans ?_
  show (View.canon (Val := Elt Ideal) (e := .f32) (qcs m c t)) ((Rect.unit (s := S256x512) ![0, 0] S256x512.size inb_S256x512_S256x512_0_0).emb (ix2 r k)) = _
  rw [e']
  refine grid16_val _ (fun r k => dqr x gm d (128 * (k / 128)) (256 * (15 - t.val) + r) (k % 128))
    (qpc_at (iblk m c 4 t) (iblk m c 0 t) (iblk m c 1 t) (iblk m c 2 t) (iblk m c 3 t) (iblk m c 5 t) (prev t) (iblk m c 7 t) (iblk m c 8 t)
      x gm d (256 * (15 - t.val)) (blocks m c t x gm d H) ?_ (prev_val t) ?_ ?_ ?_) (ix2 r k)
  · intro r k
    refine (blk2 m c t r k).trans ?_
    rw [H.x, liftA_apply, at2_fin x (rowi t r) (⟨1024 + k.val, by omega⟩ : Fin 2048)]
    rfl
  · intro ha h v j
    refine (blk7 m c t h v j).trans ((V_states_at m c x gm H.x H.g _ h v j).trans ?_)
    rw [show (4 * (15 - t.val) - 1 + 1) * 64 = 256 * (15 - t.val) by omega]
  · intro h v j
    exact ⟨_, (blk7 m c t h v j).trans (V_states_at m c x gm H.x H.g _ h v j)⟩
  · intro s h v j
    refine (blk8 m c t s h v j).trans ((V_states_at m c x gm H.x H.g _ h v j).trans ?_)
    rw [show (4 * (15 - t.val) + s.val + 1) * 64 = 256 * (15 - t.val) + 64 * (s.val + 1) by omega]

include H in
/-- The queries' gradient a point leaves. -/
theorem out9 (r : Fin 256) (k : Fin 512) :
    ((outsAt0 m c t.val t.isLt).1 (ix2 r k) : EReal) = (dhq x gm d k.val (256 * (15 - t.val) + r.val) : ℝ) := by
  have e : View.canon (Val := Elt Ideal) (e := .f32)
      [⟨Rect.unit (s := S256x512) ![0, 0] S256x512.size inb_S256x512_S256x512_0_0, qout (iblk m c 0 t) (qback m c t)⟩] = qout (iblk m c 0 t) (qback m c t) :=
    View.canon_unit_zero (Val := Elt Ideal) (e := .f32) (S := S256x512) (off := ![0, 0]) (by decide) _ _
  refine (congrFun ((lefq m c t).trans e) (ix2 r k)).trans ?_
  exact qout_at (iblk m c 4 t) (iblk m c 0 t) (iblk m c 1 t) (iblk m c 3 t) (iblk m c 5 t) x gm d (256 * (15 - t.val)) (blocks m c t x gm d H) _
    (qback_at m c t x gm d H) r k

include H in
/-- The queries' gradient after the run. -/
theorem fin9 : (dats m 0 c).arrAt 9 cfg0.N
    = (fun i => ((dhq x gm d (i 1 : Fin 512).val (i 0 : Fin 4096).val : ℝ) : EReal) : FVec Ideal S4096x512 .f32) := by
  refine (dats m 0 c).arrAt_eq_of_covers 9 _ (by decide +kernel) fun t hf y => ?_
  blk_simp
  rw [after0_9]
  obtain ⟨r, k, rfl⟩ : ∃ (r : Fin 256) (k : Fin 512), y = ix2 r k := ⟨y 0, y 1, by ext a; fin_cases a <;> rfl⟩
  refine (out9 m c t x gm d H r k).trans ?_
  have i0 : win0_9.index t 0 = 15 - t.val := by simp [idxq t]
  have i1 : win0_9.index t 1 = 0 := by simp [idxq t]
  rw [i0, i1, zero_mul, zero_add, mul_comm (15 - t.val) 256]
  rfl

end Cert.Hg

end
-- ==== Proof.HgLitT.lean ====
/- The constant matrix whose rows add up, for each row of a chunk, the partial sums that the row lies in: the transpose of
   the other one. -/
module

public import proofs.«01_k».proof.Kernel2Ideal
public import Mathlib.Tactic.FinCases
public import proofs.«01_k».proof.Proof.HgLev

@[expose] public section

set_option maxRecDepth 16384

namespace Cert.Hg

open Cert.Kernel2Ideal

set_option maxHeartbeats 0 in
theorem litT_block : ∀ b : Fin 32, ∀ r : Fin 16, ∀ j : Fin 64,
    lit1t (j.val * 512 + (16 * b.val + r.val))
      = if lo (16 * b.val + r.val) ≤ j.val ∧ j.val < hi (16 * b.val + r.val) then 0x3F80#16 else 0#16 := by
  intro b
  fin_cases b <;> decide +kernel

/-- The constant's entry at row `j` and column `r`. -/
theorem litT_row (r : Fin 512) (j : Fin 64) :
    lit1t (j.val * 512 + r.val) = if lo r.val ≤ j.val ∧ j.val < hi r.val then 0x3F80#16 else 0#16 := by
  have h := litT_block ⟨r.val / 16, by omega⟩ ⟨r.val % 16, by omega⟩ j
  dsimp only at h
  rw [show 16 * (r.val / 16) + r.val % 16 = r.val by omega] at h
  exact h

end Cert.Hg
-- ==== Proof.HgFk.lean ====
/- The gradient of the decays' arguments of the recurrence's backward kernel, point by point, and what the run leaves of
   it. -/
module

public import proofs.«01_k».proof.Proof.HgQk
public import proofs.«01_k».proof.Proof.HgDp
public import proofs.«01_k».proof.Proof.HgLitT

@[expose] public section

set_option maxRecDepth 16384

noncomputable section

namespace Cert.Hg

open Idealize.ShloMosaic Idealize.ShloMosaic.TcCoe Idealize.SL.Sem Cert.Ffn
open Idealize.ShloMosaic.Pipeline (Dat)
open Cert.Kernel2Ideal Cert.Kernel2Ideal.Gen

variable (m : (ℓ : Loc nD τ sig) → Buf (Elt Ideal) ℓ) (c : Dev nD) (t : Fin cfg0.N)

/-- The block index of the second zero-one matrix's and of the result's window. -/
theorem idxf : ∀ t : Fin cfg0.N, win0_6.index t = ![0, 0] ∧ win0_10.index t = ![15 - t.val, 0] :=
  (by decide +kernel : ∀ t : Fin grid0.N, win0_6.index t = ![0, 0] ∧ win0_10.index t = ![15 - t.val, 0])

/-- The second zero-one matrix the region finds. -/
theorem V_main_cst_0 : V m c main_cst_0 = (fun i => FloatOps.ofBits (F := Ideal) .bf16 (lit1 (S64x512.rowMajor i)) : FVec Ideal S64x512 .bf16) := by
  have e : V m c main_cst_0 = StableHlo.after back (mid0 m c) (Proc.devRef .tc main_cst_0) :=
    congrFun (StableHlo.after_append front back (fun b => m (c, b))) (Proc.devRef .tc main_cst_0)
  have e2 : StableHlo.after back (mid0 m c) (Proc.devRef .tc main_cst_0) = mid0 m c (Proc.devRef .tc main_cst_0) := by
    show StableHlo.after (List.flatten [hostOps0_5, hostOps0_6, hostOps0_7, hostOps0_8]) _ (Proc.devRef .tc main_cst_0) = _
    after_reads_simp
  refine (e.trans e2).trans ?_
  show StableHlo.after (List.flatten [hostOps0, hostOps0_1, hostOps0_2, hostOps0_3, hostOps0_4]) _ (Proc.devRef .tc main_cst_0) = _
  after_reads_simp
  rfl

theorem blk6 (j : Fin 64) (r : Fin 512) :
    ((show FVec Ideal S64x512 .bf16 from iblk m c 6 t) (ix2 j r) : EReal) = (win r.val j.val : ℝ) := by
  have e : (show FVec Ideal S64x512 .bf16 from iblk m c 6 t) (ix2 j r) = (show FVec Ideal S64x512 .bf16 from V m c main_cst_0) (ix2 j r) := by
    blk_point [iblk, idxf t]
    all_goals rfl
  rw [e, V_main_cst_0 m c]
  have h : (S64x512.rowMajor (ix2 j r)).val = j.val * 512 + r.val := by
    exact Shape.rowMajor_val_two (ix2 j r)
  have g : lit1 (S64x512.rowMajor (ix2 j r)) = lit1t (S64x512.rowMajor (ix2 j r)).val := rfl
  show Ideal.ofBits .bf16 (lit1 (S64x512.rowMajor (ix2 j r))) = _
  rw [g, h, litT_row]
  unfold win
  split
  · simp [Ideal.ofBits, Ideal.ieee]
    rw [← EReal.coe_mul, ← EReal.coe_one]
    norm_num
  · simp [Ideal.ofBits, Ideal.ieee]

/-- The heads' slabs of the state's gradient, the first point's and every other's. -/
def zsA (h : Fin 4) : FVec Ideal S1x128x128 .f32 :=
  match h.val with
  | 0 => slabZ 0 inb_S4x128x128_S1x128x128_0_0_0
  | 1 => slabZ 1 inb_S4x128x128_S1x128x128_1_0_0
  | 2 => slabZ 2 inb_S4x128x128_S1x128x128_2_0_0
  | _ => slabZ 3 inb_S4x128x128_S1x128x128_3_0_0

def zsB (X : FVec Ideal S4x128x128 .f32) (h : Fin 4) : FVec Ideal S1x128x128 .f32 :=
  match h.val with
  | 0 => slabOf X 0 inb_S4x128x128_S1x128x128_0_0_0
  | 1 => slabOf X 1 inb_S4x128x128_S1x128x128_1_0_0
  | 2 => slabOf X 2 inb_S4x128x128_S1x128x128_2_0_0
  | _ => slabOf X 3 inb_S4x128x128_S1x128x128_3_0_0

variable (Zs : Fin 4 → FVec Ideal S1x128x128 .f32)

/-- The sixteen stores of the keys' gradient. -/
abbrev kcs : List (View.Piece (Elt Ideal) S256x512 .f32) :=
  grid16 (kpc (iblk m c 4 t) (iblk m c 0 t) (iblk m c 1 t) (iblk m c 2 t) (iblk m c 3 t) (iblk m c 5 t) Zs)

/-- The stores of the rows the zero-one matrix sums. -/
abbrev ecs : List (View.Piece (Elt Ideal) S4x512x512 .f32) :=
  grid128 (epc (iblk m c 4 t) (iblk m c 0 t) (iblk m c 1 t) (iblk m c 2 t) (iblk m c 3 t) (iblk m c 5 t) (prev t) (iblk m c 7 t) (iblk m c 8 t) Zs)

/-- The scratch arrays read back after them. -/
abbrev kback : FVec Ideal S256x512 .f32 :=
  (View.whole cc0_scratch3).readCov (Val := Elt Ideal) (kcs m c t Zs) (Rect.unit (s := S256x512) ![0, 0] S256x512.size inb_S256x512_S256x512_0_0).toLoadRect

abbrev eback (o : ℕ) (inb : ∀ b, (![o, 0, 0] : Fin 3 → ℕ) b + S1x512x512.size b ≤ S4x512x512.size b) : FVec Ideal S1x512x512 .f32 :=
  (View.whole cc0_scratch4).readCov (Val := Elt Ideal) (ecs m c t Zs) (Rect.unit (s := S4x512x512) ![o, 0, 0] S1x512x512.size inb).toLoadRect

/-- The decays' gradient, as the body computes it. -/
abbrev dgb : FVec Ideal S256x512 .f32 :=
  dgo (iblk m c 6 t) (eback m c t Zs 0 inb_S4x512x512_S1x512x512_0_0_0) (eback m c t Zs 1 inb_S4x512x512_S1x512x512_1_0_0)
    (eback m c t Zs 2 inb_S4x512x512_S1x512x512_2_0_0) (eback m c t Zs 3 inb_S4x512x512_S1x512x512_3_0_0)

/-- What a point leaves of the gradient of the decays' arguments. -/
abbrev Leff (O : FVec Ideal S256x512 .f32) : Prop :=
  O = View.canon (Val := Elt Ideal) (e := .f32) [⟨Rect.unit (s := S256x512) ![0, 0] S256x512.size inb_S256x512_S256x512_0_0,
    fout (iblk m c 4 t) (iblk m c 1 t) (dgb m c t Zs) (kback m c t Zs)⟩]

set_option maxHeartbeats 4000000 in
theorem leff_A (h0 : t.val % 16 = 0) (h1 : ¬ t.val % 16 = 15) : Leff m c t zsA (outsAt0 m c t.val t.isLt).2.1 := by
  rw [outsAt0_A m c t h0 h0 h0 h1]
  dsimp only
  unfold Leff
  frame_out
  rfl

set_option maxHeartbeats 4000000 in
theorem leff_B (h0 : ¬ t.val % 16 = 0) (h1 : ¬ t.val % 16 = 15) :
    Leff m c t (zsB (outsAt0 m c (t.val - 1) (by omega)).2.2.2.2.1) (outsAt0 m c t.val t.isLt).2.1 := by
  rw [outsAt0_B m c t h0 h0 h0 h1]
  dsimp only
  unfold Leff
  frame_out
  simp only [read_unread_whole]
  rfl

set_option maxHeartbeats 4000000 in
theorem leff_C (h0 : ¬ t.val % 16 = 0) (h1 : t.val % 16 = 15) :
    Leff m c t (zsB (outsAt0 m c (t.val - 1) (by omega)).2.2.2.2.1) (outsAt0 m c t.val t.isLt).2.1 := by
  rw [outsAt0_C m c t h0 h0 h0 h1]
  dsimp only
  unfold Leff
  frame_out
  simp only [read_unread_whole]
  rfl

variable (x : (⟨2, ![4096, 2048]⟩ : Shape).Idx → ℝ) (gm : (⟨2, ![2, 512]⟩ : Shape).Idx → ℝ) (d : (⟨2, ![4096, 512]⟩ : Shape).Idx → ℝ)
  (H : Args m c x gm d)

theorem zsA_at (ht : t.val = 0) (h : Fin 4) (v j : Fin 128) :
    (zsA h (ix3 0 v j) : EReal) = (dst x gm d (128 * h.val) (256 * (15 - t.val) + 256) v.val j.val : ℝ) := by
  fin_cases h
  all_goals exact slabZ_at x gm d _ _ v j _ _ (by omega)

include H in
theorem zsB_at (ht : t.val ≠ 0) (h : Fin 4) (v j : Fin 128) :
    (zsB (outsAt0 m c (t.val - 1) (by omega)).2.2.2.2.1 h (ix3 0 v j) : EReal) = (dst x gm d (128 * h.val) (256 * (15 - t.val) + 256) v.val j.val : ℝ) := by
  have hN := lt16 t
  rw [show 256 * (15 - t.val) + 256 = 256 * (15 - (t.val - 1)) by omega]
  fin_cases h
  · exact slab_at x gm d _ _ (carried m c x gm d H _ _) 0 0 rfl _ v j
  · exact slab_at x gm d _ _ (carried m c x gm d H _ _) 1 1 rfl _ v j
  · exact slab_at x gm d _ _ (carried m c x gm d H _ _) 2 2 rfl _ v j
  · exact slab_at x gm d _ _ (carried m c x gm d H _ _) 3 3 rfl _ v j

/-- What a point leaves, whichever of the three it is. -/
theorem leff (hH : Args m c x gm d) : ∃ Zs : Fin 4 → FVec Ideal S1x128x128 .f32,
    (∀ (h : Fin 4) (v j : Fin 128), (Zs h (ix3 0 v j) : EReal) = (dst x gm d (128 * h.val) (256 * (15 - t.val) + 256) v.val j.val : ℝ))
      ∧ Leff m c t Zs (outsAt0 m c t.val t.isLt).2.1 := by
  have hN := lt16 t
  by_cases h0 : t.val % 16 = 0
  · exact ⟨_, zsA_at t x gm d (by omega), leff_A m c t h0 (by omega)⟩
  · by_cases h1 : t.val % 16 = 15
    · exact ⟨_, zsB_at m c t x gm d hH (by omega), leff_C m c t h0 h1⟩
    · exact ⟨_, zsB_at m c t x gm d hH (by omega), leff_B m c t h0 h1⟩

variable (hZ : ∀ (h : Fin 4) (v j : Fin 128), (Zs h (ix3 0 v j) : EReal) = (dst x gm d (128 * h.val) (256 * (15 - t.val) + 256) v.val j.val : ℝ))

include H in
theorem val2 (r : Fin 256) (k : Fin 512) :
    ((show FVec Ideal S256x512 .f32 from iblk m c 2 t) (ix2 r k) : EReal) = (at2 x (256 * (15 - t.val) + r.val) (1024 + k.val) : ℝ) := by
  refine (blk2 m c t r k).trans ?_
  rw [H.x, liftA_apply, at2_fin x (rowi t r) (⟨1024 + k.val, by omega⟩ : Fin 2048)]
  rfl

include H hZ in
theorem kback_at (r : Fin 256) (k : Fin 512) :
    (kback m c t Zs (ix2 r k) : EReal) = (dkr x gm d (128 * (k.val / 128)) (256 * (15 - t.val) + r.val) (k.val % 128) : ℝ) := by
  have e : kback m c t Zs = View.ld (Val := Elt Ideal) (e' := .f32) (View.canon (Val := Elt Ideal) (e := .f32) (kcs m c t Zs))
      (Rect.unit (s := S256x512) ![0, 0] S256x512.size inb_S256x512_S256x512_0_0) :=
    View.readCov_eq_canon_ld _ _ _ (grid16_cover _)
  have e' : (Rect.unit (s := S256x512) ![0, 0] S256x512.size inb_S256x512_S256x512_0_0).emb (ix2 r k) = ix2 r k := by
    funext b
    fin_cases b
    · exact Fin.ext (show 0 + 1 * r.val = r.val by omega)
    · exact Fin.ext (show 0 + 1 * k.val = k.val by omega)
  refine (congrFun e (ix2 r k)).trans ?_
  show (View.canon (Val := Elt Ideal) (e := .f32) (kcs m c t Zs)) ((Rect.unit (s := S256x512) ![0, 0] S256x512.size inb_S256x512_S256x512_0_0).emb (ix2 r k)) = _
  rw [e']
  exact grid16_val _ (fun r k => dkr x gm d (128 * (k / 128)) (256 * (15 - t.val) + r) (k % 128))
    (kpc_at x gm d (256 * (15 - t.val)) (iblk m c 4 t) (iblk m c 0 t) (iblk m c 1 t) (iblk m c 2 t) (iblk m c 3 t) (iblk m c 5 t) Zs
      (blocks m c t x gm d H) (val2 m c t x gm d H) hZ) (ix2 r k)

include H hZ in
theorem eback_at (s : Fin 4) (o : ℕ) (ho : o = s.val) (inb : ∀ b, (![o, 0, 0] : Fin 3 → ℕ) b + S1x512x512.size b ≤ S4x512x512.size b) (r k : Fin 512) :
    (eback m c t Zs o inb (ix3 0 r k) : EReal) = (ebr x gm d (128 * (k.val / 128)) (256 * (15 - t.val) + 64 * s.val) r.val (k.val % 128) : ℝ) := by
  subst ho
  have e : eback m c t Zs s.val inb = View.ld (Val := Elt Ideal) (e' := .f32) (View.canon (Val := Elt Ideal) (e := .f32) (ecs m c t Zs))
      (Rect.unit (s := S4x512x512) ![s.val, 0, 0] S1x512x512.size inb) :=
    View.readCov_eq_canon_ld _ _ _ (grid128_cover _)
  have e' : (Rect.unit (s := S4x512x512) ![s.val, 0, 0] S1x512x512.size inb).emb (ix3 0 r k) = ix3 s r k := by
    funext b
    fin_cases b
    · exact Fin.ext (show s.val + 1 * 0 = s.val by omega)
    · exact Fin.ext (show 0 + 1 * r.val = r.val by omega)
    · exact Fin.ext (show 0 + 1 * k.val = k.val by omega)
  refine (congrFun e (ix3 0 r k)).trans ?_
  show (View.canon (Val := Elt Ideal) (e := .f32) (ecs m c t Zs)) ((Rect.unit (s := S4x512x512) ![s.val, 0, 0] S1x512x512.size inb).emb (ix3 0 r k)) = _
  rw [e']
  refine grid128_val _ (fun s r k => ebr x gm d (128 * (k / 128)) (256 * (15 - t.val) + 64 * s) r (k % 128))
    (epc_at x gm d (256 * (15 - t.val)) (iblk m c 4 t) (iblk m c 0 t) (iblk m c 1 t) (iblk m c 2 t) (iblk m c 3 t) (iblk m c 5 t) (prev t) (iblk m c 7 t) (iblk m c 8 t) Zs
      (blocks m c t x gm d H) (val2 m c t x gm d H) (prev_val t) ?_ ?_ ?_ hZ) (ix3 s r k)
  · intro ha h v j
    refine (blk7 m c t h v j).trans ((V_states_at m c x gm H.x H.g _ h v j).trans ?_)
    rw [show (4 * (15 - t.val) - 1 + 1) * 64 = 256 * (15 - t.val) by omega]
  · intro h v j
    exact ⟨_, (blk7 m c t h v j).trans (V_states_at m c x gm H.x H.g _ h v j)⟩
  · intro s h v j
    refine (blk8 m c t s h v j).trans ((V_states_at m c x gm H.x H.g _ h v j).trans ?_)
    rw [show (4 * (15 - t.val) + s.val + 1) * 64 = 256 * (15 - t.val) + 64 * (s.val + 1) by omega]

include H hZ in
theorem dgb_at (r : Fin 256) (k : Fin 512) :
    (dgb m c t Zs (ix2 r k) : EReal) = (dgr x gm d (128 * (k.val / 128)) (256 * (15 - t.val) + r.val) (k.val % 128) : ℝ) :=
  dgo_at x gm d (256 * (15 - t.val)) _ _ _ _ _ (by omega) (blk6 m c t)
    (eback_at m c t Zs x gm d H hZ 0 0 rfl _) (eback_at m c t Zs x gm d H hZ 1 1 rfl _)
    (eback_at m c t Zs x gm d H hZ 2 2 rfl _) (eback_at m c t Zs x gm d H hZ 3 3 rfl _) r k

include H in
/-- The gradient of the decays' arguments a point leaves. -/
theorem out10 (r : Fin 256) (k : Fin 512) :
    ((outsAt0 m c t.val t.isLt).2.1 (ix2 r k) : EReal) = (dhf x gm d k.val (256 * (15 - t.val) + r.val) : ℝ) := by
  obtain ⟨Zs, hZ, l⟩ := leff m c t x gm d H
  have e : View.canon (Val := Elt Ideal) (e := .f32)
      [⟨Rect.unit (s := S256x512) ![0, 0] S256x512.size inb_S256x512_S256x512_0_0, fout (iblk m c 4 t) (iblk m c 1 t) (dgb m c t Zs) (kback m c t Zs)⟩]
      = fout (iblk m c 4 t) (iblk m c 1 t) (dgb m c t Zs) (kback m c t Zs) :=
    View.canon_unit_zero (Val := Elt Ideal) (e := .f32) (S := S256x512) (off := ![0, 0]) (by decide) _ _
  refine (congrFun (l.trans e) (ix2 r k)).trans ?_
  exact fout_at x gm d (256 * (15 - t.val)) (iblk m c 4 t) (iblk m c 0 t) (iblk m c 1 t) (iblk m c 3 t) (iblk m c 5 t) (blocks m c t x gm d H) _ _
    (dgb_at m c t Zs x gm d H hZ) (kback_at m c t Zs x gm d H hZ) r k

include H in
/-- The gradient of the decays' arguments after the run. -/
theorem fin10 : (dats m 0 c).arrAt 10 cfg0.N
    = (fun i => ((dhf x gm d (i 1 : Fin 512).val (i 0 : Fin 4096).val : ℝ) : EReal) : FVec Ideal S4096x512 .f32) := by
  refine (dats m 0 c).arrAt_eq_of_covers 10 _ (by decide +kernel) fun t hf y => ?_
  blk_simp
  rw [after0_10]
  obtain ⟨r, k, rfl⟩ : ∃ (r : Fin 256) (k : Fin 512), y = ix2 r k := ⟨y 0, y 1, by ext a; fin_cases a <;> rfl⟩
  refine (out10 m c t x gm d H r k).trans ?_
  have i0 : win0_10.index t 0 = 15 - t.val := by simp [idxf t]
  have i1 : win0_10.index t 1 = 0 := by simp [idxf t]
  rw [i0, i1, zero_mul, zero_add, mul_comm (15 - t.val) 256]
  rfl

end Cert.Hg

end
-- ==== Proof.HgEnd.lean ====
/- The recurrence's backward pass: the kernel's gradients of the queries, of the decays' arguments and of the values are the
   reference's. -/
module

public import proofs.«01_k».proof.Defs
public import proofs.«01_k».proof.Proof.FfnEnd
public import proofs.«01_k».proof.Proof.HgRefF
public import proofs.«01_k».proof.Proof.HgFk
public import proofs.«01_k».proof.Proof.Gen.Pre_finite2
public import proofs.«01_k».proof.Proof.Gen.On_values2
public import proofs.«01_k».proof.Proof.Gen.Reference2Ideal.Run

@[expose] public section

set_option maxRecDepth 16384

noncomputable section

namespace Cert.Hg

open Idealize.ShloMosaic Idealize.ShloMosaic.TcCoe Idealize.SL.Sem Cert.Ffn

open Cert.Pre_finite2 in
/-- What the precondition says of three arrays. -/
theorem finite_all (x0 : FVec Ideal S4096x2048 .f32) (x1 : FVec Ideal S2x512 .f32) (x2 : FVec Ideal S4096x512 .f32)
    (h : Cert.Pre_finite2.fn (F := Ideal) x0 x1 x2 = fun _ => 1#1) :
    (∀ i, (x0 i : EReal) ≠ ⊤ ∧ (x0 i : EReal) ≠ ⊥) ∧ (∀ i, (x1 i : EReal) ≠ ⊤ ∧ (x1 i : EReal) ≠ ⊥) ∧ (∀ i, (x2 i : EReal) ≠ ⊤ ∧ (x2 i : EReal) ≠ ⊥) := by
  have h0 := congrFun h (fun k => k.elim0)
  unfold Cert.Pre_finite2.fn at h0
  replace ⟨h0, e2⟩ := IntOp.andi_eq_one.1 h0
  have ⟨e0, e1⟩ := IntOp.andi_eq_one.1 h0
  clear h h0
  beta_reduce at e0 e1 e2
  exact ⟨finite_vec _ _ _ _ _ e0, finite_vec _ _ _ _ _ e1, finite_vec _ _ _ _ _ e2⟩

open Cert.Kernel2Ideal in
/-- The precondition gives the kernel's arguments as arrays of real numbers. -/
theorem args_of_pre (m : (ℓ : Loc nD τ sig) → Buf (Elt Ideal) ℓ) (h : Cert.Pre_Kernel2Ideal_finite2 m) (c : Dev nD) :
    ∃ x gm d, Args m c x gm d := by
  obtain ⟨h0, h1, h2⟩ := finite_all _ _ _ (h c)
  obtain ⟨f0, e0⟩ := exists_lift S4096x2048 .f32 _ h0
  obtain ⟨f1, e1⟩ := exists_lift S2x512 .f32 _ h1
  obtain ⟨f2, e2⟩ := exists_lift S4096x512 .f32 _ h2
  exact ⟨f0, f1, f2, ⟨e0, e1, e2⟩⟩

open Cert.On_values2 in
/-- The claim is of the first three gradients: the fourth result is not selected. -/
theorem unselected (x0 : FVec Ideal S4096x2048 .f32) (x1 : FVec Ideal S2x512 .f32) (x2 : FVec Ideal S4096x512 .f32) :
    ∀ i, ¬ (Cert.On_values2.fn (F := Ideal) x0 x1 x2).2.2.2 i = 1#1 := by
  have h : ¬ (0#1 : BitVec 1) = 1#1 := by decide
  exact fun i => h

set_option maxHeartbeats 2000000 in
open Cert.Reference2Ideal.Read in
/-- The reference's gradients of the queries, of the decays' arguments and of the values are the kernel's. -/
theorem value : Cert.algebraic_Kernel2Ideal_Reference2Ideal_on_values2_pre_finite2 := by
  intro m g m' g' hpre hargs
  refine ⟨fun c => (Cert.Kernel2Ideal.Gen.dats m 0 c).arrAt 9 Cert.Kernel2Ideal.cfg0.N, fun c => (Cert.Kernel2Ideal.Gen.dats m 0 c).arrAt 10 Cert.Kernel2Ideal.cfg0.N,
    fun c => (Cert.Kernel2Ideal.Gen.dats m 0 c).arrAt 11 Cert.Kernel2Ideal.cfg0.N, fun c => (Cert.Kernel2Ideal.Gen.dats m 0 c).arrAt 12 Cert.Kernel2Ideal.cfg0.N,
    (θ_run _ _ _).mono (fun r h c => ?_) (Cert.Kernel2Ideal.Value.run_blocks m g),
    (θ_run _ _ _).mono (fun r h c => ?_) (Cert.Reference2Ideal.Value.run m' g')⟩
  · obtain ⟨r0, r1, r2, r3, k⟩ := h c
    exact ⟨fun i _ => congrFun r0 i, fun i _ => congrFun r1 i, fun i _ => congrFun r2 i, fun i _ => congrFun r3 i, k⟩
  · obtain ⟨x, gm, d, A⟩ := args_of_pre m hpre c
    obtain ⟨a0, a1, a2⟩ := hargs c
    obtain ⟨r0, r1, r2, r3, k⟩ := h c
    have b0 : StableHlo.launchContents m' c (Proc.devRef .tc Cert.Reference2Ideal.main_arg0) = _ := a0.trans A.x
    have b1 : StableHlo.launchContents m' c (Proc.devRef .tc Cert.Reference2Ideal.main_arg1) = _ := a1.trans A.g
    have b2 : StableHlo.launchContents m' c (Proc.devRef .tc Cert.Reference2Ideal.main_arg2) = _ := a2.trans A.d
    have e0 := r0.trans (Eq.trans (b := (Cert.Kernel2Ideal.Gen.dats m 0 c).arrAt 9 Cert.Kernel2Ideal.cfg0.N) (by
      refine Eq.trans ?_ (fin9 m c x gm d A).symm
      refine (val_main_v185_eq _).trans ?_
      rw [b0, b1, b2]
      funext i
      rw [idx2 i]
      exact ref_dhq ..) rfl)
    have e1 := r1.trans (Eq.trans (b := (Cert.Kernel2Ideal.Gen.dats m 0 c).arrAt 10 Cert.Kernel2Ideal.cfg0.N) (by
      refine Eq.trans ?_ (fin10 m c x gm d A).symm
      refine (val_main_v164_eq _).trans ?_
      rw [b0, b1, b2]
      funext i
      rw [idx2 i]
      exact ref_dhf ..) rfl)
    have e2 := r2.trans (Eq.trans (b := (Cert.Kernel2Ideal.Gen.dats m 0 c).arrAt 11 Cert.Kernel2Ideal.cfg0.N) (by
      refine Eq.trans ?_ (fin11 m c x gm d A).symm
      refine (val_main_v151_eq _).trans ?_
      rw [b0, b1, b2]
      funext i
      rw [idx2 i]
      exact ref_dhi ..) rfl)
    exact ⟨fun i _ => congrFun e0 i, fun i _ => congrFun e1 i, fun i _ => congrFun e2 i, fun i hi => (unselected _ _ _ i hi).elim, k⟩

end Cert.Hg

end
-- ==== Proof.WgSum.lean ====
/- A sum over all rows is the sum over the blocks of rows, in any commutative addition: no finiteness is needed. -/
module

public import Idealize.ShloMosaic.Lib.Pointwise

@[expose] public section

noncomputable section

namespace Cert.Wg

open Idealize.ShloMosaic

/-- Two blocks of rows. -/
theorem sum_two {b n : ℕ} (hn : b + b = n) (f : Fin n → EReal) :
    (∑ r : Fin b, f ⟨r.val, by have := r.isLt; omega⟩) + ∑ r : Fin b, f ⟨b + r.val, by have := r.isLt; omega⟩ = ∑ k, f k := by
  subst hn
  exact (Fin.sum_univ_add f).symm

/-- Four blocks of rows. -/
theorem sum_four {b n : ℕ} (hn : b + b + b + b = n) (f : Fin n → EReal) :
    (∑ r : Fin b, f ⟨r.val, by have := r.isLt; omega⟩) + (∑ r : Fin b, f ⟨b + r.val, by have := r.isLt; omega⟩)
      + (∑ r : Fin b, f ⟨b + b + r.val, by have := r.isLt; omega⟩) + ∑ r : Fin b, f ⟨b + b + b + r.val, by have := r.isLt; omega⟩ = ∑ k, f k := by
  subst hn
  rw [Fin.sum_univ_add, Fin.sum_univ_add, Fin.sum_univ_add]
  rfl

/-- A two-axis index is its two coordinates. -/
theorem idx2 {a b : ℕ} (i : Shape.Idx ⟨2, ![a, b]⟩) : i = ix2 (n0 := a) (n1 := b) (i 0) (i 1) := by
  funext k; fin_cases k <;> rfl

/-- A three-axis index is its three coordinates. -/
theorem idx3 {a b c : ℕ} (i : Shape.Idx ⟨3, ![a, b, c]⟩) : i = ix3 (n0 := a) (n1 := b) (n2 := c) (i 0) (i 1) (i 2) := by
  funext k; fin_cases k <;> rfl

end Cert.Wg

end
-- ==== Proof.WgUp.lean ====
/- The gradient of the gate and up weight, in four blocks of columns: the kernel's two blocks of rows, and the reference's one sum. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.WgSum
public import Idealize.ShloMosaic.Lib.Pipeline.ValueKit
public import Idealize.ShloMosaic.Lib.Claim

@[expose] public section

set_option maxRecDepth 16384

noncomputable section

namespace Cert.Wg.Up

open Idealize.ShloMosaic Idealize.ShloMosaic.TcCoe Idealize.SL.Sem
open Cert.Kernel4Ideal Cert.Kernel4Ideal.Gen Cert.Kernel4Ideal.Value

variable (m : (ℓ : Loc nD τ sig) → Buf (Elt Ideal) ℓ) (c : Dev nD)

/-- The product's input. -/
abbrev a : Fin 4096 → Fin 1024 → EReal := fun r k => (show FVec Ideal S4096x1024 .bf16 from m ((c : Thread nD τ).loc main_arg0)) (ix2 r k)

/-- The gradient of the product's output. -/
abbrev g : Fin 4096 → Fin 5632 → EReal := fun r k => (show FVec Ideal S4096x5632 .bf16 from m ((c : Thread nD τ).loc main_arg1)) (ix2 r k)

/-- The block index of both inputs at a grid point. -/
theorem idx : ∀ t : Fin cfg0.N, win0_0.index t = ![t.val % 2, 0] ∧ win0_1.index t = ![t.val % 2, t.val / 2] :=
  (by decide +kernel : ∀ t : Fin grid0.N, win0_0.index t = ![t.val % 2, 0] ∧ win0_1.index t = ![t.val % 2, t.val / 2])

theorem blk0 (t : Fin cfg0.N) (r : Fin 2048) (k : Fin 1024) (R : Fin 4096) (hR : R.val = t.val % 2 * 2048 + r.val) :
    (show FVec Ideal S2048x1024 .bf16 from iblk m c 0 t) (ix2 r k) = a m c R k := by
  show _ = m ((c : Thread nD τ).loc main_arg0) (ix2 R k)
  blk_point [iblk, V, idx t]
  all_goals first | rfl | omega

theorem blk1 (t : Fin cfg0.N) (r : Fin 2048) (n : Fin 1408) (R : Fin 4096) (K : Fin 5632) (hR : R.val = t.val % 2 * 2048 + r.val)
    (hK : K.val = t.val / 2 * 1408 + n.val) :
    (show FVec Ideal S2048x1408 .bf16 from iblk m c 1 t) (ix2 r n) = g m c R K := by
  show _ = m ((c : Thread nD τ).loc main_arg1) (ix2 R K)
  blk_point [iblk, V, idx t]
  all_goals first | rfl | omega

/-- One point adds its block of rows. -/
theorem pay_at (O : FVec Ideal S1x1024x1408 .f32) (A : FVec Ideal S2048x1024 .bf16) (G : FVec Ideal S2048x1408 .bf16) (k : Fin 1024) (n : Fin 1408) :
    k0_pay2 (F := Ideal) O A G (ix3 0 k n) = O (ix3 0 k n) + ∑ r : Fin 2048, A (ix2 r k) * G (ix2 r n) := by
  pointwise [k0_pay2]

theorem zero_at (k : Fin 1024) (n : Fin 1408) : k0_pay1 (F := Ideal) (ix3 0 k n) = 0 := by
  pointwise [k0_pay1]

/-- The first point of a run leaves its block's sum, the second adds the other block's. -/
theorem run_at (b : ℕ) (h : b + 1 < cfg0.N) (k : Fin 1024) (n : Fin 1408) :
    (show FVec Ideal S1x1024x1408 .f32 from Pipeline.accAt (reset2 m c) (step2 m c) b 1 h) (ix3 0 k n)
      = (∑ r : Fin 2048, (show FVec Ideal S2048x1024 .bf16 from iblk m c 0 ⟨b, Nat.lt_of_succ_lt h⟩) (ix2 r k)
          * (show FVec Ideal S2048x1408 .bf16 from iblk m c 1 ⟨b, Nat.lt_of_succ_lt h⟩) (ix2 r n))
        + ∑ r : Fin 2048, (show FVec Ideal S2048x1024 .bf16 from iblk m c 0 ⟨b + 1, h⟩) (ix2 r k)
          * (show FVec Ideal S2048x1408 .bf16 from iblk m c 1 ⟨b + 1, h⟩) (ix2 r n) := by
  show k0_pay2 (F := Ideal) (k0_pay2 (F := Ideal) (k0_pay1 (F := Ideal)) _ _) _ _ (ix3 0 k n) = _
  rw [pay_at, pay_at, zero_at, zero_add]

/-- Column `n` of block `j`. -/
def col (j : Fin 4) (n : Fin 1408) : Fin 5632 := ⟨j.val * 1408 + n.val, by omega⟩

/-- What the kernel leaves: the sum over all rows. -/
theorem out (j : Fin 4) (K : Fin 1024) (n : Fin 1408) :
    (show FVec Ideal S4x1024x1408 .f32 from G2 m c) (ix3 j K n) = ∑ r, a m c r K * g m c r (col j n) := by
  have hN : cfg0.N = 8 := N_0
  have hj := j.isLt
  have hb : run2Of (ix3 j K n) = j.val := by
    show 1 * (j.val / 1 - 0) + 1 * (K.val / 1024 - 0) + 1 * (n.val / 1408 - 0) = _
    have := n.isLt
    have := K.isLt
    omega
  have hl : loc2Of (ix3 j K n) = ix3 (0 : Fin 1) K n := by
    funext q
    fin_cases q
    · exact Fin.ext (Nat.mod_one _)
    · exact Fin.ext (Nat.mod_eq_of_lt K.isLt)
    · exact Fin.ext (Nat.mod_eq_of_lt n.isLt)
  have h : 2 * run2Of (ix3 j K n) + 1 < cfg0.N := by rw [hb]; omega
  show G2 m c (ix3 j K n) = _
  unfold G2
  rw [dif_pos h, hl]
  refine (run_at m c _ h _ _).trans ?_
  rw [← sum_two (b := 2048) rfl]
  refine congrArg₂ _ (Finset.sum_congr rfl fun r _ => ?_) (Finset.sum_congr rfl fun r _ => ?_)
  · exact congrArg₂ _ (blk0 m c _ _ _ _ (by dsimp only; omega))
      (blk1 m c _ _ _ _ _ (by dsimp only; omega) (by dsimp only [col]; omega))
  · exact congrArg₂ _ (blk0 m c _ _ _ _ (by dsimp only; omega))
      (blk1 m c _ _ _ _ _ (by dsimp only; omega) (by dsimp only [col]; omega))

open Cert.Reference4Ideal.Read in
/-- What the reference leaves: the same sum. -/
theorem ref (A : FVec Ideal S4096x1024 .bf16) (G : FVec Ideal S4096x5632 .bf16) (j : Fin 4) (K : Fin 1024) (n : Fin 1408) :
    val_main_v7 (F := Ideal) A G (ix3 j K n) = ∑ r : Fin 4096, A (ix2 r K) * G (ix2 r (col j n)) := by
  rw [val_main_v7_apply, val_main_v6_apply, val_main_v5_apply, val_main_v4_apply]
  refine Finset.sum_congr rfl fun r _ => ?_
  rw [val_main_v3_apply, val_main_v1_apply, mul_comm]
  have hj := j.isLt
  have hn := n.isLt
  refine congrArg₂ _ (congrArg A ?_) (congrArg G ?_) <;> funext q <;> fin_cases q
  · rfl
  · refine Fin.ext ?_
    show ((K.val * 4 + j.val) * 1408 + n.val) / 5632 = K.val
    omega
  · rfl
  · refine Fin.ext ?_
    show ((K.val * 4 + j.val) * 1408 + n.val) % 5632 = j.val * 1408 + n.val
    omega

/-- The kernel's gradient of the gate and up weight is the reference's. -/
theorem value : Cert.algebraic_Kernel4Ideal_Reference4Ideal := by
  intro m g m' g' hpre hargs
  refine ⟨_, (θ_run _ _ _).mono (fun r h c => h c) (Cert.Kernel4Ideal.Value.run m g),
    (θ_run _ _ _).mono (fun r h c => ?_) (Cert.Reference4Ideal.Value.run m' g')⟩
  obtain ⟨a0, a1⟩ := hargs c
  obtain ⟨r0, k⟩ := h c
  refine ⟨r0.trans ?_, k⟩
  refine (Cert.Reference4Ideal.Read.val_main_v7_eq _ _).trans ?_
  rw [a0, a1]
  funext i
  rw [idx3 i]
  exact (ref _ _ _ _ _).trans (out m c _ _ _).symm

end Cert.Wg.Up

end
-- ==== Proof.WgDown.lean ====
/- The gradient of the down weight: the kernel's two blocks of rows, and the reference's one sum. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.WgSum
public import Idealize.ShloMosaic.Lib.Pipeline.ValueKit
public import Idealize.ShloMosaic.Lib.Claim

@[expose] public section

set_option maxRecDepth 16384

noncomputable section

namespace Cert.Wg.Down

open Idealize.ShloMosaic Idealize.ShloMosaic.TcCoe Idealize.SL.Sem
open Cert.Kernel5Ideal Cert.Kernel5Ideal.Gen Cert.Kernel5Ideal.Value

variable (m : (ℓ : Loc nD τ sig) → Buf (Elt Ideal) ℓ) (c : Dev nD)

/-- The product's input. -/
abbrev a : Fin 4096 → Fin 2816 → EReal := fun r k => (show FVec Ideal S4096x2816 .bf16 from m ((c : Thread nD τ).loc main_arg0)) (ix2 r k)

/-- The gradient of the product's output. -/
abbrev g : Fin 4096 → Fin 1024 → EReal := fun r k => (show FVec Ideal S4096x1024 .bf16 from m ((c : Thread nD τ).loc main_arg1)) (ix2 r k)

/-- The block index of both inputs at a grid point. -/
theorem idx : ∀ t : Fin cfg0.N, win0_0.index t = ![t.val % 2, t.val / 2] ∧ win0_1.index t = ![t.val % 2, 0] :=
  (by decide +kernel : ∀ t : Fin grid0.N, win0_0.index t = ![t.val % 2, t.val / 2] ∧ win0_1.index t = ![t.val % 2, 0])

theorem blk0 (t : Fin cfg0.N) (r : Fin 2048) (k : Fin 1408) (R : Fin 4096) (K : Fin 2816) (hR : R.val = t.val % 2 * 2048 + r.val)
    (hK : K.val = t.val / 2 * 1408 + k.val) :
    (show FVec Ideal S2048x1408 .bf16 from iblk m c 0 t) (ix2 r k) = a m c R K := by
  show _ = m ((c : Thread nD τ).loc main_arg0) (ix2 R K)
  blk_point [iblk, V, idx t]
  all_goals first | rfl | omega

theorem blk1 (t : Fin cfg0.N) (r : Fin 2048) (k : Fin 1024) (R : Fin 4096) (hR : R.val = t.val % 2 * 2048 + r.val) :
    (show FVec Ideal S2048x1024 .bf16 from iblk m c 1 t) (ix2 r k) = g m c R k := by
  show _ = m ((c : Thread nD τ).loc main_arg1) (ix2 R k)
  blk_point [iblk, V, idx t]
  all_goals first | rfl | omega

/-- One point adds its block of rows. -/
theorem pay_at (O : FVec Ideal S1408x1024 .f32) (A : FVec Ideal S2048x1408 .bf16) (G : FVec Ideal S2048x1024 .bf16) (k : Fin 1408) (n : Fin 1024) :
    k0_pay2 (F := Ideal) O A G (ix2 k n) = O (ix2 k n) + ∑ r : Fin 2048, A (ix2 r k) * G (ix2 r n) := by
  pointwise [k0_pay2]

theorem zero_at (k : Fin 1408) (n : Fin 1024) : k0_pay1 (F := Ideal) (ix2 k n) = 0 := by
  pointwise [k0_pay1]

/-- The first point of a run leaves its block's sum, the second adds the other block's. -/
theorem run_at (b : ℕ) (h : b + 1 < cfg0.N) (k : Fin 1408) (n : Fin 1024) :
    (show FVec Ideal S1408x1024 .f32 from Pipeline.accAt (reset2 m c) (step2 m c) b 1 h) (ix2 k n)
      = (∑ r : Fin 2048, (show FVec Ideal S2048x1408 .bf16 from iblk m c 0 ⟨b, Nat.lt_of_succ_lt h⟩) (ix2 r k)
          * (show FVec Ideal S2048x1024 .bf16 from iblk m c 1 ⟨b, Nat.lt_of_succ_lt h⟩) (ix2 r n))
        + ∑ r : Fin 2048, (show FVec Ideal S2048x1408 .bf16 from iblk m c 0 ⟨b + 1, h⟩) (ix2 r k)
          * (show FVec Ideal S2048x1024 .bf16 from iblk m c 1 ⟨b + 1, h⟩) (ix2 r n) := by
  show k0_pay2 (F := Ideal) (k0_pay2 (F := Ideal) (k0_pay1 (F := Ideal)) _ _) _ _ (ix2 k n) = _
  rw [pay_at, pay_at, zero_at, zero_add]

/-- What the kernel leaves: the sum over all rows. -/
theorem out (K : Fin 2816) (n : Fin 1024) : (show FVec Ideal S2816x1024 .f32 from G2 m c) (ix2 K n) = ∑ r, a m c r K * g m c r n := by
  have hN : cfg0.N = 4 := N_0
  have hK := K.isLt
  have hb : run2Of (ix2 K n) = K.val / 1408 := by
    show 1 * (K.val / 1408 - 0) + 1 * (n.val / 1024 - 0) = _
    have := n.isLt
    omega
  have hl : loc2Of (ix2 K n) = ix2 (⟨K.val % 1408, Nat.mod_lt _ (by decide)⟩ : Fin 1408) n := by
    funext q
    fin_cases q
    · rfl
    · exact Fin.ext (Nat.mod_eq_of_lt n.isLt)
  have h : 2 * run2Of (ix2 K n) + 1 < cfg0.N := by rw [hb]; omega
  show G2 m c (ix2 K n) = _
  unfold G2
  rw [dif_pos h, hl]
  refine (run_at m c _ h _ _).trans ?_
  rw [← sum_two (b := 2048) rfl]
  refine congrArg₂ _ (Finset.sum_congr rfl fun r _ => ?_) (Finset.sum_congr rfl fun r _ => ?_)
  · exact congrArg₂ _ (blk0 m c _ _ _ _ _ (by dsimp only; omega) (by dsimp only; omega)) (blk1 m c _ _ _ _ (by dsimp only; omega))
  · exact congrArg₂ _ (blk0 m c _ _ _ _ _ (by dsimp only; omega) (by dsimp only; omega)) (blk1 m c _ _ _ _ (by dsimp only; omega))

open Cert.Reference5Ideal.Read in
/-- What the reference leaves: the same sum. -/
theorem ref (A : FVec Ideal S4096x2816 .bf16) (G : FVec Ideal S4096x1024 .bf16) (K : Fin 2816) (n : Fin 1024) :
    val_main_v5 (F := Ideal) A G (ix2 K n) = ∑ r : Fin 4096, A (ix2 r K) * G (ix2 r n) := by
  rw [val_main_v5_apply, val_main_v4_apply]
  refine Finset.sum_congr rfl fun r _ => ?_
  rw [val_main_v3_apply, val_main_v1_apply, mul_comm]
  refine congrArg₂ _ (congrArg A ?_) (congrArg G ?_) <;> funext q <;> fin_cases q <;> rfl

/-- The kernel's gradient of the down weight is the reference's. -/
theorem value : Cert.algebraic_Kernel5Ideal_Reference5Ideal := by
  intro m g m' g' hpre hargs
  refine ⟨_, (θ_run _ _ _).mono (fun r h c => h c) (Cert.Kernel5Ideal.Value.run m g),
    (θ_run _ _ _).mono (fun r h c => ?_) (Cert.Reference5Ideal.Value.run m' g')⟩
  obtain ⟨a0, a1⟩ := hargs c
  obtain ⟨r0, k⟩ := h c
  refine ⟨r0.trans ?_, k⟩
  refine (Cert.Reference5Ideal.Read.val_main_v5_eq _ _).trans ?_
  rw [a0, a1]
  funext i
  rw [idx2 i]
  exact (ref _ _ _ _).trans (out m c _ _).symm

end Cert.Wg.Down

end
-- ==== Proof.WgIn.lean ====
/- The gradient of the input projection's weight, in four blocks of columns: the kernel's two blocks of rows, and the reference's one sum. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.WgSum
public import Idealize.ShloMosaic.Lib.Pipeline.ValueKit
public import Idealize.ShloMosaic.Lib.Claim

@[expose] public section

set_option maxRecDepth 16384

noncomputable section

namespace Cert.Wg.In

open Idealize.ShloMosaic Idealize.ShloMosaic.TcCoe Idealize.SL.Sem
open Cert.Kernel6Ideal Cert.Kernel6Ideal.Gen Cert.Kernel6Ideal.Value

variable (m : (ℓ : Loc nD τ sig) → Buf (Elt Ideal) ℓ) (c : Dev nD)

/-- The product's input. -/
abbrev a : Fin 4096 → Fin 1024 → EReal := fun r k => (show FVec Ideal S4096x1024 .bf16 from m ((c : Thread nD τ).loc main_arg0)) (ix2 r k)

/-- The gradient of the product's output. -/
abbrev g : Fin 4096 → Fin 3584 → EReal := fun r k => (show FVec Ideal S4096x3584 .bf16 from m ((c : Thread nD τ).loc main_arg1)) (ix2 r k)

/-- The block index of both inputs at a grid point. -/
theorem idx : ∀ t : Fin cfg0.N, win0_0.index t = ![t.val % 2, 0] ∧ win0_1.index t = ![t.val % 2, t.val / 2] :=
  (by decide +kernel : ∀ t : Fin grid0.N, win0_0.index t = ![t.val % 2, 0] ∧ win0_1.index t = ![t.val % 2, t.val / 2])

theorem blk0 (t : Fin cfg0.N) (r : Fin 2048) (k : Fin 1024) (R : Fin 4096) (hR : R.val = t.val % 2 * 2048 + r.val) :
    (show FVec Ideal S2048x1024 .bf16 from iblk m c 0 t) (ix2 r k) = a m c R k := by
  show _ = m ((c : Thread nD τ).loc main_arg0) (ix2 R k)
  blk_point [iblk, V, idx t]
  all_goals first | rfl | omega

theorem blk1 (t : Fin cfg0.N) (r : Fin 2048) (n : Fin 896) (R : Fin 4096) (K : Fin 3584) (hR : R.val = t.val % 2 * 2048 + r.val)
    (hK : K.val = t.val / 2 * 896 + n.val) :
    (show FVec Ideal S2048x896 .bf16 from iblk m c 1 t) (ix2 r n) = g m c R K := by
  show _ = m ((c : Thread nD τ).loc main_arg1) (ix2 R K)
  blk_point [iblk, V, idx t]
  all_goals first | rfl | omega

/-- One point adds its block of rows. -/
theorem pay_at (O : FVec Ideal S1x1024x896 .f32) (A : FVec Ideal S2048x1024 .bf16) (G : FVec Ideal S2048x896 .bf16) (k : Fin 1024) (n : Fin 896) :
    k0_pay2 (F := Ideal) O A G (ix3 0 k n) = O (ix3 0 k n) + ∑ r : Fin 2048, A (ix2 r k) * G (ix2 r n) := by
  pointwise [k0_pay2]

theorem zero_at (k : Fin 1024) (n : Fin 896) : k0_pay1 (F := Ideal) (ix3 0 k n) = 0 := by
  pointwise [k0_pay1]

/-- The first point of a run leaves its block's sum, the second adds the other block's. -/
theorem run_at (b : ℕ) (h : b + 1 < cfg0.N) (k : Fin 1024) (n : Fin 896) :
    (show FVec Ideal S1x1024x896 .f32 from Pipeline.accAt (reset2 m c) (step2 m c) b 1 h) (ix3 0 k n)
      = (∑ r : Fin 2048, (show FVec Ideal S2048x1024 .bf16 from iblk m c 0 ⟨b, Nat.lt_of_succ_lt h⟩) (ix2 r k)
          * (show FVec Ideal S2048x896 .bf16 from iblk m c 1 ⟨b, Nat.lt_of_succ_lt h⟩) (ix2 r n))
        + ∑ r : Fin 2048, (show FVec Ideal S2048x1024 .bf16 from iblk m c 0 ⟨b + 1, h⟩) (ix2 r k)
          * (show FVec Ideal S2048x896 .bf16 from iblk m c 1 ⟨b + 1, h⟩) (ix2 r n) := by
  show k0_pay2 (F := Ideal) (k0_pay2 (F := Ideal) (k0_pay1 (F := Ideal)) _ _) _ _ (ix3 0 k n) = _
  rw [pay_at, pay_at, zero_at, zero_add]

/-- Column `n` of block `j`. -/
def col (j : Fin 4) (n : Fin 896) : Fin 3584 := ⟨j.val * 896 + n.val, by omega⟩

/-- What the kernel leaves: the sum over all rows. -/
theorem out (j : Fin 4) (K : Fin 1024) (n : Fin 896) :
    (show FVec Ideal S4x1024x896 .f32 from G2 m c) (ix3 j K n) = ∑ r, a m c r K * g m c r (col j n) := by
  have hN : cfg0.N = 8 := N_0
  have hj := j.isLt
  have hb : run2Of (ix3 j K n) = j.val := by
    show 1 * (j.val / 1 - 0) + 1 * (K.val / 1024 - 0) + 1 * (n.val / 896 - 0) = _
    have := n.isLt
    have := K.isLt
    omega
  have hl : loc2Of (ix3 j K n) = ix3 (0 : Fin 1) K n := by
    funext q
    fin_cases q
    · exact Fin.ext (Nat.mod_one _)
    · exact Fin.ext (Nat.mod_eq_of_lt K.isLt)
    · exact Fin.ext (Nat.mod_eq_of_lt n.isLt)
  have h : 2 * run2Of (ix3 j K n) + 1 < cfg0.N := by rw [hb]; omega
  show G2 m c (ix3 j K n) = _
  unfold G2
  rw [dif_pos h, hl]
  refine (run_at m c _ h _ _).trans ?_
  rw [← sum_two (b := 2048) rfl]
  refine congrArg₂ _ (Finset.sum_congr rfl fun r _ => ?_) (Finset.sum_congr rfl fun r _ => ?_)
  · exact congrArg₂ _ (blk0 m c _ _ _ _ (by dsimp only; omega))
      (blk1 m c _ _ _ _ _ (by dsimp only; omega) (by dsimp only [col]; omega))
  · exact congrArg₂ _ (blk0 m c _ _ _ _ (by dsimp only; omega))
      (blk1 m c _ _ _ _ _ (by dsimp only; omega) (by dsimp only [col]; omega))

open Cert.Reference6Ideal.Read in
/-- What the reference leaves: the same sum. -/
theorem ref (A : FVec Ideal S4096x1024 .bf16) (G : FVec Ideal S4096x3584 .bf16) (j : Fin 4) (K : Fin 1024) (n : Fin 896) :
    val_main_v7 (F := Ideal) A G (ix3 j K n) = ∑ r : Fin 4096, A (ix2 r K) * G (ix2 r (col j n)) := by
  rw [val_main_v7_apply, val_main_v6_apply, val_main_v5_apply, val_main_v4_apply]
  refine Finset.sum_congr rfl fun r _ => ?_
  rw [val_main_v3_apply, val_main_v1_apply, mul_comm]
  have hj := j.isLt
  have hn := n.isLt
  refine congrArg₂ _ (congrArg A ?_) (congrArg G ?_) <;> funext q <;> fin_cases q
  · rfl
  · refine Fin.ext ?_
    show ((K.val * 4 + j.val) * 896 + n.val) / 3584 = K.val
    omega
  · rfl
  · refine Fin.ext ?_
    show ((K.val * 4 + j.val) * 896 + n.val) % 3584 = j.val * 896 + n.val
    omega

/-- The kernel's gradient of the input projection's weight is the reference's. -/
theorem value : Cert.algebraic_Kernel6Ideal_Reference6Ideal := by
  intro m g m' g' hpre hargs
  refine ⟨_, (θ_run _ _ _).mono (fun r h c => h c) (Cert.Kernel6Ideal.Value.run m g),
    (θ_run _ _ _).mono (fun r h c => ?_) (Cert.Reference6Ideal.Value.run m' g')⟩
  obtain ⟨a0, a1⟩ := hargs c
  obtain ⟨r0, k⟩ := h c
  refine ⟨r0.trans ?_, k⟩
  refine (Cert.Reference6Ideal.Read.val_main_v7_eq _ _).trans ?_
  rw [a0, a1]
  funext i
  rw [idx3 i]
  exact (ref _ _ _ _ _).trans (out m c _ _ _).symm

end Cert.Wg.In

end
-- ==== Proof.WgSquare.lean ====
/- The gradient of a square weight (the mixers' output product, and the embedding's gate): the kernel's two blocks of rows, and the reference's one sum. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.WgSum
public import Idealize.ShloMosaic.Lib.Pipeline.ValueKit
public import Idealize.ShloMosaic.Lib.Claim

@[expose] public section

set_option maxRecDepth 16384

noncomputable section

namespace Cert.Wg.Square

open Idealize.ShloMosaic Idealize.ShloMosaic.TcCoe Idealize.SL.Sem
open Cert.Kernel7Ideal Cert.Kernel7Ideal.Gen Cert.Kernel7Ideal.Value

variable (m : (ℓ : Loc nD τ sig) → Buf (Elt Ideal) ℓ) (c : Dev nD)

/-- The product's input. -/
abbrev a : Fin 4096 → Fin 1024 → EReal := fun r k => (show FVec Ideal S4096x1024 .bf16 from m ((c : Thread nD τ).loc main_arg0)) (ix2 r k)

/-- The gradient of the product's output. -/
abbrev g : Fin 4096 → Fin 1024 → EReal := fun r k => (show FVec Ideal S4096x1024 .bf16 from m ((c : Thread nD τ).loc main_arg1)) (ix2 r k)

/-- The block index of both inputs at a grid point. -/
theorem idx : ∀ t : Fin cfg0.N, win0_0.index t = ![t.val % 2, t.val / 2] ∧ win0_1.index t = ![t.val % 2, 0] :=
  (by decide +kernel : ∀ t : Fin grid0.N, win0_0.index t = ![t.val % 2, t.val / 2] ∧ win0_1.index t = ![t.val % 2, 0])

theorem blk0 (t : Fin cfg0.N) (r : Fin 2048) (k : Fin 1024) (R : Fin 4096) (K : Fin 1024) (hR : R.val = t.val % 2 * 2048 + r.val)
    (hK : K.val = t.val / 2 * 1024 + k.val) :
    (show FVec Ideal S2048x1024 .bf16 from iblk m c 0 t) (ix2 r k) = a m c R K := by
  show _ = m ((c : Thread nD τ).loc main_arg0) (ix2 R K)
  blk_point [iblk, V, idx t]
  all_goals first | rfl | omega

theorem blk1 (t : Fin cfg0.N) (r : Fin 2048) (k : Fin 1024) (R : Fin 4096) (hR : R.val = t.val % 2 * 2048 + r.val) :
    (show FVec Ideal S2048x1024 .bf16 from iblk m c 1 t) (ix2 r k) = g m c R k := by
  show _ = m ((c : Thread nD τ).loc main_arg1) (ix2 R k)
  blk_point [iblk, V, idx t]
  all_goals first | rfl | omega

/-- One point adds its block of rows. -/
theorem pay_at (O : FVec Ideal S1024x1024 .f32) (A : FVec Ideal S2048x1024 .bf16) (G : FVec Ideal S2048x1024 .bf16) (k : Fin 1024) (n : Fin 1024) :
    k0_pay2 (F := Ideal) O A G (ix2 k n) = O (ix2 k n) + ∑ r : Fin 2048, A (ix2 r k) * G (ix2 r n) := by
  pointwise [k0_pay2]

theorem zero_at (k : Fin 1024) (n : Fin 1024) : k0_pay1 (F := Ideal) (ix2 k n) = 0 := by
  pointwise [k0_pay1]

/-- The first point of a run leaves its block's sum, the second adds the other block's. -/
theorem run_at (b : ℕ) (h : b + 1 < cfg0.N) (k : Fin 1024) (n : Fin 1024) :
    (show FVec Ideal S1024x1024 .f32 from Pipeline.accAt (reset2 m c) (step2 m c) b 1 h) (ix2 k n)
      = (∑ r : Fin 2048, (show FVec Ideal S2048x1024 .bf16 from iblk m c 0 ⟨b, Nat.lt_of_succ_lt h⟩) (ix2 r k)
          * (show FVec Ideal S2048x1024 .bf16 from iblk m c 1 ⟨b, Nat.lt_of_succ_lt h⟩) (ix2 r n))
        + ∑ r : Fin 2048, (show FVec Ideal S2048x1024 .bf16 from iblk m c 0 ⟨b + 1, h⟩) (ix2 r k)
          * (show FVec Ideal S2048x1024 .bf16 from iblk m c 1 ⟨b + 1, h⟩) (ix2 r n) := by
  show k0_pay2 (F := Ideal) (k0_pay2 (F := Ideal) (k0_pay1 (F := Ideal)) _ _) _ _ (ix2 k n) = _
  rw [pay_at, pay_at, zero_at, zero_add]

/-- What the kernel leaves: the sum over all rows. -/
theorem out (K : Fin 1024) (n : Fin 1024) : (show FVec Ideal S1024x1024 .f32 from G2 m c) (ix2 K n) = ∑ r, a m c r K * g m c r n := by
  have hN : cfg0.N = 2 := N_0
  have hK := K.isLt
  have hb : run2Of (ix2 K n) = K.val / 1024 := by
    show 1 * (K.val / 1024 - 0) + 1 * (n.val / 1024 - 0) = _
    have := n.isLt
    omega
  have hl : loc2Of (ix2 K n) = ix2 (⟨K.val % 1024, Nat.mod_lt _ (by decide)⟩ : Fin 1024) n := by
    funext q
    fin_cases q
    · rfl
    · exact Fin.ext (Nat.mod_eq_of_lt n.isLt)
  have h : 2 * run2Of (ix2 K n) + 1 < cfg0.N := by rw [hb]; omega
  show G2 m c (ix2 K n) = _
  unfold G2
  rw [dif_pos h, hl]
  refine (run_at m c _ h _ _).trans ?_
  rw [← sum_two (b := 2048) rfl]
  refine congrArg₂ _ (Finset.sum_congr rfl fun r _ => ?_) (Finset.sum_congr rfl fun r _ => ?_)
  · exact congrArg₂ _ (blk0 m c _ _ _ _ _ (by dsimp only; omega) (by dsimp only; omega)) (blk1 m c _ _ _ _ (by dsimp only; omega))
  · exact congrArg₂ _ (blk0 m c _ _ _ _ _ (by dsimp only; omega) (by dsimp only; omega)) (blk1 m c _ _ _ _ (by dsimp only; omega))

open Cert.Reference7Ideal.Read in
/-- What the reference leaves: the same sum. -/
theorem ref (A : FVec Ideal S4096x1024 .bf16) (G : FVec Ideal S4096x1024 .bf16) (K : Fin 1024) (n : Fin 1024) :
    val_main_v5 (F := Ideal) A G (ix2 K n) = ∑ r : Fin 4096, A (ix2 r K) * G (ix2 r n) := by
  rw [val_main_v5_apply, val_main_v4_apply]
  refine Finset.sum_congr rfl fun r _ => ?_
  rw [val_main_v3_apply, val_main_v1_apply, mul_comm]
  refine congrArg₂ _ (congrArg A ?_) (congrArg G ?_) <;> funext q <;> fin_cases q <;> rfl

/-- The kernel's gradient of a square weight is the reference's. -/
theorem value : Cert.algebraic_Kernel7Ideal_Reference7Ideal := by
  intro m g m' g' hpre hargs
  refine ⟨_, (θ_run _ _ _).mono (fun r h c => h c) (Cert.Kernel7Ideal.Value.run m g),
    (θ_run _ _ _).mono (fun r h c => ?_) (Cert.Reference7Ideal.Value.run m' g')⟩
  obtain ⟨a0, a1⟩ := hargs c
  obtain ⟨r0, k⟩ := h c
  refine ⟨r0.trans ?_, k⟩
  refine (Cert.Reference7Ideal.Read.val_main_v5_eq _ _).trans ?_
  rw [a0, a1]
  funext i
  rw [idx2 i]
  exact (ref _ _ _ _).trans (out m c _ _).symm

end Cert.Wg.Square

end
-- ==== Proof.WgProj.lean ====
/- The gradient of the embedding's projection: the kernel's four blocks of rows, and the reference's one sum. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.WgSum
public import Idealize.ShloMosaic.Lib.Pipeline.ValueKit
public import Idealize.ShloMosaic.Lib.Claim

@[expose] public section

set_option maxRecDepth 16384

noncomputable section

namespace Cert.Wg.Proj

open Idealize.ShloMosaic Idealize.ShloMosaic.TcCoe Idealize.SL.Sem
open Cert.Kernel8Ideal Cert.Kernel8Ideal.Gen Cert.Kernel8Ideal.Value

variable (m : (ℓ : Loc nD τ sig) → Buf (Elt Ideal) ℓ) (c : Dev nD)

/-- The product's input. -/
abbrev a : Fin 4096 → Fin 256 → EReal := fun r k => (show FVec Ideal S4096x256 .bf16 from m ((c : Thread nD τ).loc main_arg0)) (ix2 r k)

/-- The gradient of the product's output. -/
abbrev g : Fin 4096 → Fin 1024 → EReal := fun r k => (show FVec Ideal S4096x1024 .bf16 from m ((c : Thread nD τ).loc main_arg1)) (ix2 r k)

/-- The block index of both inputs at a grid point. -/
theorem idx : ∀ t : Fin cfg0.N, win0_0.index t = ![t.val % 4, t.val / 4] ∧ win0_1.index t = ![t.val % 4, 0] :=
  (by decide +kernel : ∀ t : Fin grid0.N, win0_0.index t = ![t.val % 4, t.val / 4] ∧ win0_1.index t = ![t.val % 4, 0])

theorem blk0 (t : Fin cfg0.N) (r : Fin 1024) (k : Fin 256) (R : Fin 4096) (K : Fin 256) (hR : R.val = t.val % 4 * 1024 + r.val)
    (hK : K.val = t.val / 4 * 256 + k.val) :
    (show FVec Ideal S1024x256 .bf16 from iblk m c 0 t) (ix2 r k) = a m c R K := by
  show _ = m ((c : Thread nD τ).loc main_arg0) (ix2 R K)
  blk_point [iblk, V, idx t]
  all_goals first | rfl | omega

theorem blk1 (t : Fin cfg0.N) (r : Fin 1024) (k : Fin 1024) (R : Fin 4096) (hR : R.val = t.val % 4 * 1024 + r.val) :
    (show FVec Ideal S1024x1024 .bf16 from iblk m c 1 t) (ix2 r k) = g m c R k := by
  show _ = m ((c : Thread nD τ).loc main_arg1) (ix2 R k)
  blk_point [iblk, V, idx t]
  all_goals first | rfl | omega

/-- One point adds its block of rows. -/
theorem pay_at (O : FVec Ideal S256x1024 .f32) (A : FVec Ideal S1024x256 .bf16) (G : FVec Ideal S1024x1024 .bf16) (k : Fin 256) (n : Fin 1024) :
    k0_pay2 (F := Ideal) O A G (ix2 k n) = O (ix2 k n) + ∑ r : Fin 1024, A (ix2 r k) * G (ix2 r n) := by
  pointwise [k0_pay2]

theorem zero_at (k : Fin 256) (n : Fin 1024) : k0_pay1 (F := Ideal) (ix2 k n) = 0 := by
  pointwise [k0_pay1]

/-- One block's sum at a point. -/
def part (b : ℕ) (h : b < cfg0.N) (k : Fin 256) (n : Fin 1024) : EReal :=
  ∑ r : Fin 1024, (show FVec Ideal S1024x256 .bf16 from iblk m c 0 ⟨b, h⟩) (ix2 r k)
    * (show FVec Ideal S1024x1024 .bf16 from iblk m c 1 ⟨b, h⟩) (ix2 r n)

/-- The first point of a run leaves its block's sum, each later one adds its block's. -/
theorem run_at (b : ℕ) (h : b + 3 < cfg0.N) (k : Fin 256) (n : Fin 1024) :
    (show FVec Ideal S256x1024 .f32 from Pipeline.accAt (reset2 m c) (step2 m c) b 3 h) (ix2 k n)
      = part m c b (by omega) k n + part m c (b + 1) (by omega) k n + part m c (b + 2) (by omega) k n + part m c (b + 3) h k n := by
  show k0_pay2 (F := Ideal) (k0_pay2 (F := Ideal) (k0_pay2 (F := Ideal) (k0_pay2 (F := Ideal) (k0_pay1 (F := Ideal)) _ _) _ _) _ _) _ _ (ix2 k n) = _
  rw [pay_at, pay_at, pay_at, pay_at, zero_at, zero_add]
  rfl

/-- What the kernel leaves: the sum over all rows. -/
theorem out (K : Fin 256) (n : Fin 1024) : (show FVec Ideal S256x1024 .f32 from G2 m c) (ix2 K n) = ∑ r, a m c r K * g m c r n := by
  have hN : cfg0.N = 4 := N_0
  have hK := K.isLt
  have hb : run2Of (ix2 K n) = K.val / 256 := by
    show 1 * (K.val / 256 - 0) + 1 * (n.val / 1024 - 0) = _
    have := n.isLt
    omega
  have hl : loc2Of (ix2 K n) = ix2 (⟨K.val % 256, Nat.mod_lt _ (by decide)⟩ : Fin 256) n := by
    funext q
    fin_cases q
    · rfl
    · exact Fin.ext (Nat.mod_eq_of_lt n.isLt)
  have h : 4 * run2Of (ix2 K n) + 3 < cfg0.N := by rw [hb]; omega
  show G2 m c (ix2 K n) = _
  unfold G2
  rw [dif_pos h, hl]
  refine (run_at m c _ h _ _).trans ?_
  rw [← sum_four (b := 1024) rfl]
  refine congrArg₂ _ (congrArg₂ _ (congrArg₂ _ ?_ ?_) ?_) ?_ <;>
    exact Finset.sum_congr rfl fun r _ =>
      congrArg₂ _ (blk0 m c _ _ _ _ _ (by dsimp only; omega) (by dsimp only; omega)) (blk1 m c _ _ _ _ (by dsimp only; omega))

open Cert.Reference8Ideal.Read in
/-- What the reference leaves: the same sum. -/
theorem ref (A : FVec Ideal S4096x256 .bf16) (G : FVec Ideal S4096x1024 .bf16) (K : Fin 256) (n : Fin 1024) :
    val_main_v5 (F := Ideal) A G (ix2 K n) = ∑ r : Fin 4096, A (ix2 r K) * G (ix2 r n) := by
  rw [val_main_v5_apply, val_main_v4_apply]
  refine Finset.sum_congr rfl fun r _ => ?_
  rw [val_main_v3_apply, val_main_v1_apply, mul_comm]
  refine congrArg₂ _ (congrArg A ?_) (congrArg G ?_) <;> funext q <;> fin_cases q <;> rfl

/-- The kernel's gradient of the embedding's projection is the reference's. -/
theorem value : Cert.algebraic_Kernel8Ideal_Reference8Ideal := by
  intro m g m' g' hpre hargs
  refine ⟨_, (θ_run _ _ _).mono (fun r h c => h c) (Cert.Kernel8Ideal.Value.run m g),
    (θ_run _ _ _).mono (fun r h c => ?_) (Cert.Reference8Ideal.Value.run m' g')⟩
  obtain ⟨a0, a1⟩ := hargs c
  obtain ⟨r0, k⟩ := h c
  refine ⟨r0.trans ?_, k⟩
  refine (Cert.Reference8Ideal.Read.val_main_v5_eq _ _).trans ?_
  rw [a0, a1]
  funext i
  rw [idx2 i]
  exact (ref _ _ _ _).trans (out m c _ _).symm

end Cert.Wg.Proj

end
-- ==== Proof.InRef.lean ====
/- The input projection over the extended reals: the functions both programs compute, and the reference's stages read as
   them. Nothing here needs the arguments to be finite. -/
module

public import proofs.«01_k».proof.Proof.Gen.Reference9Ideal.Read
public import proofs.«01_k».proof.Proof.FwdRef

@[expose] public section

set_option maxRecDepth 16384

noncomputable section

namespace Cert.Inp

open Idealize.ShloMosaic Idealize.ShloMosaic.TcCoe Idealize.SL.Sem
open Cert.Fwd (rr nrm)

/-- The projected columns of a row, the weight in four column blocks. -/
def prj (x g : Fin 1024 → EReal) (w : Fin 4 → Fin 1024 → Fin 896 → EReal) (n : Fin 3584) : EReal :=
  ∑ k, nrm x g k * w ⟨n.val / 896, by omega⟩ k ⟨n.val % 896, Nat.mod_lt _ (by norm_num)⟩

/-- The columns of the attention's operands, the first 512 of them scaled. -/
def att (x g : Fin 1024 → EReal) (w : Fin 4 → Fin 1024 → Fin 896 → EReal) (n : Fin 1536) : EReal :=
  if n.val < 512 then prj x g w ⟨2048 + n.val, by omega⟩ * Ideal.ofBits .f32 0x3E000000#32 else prj x g w ⟨2048 + n.val, by omega⟩

section
open Cert.Reference9Ideal Cert.Reference9Ideal.Gen Cert.Reference9Ideal.Read

variable (X : FVec Ideal S4096x1024 .f32) (G : FVec Ideal S1x1024 .f32) (W : FVec Ideal S4x1024x896 .bf16)

/-- Row `i` of the input. -/
def rowX (i : Fin 4096) (k : Fin 1024) : EReal := X (ix2 i k)

/-- The row of the norm's weight. -/
def rowG (k : Fin 1024) : EReal := G (ix2 0 k)

/-- The projection's weight by block, row and column. -/
def wW (q : Fin 4) (k : Fin 1024) (n : Fin 896) : EReal := W (ix3 q k n)

theorem ref_rr (i : Fin 4096) (z : Fin 1) : val_main_v10 (F := Ideal) X (ix2 i z) = rr (rowX X i) := by
  pointwise [val_main_v10, val_main_v9, val_main_v8, val_main_v7, val_main_v6, val_main_v5, val_main_v4, val_main_v3,
    val_main_cst, val_main_cst_0, val_main_cst_1]
  rfl

theorem ref_u (i : Fin 4096) (k : Fin 1024) : val_main_v14 (F := Ideal) X G (ix2 i k) = nrm (rowX X i) (rowG G) k := by
  pointwise [val_main_v14, val_main_v13, val_main_v12, val_main_v11]
  simp only [ref_rr]
  rfl

theorem ref_w (k : Fin 1024) (n : Fin 3584) : val_main_v2 (F := Ideal) W (ix2 k n)
    = wW W ⟨n.val / 896, by omega⟩ k ⟨n.val % 896, Nat.mod_lt _ (by norm_num)⟩ := by
  pointwise [val_main_v2, val_main_v1, val_main_v0]
  rfl

theorem ref_prj (i : Fin 4096) (n : Fin 3584) : val_main_v15 (F := Ideal) X G W (ix2 i n) = prj (rowX X i) (rowG G) (wW W) n := by
  pointwise [val_main_v15]
  simp only [ref_u, ref_w, zero_add]
  rfl

theorem ref_h (i : Fin 4096) (n : Fin 2048) :
    val_main_v23 (F := Ideal) X G W (ix2 i n) = prj (rowX X i) (rowG G) (wW W) ⟨n.val, by omega⟩ := by
  pointwise [val_main_v23, val_main_v16, val_main_v17, val_main_v18, val_main_v19]
  simp only [ref_prj]
  split_ifs <;> first | rfl | exact congrArg _ (Fin.ext (by dsimp only; omega))

theorem ref_att (i : Fin 4096) (n : Fin 1536) :
    val_main_v27 (F := Ideal) X G W (ix2 i n) = att (rowX X i) (rowG G) (wW W) n := by
  pointwise [val_main_v27, val_main_v26, val_main_v25, val_main_v24, val_main_v20, val_main_v21, val_main_v22, val_main_cst_2]
  simp only [ref_prj]
  unfold att
  split_ifs <;> first | rfl | exact congrArg _ (Fin.ext (by dsimp only; omega))

theorem ref_rr2 (i : Fin 4096) (z : Fin 1) : val_main_v35 (F := Ideal) X (ix2 i z) = rr (rowX X i) := by
  pointwise [val_main_v35, val_main_v34, val_main_v33, val_main_v32, val_main_v31, val_main_v30, val_main_v29, val_main_v28,
    val_main_cst_3, val_main_cst_4, val_main_cst_5]
  rfl

theorem ref_u16 (i : Fin 4096) (k : Fin 1024) : val_main_v40 (F := Ideal) X G (ix2 i k) = nrm (rowX X i) (rowG G) k := by
  pointwise [val_main_v40, val_main_v39, val_main_v38, val_main_v37, val_main_v36]
  simp only [ref_rr2]
  rfl

end

end Cert.Inp
-- ==== Proof.InKer.lean ====
/- The input projection kernel: what its body computes on one block of 512 rows, and its three results. -/
module

public import proofs.«01_k».proof.Proof.Gen.Kernel9Ideal.Value
public import proofs.«01_k».proof.Proof.InRef
public import Idealize.ShloMosaic.Lib.Pipeline.ValueKit
public import Idealize.ShloMosaic.Lib.Claim
public import Idealize.ShloMosaic.Lib.Pipeline.ReadBack
public import Idealize.ShloMosaic.Lib.WritesUnit

@[expose] public section

set_option maxRecDepth 16384

noncomputable section

namespace Cert.Inp

open Idealize.ShloMosaic Idealize.ShloMosaic.TcCoe Idealize.SL.Sem
open Idealize.ShloMosaic.Pipeline (Dat)
open Cert.Fwd (rr nrm)
open Cert.Kernel9Ideal Cert.Kernel9Ideal.Gen

variable (X : FVec Ideal S512x1024 .f32) (G : FVec Ideal S1x1024 .f32) (x : Fin 512 → Fin 1024 → EReal) (g : Fin 1024 → EReal)
variable (ex : ∀ r k, X (ix2 r k) = x r k) (eg : ∀ k, G (ix2 0 k) = g k)

include ex eg in
theorem pay5_at (r : Fin 512) (k : Fin 1024) : k0_pay5 (F := Ideal) X G (ix2 r k) = nrm (x r) g k := by
  pointwise [k0_pay5]
  simp only [ex, eg]
  rfl

section
variable (U : FVec Ideal S512x1024 .bf16) (B : FVec Ideal S1x1024x896 .bf16) (u : Fin 512 → Fin 1024 → EReal) (b : Fin 1024 → Fin 896 → EReal)
variable (eu : ∀ r k, U (ix2 r k) = u r k) (eb : ∀ k n, B (ix3 0 k n) = b k n)

include eu eb in
theorem pay1_at (r : Fin 512) (n : Fin 896) : k0_pay1 (F := Ideal) U B (ix2 r n) = ∑ k, u r k * b k n := by
  pointwise [k0_pay1]
  simp only [eu, eb, zero_add]

end

theorem pay3_at (C : FVec Ideal S512x512 .f32) (r n : Fin 512) :
    k0_pay3 (F := Ideal) C (ix2 r n) = C (ix2 r n) * Ideal.ofBits .f32 0x3E000000#32 := rfl

variable (m : (ℓ : Loc nD τ sig) → Buf (Elt Ideal) ℓ) (c : Dev nD)

theorem scr (n : ℕ) (hn : n < cfg0.N) : (outsAt0 m c n hn).2.2.2 = V m c main_arg2 := by
  induction n with
  | zero =>
    rw [outsAt0_A m c ⟨0, hn⟩ rfl]
    dsimp only
    frame_out
    exact View.canon_unit_zero rfl _ _
  | succ n ih =>
    have hN := lt_of_lt_of_eq hn (show cfg0.N = 8 from N_0)
    rw [outsAt0_B m c ⟨n + 1, hn⟩ (by dsimp only; omega)]
    dsimp only
    unfold sout0_B_0
    exact ih _

/-- The block index of every window at a grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![t.val, 0])

/-- The copied weight, read at the point that copies it. -/
theorem whole_read (r : Rect S4x1024x896) :
    (View.whole cc0_scratch0).readCov (Val := Elt Ideal)
      [⟨Rect.whole S4x1024x896,
          ReadAs.same.apply (View.read (Elt Ideal) (View.whole main_arg2) (V m c main_arg2))⟩] r.toLoadRect
      = View.ld (Val := Elt Ideal) (e' := .bf16) (V m c main_arg2) r := by
  rw [View.readCov_eq_canon_ld _ _ _ (fun y => ⟨_, List.mem_singleton_self _, by
    show y ∈ (Rect.whole S4x1024x896).set; rw [Rect.set_whole]; exact Finset.mem_univ y⟩)]
  have e : View.canon (Val := Elt Ideal) [⟨Rect.whole S4x1024x896,
      ReadAs.same.apply (View.read (Elt Ideal) (View.whole main_arg2) (V m c main_arg2))⟩] = V m c main_arg2 :=
    View.canon_unit_zero rfl _ _
  rw [e]
  rfl

/-- Row `r` of block `t`. -/
def rowi (t : Fin cfg0.N) (r : Fin 512) : Fin 4096 :=
  ⟨t.val * 512 + r.val, by have h := lt_of_lt_of_eq t.isLt (show cfg0.N = 8 from N_0); omega⟩

/-- The rows of the input. -/
abbrev xs (i : Fin 4096) : Fin 1024 → EReal := rowX (m ((c : Thread nD τ).loc main_arg0)) i

/-- The norm's weight. -/
abbrev gs : Fin 1024 → EReal := rowG (m ((c : Thread nD τ).loc main_arg1))

/-- The weight. -/
abbrev ws : Fin 4 → Fin 1024 → Fin 896 → EReal := wW (m ((c : Thread nD τ).loc main_arg2))

variable (t : Fin cfg0.N)

theorem blk0 (r : Fin 512) (k : Fin 1024) :
    (show FVec Ideal S512x1024 .f32 from iblk m c 0 t) (ix2 r k) = xs m c (rowi t r) k := by
  show _ = m ((c : Thread nD τ).loc main_arg0) (ix2 (rowi t r) k)
  blk_point [iblk, V, idx t]
  all_goals rfl

theorem blk1 (k : Fin 1024) : (show FVec Ideal S1x1024 .f32 from iblk m c 1 t) (ix2 0 k) = gs m c k := by
  show _ = m ((c : Thread nD τ).loc main_arg1) (ix2 0 k)
  blk_point [iblk, V, idx t]
  all_goals rfl

/-- A slab of the weight. -/
theorem slab (q : ℕ) (hq : q < 4) (inb : ∀ a, (![q, 0, 0] : Fin 3 → ℕ) a + (![1, 1024, 896] : Fin 3 → ℕ) a ≤ S4x1024x896.size a)
    (k : Fin 1024) (n : Fin 896) :
    (show FVec Ideal S1x1024x896 .bf16 from
      View.ld (Val := Elt Ideal) (e' := .bf16) (V m c main_arg2) (Rect.unit (s := S4x1024x896) ![q, 0, 0] ![1, 1024, 896] inb)) (ix3 0 k n)
      = ws m c ⟨q, hq⟩ k n := by
  show V m c main_arg2 _ = m ((c : Thread nD τ).loc main_arg2) _
  refine congrArg (m ((c : Thread nD τ).loc main_arg2)) (funext fun a => Fin.ext ?_)
  fin_cases a
  · show q + 1 * 0 = q
    omega
  · show 0 + 1 * k.val = k.val
    omega
  · show 0 + 1 * n.val = n.val
    omega

/-- The normalised rows of the block. -/
abbrev ub : FVec Ideal S512x1024 .bf16 := k0_pay5 (F := Ideal) (iblk m c 0 t) (iblk m c 1 t)

theorem ub_at (r : Fin 512) (k : Fin 1024) : ub m c t (ix2 r k) = nrm (xs m c (rowi t r)) (gs m c) k :=
  pay5_at _ _ _ _ (blk0 m c t) (blk1 m c t) r k

/-- A slab of the copied weight, read at the point that copies it. -/
theorem slab_first (q : ℕ) (hq : q < 4) (inb : ∀ a, (![q, 0, 0] : Fin 3 → ℕ) a + (![1, 1024, 896] : Fin 3 → ℕ) a ≤ S4x1024x896.size a)
    (k : Fin 1024) (n : Fin 896) :
    (show FVec Ideal S1x1024x896 .bf16 from (View.whole cc0_scratch0).readCov (Val := Elt Ideal)
      [⟨Rect.whole S4x1024x896,
          ReadAs.same.apply (View.read (Elt Ideal) (View.whole main_arg2) (V m c main_arg2))⟩]
      (Rect.unit (s := S4x1024x896) ![q, 0, 0] ![1, 1024, 896] inb).toLoadRect) (ix3 0 k n) = ws m c ⟨q, hq⟩ k n :=
  (congrFun (whole_read m c (Rect.unit (s := S4x1024x896) ![q, 0, 0] ![1, 1024, 896] inb)) (ix3 0 k n)).trans (slab m c q hq inb k n)

variable (L0 L1 L2 L3 : FVec Ideal S1x1024x896 .bf16)

/-- The four stores of the projected columns, from the weight's four slabs. -/
def pcs : List (View.Piece (Elt Ideal) S512x3584 .f32) :=
  [⟨Rect.unit ![0, 2688] ![512, 896] inb_S512x3584_S512x896_0_2688, k0_pay2 (F := Ideal) (ub m c t) L3⟩,
    ⟨Rect.unit ![0, 1792] ![512, 896] inb_S512x3584_S512x896_0_1792, k0_pay1 (F := Ideal) (ub m c t) L2⟩,
    ⟨Rect.unit ![0, 896] ![512, 896] inb_S512x3584_S512x896_0_896, k0_pay7 (F := Ideal) (iblk m c 0 t) (iblk m c 1 t) L1⟩,
    ⟨Rect.unit ![0, 0] ![512, 896] inb_S512x3584_S512x896_0_0, k0_pay6 (F := Ideal) (iblk m c 0 t) (iblk m c 1 t) L0⟩]

/-- What the four slabs hold. -/
structure Slabs : Prop where
  l0 : ∀ k n, L0 (ix3 0 k n) = ws m c 0 k n
  l1 : ∀ k n, L1 (ix3 0 k n) = ws m c 1 k n
  l2 : ∀ k n, L2 (ix3 0 k n) = ws m c 2 k n
  l3 : ∀ k n, L3 (ix3 0 k n) = ws m c 3 k n

theorem mem_cols (o : ℕ) (inb : ∀ a, (![0, o] : Fin 2 → ℕ) a + (![512, 896] : Fin 2 → ℕ) a ≤ S512x3584.size a) (y : S512x3584.Idx)
    (h0 : o ≤ (y 1).val) (h1 : (y 1).val < o + 896) :
    y ∈ (Rect.unit (s := S512x3584) ![0, o] ![512, 896] inb).set := by
  have h2 : (y 0).val < 512 := (y 0).isLt
  refine (Rect.mem_set_unit (s := S512x3584) (off := ![0, o]) (size := ![512, 896]) (inb := inb)).mpr fun a => ?_
  fin_cases a
  · exact ⟨Nat.zero_le _, by show (y 0).val < 0 + 512; omega⟩
  · exact ⟨h0, h1⟩

theorem pcs_cover (y : S512x3584.Idx) : ∃ p ∈ pcs m c t L0 L1 L2 L3, y ∈ p.1.set := by
  have h1 : (y 1).val < 3584 := (y 1).isLt
  by_cases a : (y 1).val < 896
  · exact ⟨_, List.mem_cons_of_mem _ (List.mem_cons_of_mem _ (List.mem_cons_of_mem _ List.mem_cons_self)), mem_cols 0 inb_S512x3584_S512x896_0_0 y (by omega) (by omega)⟩
  by_cases b : (y 1).val < 1792
  · exact ⟨_, List.mem_cons_of_mem _ (List.mem_cons_of_mem _ List.mem_cons_self), mem_cols 896 inb_S512x3584_S512x896_0_896 y (by omega) (by omega)⟩
  by_cases d : (y 1).val < 2688
  · exact ⟨_, List.mem_cons_of_mem _ List.mem_cons_self, mem_cols 1792 inb_S512x3584_S512x896_0_1792 y (by omega) (by omega)⟩
  · exact ⟨_, List.mem_cons_self, mem_cols 2688 inb_S512x3584_S512x896_0_2688 y (by omega) (by omega)⟩

/-- One of the four stores, read at its row and column. -/
theorem piece_at (L : FVec Ideal S1x1024x896 .bf16) (q o : ℕ) (hq : q < 4) (ho : o = 896 * q) (hL : ∀ k n, L (ix3 0 k n) = ws m c ⟨q, hq⟩ k n)
    (inb' : ∀ a, (![0, o] : Fin 2 → ℕ) a + (![512, 896] : Fin 2 → ℕ) a ≤ S512x3584.size a) (x : Shape.Idx ⟨2, ![512, 896]⟩) :
    k0_pay1 (F := Ideal) (ub m c t) L x
      = prj (xs m c (rowi t ((Rect.unit (s := S512x3584) ![0, o] ![512, 896] inb').emb x 0))) (gs m c) (ws m c)
          ((Rect.unit (s := S512x3584) ![0, o] ![512, 896] inb').emb x 1) := by
  obtain ⟨r, n, rfl⟩ : ∃ (r : Fin 512) (n : Fin 896), x = ix2 r n := ⟨x 0, x 1, by ext a; fin_cases a <;> rfl⟩
  refine (pay1_at _ _ _ _ (ub_at m c t) hL r n).trans ?_
  have e0 : (Rect.unit (s := S512x3584) ![0, o] ![512, 896] inb').emb (ix2 r n) 0 = r := Fin.ext (by
    show 0 + 1 * r.val = r.val
    omega)
  have e1 : (((Rect.unit (s := S512x3584) ![0, o] ![512, 896] inb').emb (ix2 r n) 1 : Fin 3584)).val = o + n.val := by
    show o + 1 * n.val = o + n.val
    omega
  rw [e0]
  refine Finset.sum_congr rfl fun k _ => congrArg (nrm (xs m c (rowi t r)) (gs m c) k * ·) ?_
  have f0 : (⟨q, hq⟩ : Fin 4) = ⟨((Rect.unit (s := S512x3584) ![0, o] ![512, 896] inb').emb (ix2 r n) 1 : Fin 3584).val / 896, by omega⟩ :=
    Fin.ext (by dsimp only; rw [e1]; omega)
  have f1 : n = ⟨((Rect.unit (s := S512x3584) ![0, o] ![512, 896] inb').emb (ix2 r n) 1 : Fin 3584).val % 896, Nat.mod_lt _ (by norm_num)⟩ :=
    Fin.ext (by dsimp only; rw [e1]; omega)
  exact congrArg₂ (fun a b => ws m c a k b) f0 f1

variable {L0 L1 L2 L3} (S : Slabs m c L0 L1 L2 L3)
include S

/-- What the four stores leave. -/
theorem pcs_val (y : S512x3584.Idx) :
    View.canon (pcs m c t L0 L1 L2 L3) y = prj (xs m c (rowi t (y 0))) (gs m c) (ws m c) (y 1) := by
  refine View.canon_append_of_piecesOf (fun y : S512x3584.Idx => prj (xs m c (rowi t (y 0))) (gs m c) (ws m c) (y 1))
    [] (pcs m c t L0 L1 L2 L3) ⟨?_, ?_, ?_, ?_, trivial⟩ y (pcs_cover m c t L0 L1 L2 L3 y)
  · exact piece_at m c t L3 3 2688 (by omega) (by omega) S.l3 inb_S512x3584_S512x896_0_2688
  · exact piece_at m c t L2 2 1792 (by omega) (by omega) S.l2 inb_S512x3584_S512x896_0_1792
  · exact piece_at m c t L1 1 896 (by omega) (by omega) S.l1 inb_S512x3584_S512x896_0_896
  · exact piece_at m c t L0 0 0 (by omega) (by omega) S.l0 inb_S512x3584_S512x896_0_0

/-- Columns of it read back. -/
theorem pcs_read (w o : ℕ) (v : View sig .tc .vmem S512x3584 .f32)
    (inb : ∀ a, (![0, o] : Fin 2 → ℕ) a + (![512, w] : Fin 2 → ℕ) a ≤ S512x3584.size a) (r : Fin 512) (n : Fin w) (h : o + n.val < 3584) :
    (show FVec Ideal ⟨2, ![512, w]⟩ .f32 from v.readCov (Val := Elt Ideal) (pcs m c t L0 L1 L2 L3) (Rect.unit (s := S512x3584) ![0, o] ![512, w] inb).toLoadRect) (ix2 r n)
      = prj (xs m c (rowi t r)) (gs m c) (ws m c) ⟨o + n.val, h⟩ := by
  refine (congrFun (View.readCov_eq_canon_ld (Val := Elt Ideal) v (pcs m c t L0 L1 L2 L3) (Rect.unit (s := S512x3584) ![0, o] ![512, w] inb) (pcs_cover m c t L0 L1 L2 L3)) (ix2 r n)).trans ?_
  refine (pcs_val m c t S _).trans ?_
  have e0 : (Rect.unit (s := S512x3584) ![0, o] ![512, w] inb).emb (ix2 r n) 0 = r := Fin.ext (by
    show 0 + 1 * r.val = r.val
    omega)
  have e1 : ((Rect.unit (s := S512x3584) ![0, o] ![512, w] inb).emb (ix2 r n) 1 : Fin 3584) = ⟨o + n.val, h⟩ := Fin.ext (by
    show o + 1 * n.val = o + n.val
    omega)
  exact congrArg₂ (fun a b => prj (xs m c (rowi t a)) (gs m c) (ws m c) b) e0 e1

omit S

variable (L0 L1 L2 L3) in
/-- The two stores of the attention's operands. -/
def aps (v : View sig .tc .vmem S512x3584 .f32) : List (View.Piece (Elt Ideal) S512x1536 .bf16) :=
  [⟨Rect.unit ![0, 512] ![512, 1024] inb_S512x1536_S512x1024_0_512, k0_pay4 (F := Ideal)
      (v.readCov (Val := Elt Ideal) (pcs m c t L0 L1 L2 L3) (Rect.unit (s := S512x3584) ![0, 2560] ![512, 1024] inb_S512x3584_S512x1024_0_2560).toLoadRect)⟩,
    ⟨Rect.unit ![0, 0] ![512, 512] inb_S512x1536_S512x512_0_0, k0_pay3 (F := Ideal)
      (v.readCov (Val := Elt Ideal) (pcs m c t L0 L1 L2 L3) (Rect.unit (s := S512x3584) ![0, 2048] ![512, 512] inb_S512x3584_S512x512_0_2048).toLoadRect)⟩]

theorem aps_cover (v : View sig .tc .vmem S512x3584 .f32) (y : S512x1536.Idx) : ∃ p ∈ aps m c t L0 L1 L2 L3 v, y ∈ p.1.set := by
  have h0 : (y 0).val < 512 := (y 0).isLt
  have h1 : (y 1).val < 1536 := (y 1).isLt
  by_cases a : (y 1).val < 512
  · refine ⟨_, List.mem_cons_of_mem _ List.mem_cons_self, (Rect.mem_set_unit (s := S512x1536) (off := ![0, 0]) (size := ![512, 512]) (inb := inb_S512x1536_S512x512_0_0)).mpr fun a => ?_⟩
    fin_cases a
    · exact ⟨Nat.zero_le _, by show (y 0).val < 0 + 512; omega⟩
    · exact ⟨Nat.zero_le _, by show (y 1).val < 0 + 512; omega⟩
  · refine ⟨_, List.mem_cons_self, (Rect.mem_set_unit (s := S512x1536) (off := ![0, 512]) (size := ![512, 1024]) (inb := inb_S512x1536_S512x1024_0_512)).mpr fun a => ?_⟩
    fin_cases a
    · exact ⟨Nat.zero_le _, by show (y 0).val < 0 + 512; omega⟩
    · exact ⟨by show 512 ≤ (y 1).val; omega, by show (y 1).val < 512 + 1024; omega⟩

include S in
/-- What the two stores leave. -/
theorem aps_val (v : View sig .tc .vmem S512x3584 .f32) (y : S512x1536.Idx) :
    View.canon (aps m c t L0 L1 L2 L3 v) y = att (xs m c (rowi t (y 0))) (gs m c) (ws m c) (y 1) := by
  refine View.canon_append_of_piecesOf (fun y : S512x1536.Idx => att (xs m c (rowi t (y 0))) (gs m c) (ws m c) (y 1))
    [] (aps m c t L0 L1 L2 L3 v) ⟨fun x => ?_, fun x => ?_, trivial⟩ y (aps_cover m c t v y)
  · obtain ⟨r, n, rfl⟩ : ∃ (r : Fin 512) (n : Fin 1024), x = ix2 r n := ⟨x 0, x 1, by ext a; fin_cases a <;> rfl⟩
    refine (pcs_read m c t S 1024 2560 v inb_S512x3584_S512x1024_0_2560 r n (by omega)).trans ?_
    have e0 : (Rect.unit (s := S512x1536) ![0, 512] ![512, 1024] inb_S512x1536_S512x1024_0_512).emb (ix2 r n) 0 = r := Fin.ext (by
      show 0 + 1 * r.val = r.val
      omega)
    have e1 : ((Rect.unit (s := S512x1536) ![0, 512] ![512, 1024] inb_S512x1536_S512x1024_0_512).emb (ix2 r n) 1 : Fin 1536) = (⟨512 + n.val, by omega⟩ : Fin 1536) :=
      Fin.ext (by
        show 512 + 1 * n.val = 512 + n.val
        omega)
    dsimp only
    rw [e0, e1]
    unfold att
    rw [if_neg (by dsimp only; omega)]
    exact congrArg _ (Fin.ext (by dsimp only; omega))
  · obtain ⟨r, n, rfl⟩ : ∃ (r n : Fin 512), x = ix2 r n := ⟨x 0, x 1, by ext a; fin_cases a <;> rfl⟩
    refine (pay3_at _ r n).trans ?_
    have e0 : (Rect.unit (s := S512x1536) ![0, 0] ![512, 512] inb_S512x1536_S512x512_0_0).emb (ix2 r n) 0 = r := Fin.ext (by
      show 0 + 1 * r.val = r.val
      omega)
    have e1 : ((Rect.unit (s := S512x1536) ![0, 0] ![512, 512] inb_S512x1536_S512x512_0_0).emb (ix2 r n) 1 : Fin 1536) = (⟨n.val, by omega⟩ : Fin 1536) :=
      Fin.ext (by
        show 0 + 1 * n.val = n.val
        omega)
    dsimp only
    rw [e0, e1]
    unfold att
    rw [if_pos (by dsimp only; omega)]
    exact congrArg (· * _) (pcs_read m c t S 512 2048 v inb_S512x3584_S512x512_0_2048 r n (by omega))

theorem out2 (r : Fin 512) (n : Fin 2048) :
    (outsAt0 m c t.val t.isLt).1 (ix2 r n) = prj (xs m c (rowi t r)) (gs m c) (ws m c) ⟨n.val, by omega⟩ := by
  by_cases h0 : t.val % 8 = 0
  · rw [outsAt0_A m c t h0]
    dsimp only
    frame_out
    exact (pcs_read m c t ⟨slab_first m c 0 (by omega) inb_S4x1024x896_S1x1024x896_0_0_0, slab_first m c 1 (by omega) inb_S4x1024x896_S1x1024x896_1_0_0,
      slab_first m c 2 (by omega) inb_S4x1024x896_S1x1024x896_2_0_0, slab_first m c 3 (by omega) inb_S4x1024x896_S1x1024x896_3_0_0⟩ 2048 0 (View.whole cc0_scratch1) inb_S512x3584_S512x2048_0_0 r n (by omega)).trans
      (congrArg _ (Fin.ext (by dsimp only; omega)))
  · rw [outsAt0_B m c t h0]
    dsimp only
    frame_out
    simp only [read_unread_whole, scr m c]
    exact (pcs_read m c t ⟨slab m c 0 (by omega) inb_S4x1024x896_S1x1024x896_0_0_0, slab m c 1 (by omega) inb_S4x1024x896_S1x1024x896_1_0_0,
      slab m c 2 (by omega) inb_S4x1024x896_S1x1024x896_2_0_0, slab m c 3 (by omega) inb_S4x1024x896_S1x1024x896_3_0_0⟩ 2048 0 (View.whole cc0_scratch1) inb_S512x3584_S512x2048_0_0 r n (by omega)).trans
      (congrArg _ (Fin.ext (by dsimp only; omega)))

theorem out3 (r : Fin 512) (n : Fin 1536) :
    (outsAt0 m c t.val t.isLt).2.1 (ix2 r n) = att (xs m c (rowi t r)) (gs m c) (ws m c) n := by
  by_cases h0 : t.val % 8 = 0
  · rw [outsAt0_A m c t h0]
    dsimp only
    frame_out
    exact aps_val m c t ⟨slab_first m c 0 (by omega) inb_S4x1024x896_S1x1024x896_0_0_0, slab_first m c 1 (by omega) inb_S4x1024x896_S1x1024x896_1_0_0,
      slab_first m c 2 (by omega) inb_S4x1024x896_S1x1024x896_2_0_0, slab_first m c 3 (by omega) inb_S4x1024x896_S1x1024x896_3_0_0⟩ (View.whole cc0_scratch1) (ix2 r n)
  · rw [outsAt0_B m c t h0]
    dsimp only
    frame_out
    simp only [read_unread_whole, scr m c]
    exact aps_val m c t ⟨slab m c 0 (by omega) inb_S4x1024x896_S1x1024x896_0_0_0, slab m c 1 (by omega) inb_S4x1024x896_S1x1024x896_1_0_0,
      slab m c 2 (by omega) inb_S4x1024x896_S1x1024x896_2_0_0, slab m c 3 (by omega) inb_S4x1024x896_S1x1024x896_3_0_0⟩ (View.whole cc0_scratch1) (ix2 r n)

theorem out4 (r : Fin 512) (k : Fin 1024) :
    (outsAt0 m c t.val t.isLt).2.2.1 (ix2 r k) = nrm (xs m c (rowi t r)) (gs m c) k := by
  by_cases h0 : t.val % 8 = 0
  · rw [outsAt0_A m c t h0]
    dsimp only
    frame_out
    exact ub_at m c t r k
  · rw [outsAt0_B m c t h0]
    dsimp only
    frame_out
    exact ub_at m c t r k

/-- The columns of the recurrence's operands. -/
def rec (x g : Fin 1024 → EReal) (w : Fin 4 → Fin 1024 → Fin 896 → EReal) (n : Fin 2048) : EReal := prj x g w ⟨n.val, by omega⟩

theorem fin2 : (dats m 0 c).arrAt 2 cfg0.N = (fun i => rec (xs m c (i 0)) (gs m c) (ws m c) (i 1) : FVec Ideal S4096x2048 .f32) := by
  refine (dats m 0 c).arrAt_eq_of_covers 2 _ (by decide +kernel) fun t hf y => ?_
  blk_simp
  rw [after0_2]
  obtain ⟨r, k, rfl⟩ : ∃ (r : Fin 512) (k : Fin 2048), y = ix2 r k := ⟨y 0, y 1, by ext a; fin_cases a <;> rfl⟩
  refine (out2 m c t r k).trans ?_
  have e0 : rowi t r = (win0_2.blk t).view.emb (ix2 r k) 0 := by
    refine Fin.ext ?_
    blk_simp [idx t]
    rfl
  have e1 : k = (win0_2.blk t).view.emb (ix2 r k) 1 := by
    refine Fin.ext ?_
    simp [idx t]
  exact congrArg₂ (fun (i : Fin 4096) (k : Fin 2048) => rec (xs m c i) (gs m c) (ws m c) k) e0 e1

theorem fin3 : (dats m 0 c).arrAt 3 cfg0.N = (fun i => att (xs m c (i 0)) (gs m c) (ws m c) (i 1) : FVec Ideal S4096x1536 .bf16) := by
  refine (dats m 0 c).arrAt_eq_of_covers 3 _ (by decide +kernel) fun t hf y => ?_
  blk_simp
  rw [after0_3]
  obtain ⟨r, k, rfl⟩ : ∃ (r : Fin 512) (k : Fin 1536), y = ix2 r k := ⟨y 0, y 1, by ext a; fin_cases a <;> rfl⟩
  refine (out3 m c t r k).trans ?_
  have e0 : rowi t r = (win0_3.blk t).view.emb (ix2 r k) 0 := by
    refine Fin.ext ?_
    blk_simp [idx t]
    rfl
  have e1 : k = (win0_3.blk t).view.emb (ix2 r k) 1 := by
    refine Fin.ext ?_
    simp [idx t]
  exact congrArg₂ (fun (i : Fin 4096) (k : Fin 1536) => att (xs m c i) (gs m c) (ws m c) k) e0 e1

theorem fin4 : (dats m 0 c).arrAt 4 cfg0.N = (fun i => nrm (xs m c (i 0)) (gs m c) (i 1) : FVec Ideal S4096x1024 .bf16) := by
  refine (dats m 0 c).arrAt_eq_of_covers 4 _ (by decide +kernel) fun t hf y => ?_
  blk_simp
  rw [after0_4]
  obtain ⟨r, k, rfl⟩ : ∃ (r : Fin 512) (k : Fin 1024), y = ix2 r k := ⟨y 0, y 1, by ext a; fin_cases a <;> rfl⟩
  refine (out4 m c t r k).trans ?_
  have e0 : rowi t r = (win0_4.blk t).view.emb (ix2 r k) 0 := by
    refine Fin.ext ?_
    blk_simp [idx t]
    rfl
  have e1 : k = (win0_4.blk t).view.emb (ix2 r k) 1 := by
    refine Fin.ext ?_
    simp [idx t]
  exact congrArg₂ (fun (i : Fin 4096) (k : Fin 1024) => nrm (xs m c i) (gs m c) k) e0 e1

end Cert.Inp
-- ==== Proof.InEnd.lean ====
module

public import proofs.«01_k».proof.Defs
public import proofs.«01_k».proof.Proof.InKer
public import proofs.«01_k».proof.Proof.Gen.Reference9Ideal.Run

@[expose] public section

set_option maxRecDepth 16384

noncomputable section

namespace Cert.Inp

open Idealize.ShloMosaic Idealize.ShloMosaic.TcCoe Idealize.SL.Sem

theorem idx2 {a b : ℕ} (i : Shape.Idx ⟨2, ![a, b]⟩) : i = ix2 (n0 := a) (n1 := b) (i 0) (i 1) := by
  funext k; fin_cases k <;> rfl

open Cert.Reference9Ideal.Read in
/-- The reference's three results are the input projection kernel's. -/
theorem value : Cert.algebraic_Kernel9Ideal_Reference9Ideal := by
  intro m g m' g' hpre hargs
  refine ⟨_, _, _, (θ_run _ _ _).mono (fun r h c => h c) (Cert.Kernel9Ideal.Value.run_blocks m g),
    (θ_run _ _ _).mono (fun r h c => ?_) (Cert.Reference9Ideal.Value.run m' g')⟩
  obtain ⟨a0, a1, a2⟩ := hargs c
  obtain ⟨r0, r1, r2, k⟩ := h c
  refine ⟨r0.trans ?_, r1.trans ?_, r2.trans ?_, k⟩ <;> clear h r0 r1 r2 k hargs
  · refine Eq.trans ?_ (fin2 m c).symm
    refine (val_main_v23_eq _ _).trans ?_
    rw [a0, a1, a2]
    funext i
    rw [idx2 i]
    exact ref_h ..
  · refine Eq.trans ?_ (fin3 m c).symm
    refine (val_main_v27_eq _ _ _).trans ?_
    rw [a0, a1, a2]
    funext i
    rw [idx2 i]
    exact ref_att ..
  · refine Eq.trans ?_ (fin4 m c).symm
    refine (val_main_v40_eq _ _).trans ?_
    rw [a0, a1]
    funext i
    rw [idx2 i]
    exact ref_u16 ..

end Cert.Inp

end
-- ==== Proof.InbRef.lean ====
/- The input projection's gradient over the extended reals: the functions both programs compute, and the reference's stages read
   as them. Nothing here needs the arguments to be finite. -/
module

public import proofs.«01_k».proof.Proof.Gen.Reference10Ideal.Read
public import proofs.«01_k».proof.Proof.FfnReal
public import proofs.«01_k».proof.Proof.FwdRef
public import Idealize.ShloMosaic.Lib.Pointwise

@[expose] public section

set_option maxRecDepth 16384

noncomputable section

namespace Cert.Inb

open Idealize.ShloMosaic Idealize.ShloMosaic.TcCoe Idealize.SL.Sem
open Cert.Ffn (word_1024 word_eps word_neg_half div_1024 rsqrt_ms coe_sum)
open Cert.Reference10Ideal Cert.Reference10Ideal.Gen Cert.Reference10Ideal.Read

open Cert.Fwd (rr)

/-- The mean square of a row plus the small number. -/
def ms (x : Fin 1024 → EReal) : EReal :=
  Ideal.div (∑ k, x k * x k) (Ideal.ofBits .f32 0x44800000#32) + Ideal.ofBits .f32 0x358637BD#32

/-- The gradient of a row before its norm. -/
def nb (x e : Fin 1024 → EReal) (k : Fin 1024) : EReal :=
  rr x * (e k - x k * rr x * Ideal.div (∑ j, e j * (x j * rr x)) (Ideal.ofBits .f32 0x44800000#32))

/-- The derivative's form of the same: the row's own share comes as two equal terms. -/
def nv (x e : Fin 1024 → EReal) : EReal :=
  Ideal.div ((∑ j, x j * e j) * (Ideal.ofBits .f32 0xBF000000#32 * Ideal.div (rr x) (ms x))) (Ideal.ofBits .f32 0x44800000#32)

/-- A number that is not negative goes into a sum. -/
theorem mul_sum {ι : Type} [Fintype ι] (r : ℝ) (hr : 0 ≤ r) (f : ι → EReal) :
    ∑ i, f i * (r : EReal) = (∑ i, f i) * (r : EReal) := by
  classical
  refine Finset.induction_on (Finset.univ : Finset ι) ?_ fun a s ha ih => ?_
  · rw [Finset.sum_empty, Finset.sum_empty, zero_mul]
  · rw [Finset.sum_insert ha, Finset.sum_insert ha, ih, EReal.right_distrib_of_nonneg_of_ne_top]
    · exact_mod_cast hr
    · exact EReal.coe_ne_top _

theorem twice (t : EReal) : t + t = t * ((2 : ℝ) : EReal) := by
  induction t with
  | bot => rw [EReal.bot_mul_coe_of_pos (by norm_num)]; rfl
  | top => rw [EReal.top_mul_coe_of_pos (by norm_num)]; rfl
  | coe a => rw [← EReal.coe_add, ← EReal.coe_mul]; exact congrArg _ (by ring)

theorem sq_nonneg (a : EReal) : 0 ≤ a * a := by
  induction a with
  | bot => rw [EReal.bot_mul_bot]; exact le_top
  | top => rw [EReal.top_mul_top]; exact le_top
  | coe a => rw [← EReal.coe_mul]; exact_mod_cast mul_self_nonneg a

/-- A row with an infinite element has an infinite mean square. -/
theorem ms_top (x : Fin 1024 → EReal) (j : Fin 1024) (h : x j * x j = ⊤) : ms x = ⊤ := by
  unfold ms
  rw [← Finset.add_sum_erase _ _ (Finset.mem_univ j), h,
    EReal.top_add_of_ne_bot (ne_of_gt (lt_of_lt_of_le EReal.bot_lt_zero (Finset.sum_nonneg fun k _ => sq_nonneg _))),
    word_1024, Ideal.div_coe (by norm_num), EReal.top_mul_coe_of_pos (by norm_num), word_eps, EReal.top_add_coe]

theorem nv_eq (x e : Fin 1024 → EReal) (k : Fin 1024) : e k * rr x + x k * nv x e + nv x e * x k = nb x e k := by
  by_cases hx : ∃ j, x j * x j = ⊤
  · obtain ⟨j, hj⟩ := hx
    have e0 := ms_top x j hj
    have e1 : rr x = 0 := by
      show Ideal.rsqrt (ms x) = 0
      rw [e0]
      rfl
    have e2 : nv x e = 0 := by
      unfold nv
      rw [e1, e0]
      simp [Ideal.div, word_1024]
    unfold nb
    rw [e1, e2]
    simp
  · have hf : ∀ j, ∃ y : ℝ, x j = (y : EReal) := fun j => by
      have h := fun hh => hx ⟨j, hh⟩
      generalize x j = a at h ⊢
      induction a with
      | bot => exact absurd EReal.bot_mul_bot h
      | top => exact absurd EReal.top_mul_top h
      | coe a => exact ⟨a, rfl⟩
    choose y hy using hf
    obtain rfl : x = fun j => (y j : EReal) := funext hy
    have em : ms (fun j => (y j : EReal)) = ((Cert.Ffn.ms y : ℝ) : EReal) := by
      unfold ms
      simp only [← EReal.coe_mul, coe_sum, word_1024, word_eps, div_1024, ← EReal.coe_add]
      rfl
    have er : rr (fun j => (y j : EReal)) = ((Cert.Ffn.rr y : ℝ) : EReal) := by
      show Ideal.rsqrt (ms fun j => (y j : EReal)) = _
      rw [em, rsqrt_ms]
    have h0 : 0 ≤ Cert.Ffn.rr y := inv_nonneg.2 (Real.sqrt_nonneg _)
    have h1 := Cert.Ffn.rr_sq y
    have hm := (Cert.Ffn.ms_pos y).ne'
    unfold nb nv
    rw [em, er]
    generalize Cert.Ffn.rr y = r at *
    generalize Cert.Ffn.ms y = μ at *
    have es : ∑ j, e j * ((y j : EReal) * (r : EReal)) = (∑ j, (y j : EReal) * e j) * (r : EReal) := by
      rw [← mul_sum r h0]
      exact Finset.sum_congr rfl fun j _ => by rw [← mul_assoc, mul_comm (e j)]
    rw [es]
    generalize (∑ j, (y j : EReal) * e j) = S
    have h4 : (1024 : ℝ) ≠ 0 := by norm_num
    dsimp only
    simp only [word_1024, word_neg_half, Ideal.div_coe h4, Ideal.div_coe hm]
    rw [sub_eq_add_neg,
      EReal.left_distrib_of_nonneg_of_ne_top (by exact_mod_cast h0) (EReal.coe_ne_top _), mul_comm _ (e k), add_assoc,
      mul_comm _ ((y k : ℝ) : EReal), twice]
    refine congrArg (e k * (r : EReal) + ·) ?_
    have c0 : ((y k : ℝ) : EReal) * (S * (((-(1 / 2) : ℝ) : EReal) * ((r : EReal) * ((1 / μ : ℝ) : EReal))) * ((1 / 1024 : ℝ) : EReal)) * ((2 : ℝ) : EReal)
        = S * ((y k * (-(1 / 2) * (r * (1 / μ))) * (1 / 1024) * 2 : ℝ) : EReal) := by
      simp only [EReal.coe_mul]
      ac_rfl
    have c1 : (r : EReal) * -((y k : EReal) * (r : EReal) * (S * (r : EReal) * ((1 / 1024 : ℝ) : EReal)))
        = S * ((-(r * y k * r * r * (1 / 1024)) : ℝ) : EReal) := by
      rw [EReal.coe_neg, mul_neg, mul_neg]
      simp only [EReal.coe_mul]
      refine congrArg Neg.neg ?_
      ac_rfl
    refine Eq.trans c0 (Eq.trans (congrArg (fun v : ℝ => S * (v : EReal)) ?_) c1.symm)
    have hi : 1 / μ = r * r := by
      field_simp
      linarith
    rw [hi]
    ring

variable (p : Fin 7 → S4096x512.Idx → EReal) (x d : S4096x1024.Idx → EReal) (g : S1x1024.Idx → EReal) (w : S4x1024x896.Idx → EReal)

/-- Row `i` of an array. -/
def xr (x : S4096x1024.Idx → EReal) (i : Fin 4096) (k : Fin 1024) : EReal := x (ix2 i k)

/-- The row of the norm's weight. -/
def gw (g : S1x1024.Idx → EReal) (k : Fin 1024) : EReal := g (ix2 0 k)

/-- The seven parts side by side. -/
def cat (i : Fin 4096) (n : Fin 3584) : EReal := p ⟨n.val / 512, by omega⟩ (ix2 i ⟨n.val % 512, Nat.mod_lt _ (by norm_num)⟩)

theorem cat_at (i : Fin 4096) (n : Fin 3584) (j : Fin 7) (r : Fin 512) (h : n.val = 512 * j.val + r.val) :
    cat p i n = p j (ix2 i r) := by
  have e0 : (⟨n.val / 512, by omega⟩ : Fin 7) = j := Fin.ext (by dsimp only; omega)
  have e1 : (⟨n.val % 512, Nat.mod_lt _ (by norm_num)⟩ : Fin 512) = r := Fin.ext (by dsimp only; omega)
  exact congrArg₂ (fun (a : Fin 7) (b : Fin 512) => p a (ix2 i b)) e0 e1

/-- The weight as one matrix of four column blocks. -/
def wc (k : Fin 1024) (n : Fin 3584) : EReal := w (ix3 (⟨n.val / 896, by omega⟩ : Fin 4) k (⟨n.val % 896, by omega⟩ : Fin 896))

/-- The gradient of the normalised input. -/
def du (i : Fin 4096) (k : Fin 1024) : EReal := ∑ n, cat p i n * wc w k n

/-- The gradient of the input. -/
def dx (i : Fin 4096) (k : Fin 1024) : EReal := xr d i k + nb (xr x i) (fun k => du p w i k * gw g k) k

/-- The gradient of the norm's weight. -/
def dg (k : Fin 1024) : EReal := ∑ i, du p w i k * (xr x i k * rr (xr x i))

/-- The eight rows of the packed weight gradients. -/
def pack (r : Fin 8) (k : Fin 1024) : EReal := if r.val = 0 then dg p x w k else 0

theorem ref_cat (i : Fin 4096) (n : Fin 3584) :
    val_main_v0 (F := Ideal) (p 0) (p 1) (p 2) (p 3) (p 4) (p 5) (p 6) (ix2 i n) = ((cat p i n)) := by
  pointwise [val_main_v0]
  split_ifs <;> refine congrArg (fun v : EReal => v) ?_ <;>
    first
    | exact (cat_at p i n 0 _ (by show _ = 512 * 0 + _; dsimp only; omega)).symm
    | exact (cat_at p i n 1 _ (by show _ = 512 * 1 + _; dsimp only; omega)).symm
    | exact (cat_at p i n 2 _ (by show _ = 512 * 2 + _; dsimp only; omega)).symm
    | exact (cat_at p i n 3 _ (by show _ = 512 * 3 + _; dsimp only; omega)).symm
    | exact (cat_at p i n 4 _ (by show _ = 512 * 4 + _; dsimp only; omega)).symm
    | exact (cat_at p i n 5 _ (by show _ = 512 * 5 + _; dsimp only; omega)).symm
    | exact (cat_at p i n 6 _ (by show _ = 512 * 6 + _; dsimp only; omega)).symm

theorem ref_cat16 (i : Fin 4096) (n : Fin 3584) :
    val_main_v42 (F := Ideal) (p 0) (p 1) (p 2) (p 3) (p 4) (p 5) (p 6) (ix2 i n) = ((cat p i n)) := by
  rw [val_main_v42_apply]
  exact ref_cat p i n

theorem ref_w (k : Fin 1024) (n : Fin 3584) :
    val_main_v3 (F := Ideal) w (ix2 k n) = ((wc w k n)) := by
  pointwise [val_main_v3, val_main_v2, val_main_v1]
  rfl

theorem ref_du (i : Fin 4096) (k : Fin 1024) :
    val_main_v20 (F := Ideal) (p 0) (p 1) (p 2) (p 3) (p 4) (p 5) (p 6) w (ix2 i k) = ((du p w i k)) := by
  pointwise [val_main_v20]
  simp only [ref_cat, ref_w, zero_add]
  rfl

theorem ref_ms (i : Fin 4096) (z : Fin 1) : val_main_v10 (F := Ideal) x (ix2 i z) = ms (xr x i) := by
  pointwise [val_main_v10, val_main_v9, val_main_v8, val_main_v7, val_main_v6, val_main_v5, val_main_v4,
    val_main_cst, val_main_cst_0, val_main_cst_1]
  rfl

theorem ref_rr (i : Fin 4096) (z : Fin 1) : val_main_v11 (F := Ideal) x (ix2 i z) = rr (xr x i) := by
  pointwise [val_main_v11]
  simp only [ref_ms]
  rfl

theorem ref_xh (i : Fin 4096) (k : Fin 1024) : val_main_v16 (F := Ideal) x (ix2 i k) = xr x i k * rr (xr x i) := by
  pointwise [val_main_v16, val_main_v15]
  simp only [ref_rr]
  rfl

theorem ref_dx (i : Fin 4096) (k : Fin 1024) :
    val_main_v43 (F := Ideal) (p 0) (p 1) (p 2) (p 3) (p 4) (p 5) (p 6) x d g w (ix2 i k) = dx p x d g w i k := by
  pointwise [val_main_v43, val_main_v39, val_main_v38, val_main_v37, val_main_v36, val_main_v35, val_main_v34, val_main_v33,
    val_main_v32, val_main_v31, val_main_v30, val_main_v29, val_main_v28, val_main_v27, val_main_v26, val_main_v25,
    val_main_v24, val_main_v14, val_main_v13, val_main_v12, val_main_cst_2, val_main_cst_4, val_main_cst_5, val_main_cst_6]
  simp only [ref_du, ref_ms, ref_rr, zero_add, Finset.univ_unique, Finset.sum_singleton]
  exact congrArg (xr d i k + ·) (nv_eq (xr x i) (fun k => du p w i k * gw g k) k)

theorem ref_dg (z : Fin 1) (k : Fin 1024) :
    val_main_v23 (F := Ideal) (p 0) (p 1) (p 2) (p 3) (p 4) (p 5) (p 6) x w (ix2 z k) = ((dg p x w k)) := by
  pointwise [val_main_v23, val_main_v22, val_main_v21, val_main_cst_3]
  simp only [ref_xh, ref_du, zero_add]
  exact Finset.sum_congr rfl fun i _ => mul_comm _ _

theorem ref_pack (r : Fin 8) (k : Fin 1024) :
    val_main_v41 (F := Ideal) (p 0) (p 1) (p 2) (p 3) (p 4) (p 5) (p 6) x w (ix2 r k) = ((pack p x w r k)) := by
  pointwise [val_main_v41, val_main_v40, val_main_cst_7]
  simp only [ref_dg]
  unfold pack
  split_ifs <;> first | rfl | omega

end Cert.Inb
-- ==== Proof.InbKer.lean ====
/- The input projection's gradient kernel: what its body computes on one block of 512 rows, and its
   three results. -/
module

public import proofs.«01_k».proof.Proof.Gen.Kernel10Ideal.Value
public import proofs.«01_k».proof.Proof.InbRef
public import Idealize.ShloMosaic.Lib.Pipeline.ValueKit
public import Idealize.ShloMosaic.Lib.Claim
public import Idealize.ShloMosaic.Lib.Pipeline.ReadBack
public import Idealize.ShloMosaic.Lib.WritesUnit

@[expose] public section

set_option maxRecDepth 16384

noncomputable section

namespace Cert.Inb

open Idealize.ShloMosaic Idealize.ShloMosaic.TcCoe Idealize.SL.Sem
open Idealize.ShloMosaic.Pipeline (Dat)
open Cert.Fwd (rr)
open Cert.Kernel10Ideal Cert.Kernel10Ideal.Gen

section
variable (U X D : FVec Ideal S512x1024 .f32) (u x d : Fin 512 → Fin 1024 → EReal) (G : FVec Ideal S1x1024 .f32) (g : Fin 1024 → EReal)
variable (eu : ∀ r k, U (ix2 r k) = ((u r k))) (ex : ∀ r k, X (ix2 r k) = ((x r k)))
  (ed : ∀ r k, D (ix2 r k) = ((d r k))) (eg : ∀ k, G (ix2 0 k) = ((g k)))

include eu ex ed eg in
/-- The gradient of the input at one block. -/
theorem pay4_at (r : Fin 512) (k : Fin 1024) :
    k0_pay4 (F := Ideal) U X (k0_pay14 (F := Ideal) X) G D (ix2 r k) = ((d r k + nb (x r) (fun k => u r k * g k) k)) := by
  pointwise [k0_pay4, k0_pay2, k0_pay1, k0_pay14]
  simp only [eu, ex, ed, eg, zero_add]
  rfl

include eu ex in
/-- The norm's weight gradient: the block's rows summed onto what was there. -/
theorem pay3_at (P : FVec Ideal S1x1024 .f32) (p : Fin 1024 → EReal) (ep : ∀ k, P (ix2 0 k) = ((p k))) (z : Fin 1) (k : Fin 1024) :
    k0_pay3 (F := Ideal) U X (k0_pay14 (F := Ideal) X) P (ix2 z k) = ((p k + ∑ r, u r k * (x r k * rr (x r)))) := by
  obtain rfl : z = 0 := Subsingleton.elim _ _
  pointwise [k0_pay3, k0_pay2, k0_pay1, k0_pay14]
  simp only [eu, ex, ep, zero_add]
  rfl

variable (Q0 Q1 Q2 Q3 : FVec Ideal S512x896 .bf16) (q0 q1 q2 q3 : Fin 512 → Fin 896 → EReal)
variable (V0 V1 V2 V3 : FVec Ideal S1x1024x896 .bf16) (v0 v1 v2 v3 : Fin 1024 → Fin 896 → EReal)

/-- The gradient of the normalised input: four products of 896 columns. -/
theorem pay13_at (a0 : ∀ r n, Q0 (ix2 r n) = ((q0 r n))) (a1 : ∀ r n, Q1 (ix2 r n) = ((q1 r n)))
    (a2 : ∀ r n, Q2 (ix2 r n) = ((q2 r n))) (a3 : ∀ r n, Q3 (ix2 r n) = ((q3 r n)))
    (b0 : ∀ k n, V0 (ix3 0 k n) = ((v0 k n))) (b1 : ∀ k n, V1 (ix3 0 k n) = ((v1 k n)))
    (b2 : ∀ k n, V2 (ix3 0 k n) = ((v2 k n))) (b3 : ∀ k n, V3 (ix3 0 k n) = ((v3 k n)))
    (r : Fin 512) (k : Fin 1024) :
    k0_pay13 (F := Ideal) Q0 V0 Q1 V1 Q2 V2 Q3 V3 (ix2 r k)
      = (((∑ n, q0 r n * v0 k n) + (∑ n, q1 r n * v1 k n) + (∑ n, q2 r n * v2 k n) + (∑ n, q3 r n * v3 k n))) := by
  pointwise [k0_pay13]
  simp only [a0, a1, a2, a3, b0, b1, b2, b3, zero_add]

end

variable (m : (ℓ : Loc nD τ sig) → Buf (Elt Ideal) ℓ) (c : Dev nD)

theorem scr (n : ℕ) (hn : n < cfg0.N) : (outsAt0 m c n hn).2.2.2 = V m c main_arg10 := by
  induction n with
  | zero =>
    rw [outsAt0_A m c ⟨0, hn⟩ rfl rfl]
    dsimp only
    frame_out
    exact View.canon_unit_zero rfl _ _
  | succ n ih =>
    have hN := lt_of_lt_of_eq hn (show cfg0.N = 8 from N_0)
    rw [outsAt0_B m c ⟨n + 1, hn⟩ (by dsimp only; omega) (by dsimp only; omega)]
    dsimp only
    unfold sout0_B_0
    exact ih _

/-- The block index of every window at a grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![0, 0] ∧ win0_10.index t = ![t.val, 0] ∧ win0_11.index t = ![t.val, 0] ∧ win0_12.index t = ![0, 0] :=
  (by decide +kernel : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![0, 0] ∧ win0_10.index t = ![t.val, 0] ∧ win0_11.index t = ![t.val, 0] ∧ win0_12.index t = ![0, 0])

/-- The seven stores of the gradient's columns. -/
def pcs (t : Fin cfg0.N) : List (View.Piece (Elt Ideal) S512x3584 .bf16) :=
  [⟨Rect.unit ![0, 3072] ![512, 512] inb_S512x3584_S512x512_0_3072, k0_pay12 (F := Ideal) (iblk m c 6 t)⟩,
    ⟨Rect.unit ![0, 2560] ![512, 512] inb_S512x3584_S512x512_0_2560, k0_pay11 (F := Ideal) (iblk m c 5 t)⟩,
    ⟨Rect.unit ![0, 2048] ![512, 512] inb_S512x3584_S512x512_0_2048, k0_pay10 (F := Ideal) (iblk m c 4 t)⟩,
    ⟨Rect.unit ![0, 1536] ![512, 512] inb_S512x3584_S512x512_0_1536, k0_pay9 (F := Ideal) (iblk m c 3 t)⟩,
    ⟨Rect.unit ![0, 1024] ![512, 512] inb_S512x3584_S512x512_0_1024, k0_pay8 (F := Ideal) (iblk m c 2 t)⟩,
    ⟨Rect.unit ![0, 512] ![512, 512] inb_S512x3584_S512x512_0_512, k0_pay7 (F := Ideal) (iblk m c 1 t)⟩,
    ⟨Rect.unit ![0, 0] ![512, 512] inb_S512x3584_S512x512_0_0, k0_pay6 (F := Ideal) (iblk m c 0 t)⟩]

theorem mem_cols (o : ℕ) (inb : ∀ a, (![0, o] : Fin 2 → ℕ) a + (![512, 512] : Fin 2 → ℕ) a ≤ S512x3584.size a) (y : S512x3584.Idx)
    (h0 : o ≤ (y 1).val) (h1 : (y 1).val < o + 512) :
    y ∈ (Rect.unit (s := S512x3584) ![0, o] ![512, 512] inb).set := by
  have h2 : (y 0).val < 512 := (y 0).isLt
  refine (Rect.mem_set_unit (s := S512x3584) (off := ![0, o]) (size := ![512, 512]) (inb := inb)).mpr fun a => ?_
  fin_cases a
  · exact ⟨Nat.zero_le _, by show (y 0).val < 0 + 512; omega⟩
  · exact ⟨h0, h1⟩

theorem pcs_cover (t : Fin cfg0.N) (y : S512x3584.Idx) : ∃ p ∈ pcs m c t, y ∈ p.1.set := by
  have h1 : (y 1).val < 3584 := (y 1).isLt
  by_cases a0 : (y 1).val < 512
  · exact ⟨_, List.mem_cons_of_mem _ (List.mem_cons_of_mem _ (List.mem_cons_of_mem _ (List.mem_cons_of_mem _ (List.mem_cons_of_mem _ (List.mem_cons_of_mem _ List.mem_cons_self))))), mem_cols 0 inb_S512x3584_S512x512_0_0 y (by omega) (by omega)⟩
  by_cases a1 : (y 1).val < 1024
  · exact ⟨_, List.mem_cons_of_mem _ (List.mem_cons_of_mem _ (List.mem_cons_of_mem _ (List.mem_cons_of_mem _ (List.mem_cons_of_mem _ List.mem_cons_self)))), mem_cols 512 inb_S512x3584_S512x512_0_512 y (by omega) (by omega)⟩
  by_cases a2 : (y 1).val < 1536
  · exact ⟨_, List.mem_cons_of_mem _ (List.mem_cons_of_mem _ (List.mem_cons_of_mem _ (List.mem_cons_of_mem _ List.mem_cons_self))), mem_cols 1024 inb_S512x3584_S512x512_0_1024 y (by omega) (by omega)⟩
  by_cases a3 : (y 1).val < 2048
  · exact ⟨_, List.mem_cons_of_mem _ (List.mem_cons_of_mem _ (List.mem_cons_of_mem _ List.mem_cons_self)), mem_cols 1536 inb_S512x3584_S512x512_0_1536 y (by omega) (by omega)⟩
  by_cases a4 : (y 1).val < 2560
  · exact ⟨_, List.mem_cons_of_mem _ (List.mem_cons_of_mem _ List.mem_cons_self), mem_cols 2048 inb_S512x3584_S512x512_0_2048 y (by omega) (by omega)⟩
  by_cases a5 : (y 1).val < 3072
  · exact ⟨_, List.mem_cons_of_mem _ List.mem_cons_self, mem_cols 2560 inb_S512x3584_S512x512_0_2560 y (by omega) (by omega)⟩
  · exact ⟨_, List.mem_cons_self, mem_cols 3072 inb_S512x3584_S512x512_0_3072 y (by omega) (by omega)⟩

/-- A sum over the columns is the sum of the four blocks' sums. -/
theorem sum_blocks (f : Fin 3584 → EReal) :
    ∑ n, f n = (∑ n : Fin 896, f ⟨0 + n.val, by omega⟩) + (∑ n : Fin 896, f ⟨896 + n.val, by omega⟩)
      + (∑ n : Fin 896, f ⟨1792 + n.val, by omega⟩) + (∑ n : Fin 896, f ⟨2688 + n.val, by omega⟩) := by
  rw [← (finProdFinEquiv (m := 4) (n := 896)).sum_comp f, Fintype.sum_prod_type, Fin.sum_univ_four]
  refine congr (congrArg _ (congr (congrArg _ (congr (congrArg _ ?_) ?_)) ?_)) ?_ <;>
    exact Finset.sum_congr rfl fun n _ => congrArg f (Fin.ext (by simp [finProdFinEquiv]; try omega))

variable (p : Fin 7 → Cert.Reference10Ideal.S4096x512.Idx → EReal) (x d : Cert.Reference10Ideal.S4096x1024.Idx → EReal)
  (g : Cert.Reference10Ideal.S1x1024.Idx → EReal) (w : Cert.Reference10Ideal.S4x1024x896.Idx → EReal)

theorem wc_at (k : Fin 1024) (q : Fin 4) (n : Fin 896) (o : Fin 3584) (ho : o.val = 896 * q.val + n.val) :
    wc w k o = w (ix3 q k n) := by
  have e0 : (⟨o.val / 896, by omega⟩ : Fin 4) = q := Fin.ext (by dsimp only; omega)
  have e1 : (⟨o.val % 896, Nat.mod_lt _ (by norm_num)⟩ : Fin 896) = n := Fin.ext (by dsimp only; omega)
  exact congr (congrArg (fun (a : Fin 4) (b : Fin 896) => w (ix3 a k b)) e0) e1

/-- The kernel's arguments are these arrays. -/
structure Args : Prop where
  a0 : m ((c : Thread nD τ).loc main_arg0) = (p 0)
  a1 : m ((c : Thread nD τ).loc main_arg1) = (p 1)
  a2 : m ((c : Thread nD τ).loc main_arg2) = (p 2)
  a3 : m ((c : Thread nD τ).loc main_arg3) = (p 3)
  a4 : m ((c : Thread nD τ).loc main_arg4) = (p 4)
  a5 : m ((c : Thread nD τ).loc main_arg5) = (p 5)
  a6 : m ((c : Thread nD τ).loc main_arg6) = (p 6)
  a7 : m ((c : Thread nD τ).loc main_arg7) = x
  a8 : m ((c : Thread nD τ).loc main_arg8) = d
  a9 : m ((c : Thread nD τ).loc main_arg9) = g
  a10 : m ((c : Thread nD τ).loc main_arg10) = w

/-- Row `r` of block `t`. -/
def rowi (t : Fin cfg0.N) (r : Fin 512) : Fin 4096 :=
  ⟨t.val * 512 + r.val, by have h := lt_of_lt_of_eq t.isLt (show cfg0.N = 8 from N_0); omega⟩

variable {m c p x d g w} (A : Args m c p x d g w) (t : Fin cfg0.N)
include A

theorem blk0 (r n : Fin 512) :
    k0_pay6 (F := Ideal) (iblk m c 0 t) (ix2 r n) = ((p 0 (ix2 (rowi t r) n))) := by
  show (show FVec Ideal S512x512 .f32 from iblk m c 0 t) (ix2 r n) = _
  refine Eq.trans ?_ (congrFun A.a0 (ix2 (rowi t r) n))
  blk_point [iblk, V, idx t]
  all_goals rfl

theorem blk1 (r n : Fin 512) :
    k0_pay7 (F := Ideal) (iblk m c 1 t) (ix2 r n) = ((p 1 (ix2 (rowi t r) n))) := by
  show (show FVec Ideal S512x512 .f32 from iblk m c 1 t) (ix2 r n) = _
  refine Eq.trans ?_ (congrFun A.a1 (ix2 (rowi t r) n))
  blk_point [iblk, V, idx t]
  all_goals rfl

theorem blk2 (r n : Fin 512) :
    k0_pay8 (F := Ideal) (iblk m c 2 t) (ix2 r n) = ((p 2 (ix2 (rowi t r) n))) := by
  show (show FVec Ideal S512x512 .f32 from iblk m c 2 t) (ix2 r n) = _
  refine Eq.trans ?_ (congrFun A.a2 (ix2 (rowi t r) n))
  blk_point [iblk, V, idx t]
  all_goals rfl

theorem blk3 (r n : Fin 512) :
    k0_pay9 (F := Ideal) (iblk m c 3 t) (ix2 r n) = ((p 3 (ix2 (rowi t r) n))) := by
  show (show FVec Ideal S512x512 .f32 from iblk m c 3 t) (ix2 r n) = _
  refine Eq.trans ?_ (congrFun A.a3 (ix2 (rowi t r) n))
  blk_point [iblk, V, idx t]
  all_goals rfl

theorem blk4 (r n : Fin 512) :
    k0_pay10 (F := Ideal) (iblk m c 4 t) (ix2 r n) = ((p 4 (ix2 (rowi t r) n))) := by
  show (show FVec Ideal S512x512 .f32 from iblk m c 4 t) (ix2 r n) = _
  refine Eq.trans ?_ (congrFun A.a4 (ix2 (rowi t r) n))
  blk_point [iblk, V, idx t]
  all_goals rfl

theorem blk5 (r n : Fin 512) :
    k0_pay11 (F := Ideal) (iblk m c 5 t) (ix2 r n) = ((p 5 (ix2 (rowi t r) n))) := by
  show (show FVec Ideal S512x512 .f32 from iblk m c 5 t) (ix2 r n) = _
  refine Eq.trans ?_ (congrFun A.a5 (ix2 (rowi t r) n))
  blk_point [iblk, V, idx t]
  all_goals rfl

theorem blk6 (r n : Fin 512) :
    k0_pay12 (F := Ideal) (iblk m c 6 t) (ix2 r n) = ((p 6 (ix2 (rowi t r) n))) := by
  show (show FVec Ideal S512x512 .f32 from iblk m c 6 t) (ix2 r n) = _
  refine Eq.trans ?_ (congrFun A.a6 (ix2 (rowi t r) n))
  blk_point [iblk, V, idx t]
  all_goals rfl

theorem blk7 (r : Fin 512) (k : Fin 1024) :
    (show FVec Ideal S512x1024 .f32 from iblk m c 7 t) (ix2 r k) = ((xr x (rowi t r) k)) := by
  refine Eq.trans ?_ (congrFun A.a7 (ix2 (rowi t r) k))
  blk_point [iblk, V, idx t]
  all_goals rfl

theorem blk8 (r : Fin 512) (k : Fin 1024) :
    (show FVec Ideal S512x1024 .f32 from iblk m c 8 t) (ix2 r k) = ((xr d (rowi t r) k)) := by
  refine Eq.trans ?_ (congrFun A.a8 (ix2 (rowi t r) k))
  blk_point [iblk, V, idx t]
  all_goals rfl

theorem blk9 (k : Fin 1024) : (show FVec Ideal S1x1024 .f32 from iblk m c 9 t) (ix2 0 k) = ((gw g k)) := by
  refine Eq.trans ?_ (congrFun A.a9 (ix2 0 k))
  blk_point [iblk, V, idx t]
  all_goals rfl

omit A in
/-- One of the seven stores, read at its row and column. -/
theorem piece_at (P : FVec Ideal S512x512 .bf16) (j : Fin 7) (o : ℕ) (ho : o = 512 * j.val)
    (hP : ∀ r n, P (ix2 r n) = ((p j (ix2 (rowi t r) n))))
    (inb : ∀ a, (![0, o] : Fin 2 → ℕ) a + (![512, 512] : Fin 2 → ℕ) a ≤ S512x3584.size a) (z : Shape.Idx ⟨2, ![512, 512]⟩) :
    P z = ((cat p (rowi t ((Rect.unit (s := S512x3584) ![0, o] ![512, 512] inb).emb z 0)) ((Rect.unit (s := S512x3584) ![0, o] ![512, 512] inb).emb z 1))) := by
  obtain ⟨r, n, rfl⟩ : ∃ (r n : Fin 512), z = ix2 r n := ⟨z 0, z 1, by ext a; fin_cases a <;> rfl⟩
  refine (hP r n).trans (congrArg (fun v : EReal => v) ?_)
  have e0 : (Rect.unit (s := S512x3584) ![0, o] ![512, 512] inb).emb (ix2 r n) 0 = r := Fin.ext (by
    show 0 + 1 * r.val = r.val
    omega)
  rw [e0]
  refine (cat_at p _ _ j n ?_).symm
  show o + 1 * n.val = 512 * j.val + n.val
  omega

/-- What the seven stores leave. -/
theorem pcs_val (y : S512x3584.Idx) :
    View.canon (pcs m c t) y = ((cat p (rowi t (y 0)) (y 1))) := by
  refine View.canon_append_of_piecesOf (fun y : S512x3584.Idx => ((cat p (rowi t (y 0)) (y 1))))
    [] (pcs m c t) ⟨?_, ?_, ?_, ?_, ?_, ?_, ?_, trivial⟩ y (pcs_cover m c t y)
  · exact piece_at t _ 6 3072 (by rfl) (blk6 A t) inb_S512x3584_S512x512_0_3072
  · exact piece_at t _ 5 2560 (by rfl) (blk5 A t) inb_S512x3584_S512x512_0_2560
  · exact piece_at t _ 4 2048 (by rfl) (blk4 A t) inb_S512x3584_S512x512_0_2048
  · exact piece_at t _ 3 1536 (by rfl) (blk3 A t) inb_S512x3584_S512x512_0_1536
  · exact piece_at t _ 2 1024 (by rfl) (blk2 A t) inb_S512x3584_S512x512_0_1024
  · exact piece_at t _ 1 512 (by rfl) (blk1 A t) inb_S512x3584_S512x512_0_512
  · exact piece_at t _ 0 0 (by rfl) (blk0 A t) inb_S512x3584_S512x512_0_0

/-- A block of 896 columns of it. -/
theorem pcs_cols (v : View sig .tc .vmem S512x3584 .bf16) (o : ℕ) (ho : o + 896 ≤ 3584)
    (inb : ∀ a, (![0, o] : Fin 2 → ℕ) a + (![512, 896] : Fin 2 → ℕ) a ≤ S512x3584.size a) (r : Fin 512) (n : Fin 896) :
    (show FVec Ideal S512x896 .bf16 from v.readCov (Val := Elt Ideal) (pcs m c t) (Rect.unit (s := S512x3584) ![0, o] ![512, 896] inb).toLoadRect) (ix2 r n)
      = ((cat p (rowi t r) ⟨o + n.val, by omega⟩)) := by
  refine (congrFun (View.readCov_eq_canon_ld (Val := Elt Ideal) v (pcs m c t) (Rect.unit (s := S512x3584) ![0, o] ![512, 896] inb) (pcs_cover m c t)) (ix2 r n)).trans ?_
  refine (pcs_val A t _).trans (congrArg (fun v : EReal => v) ?_)
  have e0 : (Rect.unit (s := S512x3584) ![0, o] ![512, 896] inb).emb (ix2 r n) 0 = r := Fin.ext (by
    show 0 + 1 * r.val = r.val
    omega)
  have e1 : ((Rect.unit (s := S512x3584) ![0, o] ![512, 896] inb).emb (ix2 r n) 1 : Fin 3584) = (⟨o + n.val, by omega⟩ : Fin 3584) := Fin.ext (by
    show o + 1 * n.val = o + n.val
    omega)
  exact congrArg₂ (fun a b => cat p (rowi t a) b) e0 e1

/-- A slab of the weight. -/
theorem slab (q : ℕ) (hq : q < 4) (inb : ∀ a, (![q, 0, 0] : Fin 3 → ℕ) a + (![1, 1024, 896] : Fin 3 → ℕ) a ≤ S4x1024x896.size a)
    (k : Fin 1024) (n : Fin 896) :
    (show FVec Ideal S1x1024x896 .bf16 from
      View.ld (Val := Elt Ideal) (e' := .bf16) (V m c main_arg10) (Rect.unit (s := S4x1024x896) ![q, 0, 0] ![1, 1024, 896] inb)) (ix3 0 k n)
      = ((w (ix3 (⟨q, hq⟩ : Fin 4) k n))) := by
  refine (congrFun A.a10 _).trans (congrArg (fun v : EReal => v) (congrArg w ?_))
  funext a
  refine Fin.ext ?_
  fin_cases a
  · show q + 1 * 0 = q
    omega
  · show 0 + 1 * k.val = k.val
    omega
  · show 0 + 1 * n.val = n.val
    omega

omit A in
/-- The copied weight, read at the point that copies it. -/
theorem whole_read (r : Rect S4x1024x896) :
    (View.whole cc0_scratch0).readCov (Val := Elt Ideal)
      [⟨Rect.whole S4x1024x896,
          ReadAs.same.apply (View.read (Elt Ideal) (View.whole main_arg10) (V m c main_arg10))⟩] r.toLoadRect
      = View.ld (Val := Elt Ideal) (e' := .bf16) (V m c main_arg10) r := by
  rw [View.readCov_eq_canon_ld _ _ _ (fun y => ⟨_, List.mem_singleton_self _, by
    show y ∈ (Rect.whole S4x1024x896).set; rw [Rect.set_whole]; exact Finset.mem_univ y⟩)]
  have e : View.canon (Val := Elt Ideal) [⟨Rect.whole S4x1024x896,
      ReadAs.same.apply (View.read (Elt Ideal) (View.whole main_arg10) (V m c main_arg10))⟩] = V m c main_arg10 :=
    View.canon_unit_zero rfl _ _
  rw [e]
  rfl

/-- A slab of the copied weight, read at the point that copies it. -/
theorem slab_first (q : ℕ) (hq : q < 4) (inb : ∀ a, (![q, 0, 0] : Fin 3 → ℕ) a + (![1, 1024, 896] : Fin 3 → ℕ) a ≤ S4x1024x896.size a)
    (k : Fin 1024) (n : Fin 896) :
    (show FVec Ideal S1x1024x896 .bf16 from (View.whole cc0_scratch0).readCov (Val := Elt Ideal)
      [⟨Rect.whole S4x1024x896,
          ReadAs.same.apply (View.read (Elt Ideal) (View.whole main_arg10) (V m c main_arg10))⟩]
      (Rect.unit (s := S4x1024x896) ![q, 0, 0] ![1, 1024, 896] inb).toLoadRect) (ix3 0 k n)
      = ((w (ix3 (⟨q, hq⟩ : Fin 4) k n))) :=
  (congrFun (whole_read (Rect.unit (s := S4x1024x896) ![q, 0, 0] ![1, 1024, 896] inb)) (ix3 0 k n)).trans (slab A q hq inb k n)

/-- What four slabs of the weight hold. -/
structure Slabs (w : Cert.Reference10Ideal.S4x1024x896.Idx → EReal) (L0 L1 L2 L3 : FVec Ideal S1x1024x896 .bf16) : Prop where
  l0 : ∀ k n, L0 (ix3 0 k n) = ((w (ix3 0 k n)))
  l1 : ∀ k n, L1 (ix3 0 k n) = ((w (ix3 1 k n)))
  l2 : ∀ k n, L2 (ix3 0 k n) = ((w (ix3 2 k n)))
  l3 : ∀ k n, L3 (ix3 0 k n) = ((w (ix3 3 k n)))

variable (m c) in
omit A in
/-- The gradient of the normalised input at one block. -/
abbrev dub (v : View sig .tc .vmem S512x3584 .bf16) (L0 L1 L2 L3 : FVec Ideal S1x1024x896 .bf16) : FVec Ideal S512x1024 .f32 :=
  k0_pay13 (F := Ideal)
    (v.readCov (Val := Elt Ideal) (pcs m c t) (Rect.unit (s := S512x3584) ![0, 0] ![512, 896] inb_S512x3584_S512x896_0_0).toLoadRect) L0
    (v.readCov (Val := Elt Ideal) (pcs m c t) (Rect.unit (s := S512x3584) ![0, 896] ![512, 896] inb_S512x3584_S512x896_0_896).toLoadRect) L1
    (v.readCov (Val := Elt Ideal) (pcs m c t) (Rect.unit (s := S512x3584) ![0, 1792] ![512, 896] inb_S512x3584_S512x896_0_1792).toLoadRect) L2
    (v.readCov (Val := Elt Ideal) (pcs m c t) (Rect.unit (s := S512x3584) ![0, 2688] ![512, 896] inb_S512x3584_S512x896_0_2688).toLoadRect) L3

theorem dub_at (v : View sig .tc .vmem S512x3584 .bf16) {L0 L1 L2 L3 : FVec Ideal S1x1024x896 .bf16} (S : Slabs w L0 L1 L2 L3)
    (r : Fin 512) (k : Fin 1024) : dub m c t v L0 L1 L2 L3 (ix2 r k) = ((du p w (rowi t r) k)) := by
  refine (pay13_at _ _ _ _ _ _ _ _ _ _ _ _ _ _ _ _ (pcs_cols A t v 0 (by omega) _) (pcs_cols A t v 896 (by omega) _)
    (pcs_cols A t v 1792 (by omega) _) (pcs_cols A t v 2688 (by omega) _) S.l0 S.l1 S.l2 S.l3 r k).trans ?_
  refine congrArg (fun v : EReal => v) ?_
  rw [du, sum_blocks]
  refine congr (congrArg _ (congr (congrArg _ (congr (congrArg _ ?_) ?_)) ?_)) ?_ <;>
    exact Finset.sum_congr rfl fun n _ => congrArg _ (wc_at w k _ n _ (by rfl)).symm

theorem out10 (r : Fin 512) (n : Fin 3584) :
    (outsAt0 m c t.val t.isLt).1 (ix2 r n) = ((cat p (rowi t r) n)) := by
  by_cases h0 : t.val % 8 = 0
  · rw [outsAt0_A m c t h0 h0]
    dsimp only
    frame_out
    exact pcs_val A t (ix2 r n)
  · rw [outsAt0_B m c t h0 h0]
    dsimp only
    frame_out
    exact pcs_val A t (ix2 r n)

theorem out11 (r : Fin 512) (k : Fin 1024) :
    (outsAt0 m c t.val t.isLt).2.1 (ix2 r k) = ((dx p x d g w (rowi t r) k)) := by
  by_cases h0 : t.val % 8 = 0
  · rw [outsAt0_A m c t h0 h0]
    dsimp only
    frame_out
    exact pay4_at _ _ _ _ _ _ _ _ (dub_at A t (ms0_10 t).view ⟨slab_first A 0 (by omega) inb_S4x1024x896_S1x1024x896_0_0_0, slab_first A 1 (by omega) inb_S4x1024x896_S1x1024x896_1_0_0, slab_first A 2 (by omega) inb_S4x1024x896_S1x1024x896_2_0_0, slab_first A 3 (by omega) inb_S4x1024x896_S1x1024x896_3_0_0⟩) (blk7 A t) (blk8 A t) (blk9 A t) r k
  · rw [outsAt0_B m c t h0 h0]
    dsimp only
    frame_out
    simp only [read_unread_whole, scr m c]
    exact pay4_at _ _ _ _ _ _ _ _ (dub_at A t (ms0_10 t).view ⟨slab A 0 (by omega) inb_S4x1024x896_S1x1024x896_0_0_0, slab A 1 (by omega) inb_S4x1024x896_S1x1024x896_1_0_0, slab A 2 (by omega) inb_S4x1024x896_S1x1024x896_2_0_0, slab A 3 (by omega) inb_S4x1024x896_S1x1024x896_3_0_0⟩) (blk7 A t) (blk8 A t) (blk9 A t) r k

variable (p x w) in
omit A in
/-- What one block adds to the norm's weight gradient. -/
def part (z : Fin 8) (k : Fin 1024) : EReal :=
  if z.val = 0 then ∑ r, du p w (rowi t r) k * (xr x (rowi t r) k * rr (xr x (rowi t r))) else 0

omit A in
theorem ld_row (P : FVec Ideal S8x1024 .f32) (k : Fin 1024) :
    (show FVec Ideal S1x1024 .f32 from View.ld (Val := Elt Ideal) (e' := .f32) P (Rect.unit (s := S8x1024) ![0, 0] ![1, 1024] inb_S8x1024_S1x1024_0_0)) (ix2 0 k)
      = P (ix2 (0 : Fin 8) k) := by
  show P _ = P _
  refine congrArg P (funext fun a => Fin.ext ?_)
  fin_cases a
  · rfl
  · show 0 + 1 * k.val = k.val
    omega

/-- A later point adds its part to what was there. -/
theorem add_later (P : FVec Ideal S8x1024 .f32) (q : Fin 8 → Fin 1024 → EReal) (eP : ∀ z k, P (ix2 z k) = ((q z k)))
    (u : FVec Ideal S512x1024 .f32) (eu : ∀ r k, u (ix2 r k) = ((du p w (rowi t r) k)))
    (b : Memref sig .tc .vmem S8x1024 .f32) (hb : b.IsWhole) (z : Fin 8) (k : Fin 1024) :
    View.read (Elt Ideal) b.view (b.view.writes (Elt Ideal) (hb.unread P)
        [⟨Rect.unit ![0, 0] ![1, 1024] inb_S8x1024_S1x1024_0_0,
            k0_pay3 (F := Ideal) u (iblk m c 7 t) (k0_pay14 (F := Ideal) (iblk m c 7 t))
              (View.ld (Val := Elt Ideal) (e' := .f32) P (Rect.unit (s := S8x1024) ![0, 0] ![1, 1024] inb_S8x1024_S1x1024_0_0))⟩])
      (ix2 z k) = ((q z k + part p x w t z k)) := by
  by_cases h4 : z.val = 0
  · obtain rfl : z = 0 := Fin.ext h4
    refine (View.read_writes_cons_unit_of_mem b.view _ _ _ _ _ (ix2 0 k) rfl ?_).trans ?_
    · intro a
      fin_cases a
      · rfl
      · show k.val = 0 + k.val
        omega
    refine (pay3_at _ _ _ _ eu (blk7 A t) _ (q 0) (fun k => ?_) 0 k).trans ?_
    · exact (ld_row P k).trans (eP 0 k)
    · rw [part, if_pos h4]
  · rw [View.read_writes_cons_unit_of_not_mem b.view _ _ _ _ _ rfl (0 : Fin 2) (by show z.val < 0 ∨ 0 + 1 ≤ z.val; omega)]
    refine (congrFun (hb.read_unread (Val := Elt Ideal) P) _).trans ?_
    rw [part, if_neg h4, add_zero]
    exact eP z k

omit A in
theorem canon_zero (y : S8x1024.Idx) :
    View.canon (Val := Elt Ideal) (s := S8x1024) (e := .f32) [⟨Rect.unit (s := S8x1024) ![0, 0] ![8, 1024] inb_S8x1024_S8x1024_0_0, k0_pay5 (F := Ideal)⟩] y = (0 : EReal) := by
  refine (congrFun (View.canon_unit_zero (by ext a; fin_cases a <;> rfl) _ _) y).trans ?_
  rw [eq_ix2 y]
  pointwise [k0_pay5]

omit A in
/-- The first row of the zeros. -/
theorem zero_row (v : View sig .tc .vmem S8x1024 .f32) (k : Fin 1024) :
    (show FVec Ideal S1x1024 .f32 from v.readCov (Val := Elt Ideal)
      [⟨Rect.unit (s := S8x1024) ![0, 0] ![8, 1024] inb_S8x1024_S8x1024_0_0, k0_pay5 (F := Ideal)⟩]
      (Rect.unit (s := S8x1024) ![0, 0] ![1, 1024] inb_S8x1024_S1x1024_0_0).toLoadRect) (ix2 0 k) = (0 : EReal) := by
  have e := View.readCov_eq_canon_ld (Val := Elt Ideal) v
    [⟨Rect.unit (s := S8x1024) ![0, 0] ![8, 1024] inb_S8x1024_S8x1024_0_0, k0_pay5 (F := Ideal)⟩]
    (Rect.unit (s := S8x1024) ![0, 0] ![1, 1024] inb_S8x1024_S1x1024_0_0)
    (fun y => ⟨_, List.mem_singleton_self _, View.mem_set_unit_zero (S := S8x1024) (off := ![0, 0]) (by ext a; fin_cases a <;> rfl) inb_S8x1024_S8x1024_0_0 y⟩)
  exact (congrFun e (ix2 0 k)).trans (canon_zero _)

/-- The first point stores its part over zeros. -/
theorem add_first (R : FVec Ideal S1x1024 .f32) (eR : ∀ k, R (ix2 0 k) = (0 : EReal))
    (u : FVec Ideal S512x1024 .f32) (eu : ∀ r k, u (ix2 r k) = ((du p w (rowi t r) k))) (z : Fin 8) (k : Fin 1024) :
    View.canon (Val := Elt Ideal) (s := S8x1024) (e := .f32)
        [⟨Rect.unit (s := S8x1024) ![0, 0] ![1, 1024] inb_S8x1024_S1x1024_0_0,
            k0_pay3 (F := Ideal) u (iblk m c 7 t) (k0_pay14 (F := Ideal) (iblk m c 7 t)) R⟩,
          ⟨Rect.unit (s := S8x1024) ![0, 0] ![8, 1024] inb_S8x1024_S8x1024_0_0, k0_pay5 (F := Ideal)⟩]
      (ix2 z k) = ((part p x w t z k)) := by
  by_cases h4 : z.val = 0
  · obtain rfl : z = 0 := Fin.ext h4
    have e : (Rect.unit (s := S8x1024) ![0, 0] ![1, 1024] inb_S8x1024_S1x1024_0_0).emb (ix2 0 k : S1x1024.Idx) = ix2 (0 : Fin 8) k := by
      funext a
      refine Fin.ext ?_
      fin_cases a
      · rfl
      · show 0 + 1 * k.val = k.val
        omega
    rw [← e, View.canon_cons_emb]
    refine (pay3_at _ _ _ _ eu (blk7 A t) _ (fun _ => 0) eR 0 k).trans ?_
    rw [part, if_pos h4, zero_add]
  · rw [View.canon_cons_of_not_mem _ _ (fun hm => h4 (by
      have := (Rect.mem_set_unit (s := S8x1024) (off := ![0, 0]) (size := ![1, 1024]) (inb := inb_S8x1024_S1x1024_0_0)).mp hm 0
      have h2 : z.val < 0 + 1 := this.2
      omega))]
    refine (canon_zero _).trans ?_
    rw [part, if_neg h4]

theorem out12_step (z : Fin 8) (k : Fin 1024) (h0 : ¬ t.val % 8 = 0) (q : Fin 8 → Fin 1024 → EReal)
    (eq : ∀ z k, (outsAt0 m c (t.val - 1) (Nat.lt_of_le_of_lt (Nat.sub_le _ _) t.isLt)).2.2.1 (ix2 z k) = ((q z k))) :
    (outsAt0 m c t.val t.isLt).2.2.1 (ix2 z k) = ((q z k + part p x w t z k)) := by
  rw [outsAt0_B m c t h0 h0]
  dsimp only
  frame_out
  simp only [read_unread_whole, scr m c]
  exact add_later A t _ q eq _ (dub_at A t (ms0_10 t).view ⟨slab A 0 (by omega) inb_S4x1024x896_S1x1024x896_0_0_0, slab A 1 (by omega) inb_S4x1024x896_S1x1024x896_1_0_0, slab A 2 (by omega) inb_S4x1024x896_S1x1024x896_2_0_0, slab A 3 (by omega) inb_S4x1024x896_S1x1024x896_3_0_0⟩) (ms0_12 t) _ z k

theorem out12_first (z : Fin 8) (k : Fin 1024) (h0 : t.val % 8 = 0) :
    (outsAt0 m c t.val t.isLt).2.2.1 (ix2 z k) = ((part p x w t z k)) := by
  rw [outsAt0_A m c t h0 h0]
  dsimp only
  frame_out
  exact add_first A t _ (fun k => zero_row _ k) _ (dub_at A t (ms0_10 t).view ⟨slab_first A 0 (by omega) inb_S4x1024x896_S1x1024x896_0_0_0, slab_first A 1 (by omega) inb_S4x1024x896_S1x1024x896_1_0_0, slab_first A 2 (by omega) inb_S4x1024x896_S1x1024x896_2_0_0, slab_first A 3 (by omega) inb_S4x1024x896_S1x1024x896_3_0_0⟩) z k

/-- What the points so far have added up. -/
theorem out12 (n : ℕ) (hn : n < cfg0.N) (z : Fin 8) (k : Fin 1024) :
    (outsAt0 m c n hn).2.2.1 (ix2 z k)
      = ((∑ s ∈ Finset.range (n + 1), (if hs : s < cfg0.N then part p x w ⟨s, hs⟩ z k else 0))) := by
  induction n generalizing z k with
  | zero =>
    rw [Finset.sum_range_one, dif_pos hn]
    exact out12_first A ⟨0, hn⟩ z k rfl
  | succ n ih =>
    have hN := lt_of_lt_of_eq hn (show cfg0.N = 8 from N_0)
    rw [Finset.sum_range_succ, dif_pos hn]
    exact out12_step A ⟨n + 1, hn⟩ z k (by dsimp only; omega) _ (fun z k => ih _ z k)

omit A in
/-- Rows of all blocks are all rows. -/
theorem sum_rows (f : Fin 4096 → EReal) : ∑ t : Fin cfg0.N, ∑ r : Fin 512, f (rowi t r) = ∑ i, f i := by
  rw [← Fintype.sum_prod_type' (f := fun (t : Fin cfg0.N) (r : Fin 512) => f (rowi t r))]
  exact Fintype.sum_equiv (finProdFinEquiv (m := 8) (n := 512)) _ _ fun p => congrArg f (Fin.ext (by
    show p.1.val * 512 + p.2.val = p.2.val + 512 * p.1.val
    omega))

theorem out12_last (z : Fin 8) (k : Fin 1024) :
    (outsAt0 m c 7 (by rw [show cfg0.N = 8 from N_0]; omega)).2.2.1 (ix2 z k) = ((pack p x w z k)) := by
  rw [out12 A]
  refine congrArg (fun v : EReal => v) ?_
  have e : ∑ s ∈ Finset.range (7 + 1), (if hs : s < cfg0.N then part p x w ⟨s, hs⟩ z k else 0)
      = ∑ t : Fin cfg0.N, part p x w t z k := by
    rw [show 7 + 1 = cfg0.N from N_0.symm, Finset.sum_range]
    exact Finset.sum_congr rfl fun t _ => dif_pos t.isLt
  rw [e]
  unfold part pack
  split
  · exact sum_rows (fun i => du p w i k * (xr x i k * rr (xr x i)))
  · exact Finset.sum_const_zero

theorem fin10 : (dats m 0 c).arrAt 10 cfg0.N
    = (fun i => ((cat p (i 0) (i 1))) : FVec Ideal S4096x3584 .bf16) := by
  refine (dats m 0 c).arrAt_eq_of_covers 10 _ (by decide +kernel) fun t hf y => ?_
  blk_simp
  rw [after0_10]
  obtain ⟨r, k, rfl⟩ : ∃ (r : Fin 512) (k : Fin 3584), y = ix2 r k := ⟨y 0, y 1, by ext a; fin_cases a <;> rfl⟩
  refine (out10 A t r k).trans ?_
  have e0 : rowi t r = (win0_10.blk t).view.emb (ix2 r k) 0 := by
    refine Fin.ext ?_
    blk_simp [idx t]
    rfl
  have e1 : k = (win0_10.blk t).view.emb (ix2 r k) 1 := by
    refine Fin.ext ?_
    simp [idx t]
  exact congrArg₂ (fun (i : Fin 4096) (k : Fin 3584) => ((cat p i k))) e0 e1

theorem fin11 : (dats m 0 c).arrAt 11 cfg0.N
    = (fun i => ((dx p x d g w (i 0) (i 1))) : FVec Ideal S4096x1024 .f32) := by
  refine (dats m 0 c).arrAt_eq_of_covers 11 _ (by decide +kernel) fun t hf y => ?_
  blk_simp
  rw [after0_11]
  obtain ⟨r, k, rfl⟩ : ∃ (r : Fin 512) (k : Fin 1024), y = ix2 r k := ⟨y 0, y 1, by ext a; fin_cases a <;> rfl⟩
  refine (out11 A t r k).trans ?_
  have e0 : rowi t r = (win0_11.blk t).view.emb (ix2 r k) 0 := by
    refine Fin.ext ?_
    blk_simp [idx t]
    rfl
  have e1 : k = (win0_11.blk t).view.emb (ix2 r k) 1 := by
    refine Fin.ext ?_
    simp [idx t]
  exact congrArg₂ (fun (i : Fin 4096) (k : Fin 1024) => ((dx p x d g w i k))) e0 e1

theorem fin12 : (dats m 0 c).arrAt 12 cfg0.N
    = (fun i => ((pack p x w (i 0) (i 1))) : FVec Ideal S8x1024 .f32) := by
  refine (dats m 0 c).arrAt_eq_of_after_last 12 t0_7 (by decide +kernel) _ fun j => ?_
  obtain ⟨r, k, rfl⟩ : ∃ (r : Fin 8) (k : Fin 1024), j = ix2 r k := ⟨j 0, j 1, by ext a; fin_cases a <;> rfl⟩
  rw [after0_12]
  exact out12_last A r k

end Cert.Inb
-- ==== Proof.InbEnd.lean ====
/- Assembly: the input projection's gradient has the reference's three results. -/
module

public import proofs.«01_k».proof.Defs
public import proofs.«01_k».proof.Proof.InbKer
public import proofs.«01_k».proof.Proof.FfnEnd
public import proofs.«01_k».proof.Proof.Gen.Reference10Ideal.Run

@[expose] public section

set_option maxRecDepth 16384

noncomputable section

namespace Cert.Inb

open Idealize.ShloMosaic Idealize.ShloMosaic.TcCoe Idealize.SL.Sem
open Cert.Ffn (idx2)

open Cert.Kernel10Ideal in
/-- Names for the kernel's arguments. -/
theorem args (m : (ℓ : Loc nD τ sig) → Buf (Elt Ideal) ℓ) (c : Dev nD) : ∃ p x d g w, Args m c p x d g w :=
  ⟨![m ((c : Thread nD τ).loc main_arg0), m ((c : Thread nD τ).loc main_arg1), m ((c : Thread nD τ).loc main_arg2),
      m ((c : Thread nD τ).loc main_arg3), m ((c : Thread nD τ).loc main_arg4), m ((c : Thread nD τ).loc main_arg5),
      m ((c : Thread nD τ).loc main_arg6)], m ((c : Thread nD τ).loc main_arg7), m ((c : Thread nD τ).loc main_arg8),
    m ((c : Thread nD τ).loc main_arg9), m ((c : Thread nD τ).loc main_arg10), ⟨rfl, rfl, rfl, rfl, rfl, rfl, rfl, rfl, rfl, rfl, rfl⟩⟩

open Cert.Reference10Ideal.Read in
/-- The reference's three results are the kernel's. -/
theorem value : Cert.algebraic_Kernel10Ideal_Reference10Ideal := by
  intro m g m' g' hpre hargs
  refine ⟨_, _, _, (θ_run _ _ _).mono (fun r h c => h c) (Cert.Kernel10Ideal.Value.run_blocks m g),
    (θ_run _ _ _).mono (fun r h c => ?_) (Cert.Reference10Ideal.Value.run m' g')⟩
  obtain ⟨p, x, d, gg, w, A⟩ := args m c
  obtain ⟨a0, a1, a2, a3, a4, a5, a6, a7, a8, a9, a10⟩ := hargs c
  obtain ⟨r0, r1, r2, k⟩ := h c
  refine ⟨r0.trans ?_, r1.trans ?_, r2.trans ?_, k⟩ <;> clear h r0 r1 r2 k hargs
  · refine Eq.trans ?_ (fin10 A).symm
    refine (val_main_v42_eq ..).trans ?_
    rw [a0.trans A.a0, a1.trans A.a1, a2.trans A.a2, a3.trans A.a3, a4.trans A.a4, a5.trans A.a5, a6.trans A.a6]
    funext i
    rw [idx2 i]
    exact ref_cat16 ..
  · refine Eq.trans ?_ (fin11 A).symm
    refine (val_main_v43_eq ..).trans ?_
    rw [a0.trans A.a0, a1.trans A.a1, a2.trans A.a2, a3.trans A.a3, a4.trans A.a4, a5.trans A.a5, a6.trans A.a6, a7.trans A.a7, a8.trans A.a8, a9.trans A.a9, a10.trans A.a10]
    funext i
    rw [idx2 i]
    exact ref_dx ..
  · refine Eq.trans ?_ (fin12 A).symm
    refine (val_main_v41_eq ..).trans ?_
    rw [a0.trans A.a0, a1.trans A.a1, a2.trans A.a2, a3.trans A.a3, a4.trans A.a4, a5.trans A.a5, a6.trans A.a6, a7.trans A.a7, a10.trans A.a10]
    funext i
    rw [idx2 i]
    exact ref_pack ..

end Cert.Inb

end
-- ==== Proof.MixRef.lean ====
/- The mixing layer's output over the extended reals: the functions both programs compute, and the reference's stages read as
   them. Nothing here needs the arguments to be finite. -/
module

public import proofs.«01_k».proof.Proof.Gen.Reference11Ideal.Read
public import proofs.«01_k».proof.Proof.FwdRef
public import Idealize.ShloMosaic.Lib.Pointwise

@[expose] public section

set_option maxRecDepth 16384

noncomputable section

namespace Cert.Mix

open Idealize.ShloMosaic Idealize.ShloMosaic.TcCoe Idealize.SL.Sem
open Cert.Fwd (rr nrm)

/-- The reciprocal root mean square of 512 columns. -/
def rh (x : Fin 512 → EReal) : EReal :=
  Ideal.rsqrt (Ideal.div (∑ k, x k * x k) (Ideal.ofBits .f32 0x44000000#32) + Ideal.ofBits .f32 0x358637BD#32)

/-- The gate's activation. -/
def act (z : EReal) : EReal := z * Ideal.div 1 (1 + Ideal.exp (-z))

/-- The recurrence's half of the row that the product takes: normed, weighted, gated. -/
def lft (a h : Fin 512 → EReal) (w : Fin 1024 → EReal) (n : Fin 512) : EReal := a n * rh a * w ⟨n.val, by omega⟩ * act (h n)

/-- The attention's half: normed and weighted. -/
def rgt (b : Fin 512 → EReal) (w : Fin 1024 → EReal) (n : Fin 512) : EReal := b n * rh b * w ⟨512 + n.val, by omega⟩

/-- The row that the product takes. -/
def cat (a h b : Fin 512 → EReal) (w : Fin 1024 → EReal) (k : Fin 1024) : EReal :=
  if hk : k.val < 512 then lft a h w ⟨k.val, hk⟩ else rgt b w ⟨k.val - 512, by omega⟩

/-- The product. -/
def prd (a h b : Fin 512 → EReal) (w : Fin 1024 → EReal) (v : Fin 1024 → Fin 1024 → EReal) (n : Fin 1024) : EReal := ∑ k, cat a h b w k * v k n

/-- The layer's output. -/
def res (a h b : Fin 512 → EReal) (x w g : Fin 1024 → EReal) (v : Fin 1024 → Fin 1024 → EReal) (n : Fin 1024) : EReal :=
  x n + nrm (prd a h b w v) g n

section
open Cert.Reference11Ideal Cert.Reference11Ideal.Gen Cert.Reference11Ideal.Read

variable (A : FVec Ideal S4096x512 .f32) (H : FVec Ideal S4096x2048 .f32) (B : FVec Ideal S4096x512 .f32) (X : FVec Ideal S4096x1024 .f32)
variable (N G : FVec Ideal S1x1024 .f32) (V : FVec Ideal S1024x1024 .bf16)

/-- Row `i` of the recurrence's or the attention's output. -/
def rowA (i : Fin 4096) (k : Fin 512) : EReal := A (ix2 i k)

/-- Row `i` of the gate, the last of four column blocks. -/
def rowH (i : Fin 4096) (k : Fin 512) : EReal := H (ix2 i (⟨1536 + k.val, by omega⟩ : Fin 2048))

/-- Row `i` of the layer's input. -/
def rowX (i : Fin 4096) (k : Fin 1024) : EReal := X (ix2 i k)

/-- A norm's weight. -/
def rowG (k : Fin 1024) : EReal := G (ix2 0 k)

/-- The product's weight. -/
def wV (k n : Fin 1024) : EReal := V (ix2 k n)

theorem ref_ra (i : Fin 4096) (z : Fin 1) : val_main_v9 (F := Ideal) A (ix2 i z) = rh (rowA A i) := by
  pointwise [val_main_v9, val_main_v8, val_main_v7, val_main_v6, val_main_v5, val_main_v4, val_main_v3, val_main_v2,
    val_main_cst, val_main_cst_0, val_main_cst_1]
  rfl

theorem ref_rb (i : Fin 4096) (z : Fin 1) : val_main_v24 (F := Ideal) B (ix2 i z) = rh (rowA B i) := by
  pointwise [val_main_v24, val_main_v23, val_main_v22, val_main_v21, val_main_v20, val_main_v19, val_main_v18, val_main_v17,
    val_main_cst_2, val_main_cst_3, val_main_cst_4]
  rfl

theorem ref_act (i : Fin 4096) (n : Fin 512) : val_main_v14 (F := Ideal) H (ix2 i n) = act (rowH H i n) := by
  pointwise [val_main_v14, val_main_v0, val_main_call0_v5, val_main_call0_v4, val_main_call0_v3, val_main_call0_v2, val_main_call0_v1,
    val_main_call0_v0, val_main_call0_cst, val_main_call0_cst_0]
  rfl

theorem ref_lft (i : Fin 4096) (n : Fin 512) : val_main_v15 (F := Ideal) A H N (ix2 i n) = lft (rowA A i) (rowH H i) (rowG N) n := by
  pointwise [val_main_v15, val_main_v13, val_main_v12, val_main_v11, val_main_v10, val_main_v1]
  simp only [ref_ra, ref_act]
  rfl

theorem ref_rgt (i : Fin 4096) (n : Fin 512) : val_main_v28 (F := Ideal) B N (ix2 i n) = rgt (rowA B i) (rowG N) n := by
  pointwise [val_main_v28, val_main_v27, val_main_v26, val_main_v25, val_main_v16]
  simp only [ref_rb]
  rfl

theorem ref_cat32 (i : Fin 4096) (k : Fin 1024) :
    val_main_v29 (F := Ideal) A H B N (ix2 i k) = cat (rowA A i) (rowH H i) (rowA B i) (rowG N) k := by
  pointwise [val_main_v29]
  simp only [ref_lft, ref_rgt]
  unfold cat
  split_ifs <;> first | rfl | exact congrArg _ (Fin.ext (by dsimp only; omega))

theorem ref_cat (i : Fin 4096) (k : Fin 1024) :
    val_main_v32 (F := Ideal) A H B N (ix2 i k) = cat (rowA A i) (rowH H i) (rowA B i) (rowG N) k := by
  pointwise [val_main_v32]
  exact ref_cat32 ..

theorem ref_prd (i : Fin 4096) (n : Fin 1024) :
    val_main_v31 (F := Ideal) A H B N V (ix2 i n) = prd (rowA A i) (rowH H i) (rowA B i) (rowG N) (wV V) n := by
  pointwise [val_main_v31, val_main_v30]
  simp only [ref_cat32]
  rfl

theorem ref_rr (i : Fin 4096) (z : Fin 1) : val_main_v40 (F := Ideal) A H B N V (ix2 i z)
    = rr (prd (rowA A i) (rowH H i) (rowA B i) (rowG N) (wV V)) := by
  pointwise [val_main_v40, val_main_v39, val_main_v38, val_main_v37, val_main_v36, val_main_v35, val_main_v34, val_main_v33,
    val_main_cst_5, val_main_cst_6, val_main_cst_7]
  simp only [ref_prd]
  rfl

theorem ref_res (i : Fin 4096) (n : Fin 1024) : val_main_v45 (F := Ideal) A H B X N G V (ix2 i n)
    = res (rowA A i) (rowH H i) (rowA B i) (rowX X i) (rowG N) (rowG G) (wV V) n := by
  pointwise [val_main_v45, val_main_v44, val_main_v43, val_main_v42, val_main_v41]
  simp only [ref_prd, ref_rr]
  rfl

end

end Cert.Mix

end
-- ==== Proof.MixKer.lean ====
/- The mixing layer's output kernel: what its body computes on one block of 512 rows, and its three results. -/
module

public import proofs.«01_k».proof.Proof.Gen.Kernel11Ideal.Value
public import proofs.«01_k».proof.Proof.MixRef
public import Idealize.ShloMosaic.Lib.Pipeline.ValueKit
public import Idealize.ShloMosaic.Lib.Claim
public import Idealize.ShloMosaic.Lib.Pipeline.ReadBack
public import Idealize.ShloMosaic.Lib.WritesUnit

@[expose] public section

set_option maxRecDepth 16384

noncomputable section

namespace Cert.Mix

open Idealize.ShloMosaic Idealize.ShloMosaic.TcCoe Idealize.SL.Sem
open Idealize.ShloMosaic.Pipeline (Dat)
open Cert.Fwd (rr nrm)
open Cert.Kernel11Ideal Cert.Kernel11Ideal.Gen

variable (N : FVec Ideal S1x1024 .f32) (A H B : FVec Ideal S512x512 .f32) (w : Fin 1024 → EReal) (a h b : Fin 512 → Fin 512 → EReal)
variable (en : ∀ k, N (ix2 0 k) = w k) (ea : ∀ r k, A (ix2 r k) = a r k) (eh : ∀ r k, H (ix2 r k) = h r k) (eb : ∀ r k, B (ix2 r k) = b r k)

include en ea eh in
theorem lft_at (r n : Fin 512) :
    k0_pay1 (F := Ideal) (k0_pay7 (F := Ideal) N A) (k0_pay8 (F := Ideal) H) (ix2 r n) = lft (a r) (h r) w n := by
  pointwise [k0_pay1, k0_pay7, k0_pay8]
  simp only [en, ea, eh, zero_sub]
  rfl

include en eb in
theorem rgt_at (r n : Fin 512) :
    k0_pay2 (F := Ideal) (k0_pay5 (F := Ideal) N) (k0_pay6 (F := Ideal) B) (ix2 r n) = rgt (b r) w n := by
  pointwise [k0_pay2, k0_pay5, k0_pay6]
  simp only [en, eb]
  rfl

section
variable (C : FVec Ideal S512x1024 .bf16) (W : FVec Ideal S1024x1024 .bf16) (X : FVec Ideal S512x1024 .f32) (G : FVec Ideal S1x1024 .f32)
  (x : Fin 512 → Fin 1024 → EReal) (g : Fin 1024 → EReal) (v : Fin 1024 → Fin 1024 → EReal)
variable (ec : ∀ r k, C (ix2 r k) = cat (a r) (h r) (b r) w k) (ew : ∀ k n, W (ix2 k n) = v k n)
  (ex : ∀ r k, X (ix2 r k) = x r k) (eg : ∀ k, G (ix2 0 k) = g k)

include ec ew in
theorem pay3_at (r : Fin 512) (n : Fin 1024) : k0_pay3 (F := Ideal) C W (ix2 r n) = prd (a r) (h r) (b r) w v n := by
  pointwise [k0_pay3]
  simp only [ec, ew, zero_add]
  rfl

include ec ew ex eg in
theorem pay4_at (r : Fin 512) (n : Fin 1024) :
    k0_pay4 (F := Ideal) C W X G (ix2 r n) = res (a r) (h r) (b r) (x r) w g v n := by
  have e := pay3_at w a h b C W v ec ew
  pointwise [k0_pay4]
  simp only [e, ex, eg]
  rfl

end

variable (m : (ℓ : Loc nD τ sig) → Buf (Elt Ideal) ℓ) (c : Dev nD)

theorem scr (n : ℕ) (hn : n < cfg0.N) : (outsAt0 m c n hn).2.2.2 = V m c main_arg6 := by
  induction n with
  | zero =>
    rw [outsAt0_A m c ⟨0, hn⟩ rfl]
    dsimp only
    frame_out
    exact View.canon_unit_zero rfl _ _
  | succ n ih =>
    have hN := lt_of_lt_of_eq hn (show cfg0.N = 8 from N_0)
    rw [outsAt0_B m c ⟨n + 1, hn⟩ (by dsimp only; omega)]
    dsimp only
    unfold sout0_B_0
    exact ih _

/-- The block index of every window at a grid point. -/
theorem idx : ∀ t : Fin cfg0.N, win0_0.index t = ![t.val, 0] ∧ win0_1.index t = ![t.val, 3] ∧ win0_2.index t = ![t.val, 0] ∧ win0_3.index t = ![t.val, 0] ∧ win0_4.index t = ![0, 0]
    ∧ win0_5.index t = ![0, 0] ∧ win0_6.index t = ![t.val, 0] ∧ win0_7.index t = ![t.val, 0] ∧ win0_8.index t = ![t.val, 0] :=
  (by decide +kernel : ∀ t : Fin grid0.N, win0_0.index t = ![t.val, 0] ∧ win0_1.index t = ![t.val, 3] ∧ win0_2.index t = ![t.val, 0] ∧ win0_3.index t = ![t.val, 0] ∧ win0_4.index t = ![0, 0]
    ∧ win0_5.index t = ![0, 0] ∧ win0_6.index t = ![t.val, 0] ∧ win0_7.index t = ![t.val, 0] ∧ win0_8.index t = ![t.val, 0])

/-- Row `r` of block `t`. -/
def rowi (t : Fin cfg0.N) (r : Fin 512) : Fin 4096 :=
  ⟨t.val * 512 + r.val, by have h := lt_of_lt_of_eq t.isLt (show cfg0.N = 8 from N_0); omega⟩

/-- The recurrence's output. -/
abbrev os (i : Fin 4096) : Fin 512 → EReal := rowA (m ((c : Thread nD τ).loc main_arg0)) i

/-- The gate. -/
abbrev hs (i : Fin 4096) : Fin 512 → EReal := rowH (m ((c : Thread nD τ).loc main_arg1)) i

/-- The attention's output. -/
abbrev bs (i : Fin 4096) : Fin 512 → EReal := rowA (m ((c : Thread nD τ).loc main_arg2)) i

/-- The layer's input. -/
abbrev xs (i : Fin 4096) : Fin 1024 → EReal := rowX (m ((c : Thread nD τ).loc main_arg3)) i

/-- The two halves' norm weights. -/
abbrev ns : Fin 1024 → EReal := rowG (m ((c : Thread nD τ).loc main_arg4))

/-- The last norm's weight. -/
abbrev gs : Fin 1024 → EReal := rowG (m ((c : Thread nD τ).loc main_arg5))

/-- The product's weight. -/
abbrev vs : Fin 1024 → Fin 1024 → EReal := wV (m ((c : Thread nD τ).loc main_arg6))

variable (t : Fin cfg0.N)

theorem blk0 (r : Fin 512) (k : Fin 512) :
    (show FVec Ideal S512x512 .f32 from iblk m c 0 t) (ix2 r k) = os m c (rowi t r) k := by
  show _ = m ((c : Thread nD τ).loc main_arg0) (ix2 (rowi t r) k)
  blk_point [iblk, V, idx t]
  all_goals rfl

theorem blk1 (r : Fin 512) (k : Fin 512) :
    (show FVec Ideal S512x512 .f32 from iblk m c 1 t) (ix2 r k) = hs m c (rowi t r) k := by
  show _ = m ((c : Thread nD τ).loc main_arg1) (ix2 (rowi t r) (⟨1536 + k.val, by omega⟩ : Fin 2048))
  blk_point [iblk, V, idx t]
  all_goals rfl

theorem blk2 (r : Fin 512) (k : Fin 512) :
    (show FVec Ideal S512x512 .f32 from iblk m c 2 t) (ix2 r k) = bs m c (rowi t r) k := by
  show _ = m ((c : Thread nD τ).loc main_arg2) (ix2 (rowi t r) k)
  blk_point [iblk, V, idx t]
  all_goals rfl

theorem blk3 (r : Fin 512) (k : Fin 1024) :
    (show FVec Ideal S512x1024 .f32 from iblk m c 3 t) (ix2 r k) = xs m c (rowi t r) k := by
  show _ = m ((c : Thread nD τ).loc main_arg3) (ix2 (rowi t r) k)
  blk_point [iblk, V, idx t]
  all_goals rfl

theorem blk4 (k : Fin 1024) :
    (show FVec Ideal S1x1024 .f32 from iblk m c 4 t) (ix2 0 k) = ns m c k := by
  show _ = m ((c : Thread nD τ).loc main_arg4) (ix2 0 k)
  blk_point [iblk, V, idx t]
  all_goals rfl

theorem blk5 (k : Fin 1024) :
    (show FVec Ideal S1x1024 .f32 from iblk m c 5 t) (ix2 0 k) = gs m c k := by
  show _ = m ((c : Thread nD τ).loc main_arg5) (ix2 0 k)
  blk_point [iblk, V, idx t]
  all_goals rfl

/-- The two stores of the row that the product takes. -/
def pcs : List (View.Piece (Elt Ideal) S512x1024 .bf16) :=
  [⟨Rect.unit ![0, 512] ![512, 512] inb_S512x1024_S512x512_0_512,
      k0_pay2 (F := Ideal) (k0_pay5 (F := Ideal) (iblk m c 4 t)) (k0_pay6 (F := Ideal) (iblk m c 2 t))⟩,
    ⟨Rect.unit ![0, 0] ![512, 512] inb_S512x1024_S512x512_0_0,
      k0_pay1 (F := Ideal) (k0_pay7 (F := Ideal) (iblk m c 4 t) (iblk m c 0 t)) (k0_pay8 (F := Ideal) (iblk m c 1 t))⟩]

theorem mem_cols (o : ℕ) (inb : ∀ a, (![0, o] : Fin 2 → ℕ) a + (![512, 512] : Fin 2 → ℕ) a ≤ S512x1024.size a) (y : S512x1024.Idx)
    (h0 : o ≤ (y 1).val) (h1 : (y 1).val < o + 512) :
    y ∈ (Rect.unit (s := S512x1024) ![0, o] ![512, 512] inb).set := by
  have h2 : (y 0).val < 512 := (y 0).isLt
  refine (Rect.mem_set_unit (s := S512x1024) (off := ![0, o]) (size := ![512, 512]) (inb := inb)).mpr fun a => ?_
  fin_cases a
  · exact ⟨Nat.zero_le _, by show (y 0).val < 0 + 512; omega⟩
  · exact ⟨h0, h1⟩

theorem pcs_cover (y : S512x1024.Idx) : ∃ p ∈ pcs m c t, y ∈ p.1.set := by
  have h1 : (y 1).val < 1024 := (y 1).isLt
  by_cases a : (y 1).val < 512
  · exact ⟨_, List.mem_cons_of_mem _ List.mem_cons_self, mem_cols 0 inb_S512x1024_S512x512_0_0 y (by omega) (by omega)⟩
  · exact ⟨_, List.mem_cons_self, mem_cols 512 inb_S512x1024_S512x512_0_512 y (by omega) (by omega)⟩

/-- One of the two stores, read at its row and column. -/
theorem piece_at (P : FVec Ideal S512x512 .bf16) (o : ℕ)
    (hP : ∀ (r n : Fin 512) (k : Fin 1024), k.val = o + n.val → P (ix2 r n) = cat (os m c (rowi t r)) (hs m c (rowi t r)) (bs m c (rowi t r)) (ns m c) k)
    (inb : ∀ a, (![0, o] : Fin 2 → ℕ) a + (![512, 512] : Fin 2 → ℕ) a ≤ S512x1024.size a) (z : Shape.Idx ⟨2, ![512, 512]⟩) :
    P z = (fun (r : Fin 512) (k : Fin 1024) => cat (os m c (rowi t r)) (hs m c (rowi t r)) (bs m c (rowi t r)) (ns m c) k) ((Rect.unit (s := S512x1024) ![0, o] ![512, 512] inb).emb z 0)
      ((Rect.unit (s := S512x1024) ![0, o] ![512, 512] inb).emb z 1) := by
  obtain ⟨r, n, rfl⟩ : ∃ (r n : Fin 512), z = ix2 r n := ⟨z 0, z 1, by ext a; fin_cases a <;> rfl⟩
  have e0 : (Rect.unit (s := S512x1024) ![0, o] ![512, 512] inb).emb (ix2 r n) 0 = r := Fin.ext (by
    show 0 + 1 * r.val = r.val
    omega)
  rw [e0]
  refine hP r n _ ?_
  show o + 1 * n.val = o + n.val
  omega

/-- What the two stores leave. -/
theorem pcs_val (y : S512x1024.Idx) :
    View.canon (pcs m c t) y = (fun (r : Fin 512) (k : Fin 1024) => cat (os m c (rowi t r)) (hs m c (rowi t r)) (bs m c (rowi t r)) (ns m c) k) (y 0) (y 1) := by
  refine View.canon_append_of_piecesOf (fun y : S512x1024.Idx => (fun (r : Fin 512) (k : Fin 1024) => cat (os m c (rowi t r)) (hs m c (rowi t r)) (bs m c (rowi t r)) (ns m c) k) (y 0) (y 1))
    [] (pcs m c t) ⟨?_, ?_, trivial⟩ y (pcs_cover m c t y)
  · refine piece_at m c t _ 512 (fun r n k hk => (rgt_at _ _ _ (fun r => bs m c (rowi t r)) (blk4 m c t) (blk2 m c t) r n).trans ?_) inb_S512x1024_S512x512_0_512
    unfold cat
    rw [dif_neg (by omega)]
    exact congrArg _ (Fin.ext (by dsimp only; omega))
  · refine piece_at m c t _ 0 (fun r n k hk => (lft_at _ _ _ _ (fun r => os m c (rowi t r)) (fun r => hs m c (rowi t r)) (blk4 m c t) (blk0 m c t) (blk1 m c t) r n).trans ?_) inb_S512x1024_S512x512_0_0
    unfold cat
    rw [dif_pos (by omega)]
    exact congrArg _ (Fin.ext (by dsimp only; omega))

/-- The row read back whole. -/
theorem pcs_read (v : View sig .tc .vmem S512x1024 .bf16) (r : Fin 512) (k : Fin 1024) :
    (show FVec Ideal S512x1024 .bf16 from v.readCov (Val := Elt Ideal) (pcs m c t)
      (Rect.unit (s := S512x1024) ![0, 0] ![512, 1024] inb_S512x1024_S512x1024_0_0).toLoadRect) (ix2 r k) = cat (os m c (rowi t r)) (hs m c (rowi t r)) (bs m c (rowi t r)) (ns m c) k := by
  refine (congrFun (View.readCov_eq_canon_ld (Val := Elt Ideal) v (pcs m c t)
    (Rect.unit (s := S512x1024) ![0, 0] ![512, 1024] inb_S512x1024_S512x1024_0_0) (pcs_cover m c t)) (ix2 r k)).trans ?_
  refine (pcs_val m c t _).trans ?_
  have e0 : (Rect.unit (s := S512x1024) ![0, 0] ![512, 1024] inb_S512x1024_S512x1024_0_0).emb (ix2 r k) 0 = r := Fin.ext (by
    show 0 + 1 * r.val = r.val
    omega)
  have e1 : (Rect.unit (s := S512x1024) ![0, 0] ![512, 1024] inb_S512x1024_S512x1024_0_0).emb (ix2 r k) 1 = k := Fin.ext (by
    show 0 + 1 * k.val = k.val
    omega)
  exact congrArg₂ (fun (r : Fin 512) (k : Fin 1024) => cat (os m c (rowi t r)) (hs m c (rowi t r)) (bs m c (rowi t r)) (ns m c) k) e0 e1

theorem wgt_later (k n : Fin 1024) : (show FVec Ideal S1024x1024 .bf16 from V m c main_arg6) (ix2 k n) = vs m c k n := rfl

/-- The copied weight, read at the point that copies it. -/
theorem wgt_first (k n : Fin 1024) :
    (show FVec Ideal S1024x1024 .bf16 from (View.whole cc0_scratch0).readCov (Val := Elt Ideal)
      [⟨Rect.whole S1024x1024,
          ReadAs.same.apply (View.read (Elt Ideal) (View.whole main_arg6) (V m c main_arg6))⟩]
      (Rect.unit (s := S1024x1024) ![0, 0] ![1024, 1024] inb_S1024x1024_S1024x1024_0_0).toLoadRect) (ix2 k n) = vs m c k n := by
  rw [View.readCov_eq_canon_ld _ _ _ (fun y => ⟨_, List.mem_singleton_self _, by
    show y ∈ (Rect.whole S1024x1024).set; rw [Rect.set_whole]; exact Finset.mem_univ y⟩)]
  have e : View.canon (Val := Elt Ideal) [⟨Rect.whole S1024x1024,
      ReadAs.same.apply (View.read (Elt Ideal) (View.whole main_arg6) (V m c main_arg6))⟩] = V m c main_arg6 :=
    View.canon_unit_zero rfl _ _
  rw [e]
  show m ((c : Thread nD τ).loc main_arg6) _ = m ((c : Thread nD τ).loc main_arg6) _
  refine congrArg (m ((c : Thread nD τ).loc main_arg6)) ?_
  funext a
  refine Fin.ext ?_
  fin_cases a
  · show 0 + 1 * k.val = k.val
    omega
  · show 0 + 1 * n.val = n.val
    omega

theorem out6 (r : Fin 512) (k : Fin 1024) :
    (outsAt0 m c t.val t.isLt).1 (ix2 r k) = cat (os m c (rowi t r)) (hs m c (rowi t r)) (bs m c (rowi t r)) (ns m c) k := by
  by_cases h0 : t.val % 8 = 0
  · rw [outsAt0_A m c t h0]
    dsimp only
    frame_out
    exact pcs_val m c t (ix2 r k)
  · rw [outsAt0_B m c t h0]
    dsimp only
    frame_out
    exact pcs_val m c t (ix2 r k)

theorem out7 (r : Fin 512) (k : Fin 1024) :
    (outsAt0 m c t.val t.isLt).2.1 (ix2 r k) = prd (os m c (rowi t r)) (hs m c (rowi t r)) (bs m c (rowi t r)) (ns m c) (vs m c) k := by
  by_cases h0 : t.val % 8 = 0
  · rw [outsAt0_A m c t h0]
    dsimp only
    frame_out
    exact pay3_at _ (fun r => os m c (rowi t r)) (fun r => hs m c (rowi t r)) (fun r => bs m c (rowi t r)) _ _ _ (pcs_read m c t (ms0_6 t).view) (wgt_first m c) r k
  · rw [outsAt0_B m c t h0]
    dsimp only
    frame_out
    simp only [read_unread_whole, scr m c]
    exact pay3_at _ (fun r => os m c (rowi t r)) (fun r => hs m c (rowi t r)) (fun r => bs m c (rowi t r)) _ _ _ (pcs_read m c t (ms0_6 t).view) (wgt_later m c) r k

theorem out8 (r : Fin 512) (k : Fin 1024) :
    (outsAt0 m c t.val t.isLt).2.2.1 (ix2 r k) = res (os m c (rowi t r)) (hs m c (rowi t r)) (bs m c (rowi t r)) (xs m c (rowi t r)) (ns m c) (gs m c) (vs m c) k := by
  by_cases h0 : t.val % 8 = 0
  · rw [outsAt0_A m c t h0]
    dsimp only
    frame_out
    exact pay4_at _ (fun r => os m c (rowi t r)) (fun r => hs m c (rowi t r)) (fun r => bs m c (rowi t r)) _ _ _ _ (fun r => xs m c (rowi t r)) _ _ (pcs_read m c t (ms0_6 t).view) (wgt_first m c) (blk3 m c t) (blk5 m c t) r k
  · rw [outsAt0_B m c t h0]
    dsimp only
    frame_out
    simp only [read_unread_whole, scr m c]
    exact pay4_at _ (fun r => os m c (rowi t r)) (fun r => hs m c (rowi t r)) (fun r => bs m c (rowi t r)) _ _ _ _ (fun r => xs m c (rowi t r)) _ _ (pcs_read m c t (ms0_6 t).view) (wgt_later m c) (blk3 m c t) (blk5 m c t) r k

theorem fin6 : (dats m 0 c).arrAt 6 cfg0.N
    = (fun i => cat (os m c (i 0)) (hs m c (i 0)) (bs m c (i 0)) (ns m c) (i 1) : FVec Ideal S4096x1024 .bf16) := by
  refine (dats m 0 c).arrAt_eq_of_covers 6 _ (by decide +kernel) fun t hf y => ?_
  blk_simp
  rw [after0_6]
  obtain ⟨r, k, rfl⟩ : ∃ (r : Fin 512) (k : Fin 1024), y = ix2 r k := ⟨y 0, y 1, by ext a; fin_cases a <;> rfl⟩
  refine (out6 m c t r k).trans ?_
  have e0 : rowi t r = (win0_6.blk t).view.emb (ix2 r k) 0 := by
    refine Fin.ext ?_
    blk_simp [idx t]
    rfl
  have e1 : k = (win0_6.blk t).view.emb (ix2 r k) 1 := by
    refine Fin.ext ?_
    simp [idx t]
  exact congrArg₂ (fun (i : Fin 4096) (k : Fin 1024) => cat (os m c i) (hs m c i) (bs m c i) (ns m c) k) e0 e1

theorem fin7 : (dats m 0 c).arrAt 7 cfg0.N
    = (fun i => prd (os m c (i 0)) (hs m c (i 0)) (bs m c (i 0)) (ns m c) (vs m c) (i 1) : FVec Ideal S4096x1024 .f32) := by
  refine (dats m 0 c).arrAt_eq_of_covers 7 _ (by decide +kernel) fun t hf y => ?_
  blk_simp
  rw [after0_7]
  obtain ⟨r, k, rfl⟩ : ∃ (r : Fin 512) (k : Fin 1024), y = ix2 r k := ⟨y 0, y 1, by ext a; fin_cases a <;> rfl⟩
  refine (out7 m c t r k).trans ?_
  have e0 : rowi t r = (win0_7.blk t).view.emb (ix2 r k) 0 := by
    refine Fin.ext ?_
    blk_simp [idx t]
    rfl
  have e1 : k = (win0_7.blk t).view.emb (ix2 r k) 1 := by
    refine Fin.ext ?_
    simp [idx t]
  exact congrArg₂ (fun (i : Fin 4096) (k : Fin 1024) => prd (os m c i) (hs m c i) (bs m c i) (ns m c) (vs m c) k) e0 e1

theorem fin8 : (dats m 0 c).arrAt 8 cfg0.N
    = (fun i => res (os m c (i 0)) (hs m c (i 0)) (bs m c (i 0)) (xs m c (i 0)) (ns m c) (gs m c) (vs m c) (i 1) : FVec Ideal S4096x1024 .f32) := by
  refine (dats m 0 c).arrAt_eq_of_covers 8 _ (by decide +kernel) fun t hf y => ?_
  blk_simp
  rw [after0_8]
  obtain ⟨r, k, rfl⟩ : ∃ (r : Fin 512) (k : Fin 1024), y = ix2 r k := ⟨y 0, y 1, by ext a; fin_cases a <;> rfl⟩
  refine (out8 m c t r k).trans ?_
  have e0 : rowi t r = (win0_8.blk t).view.emb (ix2 r k) 0 := by
    refine Fin.ext ?_
    blk_simp [idx t]
    rfl
  have e1 : k = (win0_8.blk t).view.emb (ix2 r k) 1 := by
    refine Fin.ext ?_
    simp [idx t]
  exact congrArg₂ (fun (i : Fin 4096) (k : Fin 1024) => res (os m c i) (hs m c i) (bs m c i) (xs m c i) (ns m c) (gs m c) (vs m c) k) e0 e1

end Cert.Mix

end
-- ==== Proof.MixEnd.lean ====
module

public import proofs.«01_k».proof.Defs
public import proofs.«01_k».proof.Proof.MixKer
public import proofs.«01_k».proof.Proof.Gen.Reference11Ideal.Run

@[expose] public section

set_option maxRecDepth 16384

noncomputable section

namespace Cert.Mix

open Idealize.ShloMosaic Idealize.ShloMosaic.TcCoe Idealize.SL.Sem

theorem idx2 {a b : ℕ} (i : Shape.Idx ⟨2, ![a, b]⟩) : i = ix2 (n0 := a) (n1 := b) (i 0) (i 1) := by
  funext k; fin_cases k <;> rfl

open Cert.Reference11Ideal.Read in
/-- The reference's three results are the kernel's. -/
theorem value : Cert.algebraic_Kernel11Ideal_Reference11Ideal := by
  intro m g m' g' hpre hargs
  refine ⟨_, _, _, (θ_run _ _ _).mono (fun r h c => h c) (Cert.Kernel11Ideal.Value.run_blocks m g),
    (θ_run _ _ _).mono (fun r h c => ?_) (Cert.Reference11Ideal.Value.run m' g')⟩
  obtain ⟨a0, a1, a2, a3, a4, a5, a6⟩ := hargs c
  obtain ⟨r0, r1, r2, k⟩ := h c
  refine ⟨r0.trans ?_, r1.trans ?_, r2.trans ?_, k⟩ <;> clear h r0 r1 r2 k hargs
  · refine Eq.trans ?_ (fin6 m c).symm
    refine (val_main_v32_eq ..).trans ?_
    rw [a0, a1, a2, a4]
    funext i
    rw [idx2 i]
    exact ref_cat ..
  · refine Eq.trans ?_ (fin7 m c).symm
    refine (val_main_v31_eq ..).trans ?_
    rw [a0, a1, a2, a4, a6]
    funext i
    rw [idx2 i]
    exact ref_prd ..
  · refine Eq.trans ?_ (fin8 m c).symm
    refine (val_main_v45_eq ..).trans ?_
    rw [a0, a1, a2, a3, a4, a5, a6]
    funext i
    rw [idx2 i]
    exact ref_res ..

end Cert.Mix

end
-- ==== Proof.PleRef.lean ====
/- The embedding's gate, the loss and their gradients over the extended reals: the functions both programs compute, and the
   reference's stages read as them. Nothing here needs the arguments to be finite. -/
module

public import proofs.«01_k».proof.Proof.Gen.Reference12Ideal.Read
public import proofs.«01_k».proof.Proof.FfnReal
public import Idealize.ShloMosaic.Lib.Pointwise

@[expose] public section

set_option maxRecDepth 16384

noncomputable section

namespace Cert.Ple

open Idealize.ShloMosaic Idealize.ShloMosaic.TcCoe Idealize.SL.Sem
open Cert.Ffn (word_1024 word_one div_1024)

theorem word_half : Ideal.ofBits .f32 0x3F000000#32 = ((1 / 2 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_inv : Ideal.ofBits .f32 0x3A800000#32 = ((1 / 1024 : ℝ) : EReal) := by
  simp [Ideal.ofBits, Ideal.ieee, -EReal.coe_mul]; norm_num

/-- The embedding of a token's row, the weight in four column blocks. -/
def ev (p : Fin 256 → EReal) (w : Fin 4 → Fin 256 → Fin 256 → EReal) (n : Fin 1024) : EReal :=
  ∑ k, p k * w ⟨n.val / 256, by omega⟩ k ⟨n.val % 256, Nat.mod_lt _ (by norm_num)⟩

/-- The gate of a row. -/
def gt (h : Fin 1024 → EReal) (v : Fin 1024 → Fin 1024 → EReal) (n : Fin 1024) : EReal :=
  Ideal.div 1 (1 + Ideal.exp (-(∑ k, h k * v k n)))

section
variable (h : Fin 1024 → EReal) (p : Fin 256 → EReal) (t : Fin 1024 → EReal)
  (w : Fin 4 → Fin 256 → Fin 256 → EReal) (v : Fin 1024 → Fin 1024 → EReal)

/-- The error of a row against its target. -/
def er (n : Fin 1024) : EReal := h n + ev p w n * gt h v n - t n

/-- The loss's gradient at the gated row. -/
def g3 (n : Fin 1024) : EReal := er h p t w v n * ((1 / 1024 : ℝ) : EReal)

/-- The gradient of the embedding. -/
def de (n : Fin 1024) : EReal := g3 h p t w v n * gt h v n

/-- The gradient of the gate's input. -/
def ds (n : Fin 1024) : EReal := g3 h p t w v n * ev p w n * gt h v n * (1 - gt h v n)

/-- The gradient of the row. -/
def dh (k : Fin 1024) : EReal := g3 h p t w v k + ∑ n, ds h p t w v n * v k n

/-- The mean of a row's squared errors. -/
def sq : EReal := Ideal.div (∑ n, er h p t w v n * er h p t w v n) ((1024 : ℝ) : EReal)

theorem g3_eq (n : Fin 1024) :
    Ideal.div ((1 / 2 : ℝ) : EReal) ((1024 : ℝ) : EReal) * (((2 : ℝ) : EReal) * er h p t w v n) = g3 h p t w v n := by
  rw [div_1024, ← mul_assoc, ← EReal.coe_mul, mul_comm, g3]
  norm_num

theorem ds_eq (n : Fin 1024) :
    ev p w n * g3 h p t w v n * (gt h v n * (1 - gt h v n)) = ds h p t w v n := by
  rw [ds, mul_comm (ev p w n), mul_assoc _ (gt h v n)]

end

section
open Cert.Reference12Ideal Cert.Reference12Ideal.Gen Cert.Reference12Ideal.Read

variable (H : FVec Ideal S4096x1024 .f32) (P : FVec Ideal S4096x256 .f32) (T : FVec Ideal S4096x1024 .f32)
  (W : FVec Ideal S4x256x256 .bf16) (V : FVec Ideal S1024x1024 .bf16)

/-- Row `i` of a matrix of 1024 columns. -/
def rowH (H : FVec Ideal S4096x1024 .f32) (i : Fin 4096) (k : Fin 1024) : EReal := H (ix2 i k)

/-- Row `i` of the tokens' embeddings. -/
def rowP (i : Fin 4096) (k : Fin 256) : EReal := P (ix2 i k)

/-- The embedding's weight by block, row and column. -/
def wW (q : Fin 4) (k n : Fin 256) : EReal := W (ix3 q k n)

/-- The gate's weight by row and column. -/
def wV (k n : Fin 1024) : EReal := V (ix2 k n)

theorem ref_w (k : Fin 256) (n : Fin 1024) : val_main_v3 (F := Ideal) W (ix2 k n)
    = wW W ⟨n.val / 256, by omega⟩ k ⟨n.val % 256, Nat.mod_lt _ (by norm_num)⟩ := by
  pointwise [val_main_v3, val_main_v2, val_main_v1]
  rfl

theorem ref_ev (i : Fin 4096) (n : Fin 1024) : val_main_v5 (F := Ideal) P W (ix2 i n) = ev (rowP P i) (wW W) n := by
  pointwise [val_main_v5, val_main_v4, val_main_v0, val_main_cst]
  simp only [ref_w, add_zero]
  rfl

theorem ref_gt (i : Fin 4096) (n : Fin 1024) : val_main_v14 (F := Ideal) H V (ix2 i n) = gt (rowH H i) (wV V) n := by
  pointwise [val_main_v14, val_main_v13, val_main_v12, val_main_v11, val_main_v10, val_main_v9, val_main_v8, val_main_v7, val_main_v6,
    val_main_v0, val_main_cst, val_main_cst_0, val_main_cst_1]
  rfl

theorem ref_er (i : Fin 4096) (n : Fin 1024) :
    val_main_v20 (F := Ideal) H P T W V (ix2 i n) = er (rowH H i) (rowP P i) (rowH T i) (wW W) (wV V) n := by
  pointwise [val_main_v20, val_main_v19, val_main_v18]
  simp only [ref_ev, ref_gt]
  rfl

theorem ref_g3 (i : Fin 4096) (n : Fin 1024) :
    val_main_v34 (F := Ideal) H P T W V (ix2 i n) = g3 (rowH H i) (rowP P i) (rowH T i) (wW W) (wV V) n := by
  pointwise [val_main_v34, val_main_v33, val_main_v32, val_main_v31, val_main_v30, val_main_v29, val_main_v23, val_main_v22,
    val_main_cst_3, val_main_cst_8, val_main_cst_9, val_main_cst_10]
  simp only [ref_er, word_half, word_two, word_1024]
  exact g3_eq ..

theorem ref_de (i : Fin 4096) (n : Fin 1024) :
    val_main_v42 (F := Ideal) H P T W V (ix2 i n) = de (rowH H i) (rowP P i) (rowH T i) (wW W) (wV V) n := by
  pointwise [val_main_v42, val_main_v36]
  simp only [ref_g3, ref_gt]
  rfl

theorem ref_ds32 (i : Fin 4096) (n : Fin 1024) :
    val_main_v37 (F := Ideal) H P T W V (ix2 i n) = ds (rowH H i) (rowP P i) (rowH T i) (wW W) (wV V) n := by
  pointwise [val_main_v37, val_main_v35, val_main_v17, val_main_v16, val_main_v15, val_main_cst_2]
  simp only [ref_g3, ref_gt, ref_ev]
  exact ds_eq ..

theorem ref_ds (i : Fin 4096) (n : Fin 1024) :
    val_main_v43 (F := Ideal) H P T W V (ix2 i n) = ds (rowH H i) (rowP P i) (rowH T i) (wW W) (wV V) n := by
  pointwise [val_main_v43]
  exact ref_ds32 ..

theorem ref_dh (i : Fin 4096) (n : Fin 1024) :
    val_main_v39 (F := Ideal) H P T W V (ix2 i n) = dh (rowH H i) (rowP P i) (rowH T i) (wW W) (wV V) n := by
  pointwise [val_main_v39, val_main_v38, val_main_v6]
  simp only [ref_g3, ref_ds32]
  rfl

theorem ref_sq (i : Fin 4096) :
    val_main_v26 (F := Ideal) H P T W V (ix1 i) = sq (rowH H i) (rowP P i) (rowH T i) (wW W) (wV V) := by
  pointwise [val_main_v26, val_main_v25, val_main_v24, val_main_v21, val_main_cst_4, val_main_cst_5]
  simp only [ref_er, word_1024, zero_add]
  rfl

/-- The loss: half the sum of the rows' means. -/
theorem ref_loss (i : S_.Idx) : val_main_v28 (F := Ideal) H P T W V i
    = ((1 / 2 : ℝ) : EReal) * ∑ i : Fin 4096, sq (rowH H i) (rowP P i) (rowH T i) (wW W) (wV V) := by
  pointwise [val_main_v28, val_main_v27, val_main_cst_7, val_main_cst_6]
  simp only [ref_sq, word_half, zero_add]

/-- The result's only element that is not zero holds the loss. -/
def pack (r : Fin 8) (k : Fin 1024) : EReal :=
  if r.val = 6 ∧ k.val = 0 then ((1 / 2 : ℝ) : EReal) * ∑ i : Fin 4096, sq (rowH H i) (rowP P i) (rowH T i) (wW W) (wV V) else 0

theorem ref_pack (r : Fin 8) (k : Fin 1024) : val_main_v41 (F := Ideal) H P T W V (ix2 r k) = pack H P T W V r k := by
  pointwise [val_main_v41, val_main_v40, val_main_call0_v0, val_main_c]
  simp only [ref_loss]
  have e : FloatOps.sitofp (F := Ideal) .f32 (0#32) = (0 : EReal) := by
    show (((0#32 : BitVec 32).toInt : ℝ) : EReal) = 0
    simp
  rw [e]
  unfold pack
  split_ifs <;> first | rfl | omega

theorem ref_h16 (i : Fin 4096) (n : Fin 1024) : val_main_v44 (F := Ideal) H (ix2 i n) = rowH H i n := by
  pointwise [val_main_v44]
  rfl

theorem ref_p16 (i : Fin 4096) (n : Fin 256) : val_main_v45 (F := Ideal) P (ix2 i n) = rowP P i n := by
  pointwise [val_main_v45]
  rfl

end

end Cert.Ple
-- ==== Proof.PleKer.lean ====
/- The embedding-and-loss kernel over the extended reals: what its body computes on one block of 512 rows, and its six results. -/
module

public import proofs.«01_k».proof.Proof.Gen.Kernel12Ideal.Value
public import proofs.«01_k».proof.Proof.PleRef
public import Idealize.ShloMosaic.Lib.Pipeline.ValueKit
public import Idealize.ShloMosaic.Lib.Claim
public import Idealize.ShloMosaic.Lib.Pipeline.ReadBack
public import Idealize.ShloMosaic.Lib.WritesUnit

@[expose] public section

set_option maxRecDepth 16384

noncomputable section

namespace Cert.Ple

open Idealize.ShloMosaic Idealize.ShloMosaic.TcCoe Idealize.SL.Sem
open Idealize.ShloMosaic.Pipeline (Dat)
open Cert.Kernel12Ideal Cert.Kernel12Ideal.Gen

section
variable (Hb Tb Eb : FVec Ideal S512x1024 .f32) (Pb : FVec Ideal S512x256 .f32) (Wv : FVec Ideal S1024x1024 .bf16)
  (h t : Fin 512 → Fin 1024 → EReal) (p : Fin 512 → Fin 256 → EReal) (w : Fin 4 → Fin 256 → Fin 256 → EReal)
  (v : Fin 1024 → Fin 1024 → EReal)
variable (eh : ∀ r k, Hb (ix2 r k) = h r k) (et : ∀ r k, Tb (ix2 r k) = t r k)
  (ee : ∀ r n, Eb (ix2 r n) = ev (p r) w n) (ew : ∀ k n, Wv (ix2 k n) = v k n)

include eh ew in
/-- The gate at one block. -/
theorem pay13_at (r : Fin 512) (n : Fin 1024) :
    k0_pay13 (F := Ideal) (k0_pay7 (F := Ideal) Hb) Wv (ix2 r n) = gt (h r) v n := by
  pointwise [k0_pay13, k0_pay7]
  simp only [eh, ew, zero_add, zero_sub]
  rfl

include eh et ee ew in
/-- The error at one block. -/
theorem pay14_at (r : Fin 512) (n : Fin 1024) :
    k0_pay14 (F := Ideal) Hb (k0_pay7 (F := Ideal) Hb) Eb Wv Tb (ix2 r n) = er (h r) (p r) (t r) w v n := by
  pointwise [k0_pay14]
  simp only [eh, et, ee, pay13_at Hb Wv h v eh ew]
  rfl

include eh et ee ew in
theorem pay2_at (r : Fin 512) (n : Fin 1024) :
    k0_pay2 (F := Ideal) (k0_pay14 (F := Ideal) Hb (k0_pay7 (F := Ideal) Hb) Eb Wv Tb) (ix2 r n) = g3 (h r) (p r) (t r) w v n := by
  pointwise [k0_pay2]
  simp only [pay14_at Hb Tb Eb Wv h t p w v eh et ee ew, word_inv]
  rfl

include eh et ee ew in
/-- The gradient of the embedding at one block. -/
theorem pay3_at (r : Fin 512) (n : Fin 1024) :
    k0_pay3 (F := Ideal) (k0_pay13 (F := Ideal) (k0_pay7 (F := Ideal) Hb) Wv)
      (k0_pay14 (F := Ideal) Hb (k0_pay7 (F := Ideal) Hb) Eb Wv Tb) (ix2 r n) = de (h r) (p r) (t r) w v n := by
  pointwise [k0_pay3]
  simp only [pay2_at Hb Tb Eb Wv h t p w v eh et ee ew, pay13_at Hb Wv h v eh ew]
  rfl

include eh et ee ew in
/-- The gradient of the gate's input at one block. -/
theorem pay4_at (r : Fin 512) (n : Fin 1024) :
    k0_pay4 (F := Ideal) Eb (k0_pay13 (F := Ideal) (k0_pay7 (F := Ideal) Hb) Wv)
      (k0_pay14 (F := Ideal) Hb (k0_pay7 (F := Ideal) Hb) Eb Wv Tb) (ix2 r n) = ds (h r) (p r) (t r) w v n := by
  pointwise [k0_pay4]
  simp only [pay2_at Hb Tb Eb Wv h t p w v eh et ee ew, pay13_at Hb Wv h v eh ew, ee]
  rfl

include eh et ee ew in
/-- The gradient of the row at one block. -/
theorem pay5_at (r : Fin 512) (k : Fin 1024) :
    k0_pay5 (F := Ideal) Eb (k0_pay13 (F := Ideal) (k0_pay7 (F := Ideal) Hb) Wv)
      (k0_pay14 (F := Ideal) Hb (k0_pay7 (F := Ideal) Hb) Eb Wv Tb) Wv (ix2 r k) = dh (h r) (p r) (t r) w v k := by
  pointwise [k0_pay5]
  simp only [pay2_at Hb Tb Eb Wv h t p w v eh et ee ew, pay4_at Hb Tb Eb Wv h t p w v eh et ee ew, ew, zero_add]
  rfl

include eh et ee ew in
/-- The sum of the block's rows' means. -/
theorem pay15_at (z : Fin 1) :
    k0_pay15 (F := Ideal) Hb (k0_pay7 (F := Ideal) Hb) Eb Wv Tb (ix1 z) = ∑ r, sq (h r) (p r) (t r) w v := by
  pointwise [k0_pay15]
  simp only [pay14_at Hb Tb Eb Wv h t p w v eh et ee ew, Cert.Ffn.word_1024, zero_add]
  rfl

/-- The loss's row: the block's part is added in the first lane. -/
theorem pay1_at (S : FVec Ideal S1 .f32) (s : EReal) (es : ∀ z, S (ix1 z) = s) (R : FVec Ideal S1x1024 .f32) (z : Fin 1) (k : Fin 1024) :
    k0_pay1 (F := Ideal) S R (ix2 z k) = R (ix2 0 k) + (if k.val = 0 then ((1 / 2 : ℝ) : EReal) * s else 0) := by
  obtain rfl : z = 0 := Subsingleton.elim _ _
  pointwise [k0_pay1]
  simp only [es, word_half]
  refine congrArg (R (ix2 0 k) + ·) ?_
  by_cases hk : k.val = 0
  · rw [if_pos hk, hk]
    rfl
  · have e : (BitVec.ofNat 32 k.val == 0#32) = false := by
      refine beq_eq_false_iff_ne.mpr fun h => hk ?_
      have := congrArg BitVec.toNat h
      simp only [BitVec.toNat_ofNat] at this
      omega
    rw [if_neg hk]
    simp [Scalar.select, IntOp.cmpi, e]

/-- Columns of the embedding from one slab of the weight. -/
theorem slab_at (L : FVec Ideal S1x256x256 .bf16) (q : Fin 4) (eL : ∀ k n, L (ix3 0 k n) = w q k n) (ep : ∀ r k, Pb (ix2 r k) = p r k)
    (r : Fin 512) (n : Fin 256) (o : Fin 1024) (ho : o.val = 256 * q.val + n.val) :
    (∑ k, Pb (ix2 r k) * L (ix3 0 k n)) = ev (p r) w o := by
  refine Finset.sum_congr rfl fun k _ => ?_
  rw [eL, ep]
  have e0 : (⟨o.val / 256, by omega⟩ : Fin 4) = q := Fin.ext (by dsimp only; omega)
  have e1 : (⟨o.val % 256, Nat.mod_lt _ (by norm_num)⟩ : Fin 256) = n := Fin.ext (by dsimp only; omega)
  rw [e0, e1]

theorem pay9_at (L : FVec Ideal S1x256x256 .bf16) (r : Fin 512) (n : Fin 256) :
    k0_pay9 (F := Ideal) Pb L (ix2 r n) = ∑ k, Pb (ix2 r k) * L (ix3 0 k n) := by
  pointwise [k0_pay9, k0_pay8]

theorem pay10_at (L : FVec Ideal S1x256x256 .bf16) (r : Fin 512) (n : Fin 256) :
    k0_pay10 (F := Ideal) Pb L (ix2 r n) = ∑ k, Pb (ix2 r k) * L (ix3 0 k n) := by
  pointwise [k0_pay10, k0_pay8]

theorem pay11_at (L : FVec Ideal S1x256x256 .bf16) (r : Fin 512) (n : Fin 256) :
    k0_pay11 (F := Ideal) (k0_pay8 (F := Ideal) Pb) L (ix2 r n) = ∑ k, Pb (ix2 r k) * L (ix3 0 k n) := by
  pointwise [k0_pay11, k0_pay8]

theorem pay12_at (L : FVec Ideal S1x256x256 .bf16) (r : Fin 512) (n : Fin 256) :
    k0_pay12 (F := Ideal) (k0_pay8 (F := Ideal) Pb) L (ix2 r n) = ∑ k, Pb (ix2 r k) * L (ix3 0 k n) := by
  pointwise [k0_pay12, k0_pay8]

end

variable (m : (ℓ : Loc nD τ sig) → Buf (Elt Ideal) ℓ) (c : Dev nD)

theorem scr (n : ℕ) (hn : n < cfg0.N) : (outsAt0 m c n hn).2.2.2.2.2.2.1 = V m c main_arg3 := by
  induction n with
  | zero =>
    rw [outsAt0_A m c ⟨0, hn⟩ rfl rfl rfl]
    dsimp only
    frame_out
    exact View.canon_unit_zero rfl _ _
  | succ n ih =>
    have hN := lt_of_lt_of_eq hn (show cfg0.N = 8 from N_0)
    rw [outsAt0_B m c ⟨n + 1, hn⟩ (by dsimp only; omega) (by dsimp only; omega) (by dsimp only; omega)]
    dsimp only
    unfold sout0_B_0
    exact ih _

theorem scr1 (n : ℕ) (hn : n < cfg0.N) : (outsAt0 m c n hn).2.2.2.2.2.2.2 = V m c main_arg4 := by
  induction n with
  | zero =>
    rw [outsAt0_A m c ⟨0, hn⟩ rfl rfl rfl]
    dsimp only
    frame_out
    exact View.canon_unit_zero rfl _ _
  | succ n ih =>
    have hN := lt_of_lt_of_eq hn (show cfg0.N = 8 from N_0)
    rw [outsAt0_B m c ⟨n + 1, hn⟩ (by dsimp only; omega) (by dsimp only; omega) (by dsimp only; omega)]
    dsimp only
    unfold sout0_B_1
    exact ih _

/-- The block index of every window at a grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![0, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![0, 0])

/-- Row `r` of block `t`. -/
def rowi (t : Fin cfg0.N) (r : Fin 512) : Fin 4096 :=
  ⟨t.val * 512 + r.val, by have h := lt_of_lt_of_eq t.isLt (show cfg0.N = 8 from N_0); omega⟩

/-- The rows. -/
abbrev hs (i : Fin 4096) : Fin 1024 → EReal := rowH (m ((c : Thread nD τ).loc main_arg0)) i

/-- The tokens' embeddings. -/
abbrev ps (i : Fin 4096) : Fin 256 → EReal := rowP (m ((c : Thread nD τ).loc main_arg1)) i

/-- The targets. -/
abbrev ts (i : Fin 4096) : Fin 1024 → EReal := rowH (m ((c : Thread nD τ).loc main_arg2)) i

/-- The embedding's weight. -/
abbrev ws : Fin 4 → Fin 256 → Fin 256 → EReal := wW (m ((c : Thread nD τ).loc main_arg3))

/-- The gate's weight. -/
abbrev vs : Fin 1024 → Fin 1024 → EReal := wV (m ((c : Thread nD τ).loc main_arg4))

variable (t : Fin cfg0.N)

theorem blk0 (r : Fin 512) (k : Fin 1024) :
    (show FVec Ideal S512x1024 .f32 from iblk m c 0 t) (ix2 r k) = hs m c (rowi t r) k := by
  show _ = m ((c : Thread nD τ).loc main_arg0) (ix2 (rowi t r) k)
  blk_point [iblk, V, idx t]
  all_goals rfl

theorem blk1 (r : Fin 512) (k : Fin 256) :
    (show FVec Ideal S512x256 .f32 from iblk m c 1 t) (ix2 r k) = ps m c (rowi t r) k := by
  show _ = m ((c : Thread nD τ).loc main_arg1) (ix2 (rowi t r) k)
  blk_point [iblk, V, idx t]
  all_goals rfl

theorem blk2 (r : Fin 512) (k : Fin 1024) :
    (show FVec Ideal S512x1024 .f32 from iblk m c 2 t) (ix2 r k) = ts m c (rowi t r) k := by
  show _ = m ((c : Thread nD τ).loc main_arg2) (ix2 (rowi t r) k)
  blk_point [iblk, V, idx t]
  all_goals rfl

/-- The four stores of the embedding's columns. -/
def pcs (L0 L1 L2 L3 : FVec Ideal S1x256x256 .bf16) : List (View.Piece (Elt Ideal) S512x1024 .f32) :=
  [⟨Rect.unit ![0, 768] ![512, 256] inb_S512x1024_S512x256_0_768, k0_pay12 (F := Ideal) (k0_pay8 (F := Ideal) (iblk m c 1 t)) L3⟩,
    ⟨Rect.unit ![0, 512] ![512, 256] inb_S512x1024_S512x256_0_512, k0_pay11 (F := Ideal) (k0_pay8 (F := Ideal) (iblk m c 1 t)) L2⟩,
    ⟨Rect.unit ![0, 256] ![512, 256] inb_S512x1024_S512x256_0_256, k0_pay10 (F := Ideal) (iblk m c 1 t) L1⟩,
    ⟨Rect.unit ![0, 0] ![512, 256] inb_S512x1024_S512x256_0_0, k0_pay9 (F := Ideal) (iblk m c 1 t) L0⟩]

theorem mem_cols (o : ℕ) (inb : ∀ a, (![0, o] : Fin 2 → ℕ) a + (![512, 256] : Fin 2 → ℕ) a ≤ S512x1024.size a) (y : S512x1024.Idx)
    (h0 : o ≤ (y 1).val) (h1 : (y 1).val < o + 256) :
    y ∈ (Rect.unit (s := S512x1024) ![0, o] ![512, 256] inb).set := by
  have h2 : (y 0).val < 512 := (y 0).isLt
  refine (Rect.mem_set_unit (s := S512x1024) (off := ![0, o]) (size := ![512, 256]) (inb := inb)).mpr fun a => ?_
  fin_cases a
  · exact ⟨Nat.zero_le _, by show (y 0).val < 0 + 512; omega⟩
  · exact ⟨h0, h1⟩

theorem pcs_cover (L0 L1 L2 L3 : FVec Ideal S1x256x256 .bf16) (y : S512x1024.Idx) : ∃ p ∈ pcs m c t L0 L1 L2 L3, y ∈ p.1.set := by
  have h1 : (y 1).val < 1024 := (y 1).isLt
  by_cases a0 : (y 1).val < 256
  · exact ⟨_, List.mem_cons_of_mem _ (List.mem_cons_of_mem _ (List.mem_cons_of_mem _ List.mem_cons_self)), mem_cols 0 inb_S512x1024_S512x256_0_0 y (by omega) (by omega)⟩
  by_cases a1 : (y 1).val < 512
  · exact ⟨_, List.mem_cons_of_mem _ (List.mem_cons_of_mem _ List.mem_cons_self), mem_cols 256 inb_S512x1024_S512x256_0_256 y (by omega) (by omega)⟩
  by_cases a2 : (y 1).val < 768
  · exact ⟨_, List.mem_cons_of_mem _ List.mem_cons_self, mem_cols 512 inb_S512x1024_S512x256_0_512 y (by omega) (by omega)⟩
  · exact ⟨_, List.mem_cons_self, mem_cols 768 inb_S512x1024_S512x256_0_768 y (by omega) (by omega)⟩

/-- What four slabs of the embedding's weight hold. -/
structure Slabs (w : Fin 4 → Fin 256 → Fin 256 → EReal) (L0 L1 L2 L3 : FVec Ideal S1x256x256 .bf16) : Prop where
  l0 : ∀ k n, L0 (ix3 0 k n) = w 0 k n
  l1 : ∀ k n, L1 (ix3 0 k n) = w 1 k n
  l2 : ∀ k n, L2 (ix3 0 k n) = w 2 k n
  l3 : ∀ k n, L3 (ix3 0 k n) = w 3 k n

/-- A slab of the weight. -/
theorem slab (q : ℕ) (hq : q < 4) (inb : ∀ a, (![q, 0, 0] : Fin 3 → ℕ) a + (![1, 256, 256] : Fin 3 → ℕ) a ≤ S4x256x256.size a)
    (k n : Fin 256) :
    (show FVec Ideal S1x256x256 .bf16 from
      View.ld (Val := Elt Ideal) (e' := .bf16) (V m c main_arg3) (Rect.unit (s := S4x256x256) ![q, 0, 0] ![1, 256, 256] inb)) (ix3 0 k n)
      = ws m c (⟨q, hq⟩ : Fin 4) k n := by
  show m ((c : Thread nD τ).loc main_arg3) _ = m ((c : Thread nD τ).loc main_arg3) _
  refine congrArg (m ((c : Thread nD τ).loc main_arg3)) ?_
  funext a
  refine Fin.ext ?_
  fin_cases a
  · show q + 1 * 0 = q
    omega
  · show 0 + 1 * k.val = k.val
    omega
  · show 0 + 1 * n.val = n.val
    omega

/-- The copied weight, read at the point that copies it. -/
theorem whole_read (r : Rect S4x256x256) :
    (View.whole cc0_scratch0).readCov (Val := Elt Ideal)
      [⟨Rect.whole S4x256x256,
          ReadAs.same.apply (View.read (Elt Ideal) (View.whole main_arg3) (V m c main_arg3))⟩] r.toLoadRect
      = View.ld (Val := Elt Ideal) (e' := .bf16) (V m c main_arg3) r := by
  rw [View.readCov_eq_canon_ld _ _ _ (fun y => ⟨_, List.mem_singleton_self _, by
    show y ∈ (Rect.whole S4x256x256).set; rw [Rect.set_whole]; exact Finset.mem_univ y⟩)]
  have e : View.canon (Val := Elt Ideal) [⟨Rect.whole S4x256x256,
      ReadAs.same.apply (View.read (Elt Ideal) (View.whole main_arg3) (V m c main_arg3))⟩] = V m c main_arg3 :=
    View.canon_unit_zero rfl _ _
  rw [e]
  rfl

/-- A slab of the copied weight, read at the point that copies it. -/
theorem slab_first (q : ℕ) (hq : q < 4) (inb : ∀ a, (![q, 0, 0] : Fin 3 → ℕ) a + (![1, 256, 256] : Fin 3 → ℕ) a ≤ S4x256x256.size a)
    (k n : Fin 256) :
    (show FVec Ideal S1x256x256 .bf16 from (View.whole cc0_scratch0).readCov (Val := Elt Ideal)
      [⟨Rect.whole S4x256x256,
          ReadAs.same.apply (View.read (Elt Ideal) (View.whole main_arg3) (V m c main_arg3))⟩]
      (Rect.unit (s := S4x256x256) ![q, 0, 0] ![1, 256, 256] inb).toLoadRect) (ix3 0 k n)
      = ws m c (⟨q, hq⟩ : Fin 4) k n :=
  (congrFun (whole_read m c (Rect.unit (s := S4x256x256) ![q, 0, 0] ![1, 256, 256] inb)) (ix3 0 k n)).trans (slab m c q hq inb k n)

theorem gate_later (k n : Fin 1024) : (show FVec Ideal S1024x1024 .bf16 from V m c main_arg4) (ix2 k n) = vs m c k n := rfl

/-- The gate's copied weight, read at the point that copies it. -/
theorem gate_first (k n : Fin 1024) :
    (show FVec Ideal S1024x1024 .bf16 from (View.whole cc0_scratch1).readCov (Val := Elt Ideal)
      [⟨Rect.whole S1024x1024,
          ReadAs.same.apply (View.read (Elt Ideal) (View.whole main_arg4) (V m c main_arg4))⟩]
      (Rect.unit (s := S1024x1024) ![0, 0] ![1024, 1024] inb_S1024x1024_S1024x1024_0_0).toLoadRect) (ix2 k n) = vs m c k n := by
  rw [View.readCov_eq_canon_ld _ _ _ (fun y => ⟨_, List.mem_singleton_self _, by
    show y ∈ (Rect.whole S1024x1024).set; rw [Rect.set_whole]; exact Finset.mem_univ y⟩)]
  have e : View.canon (Val := Elt Ideal) [⟨Rect.whole S1024x1024,
      ReadAs.same.apply (View.read (Elt Ideal) (View.whole main_arg4) (V m c main_arg4))⟩] = V m c main_arg4 :=
    View.canon_unit_zero rfl _ _
  rw [e]
  show m ((c : Thread nD τ).loc main_arg4) _ = m ((c : Thread nD τ).loc main_arg4) _
  refine congrArg (m ((c : Thread nD τ).loc main_arg4)) ?_
  funext a
  refine Fin.ext ?_
  fin_cases a
  · show 0 + 1 * k.val = k.val
    omega
  · show 0 + 1 * n.val = n.val
    omega

/-- One of the four stores, read at its row and column. -/
theorem piece_at (P : FVec Ideal S512x256 .f32) (q : Fin 4) (o : ℕ) (ho : o = 256 * q.val)
    (hP : ∀ (r : Fin 512) (n : Fin 256) (e : Fin 1024), e.val = 256 * q.val + n.val → P (ix2 r n) = ev (ps m c (rowi t r)) (ws m c) e)
    (inb : ∀ a, (![0, o] : Fin 2 → ℕ) a + (![512, 256] : Fin 2 → ℕ) a ≤ S512x1024.size a) (z : Shape.Idx ⟨2, ![512, 256]⟩) :
    P z = ev (ps m c (rowi t ((Rect.unit (s := S512x1024) ![0, o] ![512, 256] inb).emb z 0))) (ws m c) ((Rect.unit (s := S512x1024) ![0, o] ![512, 256] inb).emb z 1) := by
  obtain ⟨r, n, rfl⟩ : ∃ (r : Fin 512) (n : Fin 256), z = ix2 r n := ⟨z 0, z 1, by ext a; fin_cases a <;> rfl⟩
  have e0 : (Rect.unit (s := S512x1024) ![0, o] ![512, 256] inb).emb (ix2 r n) 0 = r := Fin.ext (by
    show 0 + 1 * r.val = r.val
    omega)
  rw [e0]
  refine hP r n _ ?_
  show o + 1 * n.val = 256 * q.val + n.val
  omega

variable {L0 L1 L2 L3 : FVec Ideal S1x256x256 .bf16}

/-- What the four stores leave. -/
theorem pcs_val (S : Slabs (ws m c) L0 L1 L2 L3) (y : S512x1024.Idx) :
    View.canon (pcs m c t L0 L1 L2 L3) y = ev (ps m c (rowi t (y 0))) (ws m c) (y 1) := by
  refine View.canon_append_of_piecesOf (fun y : S512x1024.Idx => ev (ps m c (rowi t (y 0))) (ws m c) (y 1))
    [] (pcs m c t L0 L1 L2 L3) ⟨?_, ?_, ?_, ?_, trivial⟩ y (pcs_cover m c t _ _ _ _ y)
  · exact piece_at m c t _ 3 768 (by rfl) (fun r n o ho => (pay12_at _ _ r n).trans (slab_at _ _ _ _ 3 S.l3 (blk1 m c t) r n o ho)) inb_S512x1024_S512x256_0_768
  · exact piece_at m c t _ 2 512 (by rfl) (fun r n o ho => (pay11_at _ _ r n).trans (slab_at _ _ _ _ 2 S.l2 (blk1 m c t) r n o ho)) inb_S512x1024_S512x256_0_512
  · exact piece_at m c t _ 1 256 (by rfl) (fun r n o ho => (pay10_at _ _ r n).trans (slab_at _ _ _ _ 1 S.l1 (blk1 m c t) r n o ho)) inb_S512x1024_S512x256_0_256
  · exact piece_at m c t _ 0 0 (by rfl) (fun r n o ho => (pay9_at _ _ r n).trans (slab_at _ _ _ _ 0 S.l0 (blk1 m c t) r n o ho)) inb_S512x1024_S512x256_0_0

/-- The embedding at one block, read back whole. -/
theorem Eb_at (S : Slabs (ws m c) L0 L1 L2 L3) (r : Fin 512) (n : Fin 1024) :
    (show FVec Ideal S512x1024 .f32 from (View.whole cc0_scratch2).readCov (Val := Elt Ideal) (pcs m c t L0 L1 L2 L3)
      (Rect.unit (s := S512x1024) ![0, 0] ![512, 1024] inb_S512x1024_S512x1024_0_0).toLoadRect) (ix2 r n)
      = ev (ps m c (rowi t r)) (ws m c) n := by
  refine (congrFun (View.readCov_eq_canon_ld (Val := Elt Ideal) (View.whole cc0_scratch2) (pcs m c t L0 L1 L2 L3)
    (Rect.unit (s := S512x1024) ![0, 0] ![512, 1024] inb_S512x1024_S512x1024_0_0) (pcs_cover m c t _ _ _ _)) (ix2 r n)).trans ?_
  refine (pcs_val m c t S _).trans ?_
  have e0 : (Rect.unit (s := S512x1024) ![0, 0] ![512, 1024] inb_S512x1024_S512x1024_0_0).emb (ix2 r n) 0 = r := Fin.ext (by
    show 0 + 1 * r.val = r.val
    omega)
  have e1 : (Rect.unit (s := S512x1024) ![0, 0] ![512, 1024] inb_S512x1024_S512x1024_0_0).emb (ix2 r n) 1 = n := Fin.ext (by
    show 0 + 1 * n.val = n.val
    omega)
  exact congrArg₂ (fun (a : Fin 512) (b : Fin 1024) => ev (ps m c (rowi t a)) (ws m c) b) e0 e1

theorem out3 (r : Fin 512) (k : Fin 1024) :
    (outsAt0 m c t.val t.isLt).1 (ix2 r k) = de (hs m c (rowi t r)) (ps m c (rowi t r)) (ts m c (rowi t r)) (ws m c) (vs m c) k := by
  by_cases h0 : t.val % 8 = 0
  · rw [outsAt0_A m c t h0 h0 h0]
    dsimp only
    frame_out
    exact pay3_at (iblk m c 0 t) (iblk m c 2 t) _ _ (fun r => hs m c (rowi t r)) (fun r => ts m c (rowi t r)) (fun r => ps m c (rowi t r)) (ws m c) (vs m c)
      (blk0 m c t) (blk2 m c t) (Eb_at m c t ⟨slab_first m c 0 (by omega) inb_S4x256x256_S1x256x256_0_0_0, slab_first m c 1 (by omega) inb_S4x256x256_S1x256x256_1_0_0, slab_first m c 2 (by omega) inb_S4x256x256_S1x256x256_2_0_0, slab_first m c 3 (by omega) inb_S4x256x256_S1x256x256_3_0_0⟩) (gate_first m c) r k
  · rw [outsAt0_B m c t h0 h0 h0]
    dsimp only
    frame_out
    simp only [read_unread_whole, scr m c, scr1 m c]
    exact pay3_at (iblk m c 0 t) (iblk m c 2 t) _ _ (fun r => hs m c (rowi t r)) (fun r => ts m c (rowi t r)) (fun r => ps m c (rowi t r)) (ws m c) (vs m c)
      (blk0 m c t) (blk2 m c t) (Eb_at m c t ⟨slab m c 0 (by omega) inb_S4x256x256_S1x256x256_0_0_0, slab m c 1 (by omega) inb_S4x256x256_S1x256x256_1_0_0, slab m c 2 (by omega) inb_S4x256x256_S1x256x256_2_0_0, slab m c 3 (by omega) inb_S4x256x256_S1x256x256_3_0_0⟩) (gate_later m c) r k

theorem out4 (r : Fin 512) (k : Fin 1024) :
    (outsAt0 m c t.val t.isLt).2.1 (ix2 r k) = ds (hs m c (rowi t r)) (ps m c (rowi t r)) (ts m c (rowi t r)) (ws m c) (vs m c) k := by
  by_cases h0 : t.val % 8 = 0
  · rw [outsAt0_A m c t h0 h0 h0]
    dsimp only
    frame_out
    exact pay4_at (iblk m c 0 t) (iblk m c 2 t) _ _ (fun r => hs m c (rowi t r)) (fun r => ts m c (rowi t r)) (fun r => ps m c (rowi t r)) (ws m c) (vs m c)
      (blk0 m c t) (blk2 m c t) (Eb_at m c t ⟨slab_first m c 0 (by omega) inb_S4x256x256_S1x256x256_0_0_0, slab_first m c 1 (by omega) inb_S4x256x256_S1x256x256_1_0_0, slab_first m c 2 (by omega) inb_S4x256x256_S1x256x256_2_0_0, slab_first m c 3 (by omega) inb_S4x256x256_S1x256x256_3_0_0⟩) (gate_first m c) r k
  · rw [outsAt0_B m c t h0 h0 h0]
    dsimp only
    frame_out
    simp only [read_unread_whole, scr m c, scr1 m c]
    exact pay4_at (iblk m c 0 t) (iblk m c 2 t) _ _ (fun r => hs m c (rowi t r)) (fun r => ts m c (rowi t r)) (fun r => ps m c (rowi t r)) (ws m c) (vs m c)
      (blk0 m c t) (blk2 m c t) (Eb_at m c t ⟨slab m c 0 (by omega) inb_S4x256x256_S1x256x256_0_0_0, slab m c 1 (by omega) inb_S4x256x256_S1x256x256_1_0_0, slab m c 2 (by omega) inb_S4x256x256_S1x256x256_2_0_0, slab m c 3 (by omega) inb_S4x256x256_S1x256x256_3_0_0⟩) (gate_later m c) r k

theorem out5 (r : Fin 512) (k : Fin 1024) :
    (outsAt0 m c t.val t.isLt).2.2.1 (ix2 r k) = dh (hs m c (rowi t r)) (ps m c (rowi t r)) (ts m c (rowi t r)) (ws m c) (vs m c) k := by
  by_cases h0 : t.val % 8 = 0
  · rw [outsAt0_A m c t h0 h0 h0]
    dsimp only
    frame_out
    exact pay5_at (iblk m c 0 t) (iblk m c 2 t) _ _ (fun r => hs m c (rowi t r)) (fun r => ts m c (rowi t r)) (fun r => ps m c (rowi t r)) (ws m c) (vs m c)
      (blk0 m c t) (blk2 m c t) (Eb_at m c t ⟨slab_first m c 0 (by omega) inb_S4x256x256_S1x256x256_0_0_0, slab_first m c 1 (by omega) inb_S4x256x256_S1x256x256_1_0_0, slab_first m c 2 (by omega) inb_S4x256x256_S1x256x256_2_0_0, slab_first m c 3 (by omega) inb_S4x256x256_S1x256x256_3_0_0⟩) (gate_first m c) r k
  · rw [outsAt0_B m c t h0 h0 h0]
    dsimp only
    frame_out
    simp only [read_unread_whole, scr m c, scr1 m c]
    exact pay5_at (iblk m c 0 t) (iblk m c 2 t) _ _ (fun r => hs m c (rowi t r)) (fun r => ts m c (rowi t r)) (fun r => ps m c (rowi t r)) (ws m c) (vs m c)
      (blk0 m c t) (blk2 m c t) (Eb_at m c t ⟨slab m c 0 (by omega) inb_S4x256x256_S1x256x256_0_0_0, slab m c 1 (by omega) inb_S4x256x256_S1x256x256_1_0_0, slab m c 2 (by omega) inb_S4x256x256_S1x256x256_2_0_0, slab m c 3 (by omega) inb_S4x256x256_S1x256x256_3_0_0⟩) (gate_later m c) r k

theorem out6 (r : Fin 512) (k : Fin 1024) :
    (outsAt0 m c t.val t.isLt).2.2.2.1 (ix2 r k) = hs m c (rowi t r) k := by
  by_cases h0 : t.val % 8 = 0
  · rw [outsAt0_A m c t h0 h0 h0]
    dsimp only
    frame_out
    exact blk0 m c t r k
  · rw [outsAt0_B m c t h0 h0 h0]
    dsimp only
    frame_out
    exact blk0 m c t r k

theorem out7 (r : Fin 512) (k : Fin 256) :
    (outsAt0 m c t.val t.isLt).2.2.2.2.1 (ix2 r k) = ps m c (rowi t r) k := by
  by_cases h0 : t.val % 8 = 0
  · rw [outsAt0_A m c t h0 h0 h0]
    dsimp only
    frame_out
    exact blk1 m c t r k
  · rw [outsAt0_B m c t h0 h0 h0]
    dsimp only
    frame_out
    exact blk1 m c t r k

/-- What one block adds to the loss's row. -/
def part (z : Fin 8) (k : Fin 1024) : EReal :=
  if z.val = 6 ∧ k.val = 0 then ((1 / 2 : ℝ) : EReal) * ∑ r, sq (hs m c (rowi t r)) (ps m c (rowi t r)) (ts m c (rowi t r)) (ws m c) (vs m c) else 0

theorem part_row (k : Fin 1024) : (if k.val = 0 then ((1 / 2 : ℝ) : EReal) * ∑ r, sq (hs m c (rowi t r)) (ps m c (rowi t r)) (ts m c (rowi t r)) (ws m c) (vs m c) else 0)
    = part m c t 6 k := by
  unfold part
  split_ifs <;> first | rfl | (exfalso; omega)

theorem part_off (z : Fin 8) (k : Fin 1024) (h : z.val ≠ 6) : part m c t z k = 0 := if_neg fun hh => h hh.1

theorem ld_row (P : FVec Ideal S8x1024 .f32) (k : Fin 1024) :
    (show FVec Ideal S1x1024 .f32 from View.ld (Val := Elt Ideal) (e' := .f32) P (Rect.unit (s := S8x1024) ![6, 0] ![1, 1024] inb_S8x1024_S1x1024_6_0)) (ix2 0 k)
      = P (ix2 (6 : Fin 8) k) := by
  show P _ = P _
  refine congrArg P (funext fun a => Fin.ext ?_)
  fin_cases a
  · rfl
  · show 0 + 1 * k.val = k.val
    omega

/-- A later point adds its part to what was there. -/
theorem add_later (P : FVec Ideal S8x1024 .f32) (Sm : FVec Ideal S1 .f32)
    (es : ∀ z, Sm (ix1 z) = ∑ r, sq (hs m c (rowi t r)) (ps m c (rowi t r)) (ts m c (rowi t r)) (ws m c) (vs m c))
    (b : Memref sig .tc .vmem S8x1024 .f32) (hb : b.IsWhole) (z : Fin 8) (k : Fin 1024) :
    View.read (Elt Ideal) b.view (b.view.writes (Elt Ideal) (hb.unread P)
        [⟨Rect.unit ![6, 0] ![1, 1024] inb_S8x1024_S1x1024_6_0,
            k0_pay1 (F := Ideal) Sm
              (View.ld (Val := Elt Ideal) (e' := .f32) P (Rect.unit (s := S8x1024) ![6, 0] ![1, 1024] inb_S8x1024_S1x1024_6_0))⟩])
      (ix2 z k) = (show EReal from P (ix2 z k)) + part m c t z k := by
  by_cases h4 : z.val = 6
  · obtain rfl : z = 6 := Fin.ext h4
    refine (View.read_writes_cons_unit_of_mem b.view _ _ _ _ _ (ix2 0 k) rfl ?_).trans ?_
    · intro a
      fin_cases a
      · rfl
      · show k.val = 0 + k.val
        omega
    refine (pay1_at _ _ es _ 0 k).trans ?_
    rw [part_row m c t k]
    exact congrArg (· + part m c t 6 k) (ld_row P k)
  · rw [View.read_writes_cons_unit_of_not_mem b.view _ _ _ _ _ rfl (0 : Fin 2) (by show z.val < 6 ∨ 6 + 1 ≤ z.val; omega)]
    refine (congrFun (hb.read_unread (Val := Elt Ideal) P) _).trans ?_
    rw [part_off m c t z k h4, add_zero]

theorem canon_zero (y : S8x1024.Idx) :
    View.canon (Val := Elt Ideal) (s := S8x1024) (e := .f32) [⟨Rect.unit (s := S8x1024) ![0, 0] ![8, 1024] inb_S8x1024_S8x1024_0_0, k0_pay6 (F := Ideal)⟩] y = (0 : EReal) := by
  refine (congrFun (View.canon_unit_zero (by ext a; fin_cases a <;> rfl) _ _) y).trans ?_
  rw [eq_ix2 y]
  pointwise [k0_pay6]

/-- The loss's row of the zeros. -/
theorem zero_row (v : View sig .tc .vmem S8x1024 .f32) (k : Fin 1024) :
    (show FVec Ideal S1x1024 .f32 from v.readCov (Val := Elt Ideal)
      [⟨Rect.unit (s := S8x1024) ![0, 0] ![8, 1024] inb_S8x1024_S8x1024_0_0, k0_pay6 (F := Ideal)⟩]
      (Rect.unit (s := S8x1024) ![6, 0] ![1, 1024] inb_S8x1024_S1x1024_6_0).toLoadRect) (ix2 0 k) = (0 : EReal) := by
  have e := View.readCov_eq_canon_ld (Val := Elt Ideal) v
    [⟨Rect.unit (s := S8x1024) ![0, 0] ![8, 1024] inb_S8x1024_S8x1024_0_0, k0_pay6 (F := Ideal)⟩]
    (Rect.unit (s := S8x1024) ![6, 0] ![1, 1024] inb_S8x1024_S1x1024_6_0)
    (fun y => ⟨_, List.mem_singleton_self _, View.mem_set_unit_zero (S := S8x1024) (off := ![0, 0]) (by ext a; fin_cases a <;> rfl) inb_S8x1024_S8x1024_0_0 y⟩)
  exact (congrFun e (ix2 0 k)).trans (canon_zero _)

/-- The first point stores its part over zeros. -/
theorem add_first (R : FVec Ideal S1x1024 .f32) (eR : ∀ k, R (ix2 0 k) = (0 : EReal)) (Sm : FVec Ideal S1 .f32)
    (es : ∀ z, Sm (ix1 z) = ∑ r, sq (hs m c (rowi t r)) (ps m c (rowi t r)) (ts m c (rowi t r)) (ws m c) (vs m c)) (z : Fin 8) (k : Fin 1024) :
    View.canon (Val := Elt Ideal) (s := S8x1024) (e := .f32)
        [⟨Rect.unit (s := S8x1024) ![6, 0] ![1, 1024] inb_S8x1024_S1x1024_6_0, k0_pay1 (F := Ideal) Sm R⟩,
          ⟨Rect.unit (s := S8x1024) ![0, 0] ![8, 1024] inb_S8x1024_S8x1024_0_0, k0_pay6 (F := Ideal)⟩]
      (ix2 z k) = part m c t z k := by
  by_cases h4 : z.val = 6
  · obtain rfl : z = 6 := Fin.ext h4
    have e : (Rect.unit (s := S8x1024) ![6, 0] ![1, 1024] inb_S8x1024_S1x1024_6_0).emb (ix2 0 k : S1x1024.Idx) = ix2 (6 : Fin 8) k := by
      funext a
      refine Fin.ext ?_
      fin_cases a
      · rfl
      · show 0 + 1 * k.val = k.val
        omega
    rw [← e, View.canon_cons_emb]
    refine (pay1_at _ _ es _ 0 k).trans ?_
    rw [part_row m c t k, eR, zero_add]
  · rw [View.canon_cons_of_not_mem _ _ (fun hm => h4 (by
      have := (Rect.mem_set_unit (s := S8x1024) (off := ![6, 0]) (size := ![1, 1024]) (inb := inb_S8x1024_S1x1024_6_0)).mp hm 0
      have h2 : z.val < 6 + 1 := this.2
      have h3 : 6 ≤ z.val := this.1
      omega))]
    exact (canon_zero _).trans (part_off m c t z k h4).symm

theorem out8_step (z : Fin 8) (k : Fin 1024) (h0 : ¬ t.val % 8 = 0) :
    (outsAt0 m c t.val t.isLt).2.2.2.2.2.1 (ix2 z k)
      = (show EReal from (outsAt0 m c (t.val - 1) (Nat.lt_of_le_of_lt (Nat.sub_le _ _) t.isLt)).2.2.2.2.2.1 (ix2 z k)) + part m c t z k := by
  rw [outsAt0_B m c t h0 h0 h0]
  dsimp only
  frame_out
  simp only [read_unread_whole, scr m c, scr1 m c]
  exact add_later m c t _ _ (pay15_at (iblk m c 0 t) (iblk m c 2 t) _ _ (fun r => hs m c (rowi t r)) (fun r => ts m c (rowi t r)) (fun r => ps m c (rowi t r)) (ws m c) (vs m c)
      (blk0 m c t) (blk2 m c t) (Eb_at m c t ⟨slab m c 0 (by omega) inb_S4x256x256_S1x256x256_0_0_0, slab m c 1 (by omega) inb_S4x256x256_S1x256x256_1_0_0, slab m c 2 (by omega) inb_S4x256x256_S1x256x256_2_0_0, slab m c 3 (by omega) inb_S4x256x256_S1x256x256_3_0_0⟩) (gate_later m c)) (ms0_8 t) _ z k

theorem out8_first (z : Fin 8) (k : Fin 1024) (h0 : t.val % 8 = 0) :
    (outsAt0 m c t.val t.isLt).2.2.2.2.2.1 (ix2 z k) = part m c t z k := by
  rw [outsAt0_A m c t h0 h0 h0]
  dsimp only
  frame_out
  exact add_first m c t _ (fun k => zero_row _ k) _ (pay15_at (iblk m c 0 t) (iblk m c 2 t) _ _ (fun r => hs m c (rowi t r)) (fun r => ts m c (rowi t r)) (fun r => ps m c (rowi t r)) (ws m c) (vs m c)
      (blk0 m c t) (blk2 m c t) (Eb_at m c t ⟨slab_first m c 0 (by omega) inb_S4x256x256_S1x256x256_0_0_0, slab_first m c 1 (by omega) inb_S4x256x256_S1x256x256_1_0_0, slab_first m c 2 (by omega) inb_S4x256x256_S1x256x256_2_0_0, slab_first m c 3 (by omega) inb_S4x256x256_S1x256x256_3_0_0⟩) (gate_first m c)) z k

/-- What the points so far have added up. -/
theorem out8 (n : ℕ) (hn : n < cfg0.N) (z : Fin 8) (k : Fin 1024) :
    (outsAt0 m c n hn).2.2.2.2.2.1 (ix2 z k)
      = ∑ s ∈ Finset.range (n + 1), (if hs : s < cfg0.N then part m c ⟨s, hs⟩ z k else 0) := by
  induction n generalizing z k with
  | zero =>
    rw [Finset.sum_range_one, dif_pos hn]
    exact out8_first m c ⟨0, hn⟩ z k rfl
  | succ n ih =>
    have hN := lt_of_lt_of_eq hn (show cfg0.N = 8 from N_0)
    rw [Finset.sum_range_succ, dif_pos hn, ← ih _ z k]
    exact out8_step m c ⟨n + 1, hn⟩ z k (by dsimp only; omega)

/-- Rows of all blocks are all rows. -/
theorem sum_rows (f : Fin 4096 → EReal) : ∑ t : Fin cfg0.N, ∑ r : Fin 512, f (rowi t r) = ∑ i, f i := by
  rw [← Fintype.sum_prod_type' (f := fun (t : Fin cfg0.N) (r : Fin 512) => f (rowi t r))]
  exact Fintype.sum_equiv (finProdFinEquiv (m := 8) (n := 512)) _ _ fun p => congrArg f (Fin.ext (by
    show p.1.val * 512 + p.2.val = p.2.val + 512 * p.1.val
    omega))

/-- A half of a sum is the sum of the halves. -/
theorem half_sum {ι : Type} [Fintype ι] (f : ι → EReal) :
    ∑ i, ((1 / 2 : ℝ) : EReal) * f i = ((1 / 2 : ℝ) : EReal) * ∑ i, f i := by
  classical
  refine Finset.induction_on (Finset.univ : Finset ι) ?_ fun a s ha ih => ?_
  · rw [Finset.sum_empty, Finset.sum_empty, mul_zero]
  · rw [Finset.sum_insert ha, Finset.sum_insert ha, ih, EReal.left_distrib_of_nonneg_of_ne_top]
    · exact_mod_cast (by norm_num : (0 : ℝ) ≤ 1 / 2)
    · exact EReal.coe_ne_top _

theorem out8_last (z : Fin 8) (k : Fin 1024) :
    (outsAt0 m c 7 (by rw [show cfg0.N = 8 from N_0]; omega)).2.2.2.2.2.1 (ix2 z k)
      = pack (m ((c : Thread nD τ).loc main_arg0)) (m ((c : Thread nD τ).loc main_arg1)) (m ((c : Thread nD τ).loc main_arg2))
        (m ((c : Thread nD τ).loc main_arg3)) (m ((c : Thread nD τ).loc main_arg4)) z k := by
  rw [out8 m c]
  have e : ∑ s ∈ Finset.range (7 + 1), (if hs : s < cfg0.N then part m c ⟨s, hs⟩ z k else 0) = ∑ t : Fin cfg0.N, part m c t z k := by
    rw [show 7 + 1 = cfg0.N from N_0.symm, Finset.sum_range]
    exact Finset.sum_congr rfl fun t _ => dif_pos t.isLt
  rw [e]
  unfold part pack
  split
  · rw [half_sum]
    exact congrArg _ (sum_rows (fun i => sq (hs m c i) (ps m c i) (ts m c i) (ws m c) (vs m c)))
  · exact Finset.sum_const_zero

theorem fin3 : (dats m 0 c).arrAt 3 cfg0.N
    = (fun i => de (hs m c (i 0)) (ps m c (i 0)) (ts m c (i 0)) (ws m c) (vs m c) (i 1) : FVec Ideal S4096x1024 .bf16) := by
  refine (dats m 0 c).arrAt_eq_of_covers 3 _ (by decide +kernel) fun t hf y => ?_
  blk_simp
  rw [after0_3]
  obtain ⟨r, k, rfl⟩ : ∃ (r : Fin 512) (k : Fin 1024), y = ix2 r k := ⟨y 0, y 1, by ext a; fin_cases a <;> rfl⟩
  refine (out3 m c t r k).trans ?_
  have e0 : rowi t r = (win0_3.blk t).view.emb (ix2 r k) 0 := by
    refine Fin.ext ?_
    blk_simp [idx t]
    rfl
  have e1 : k = (win0_3.blk t).view.emb (ix2 r k) 1 := by
    refine Fin.ext ?_
    simp [idx t]
  exact congrArg₂ (fun (i : Fin 4096) (k : Fin 1024) => de (hs m c i) (ps m c i) (ts m c i) (ws m c) (vs m c) k) e0 e1

theorem fin4 : (dats m 0 c).arrAt 4 cfg0.N
    = (fun i => ds (hs m c (i 0)) (ps m c (i 0)) (ts m c (i 0)) (ws m c) (vs m c) (i 1) : FVec Ideal S4096x1024 .bf16) := by
  refine (dats m 0 c).arrAt_eq_of_covers 4 _ (by decide +kernel) fun t hf y => ?_
  blk_simp
  rw [after0_4]
  obtain ⟨r, k, rfl⟩ : ∃ (r : Fin 512) (k : Fin 1024), y = ix2 r k := ⟨y 0, y 1, by ext a; fin_cases a <;> rfl⟩
  refine (out4 m c t r k).trans ?_
  have e0 : rowi t r = (win0_4.blk t).view.emb (ix2 r k) 0 := by
    refine Fin.ext ?_
    blk_simp [idx t]
    rfl
  have e1 : k = (win0_4.blk t).view.emb (ix2 r k) 1 := by
    refine Fin.ext ?_
    simp [idx t]
  exact congrArg₂ (fun (i : Fin 4096) (k : Fin 1024) => ds (hs m c i) (ps m c i) (ts m c i) (ws m c) (vs m c) k) e0 e1

theorem fin5 : (dats m 0 c).arrAt 5 cfg0.N
    = (fun i => dh (hs m c (i 0)) (ps m c (i 0)) (ts m c (i 0)) (ws m c) (vs m c) (i 1) : FVec Ideal S4096x1024 .f32) := by
  refine (dats m 0 c).arrAt_eq_of_covers 5 _ (by decide +kernel) fun t hf y => ?_
  blk_simp
  rw [after0_5]
  obtain ⟨r, k, rfl⟩ : ∃ (r : Fin 512) (k : Fin 1024), y = ix2 r k := ⟨y 0, y 1, by ext a; fin_cases a <;> rfl⟩
  refine (out5 m c t r k).trans ?_
  have e0 : rowi t r = (win0_5.blk t).view.emb (ix2 r k) 0 := by
    refine Fin.ext ?_
    blk_simp [idx t]
    rfl
  have e1 : k = (win0_5.blk t).view.emb (ix2 r k) 1 := by
    refine Fin.ext ?_
    simp [idx t]
  exact congrArg₂ (fun (i : Fin 4096) (k : Fin 1024) => dh (hs m c i) (ps m c i) (ts m c i) (ws m c) (vs m c) k) e0 e1

theorem fin6 : (dats m 0 c).arrAt 6 cfg0.N
    = (fun i => hs m c (i 0) (i 1) : FVec Ideal S4096x1024 .bf16) := by
  refine (dats m 0 c).arrAt_eq_of_covers 6 _ (by decide +kernel) fun t hf y => ?_
  blk_simp
  rw [after0_6]
  obtain ⟨r, k, rfl⟩ : ∃ (r : Fin 512) (k : Fin 1024), y = ix2 r k := ⟨y 0, y 1, by ext a; fin_cases a <;> rfl⟩
  refine (out6 m c t r k).trans ?_
  have e0 : rowi t r = (win0_6.blk t).view.emb (ix2 r k) 0 := by
    refine Fin.ext ?_
    blk_simp [idx t]
    rfl
  have e1 : k = (win0_6.blk t).view.emb (ix2 r k) 1 := by
    refine Fin.ext ?_
    simp [idx t]
  exact congrArg₂ (fun (i : Fin 4096) (k : Fin 1024) => hs m c i k) e0 e1

theorem fin7 : (dats m 0 c).arrAt 7 cfg0.N
    = (fun i => ps m c (i 0) (i 1) : FVec Ideal S4096x256 .bf16) := by
  refine (dats m 0 c).arrAt_eq_of_covers 7 _ (by decide +kernel) fun t hf y => ?_
  blk_simp
  rw [after0_7]
  obtain ⟨r, k, rfl⟩ : ∃ (r : Fin 512) (k : Fin 256), y = ix2 r k := ⟨y 0, y 1, by ext a; fin_cases a <;> rfl⟩
  refine (out7 m c t r k).trans ?_
  have e0 : rowi t r = (win0_7.blk t).view.emb (ix2 r k) 0 := by
    refine Fin.ext ?_
    blk_simp [idx t]
    rfl
  have e1 : k = (win0_7.blk t).view.emb (ix2 r k) 1 := by
    refine Fin.ext ?_
    simp [idx t]
  exact congrArg₂ (fun (i : Fin 4096) (k : Fin 256) => ps m c i k) e0 e1

theorem fin8 : (dats m 0 c).arrAt 8 cfg0.N
    = (fun i => pack (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) : FVec Ideal S8x1024 .f32) := by
  refine (dats m 0 c).arrAt_eq_of_after_last 8 t0_7 (by decide +kernel) _ fun j => ?_
  obtain ⟨r, k, rfl⟩ : ∃ (r : Fin 8) (k : Fin 1024), j = ix2 r k := ⟨j 0, j 1, by ext a; fin_cases a <;> rfl⟩
  rw [after0_8]
  exact out8_last m c r k

end Cert.Ple
-- ==== Proof.PleEnd.lean ====
module

public import proofs.«01_k».proof.Defs
public import proofs.«01_k».proof.Proof.PleKer
public import proofs.«01_k».proof.Proof.Gen.Reference12Ideal.Run

@[expose] public section

set_option maxRecDepth 16384

noncomputable section

namespace Cert.Ple

open Idealize.ShloMosaic Idealize.ShloMosaic.TcCoe Idealize.SL.Sem

theorem idx2 {a b : ℕ} (i : Shape.Idx ⟨2, ![a, b]⟩) : i = ix2 (n0 := a) (n1 := b) (i 0) (i 1) := by
  funext k; fin_cases k <;> rfl

open Cert.Reference12Ideal.Read in
/-- The reference's six results are the loss kernel's. -/
theorem value : Cert.algebraic_Kernel12Ideal_Reference12Ideal := by
  intro m g m' g' hpre hargs
  refine ⟨_, _, _, _, _, _, (θ_run _ _ _).mono (fun r h c => h c) (Cert.Kernel12Ideal.Value.run_blocks m g),
    (θ_run _ _ _).mono (fun r h c => ?_) (Cert.Reference12Ideal.Value.run m' g')⟩
  obtain ⟨a0, a1, a2, a3, a4⟩ := hargs c
  obtain ⟨r0, r1, r2, r3, r4, r5, k⟩ := h c
  refine ⟨r0.trans ?_, r1.trans ?_, r2.trans ?_, r3.trans ?_, r4.trans ?_, r5.trans ?_, k⟩ <;> clear h r0 r1 r2 r3 r4 r5 k hargs
  · refine Eq.trans ?_ (fin3 m c).symm
    refine (val_main_v42_eq ..).trans ?_
    rw [a0, a1, a2, a3, a4]
    funext i
    rw [idx2 i]
    exact ref_de ..
  · refine Eq.trans ?_ (fin4 m c).symm
    refine (val_main_v43_eq ..).trans ?_
    rw [a0, a1, a2, a3, a4]
    funext i
    rw [idx2 i]
    exact ref_ds ..
  · refine Eq.trans ?_ (fin5 m c).symm
    refine (val_main_v39_eq ..).trans ?_
    rw [a0, a1, a2, a3, a4]
    funext i
    rw [idx2 i]
    exact ref_dh ..
  · refine Eq.trans ?_ (fin6 m c).symm
    refine (val_main_v44_eq ..).trans ?_
    rw [a0]
    funext i
    rw [idx2 i]
    exact ref_h16 ..
  · refine Eq.trans ?_ (fin7 m c).symm
    refine (val_main_v45_eq ..).trans ?_
    rw [a1]
    funext i
    rw [idx2 i]
    exact ref_p16 ..
  · refine Eq.trans ?_ (fin8 m c).symm
    refine (val_main_v41_eq ..).trans ?_
    rw [a0, a1, a2, a3, a4]
    funext i
    rw [idx2 i]
    exact ref_pack ..

end Cert.Ple

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Pre_finite
public import proofs.«01_k».proof.Proof.Gen.Pre_finite2
public import proofs.«01_k».proof.Proof.Gen.On_values2
public import proofs.«01_k».proof.Proof.FfnEnd
public import proofs.«01_k».proof.Proof.FwdEnd
public import proofs.«01_k».proof.Proof.HgEnd
public import proofs.«01_k».proof.Proof.WgUp
public import proofs.«01_k».proof.Proof.WgDown
public import proofs.«01_k».proof.Proof.WgIn
public import proofs.«01_k».proof.Proof.WgSquare
public import proofs.«01_k».proof.Proof.WgProj
public import proofs.«01_k».proof.Proof.InEnd
public import proofs.«01_k».proof.Proof.InbEnd
public import proofs.«01_k».proof.Proof.MixEnd
public import proofs.«01_k».proof.Proof.PleEnd

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Pre_finite.Gen.facts, Cert.Pre_finite2.Gen.facts, Cert.On_values2.Gen.facts,
    fun m g _ => Cert.Kernel.Gen.frame m g, fun m g _ => Cert.KernelIdeal.Gen.frame m g, fun m g _ => Cert.KernelIdeal.Gen.frame m g,
    fun m g _ => (θ_run _ _ _).mono (fun r h => ⟨fun c => (h c).2.2.2.2, sem_eq_zero_of_no_sems (by decide) r.2⟩) (Cert.ReferenceIdeal.Value.run m g),
    fun m g _ => (θ_run _ _ _).mono (fun r h => ⟨fun c => (h c).2.2.2.2, sem_eq_zero_of_no_sems (by decide) r.2⟩) (Cert.ReferenceIdeal.Value.run m g),
    fun m g _ => Cert.Kernel2.Gen.frame m g, fun m g _ => Cert.Kernel2Ideal.Gen.frame m g, fun m g _ => Cert.Kernel2Ideal.Gen.frame m g,
    fun m g _ => (θ_run _ _ _).mono (fun r h => ⟨fun c => (h c).2.2.2.2, sem_eq_zero_of_no_sems (by decide) r.2⟩) (Cert.Reference2Ideal.Value.run m g),
    fun m g _ => (θ_run _ _ _).mono (fun r h => ⟨fun c => (h c).2.2.2.2, sem_eq_zero_of_no_sems (by decide) r.2⟩) (Cert.Reference2Ideal.Value.run m g),
    fun m g _ => Cert.Kernel3.Gen.frame m g, fun m g _ => Cert.Kernel3Ideal.Gen.frame m g,
    fun m g _ => (θ_run _ _ _).mono (fun r h => ⟨fun c => (h c).2.2.2.2.2, sem_eq_zero_of_no_sems (by decide) r.2⟩) (Cert.Reference3Ideal.Value.run m g),
    fun m g _ => Cert.Kernel4.Gen.frame m g, fun m g _ => Cert.Kernel4Ideal.Gen.frame m g,
    fun m g _ => (θ_run _ _ _).mono (fun r h => ⟨fun c => (h c).2, sem_eq_zero_of_no_sems (by decide) r.2⟩) (Cert.Reference4Ideal.Value.run m g),
    fun m g _ => Cert.Kernel5.Gen.frame m g, fun m g _ => Cert.Kernel5Ideal.Gen.frame m g,
    fun m g _ => (θ_run _ _ _).mono (fun r h => ⟨fun c => (h c).2, sem_eq_zero_of_no_sems (by decide) r.2⟩) (Cert.Reference5Ideal.Value.run m g),
    fun m g _ => Cert.Kernel6.Gen.frame m g, fun m g _ => Cert.Kernel6Ideal.Gen.frame m g,
    fun m g _ => (θ_run _ _ _).mono (fun r h => ⟨fun c => (h c).2, sem_eq_zero_of_no_sems (by decide) r.2⟩) (Cert.Reference6Ideal.Value.run m g),
    fun m g _ => Cert.Kernel7.Gen.frame m g, fun m g _ => Cert.Kernel7Ideal.Gen.frame m g,
    fun m g _ => (θ_run _ _ _).mono (fun r h => ⟨fun c => (h c).2, sem_eq_zero_of_no_sems (by decide) r.2⟩) (Cert.Reference7Ideal.Value.run m g),
    fun m g _ => Cert.Kernel8.Gen.frame m g, fun m g _ => Cert.Kernel8Ideal.Gen.frame m g,
    fun m g _ => (θ_run _ _ _).mono (fun r h => ⟨fun c => (h c).2, sem_eq_zero_of_no_sems (by decide) r.2⟩) (Cert.Reference8Ideal.Value.run m g),
    fun m g _ => Cert.Kernel9.Gen.frame m g, fun m g _ => Cert.Kernel9Ideal.Gen.frame m g,
    fun m g _ => (θ_run _ _ _).mono (fun r h => ⟨fun c => (h c).2.2.2, sem_eq_zero_of_no_sems (by decide) r.2⟩) (Cert.Reference9Ideal.Value.run m g),
    fun m g _ => Cert.Kernel10.Gen.frame m g, fun m g _ => Cert.Kernel10Ideal.Gen.frame m g,
    fun m g _ => (θ_run _ _ _).mono (fun r h => ⟨fun c => (h c).2.2.2, sem_eq_zero_of_no_sems (by decide) r.2⟩) (Cert.Reference10Ideal.Value.run m g),
    fun m g _ => Cert.Kernel11.Gen.frame m g, fun m g _ => Cert.Kernel11Ideal.Gen.frame m g,
    fun m g _ => (θ_run _ _ _).mono (fun r h => ⟨fun c => (h c).2.2.2, sem_eq_zero_of_no_sems (by decide) r.2⟩) (Cert.Reference11Ideal.Value.run m g),
    fun m g _ => Cert.Kernel12.Gen.frame m g, fun m g _ => Cert.Kernel12Ideal.Gen.frame m g,
    fun m g _ => (θ_run _ _ _).mono (fun r h => ⟨fun c => (h c).2.2.2.2.2.2, sem_eq_zero_of_no_sems (by decide) r.2⟩) (Cert.Reference12Ideal.Value.run m g),
    trivial, Cert.Ffn.value, trivial, Cert.Hg.value, trivial, Cert.Fwd.value, trivial, Cert.Wg.Up.value, trivial, Cert.Wg.Down.value, trivial, Cert.Wg.In.value, trivial, Cert.Wg.Square.value, trivial, Cert.Wg.Proj.value, trivial, Cert.Inp.value, trivial, Cert.Inb.value, trivial, Cert.Mix.value, trivial, Cert.Ple.value⟩

end Cert.Proof

end
